-- ==== Defs.lean ====
def Pre_Natten (m : (ℓ : Loc Cert.Natten.nD Cert.Natten.τ Cert.Natten.sig) → Buf (Elt Bits) ℓ) : Prop :=
  True

def Pre_NattenIdeal (m : (ℓ : Loc Cert.NattenIdeal.nD Cert.NattenIdeal.τ Cert.NattenIdeal.sig) → Buf (Elt Ideal) ℓ) : Prop :=
  True

def Pre_NattenIdeal_finite [hPre_finite : Cert.Pre_finite.Facts] (m : (ℓ : Loc Cert.NattenIdeal.nD Cert.NattenIdeal.τ Cert.NattenIdeal.sig) → Buf (Elt Ideal) ℓ) : Prop :=
  ∀ c : Dev Cert.NattenIdeal.nD,
    (Cert.Pre_finite.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1)) (m ((c.tc : Thread Cert.NattenIdeal.nD Cert.NattenIdeal.τ).loc Cert.NattenIdeal.main_arg2))).1 = (fun _ => 1#1)
    ∧ (Cert.Pre_finite.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1)) (m ((c.tc : Thread Cert.NattenIdeal.nD Cert.NattenIdeal.τ).loc Cert.NattenIdeal.main_arg2))).2.1 = (fun _ => 1#1)
    ∧ (Cert.Pre_finite.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1)) (m ((c.tc : Thread Cert.NattenIdeal.nD Cert.NattenIdeal.τ).loc Cert.NattenIdeal.main_arg2))).2.2 = (fun _ => 1#1)

def Pre_NattenRefIdeal (m : (ℓ : Loc Cert.NattenRefIdeal.nD Cert.NattenRefIdeal.τ Cert.NattenRefIdeal.sig) → Buf (Elt Ideal) ℓ) : Prop :=
  True

def Pre_NattenRefIdeal_finite [hPre_finite : Cert.Pre_finite.Facts] (m : (ℓ : Loc Cert.NattenRefIdeal.nD Cert.NattenRefIdeal.τ Cert.NattenRefIdeal.sig) → Buf (Elt Ideal) ℓ) : Prop :=
  ∀ c : Dev Cert.NattenRefIdeal.nD,
    (Cert.Pre_finite.fn (F := Ideal) (m ((c.tc : Thread Cert.NattenRefIdeal.nD Cert.NattenRefIdeal.τ).loc Cert.NattenRefIdeal.main_arg0)) (m ((c.tc : Thread Cert.NattenRefIdeal.nD Cert.NattenRefIdeal.τ).loc Cert.NattenRefIdeal.main_arg1)) (m ((c.tc : Thread Cert.NattenRefIdeal.nD Cert.NattenRefIdeal.τ).loc Cert.NattenRefIdeal.main_arg2))).1 = (fun _ => 1#1)
    ∧ (Cert.Pre_finite.fn (F := Ideal) (m ((c.tc : Thread Cert.NattenRefIdeal.nD Cert.NattenRefIdeal.τ).loc Cert.NattenRefIdeal.main_arg0)) (m ((c.tc : Thread Cert.NattenRefIdeal.nD Cert.NattenRefIdeal.τ).loc Cert.NattenRefIdeal.main_arg1)) (m ((c.tc : Thread Cert.NattenRefIdeal.nD Cert.NattenRefIdeal.τ).loc Cert.NattenRefIdeal.main_arg2))).2.1 = (fun _ => 1#1)
    ∧ (Cert.Pre_finite.fn (F := Ideal) (m ((c.tc : Thread Cert.NattenRefIdeal.nD Cert.NattenRefIdeal.τ).loc Cert.NattenRefIdeal.main_arg0)) (m ((c.tc : Thread Cert.NattenRefIdeal.nD Cert.NattenRefIdeal.τ).loc Cert.NattenRefIdeal.main_arg1)) (m ((c.tc : Thread Cert.NattenRefIdeal.nD Cert.NattenRefIdeal.τ).loc Cert.NattenRefIdeal.main_arg2))).2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_branches [hPre_finite_branches : Cert.Pre_finite_branches.Facts] (m : (ℓ : Loc Cert.MergeIdeal.nD Cert.MergeIdeal.τ Cert.MergeIdeal.sig) → Buf (Elt Ideal) ℓ) : Prop :=
  ∀ c : Dev Cert.MergeIdeal.nD,
    (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).1 = (fun _ => 1#1)
    ∧ (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.1 = (fun _ => 1#1)
    ∧ (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.1 = (fun _ => 1#1)
    ∧ (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.1 = (fun _ => 1#1)
    ∧ (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.1 = (fun _ => 1#1)
    ∧ (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.1 = (fun _ => 1#1)
    ∧ (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.2.1 = (fun _ => 1#1)
    ∧ (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.2.2.1 = (fun _ => 1#1)
    ∧ (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_branches [hPre_finite_branches : Cert.Pre_finite_branches.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).1 = (fun _ => 1#1)
    ∧ (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.1 = (fun _ => 1#1)
    ∧ (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.1 = (fun _ => 1#1)
    ∧ (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.1 = (fun _ => 1#1)
    ∧ (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.1 = (fun _ => 1#1)
    ∧ (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.1 = (fun _ => 1#1)
    ∧ (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.2.1 = (fun _ => 1#1)
    ∧ (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.2.2.1 = (fun _ => 1#1)
    ∧ (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.2.2.2 = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))).1 = (fun _ => 1#1)
    ∧ (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))).2.1 = (fun _ => 1#1)
    ∧ (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))).2.2.1 = (fun _ => 1#1)
    ∧ (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))).2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_scores [hPre_finite_scores : Cert.Pre_finite_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))).1 = (fun _ => 1#1)
    ∧ (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))).2.1 = (fun _ => 1#1)
    ∧ (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))).2.2.1 = (fun _ => 1#1)
    ∧ (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))).2.2.2 = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Natten [hNatten : Cert.Natten.Facts] : Prop :=
  ∀ (m : (ℓ : Loc Cert.Natten.nD Cert.Natten.τ Cert.Natten.sig) → Buf (Elt Bits) ℓ) (g : Dev Cert.Natten.nD → PrngReg), Pre_Natten m →
    θ_run (Cert.Natten.defs (F := Bits)) (onTc (τ := Cert.Natten.τ) (Cert.Natten.main (F := Bits))) ⟨m, fun _ => 0, g⟩ (fun r => (∀ c : Dev Cert.Natten.nD,
      r.2.mem ((c.tc : Thread Cert.Natten.nD Cert.Natten.τ).loc Cert.Natten.main_arg0) = m ((c.tc : Thread Cert.Natten.nD Cert.Natten.τ).loc Cert.Natten.main_arg0)
      ∧ r.2.mem ((c.tc : Thread Cert.Natten.nD Cert.Natten.τ).loc Cert.Natten.main_arg1) = m ((c.tc : Thread Cert.Natten.nD Cert.Natten.τ).loc Cert.Natten.main_arg1)
      ∧ r.2.mem ((c.tc : Thread Cert.Natten.nD Cert.Natten.τ).loc Cert.Natten.main_arg2) = m ((c.tc : Thread Cert.Natten.nD Cert.Natten.τ).loc Cert.Natten.main_arg2))
      ∧ r.2.sem = fun _ => 0)

def quiescent_NattenIdeal [hNattenIdeal : Cert.NattenIdeal.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ r.2.sem = fun _ => 0)

def quiescent_NattenIdeal_pre_finite [hNattenIdeal : Cert.NattenIdeal.Facts] [hPre_finite : Cert.Pre_finite.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal_finite m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ r.2.sem = fun _ => 0)

def quiescent_NattenRefIdeal [hNattenRefIdeal : Cert.NattenRefIdeal.Facts] : Prop :=
  ∀ (m : (ℓ : Loc Cert.NattenRefIdeal.nD Cert.NattenRefIdeal.τ Cert.NattenRefIdeal.sig) → Buf (Elt Ideal) ℓ) (g : Dev Cert.NattenRefIdeal.nD → PrngReg), Pre_NattenRefIdeal m →
    θ_run (Cert.NattenRefIdeal.defs (F := Ideal)) (onTc (τ := Cert.NattenRefIdeal.τ) (Cert.NattenRefIdeal.main (F := Ideal))) ⟨m, fun _ => 0, g⟩ (fun r => (∀ c : Dev Cert.NattenRefIdeal.nD,
      r.2.mem ((c.tc : Thread Cert.NattenRefIdeal.nD Cert.NattenRefIdeal.τ).loc Cert.NattenRefIdeal.main_arg0) = m ((c.tc : Thread Cert.NattenRefIdeal.nD Cert.NattenRefIdeal.τ).loc Cert.NattenRefIdeal.main_arg0)
      ∧ r.2.mem ((c.tc : Thread Cert.NattenRefIdeal.nD Cert.NattenRefIdeal.τ).loc Cert.NattenRefIdeal.main_arg1) = m ((c.tc : Thread Cert.NattenRefIdeal.nD Cert.NattenRefIdeal.τ).loc Cert.NattenRefIdeal.main_arg1)
      ∧ r.2.mem ((c.tc : Thread Cert.NattenRefIdeal.nD Cert.NattenRefIdeal.τ).loc Cert.NattenRefIdeal.main_arg2) = m ((c.tc : Thread Cert.NattenRefIdeal.nD Cert.NattenRefIdeal.τ).loc Cert.NattenRefIdeal.main_arg2))
      ∧ r.2.sem = fun _ => 0)

def quiescent_NattenRefIdeal_pre_finite [hNattenRefIdeal : Cert.NattenRefIdeal.Facts] [hPre_finite : Cert.Pre_finite.Facts] : Prop :=
  ∀ (m : (ℓ : Loc Cert.NattenRefIdeal.nD Cert.NattenRefIdeal.τ Cert.NattenRefIdeal.sig) → Buf (Elt Ideal) ℓ) (g : Dev Cert.NattenRefIdeal.nD → PrngReg), Pre_NattenRefIdeal_finite m →
    θ_run (Cert.NattenRefIdeal.defs (F := Ideal)) (onTc (τ := Cert.NattenRefIdeal.τ) (Cert.NattenRefIdeal.main (F := Ideal))) ⟨m, fun _ => 0, g⟩ (fun r => (∀ c : Dev Cert.NattenRefIdeal.nD,
      r.2.mem ((c.tc : Thread Cert.NattenRefIdeal.nD Cert.NattenRefIdeal.τ).loc Cert.NattenRefIdeal.main_arg0) = m ((c.tc : Thread Cert.NattenRefIdeal.nD Cert.NattenRefIdeal.τ).loc Cert.NattenRefIdeal.main_arg0)
      ∧ r.2.mem ((c.tc : Thread Cert.NattenRefIdeal.nD Cert.NattenRefIdeal.τ).loc Cert.NattenRefIdeal.main_arg1) = m ((c.tc : Thread Cert.NattenRefIdeal.nD Cert.NattenRefIdeal.τ).loc Cert.NattenRefIdeal.main_arg1)
      ∧ r.2.mem ((c.tc : Thread Cert.NattenRefIdeal.nD Cert.NattenRefIdeal.τ).loc Cert.NattenRefIdeal.main_arg2) = m ((c.tc : Thread Cert.NattenRefIdeal.nD Cert.NattenRefIdeal.τ).loc Cert.NattenRefIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_finite_branches [hMergeIdeal : Cert.MergeIdeal.Facts] [hPre_finite_branches : Cert.Pre_finite_branches.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_branches m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_finite_branches [hMergeRefIdeal : Cert.MergeRefIdeal.Facts] [hPre_finite_branches : Cert.Pre_finite_branches.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_branches m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_SwaRefIdeal_pre_finite_scores [hSwaRefIdeal : Cert.SwaRefIdeal.Facts] [hPre_finite_scores : Cert.Pre_finite_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Natten_NattenIdeal : Prop :=
  IdealRules.named_const.Statement Cert.NattenIdeal.κ "qscale" .f32 0x3E38AA3B#32 (((1 / 8) * (Real.log 2)⁻¹ : ℝ) : EReal)
  ∧ IdealRules.named_const.Statement Cert.NattenIdeal.κ "log2e" .f32 0x3FB8AA3B#32 (((Real.log 2)⁻¹ : ℝ) : EReal)
  ∧ IdealRules.named_const.Statement Cert.NattenIdeal.κ "mask" .f32 0xF149F2CA#32 ⊥

def algebraic_NattenIdeal_NattenRefIdeal_pre_finite [hNattenIdeal : Cert.NattenIdeal.Facts] [hNattenRefIdeal : Cert.NattenRefIdeal.Facts] [hPre_finite : Cert.Pre_finite.Facts] : Prop :=
  ∀ (m : (ℓ : Loc Cert.NattenIdeal.nD Cert.NattenIdeal.τ Cert.NattenIdeal.sig) → Buf (Elt Ideal) ℓ) (g : Dev Cert.NattenIdeal.nD → PrngReg)
    (m' : (ℓ : Loc Cert.NattenRefIdeal.nD Cert.NattenRefIdeal.τ Cert.NattenRefIdeal.sig) → Buf (Elt Ideal) ℓ) (g' : Dev Cert.NattenRefIdeal.nD → PrngReg), Pre_NattenIdeal_finite m →
    (∀ c : Dev Cert.NattenIdeal.nD,
      m' ((c.tc : Thread Cert.NattenRefIdeal.nD Cert.NattenRefIdeal.τ).loc Cert.NattenRefIdeal.main_arg0) = m ((c.tc : Thread Cert.NattenIdeal.nD Cert.NattenIdeal.τ).loc Cert.NattenIdeal.main_arg0)
      ∧ m' ((c.tc : Thread Cert.NattenRefIdeal.nD Cert.NattenRefIdeal.τ).loc Cert.NattenRefIdeal.main_arg1) = m ((c.tc : Thread Cert.NattenIdeal.nD Cert.NattenIdeal.τ).loc Cert.NattenIdeal.main_arg1)
      ∧ m' ((c.tc : Thread Cert.NattenRefIdeal.nD Cert.NattenRefIdeal.τ).loc Cert.NattenRefIdeal.main_arg2) = m ((c.tc : Thread Cert.NattenIdeal.nD Cert.NattenIdeal.τ).loc Cert.NattenIdeal.main_arg2)) →
    ∃ (v0 : (c : Dev Cert.NattenIdeal.nD) → Buf (Elt Ideal) ((c.tc : Thread Cert.NattenIdeal.nD Cert.NattenIdeal.τ).loc Cert.NattenIdeal.main_v26)),
      θ_run (Cert.NattenIdeal.defs (F := Ideal)) (onTc (τ := Cert.NattenIdeal.τ) (Cert.NattenIdeal.main (F := Ideal))) ⟨m, fun _ => 0, g⟩ (fun r => ∀ c : Dev Cert.NattenIdeal.nD,
          r.2.mem ((c.tc : Thread Cert.NattenIdeal.nD Cert.NattenIdeal.τ).loc Cert.NattenIdeal.main_v26) = v0 c
          ∧ r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
          ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
          ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ θ_run (Cert.NattenRefIdeal.defs (F := Ideal)) (onTc (τ := Cert.NattenRefIdeal.τ) (Cert.NattenRefIdeal.main (F := Ideal))) ⟨m', fun _ => 0, g'⟩ (fun r => ∀ c : Dev Cert.NattenRefIdeal.nD,
          r.2.mem ((c.tc : Thread Cert.NattenRefIdeal.nD Cert.NattenRefIdeal.τ).loc Cert.NattenRefIdeal.main_v30) = v0 c
          ∧ r.2.mem ((c.tc : Thread Cert.NattenRefIdeal.nD Cert.NattenRefIdeal.τ).loc Cert.NattenRefIdeal.main_arg0) = m' ((c.tc : Thread Cert.NattenRefIdeal.nD Cert.NattenRefIdeal.τ).loc Cert.NattenRefIdeal.main_arg0)
          ∧ r.2.mem ((c.tc : Thread Cert.NattenRefIdeal.nD Cert.NattenRefIdeal.τ).loc Cert.NattenRefIdeal.main_arg1) = m' ((c.tc : Thread Cert.NattenRefIdeal.nD Cert.NattenRefIdeal.τ).loc Cert.NattenRefIdeal.main_arg1)
          ∧ r.2.mem ((c.tc : Thread Cert.NattenRefIdeal.nD Cert.NattenRefIdeal.τ).loc Cert.NattenRefIdeal.main_arg2) = m' ((c.tc : Thread Cert.NattenRefIdeal.nD Cert.NattenRefIdeal.τ).loc Cert.NattenRefIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v27) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal_pre_finite_branches [hMergeIdeal : Cert.MergeIdeal.Facts] [hMergeRefIdeal : Cert.MergeRefIdeal.Facts] [hPre_finite_branches : Cert.Pre_finite_branches.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_branches m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v29)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v92) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Swa_SwaIdeal : Prop :=
  IdealRules.named_const.Statement Cert.SwaIdeal.κ "mask" .f32 0xF149F2CA#32 ⊥
  ∧ IdealRules.named_const.Statement Cert.SwaIdeal.κ "log2e" .f32 0x3FB8AA3B#32 (((Real.log 2)⁻¹ : ℝ) : EReal)

def algebraic_SwaIdeal_SwaRefIdeal_pre_finite_scores [hSwaIdeal : Cert.SwaIdeal.Facts] [hSwaRefIdeal : Cert.SwaRefIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v15)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v15) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v100) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4))

def preserves_Rope_RopeIdeal : Prop :=
  IdealRules.named_const.Statement Cert.RopeIdeal.κ "qscale" .f32 0x3E38AA3B#32 (((1 / 8) * (Real.log 2)⁻¹ : ℝ) : EReal)

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v30_0)) (v1 : (c : Dev Cert.RopeIdeal.nD) → Buf (Elt Ideal) ((c.tc : Thread Cert.RopeIdeal.nD Cert.RopeIdeal.τ).loc Cert.RopeIdeal.main_v30_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v30_0) = v0 c
          ∧ r.2.mem ((c.tc : Thread Cert.RopeIdeal.nD Cert.RopeIdeal.τ).loc Cert.RopeIdeal.main_v30_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v79) = v0 c
          ∧ r.2.mem ((c.tc : Thread Cert.RopeRefIdeal.nD Cert.RopeRefIdeal.τ).loc Cert.RopeRefIdeal.main_v80) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hNatten : Cert.Natten.Facts) (hNattenIdeal : Cert.NattenIdeal.Facts) (hNattenRefIdeal : Cert.NattenRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hSwa : Cert.Swa.Facts) (hSwaIdeal : Cert.SwaIdeal.Facts) (hSwaRefIdeal : Cert.SwaRefIdeal.Facts) (hRope : Cert.Rope.Facts) (hRopeIdeal : Cert.RopeIdeal.Facts) (hRopeRefIdeal : Cert.RopeRefIdeal.Facts) (hPre_finite : Cert.Pre_finite.Facts) (hPre_finite_branches : Cert.Pre_finite_branches.Facts) (hPre_finite_scores : Cert.Pre_finite_scores.Facts),
    quiescent_Natten (hNatten := hNatten)
    ∧ quiescent_NattenIdeal (hNattenIdeal := hNattenIdeal)
    ∧ quiescent_NattenIdeal_pre_finite (hNattenIdeal := hNattenIdeal) (hPre_finite := hPre_finite)
    ∧ quiescent_NattenRefIdeal (hNattenRefIdeal := hNattenRefIdeal)
    ∧ quiescent_NattenRefIdeal_pre_finite (hNattenRefIdeal := hNattenRefIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeIdeal_pre_finite_branches (hMergeIdeal := hMergeIdeal) (hPre_finite_branches := hPre_finite_branches)
    ∧ quiescent_MergeRefIdeal (hMergeRefIdeal := hMergeRefIdeal)
    ∧ quiescent_MergeRefIdeal_pre_finite_branches (hMergeRefIdeal := hMergeRefIdeal) (hPre_finite_branches := hPre_finite_branches)
    ∧ quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaRefIdeal (hSwaRefIdeal := hSwaRefIdeal)
    ∧ quiescent_SwaRefIdeal_pre_finite_scores (hSwaRefIdeal := hSwaRefIdeal) (hPre_finite_scores := hPre_finite_scores)
    ∧ quiescent_Rope (hRope := hRope)
    ∧ quiescent_RopeIdeal (hRopeIdeal := hRopeIdeal)
    ∧ quiescent_RopeRefIdeal (hRopeRefIdeal := hRopeRefIdeal)
    ∧ preserves_Natten_NattenIdeal
    ∧ algebraic_NattenIdeal_NattenRefIdeal_pre_finite (hNattenIdeal := hNattenIdeal) (hNattenRefIdeal := hNattenRefIdeal) (hPre_finite := hPre_finite)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal_pre_finite_branches (hMergeIdeal := hMergeIdeal) (hMergeRefIdeal := hMergeRefIdeal) (hPre_finite_branches := hPre_finite_branches)
    ∧ preserves_Swa_SwaIdeal
    ∧ algebraic_SwaIdeal_SwaRefIdeal_pre_finite_scores (hSwaIdeal := hSwaIdeal) (hSwaRefIdeal := hSwaRefIdeal) (hPre_finite_scores := hPre_finite_scores)
    ∧ preserves_Rope_RopeIdeal
    ∧ algebraic_RopeIdeal_RopeRefIdeal (hRopeIdeal := hRopeIdeal) (hRopeRefIdeal := hRopeRefIdeal)
-- ==== Pre_finite.lean ====
abbrev S2x16384x11264 : Shape := ⟨3, ![2, 16384, 11264]⟩
abbrev S2x256x11264 : Shape := ⟨3, ![2, 256, 11264]⟩
abbrev S8x15x31 : Shape := ⟨3, ![8, 15, 31]⟩
abbrev S2x16384x1024 : Shape := ⟨3, ![2, 16384, 1024]⟩
abbrev S_ : Shape := ⟨0, ![]⟩
abbrev S2x256x512 : Shape := ⟨3, ![2, 256, 512]⟩

class Facts : Prop where
  slices_S2x16384x11264_S2x16384x1024_0_0_0 : S2x16384x11264.Slices ![0, 0, 0] S2x16384x1024
  bitsLt_bf16_f32 : FTy.bits .bf16 < FTy.bits .f32
  bcast_S_S2x16384x1024 : S_.BroadcastsInDim S2x16384x1024 (![] : Fin 0 → Fin S2x16384x1024.rank)
  slices_S2x256x11264_S2x256x512_0_0_512 : S2x256x11264.Slices ![0, 0, 512] S2x256x512
  bcast_S_S2x256x512 : S_.BroadcastsInDim S2x256x512 (![] : Fin 0 → Fin S2x256x512.rank)
  bcast_S_S8x15x31 : S_.BroadcastsInDim S8x15x31 (![] : Fin 0 → Fin S8x15x31.rank)

variable [Facts]

def fn {F : FTy → Type} [FloatOps F] (main_arg0 : FVec F S2x16384x11264 .bf16) (main_arg1 : FVec F S2x256x11264 .bf16) (main_arg2 : FVec F S8x15x31 .f32) : IVec S2x16384x1024 1 × IVec S2x256x512 1 × IVec S8x15x31 1 :=
  let main_v0 : FVec F S2x16384x1024 .bf16 := (extractStridedSlice S2x16384x1024 ![0, 0, 0] · slices_S2x16384x11264_S2x16384x1024_0_0_0) main_arg0
  let main_v1 : FVec F S2x16384x1024 .f32 := (extf .f32 · bitsLt_bf16_f32) main_v0
  let main_v2 : FVec F S2x16384x1024 .f32 := Host.absf main_v1
  let main_cst : FVec F S_ .f32 := constant S_ .f32 0x7F800000#32
  let main_v3 : FVec F S2x16384x1024 .f32 := broadcastInDim S2x16384x1024 ![] bcast_S_S2x16384x1024 main_cst
  let main_v4 : IVec S2x16384x1024 1 := cmpf .olt main_v2 main_v3
  let main_v5 : FVec F S2x256x512 .bf16 := (extractStridedSlice S2x256x512 ![0, 0, 512] · slices_S2x256x11264_S2x256x512_0_0_512) main_arg1
  let main_v6 : FVec F S2x256x512 .f32 := (extf .f32 · bitsLt_bf16_f32) main_v5
  let main_v7 : FVec F S2x256x512 .f32 := Host.absf main_v6
  let main_cst_0 : FVec F S_ .f32 := constant S_ .f32 0x7F800000#32
  let main_v8 : FVec F S2x256x512 .f32 := broadcastInDim S2x256x512 ![] bcast_S_S2x256x512 main_cst_0
  let main_v9 : IVec S2x256x512 1 := cmpf .olt main_v7 main_v8
  let main_v10 : FVec F S8x15x31 .f32 := Host.absf main_arg2
  let main_cst_1 : FVec F S_ .f32 := constant S_ .f32 0x7F800000#32
  let main_v11 : FVec F S8x15x31 .f32 := broadcastInDim S8x15x31 ![] bcast_S_S8x15x31 main_cst_1
  let main_v12 : IVec S8x15x31 1 := cmpf .olt main_v10 main_v11
  (main_v4, main_v9, main_v12)
-- ==== Pre_finite_branches.lean ====
abbrev S2x16384x1024 : Shape := ⟨3, ![2, 16384, 1024]⟩
abbrev S2x16384x512 : Shape := ⟨3, ![2, 16384, 512]⟩
abbrev S2x16384x11264 : Shape := ⟨3, ![2, 16384, 11264]⟩
abbrev S2x3072 : Shape := ⟨2, ![2, 3072]⟩
abbrev S4x512x1024 : Shape := ⟨3, ![4, 512, 1024]⟩
abbrev S1024x1024 : Shape := ⟨2, ![1024, 1024]⟩
abbrev S1024 : Shape := ⟨1, ![1024]⟩
abbrev S_ : Shape := ⟨0, ![]⟩

class Facts : Prop where
  slices_S2x16384x11264_S2x16384x512_0_0_1536 : S2x16384x11264.Slices ![0, 0, 1536] S2x16384x512
  slices_S2x16384x11264_S2x16384x512_0_0_2560 : S2x16384x11264.Slices ![0, 0, 2560] S2x16384x512
  slices_S2x16384x11264_S2x16384x512_0_0_3584 : S2x16384x11264.Slices ![0, 0, 3584] S2x16384x512
  slices_S2x16384x11264_S2x16384x512_0_0_5632 : S2x16384x11264.Slices ![0, 0, 5632] S2x16384x512
  bitsLt_bf16_f32 : FTy.bits .bf16 < FTy.bits .f32
  bcast_S_S2x16384x512 : S_.BroadcastsInDim S2x16384x512 (![] : Fin 0 → Fin S2x16384x512.rank)
  bcast_S_S4x512x1024 : S_.BroadcastsInDim S4x512x1024 (![] : Fin 0 → Fin S4x512x1024.rank)

variable [Facts]

def fn_part1 {F : FTy → Type} [FloatOps F] (main_arg7 : FVec F S4x512x1024 .f32) (main_v0 : FVec F S2x16384x512 .bf16) (main_v1 : FVec F S2x16384x512 .bf16) (main_v2 : FVec F S2x16384x512 .bf16) (main_v3 : FVec F S2x16384x512 .bf16) (main_v7 : IVec S2x16384x512 1) (main_v11 : IVec S2x16384x512 1) (main_v15 : IVec S2x16384x512 1) (main_v19 : IVec S2x16384x512 1) : IVec S2x16384x512 1 × IVec S2x16384x512 1 × IVec S2x16384x512 1 × IVec S2x16384x512 1 × IVec S2x16384x512 1 × IVec S2x16384x512 1 × IVec S2x16384x512 1 × IVec S2x16384x512 1 × IVec S4x512x1024 1 :=
  let main_v20 : FVec F S2x16384x512 .f32 := (extf .f32 · bitsLt_bf16_f32) main_v0
  let main_v21 : FVec F S2x16384x512 .f32 := Host.absf main_v20
  let main_cst_3 : FVec F S_ .f32 := constant S_ .f32 0x7F800000#32
  let main_v22 : FVec F S2x16384x512 .f32 := broadcastInDim S2x16384x512 ![] bcast_S_S2x16384x512 main_cst_3
  let main_v23 : IVec S2x16384x512 1 := cmpf .olt main_v21 main_v22
  let main_v24 : FVec F S2x16384x512 .f32 := (extf .f32 · bitsLt_bf16_f32) main_v1
  let main_v25 : FVec F S2x16384x512 .f32 := Host.absf main_v24
  let main_cst_4 : FVec F S_ .f32 := constant S_ .f32 0x7F800000#32
  let main_v26 : FVec F S2x16384x512 .f32 := broadcastInDim S2x16384x512 ![] bcast_S_S2x16384x512 main_cst_4
  let main_v27 : IVec S2x16384x512 1 := cmpf .olt main_v25 main_v26
  let main_v28 : FVec F S2x16384x512 .f32 := (extf .f32 · bitsLt_bf16_f32) main_v2
  let main_v29 : FVec F S2x16384x512 .f32 := Host.absf main_v28
  let main_cst_5 : FVec F S_ .f32 := constant S_ .f32 0x7F800000#32
  let main_v30 : FVec F S2x16384x512 .f32 := broadcastInDim S2x16384x512 ![] bcast_S_S2x16384x512 main_cst_5
  let main_v31 : IVec S2x16384x512 1 := cmpf .olt main_v29 main_v30
  let main_v32 : FVec F S2x16384x512 .f32 := (extf .f32 · bitsLt_bf16_f32) main_v3
  let main_v33 : FVec F S2x16384x512 .f32 := Host.absf main_v32
  let main_cst_6 : FVec F S_ .f32 := constant S_ .f32 0x7F800000#32
  let main_v34 : FVec F S2x16384x512 .f32 := broadcastInDim S2x16384x512 ![] bcast_S_S2x16384x512 main_cst_6
  let main_v35 : IVec S2x16384x512 1 := cmpf .olt main_v33 main_v34
  let main_v36 : FVec F S4x512x1024 .f32 := Host.absf main_arg7
  let main_cst_7 : FVec F S_ .f32 := constant S_ .f32 0x7F800000#32
  let main_v37 : FVec F S4x512x1024 .f32 := broadcastInDim S4x512x1024 ![] bcast_S_S4x512x1024 main_cst_7
  let main_v38 : IVec S4x512x1024 1 := cmpf .olt main_v36 main_v37
  (main_v7, main_v11, main_v15, main_v19, main_v23, main_v27, main_v31, main_v35, main_v38)

def fn {F : FTy → Type} [FloatOps F] (main_arg0 : FVec F S2x16384x1024 .f32) (main_arg1 : FVec F S2x16384x512 .bf16) (main_arg2 : FVec F S2x16384x512 .bf16) (main_arg3 : FVec F S2x16384x512 .bf16) (main_arg4 : FVec F S2x16384x512 .bf16) (main_arg5 : FVec F S2x16384x11264 .bf16) (main_arg6 : FVec F S2x3072 .f32) (main_arg7 : FVec F S4x512x1024 .f32) (main_arg8 : FVec F S1024x1024 .f32) (main_arg9 : FVec F S1024 .f32) : IVec S2x16384x512 1 × IVec S2x16384x512 1 × IVec S2x16384x512 1 × IVec S2x16384x512 1 × IVec S2x16384x512 1 × IVec S2x16384x512 1 × IVec S2x16384x512 1 × IVec S2x16384x512 1 × IVec S4x512x1024 1 :=
  let main_v0 : FVec F S2x16384x512 .bf16 := (extractStridedSlice S2x16384x512 ![0, 0, 1536] · slices_S2x16384x11264_S2x16384x512_0_0_1536) main_arg5
  let main_v1 : FVec F S2x16384x512 .bf16 := (extractStridedSlice S2x16384x512 ![0, 0, 2560] · slices_S2x16384x11264_S2x16384x512_0_0_2560) main_arg5
  let main_v2 : FVec F S2x16384x512 .bf16 := (extractStridedSlice S2x16384x512 ![0, 0, 3584] · slices_S2x16384x11264_S2x16384x512_0_0_3584) main_arg5
  let main_v3 : FVec F S2x16384x512 .bf16 := (extractStridedSlice S2x16384x512 ![0, 0, 5632] · slices_S2x16384x11264_S2x16384x512_0_0_5632) main_arg5
  let main_v4 : FVec F S2x16384x512 .f32 := (extf .f32 · bitsLt_bf16_f32) main_arg1
  let main_v5 : FVec F S2x16384x512 .f32 := Host.absf main_v4
  let main_cst : FVec F S_ .f32 := constant S_ .f32 0x7F800000#32
  let main_v6 : FVec F S2x16384x512 .f32 := broadcastInDim S2x16384x512 ![] bcast_S_S2x16384x512 main_cst
  let main_v7 : IVec S2x16384x512 1 := cmpf .olt main_v5 main_v6
  let main_v8 : FVec F S2x16384x512 .f32 := (extf .f32 · bitsLt_bf16_f32) main_arg2
  let main_v9 : FVec F S2x16384x512 .f32 := Host.absf main_v8
  let main_cst_0 : FVec F S_ .f32 := constant S_ .f32 0x7F800000#32
  let main_v10 : FVec F S2x16384x512 .f32 := broadcastInDim S2x16384x512 ![] bcast_S_S2x16384x512 main_cst_0
  let main_v11 : IVec S2x16384x512 1 := cmpf .olt main_v9 main_v10
  let main_v12 : FVec F S2x16384x512 .f32 := (extf .f32 · bitsLt_bf16_f32) main_arg3
  let main_v13 : FVec F S2x16384x512 .f32 := Host.absf main_v12
  let main_cst_1 : FVec F S_ .f32 := constant S_ .f32 0x7F800000#32
  let main_v14 : FVec F S2x16384x512 .f32 := broadcastInDim S2x16384x512 ![] bcast_S_S2x16384x512 main_cst_1
  let main_v15 : IVec S2x16384x512 1 := cmpf .olt main_v13 main_v14
  let main_v16 : FVec F S2x16384x512 .f32 := (extf .f32 · bitsLt_bf16_f32) main_arg4
  let main_v17 : FVec F S2x16384x512 .f32 := Host.absf main_v16
  let main_cst_2 : FVec F S_ .f32 := constant S_ .f32 0x7F800000#32
  let main_v18 : FVec F S2x16384x512 .f32 := broadcastInDim S2x16384x512 ![] bcast_S_S2x16384x512 main_cst_2
  let main_v19 : IVec S2x16384x512 1 := cmpf .olt main_v17 main_v18
  fn_part1 (F := F) main_arg7 main_v0 main_v1 main_v2 main_v3 main_v7 main_v11 main_v15 main_v19
-- ==== Pre_finite_scores.lean ====
abbrev S2x16384x512 : Shape := ⟨3, ![2, 16384, 512]⟩
abbrev S2x16384x128 : Shape := ⟨3, ![2, 16384, 128]⟩
abbrev S2x16384x11264 : Shape := ⟨3, ![2, 16384, 11264]⟩
abbrev S2x256x11264 : Shape := ⟨3, ![2, 256, 11264]⟩
abbrev S8 : Shape := ⟨1, ![8]⟩
abbrev S2x256x128 : Shape := ⟨3, ![2, 256, 128]⟩
abbrev S_ : Shape := ⟨0, ![]⟩

class Facts : Prop where
  slices_S2x256x11264_S2x256x128_0_0_10752 : S2x256x11264.Slices ![0, 0, 10752] S2x256x128
  bitsLt_bf16_f32 : FTy.bits .bf16 < FTy.bits .f32
  bcast_S_S2x16384x512 : S_.BroadcastsInDim S2x16384x512 (![] : Fin 0 → Fin S2x16384x512.rank)
  bcast_S_S2x16384x128 : S_.BroadcastsInDim S2x16384x128 (![] : Fin 0 → Fin S2x16384x128.rank)
  bcast_S_S2x256x128 : S_.BroadcastsInDim S2x256x128 (![] : Fin 0 → Fin S2x256x128.rank)
  bcast_S_S8 : S_.BroadcastsInDim S8 (![] : Fin 0 → Fin S8.rank)

variable [Facts]

def fn {F : FTy → Type} [FloatOps F] (main_arg0 : FVec F S2x16384x512 .bf16) (main_arg1 : FVec F S2x16384x128 .bf16) (main_arg2 : FVec F S2x16384x11264 .bf16) (main_arg3 : FVec F S2x256x11264 .bf16) (main_arg4 : FVec F S8 .f32) : IVec S2x16384x512 1 × IVec S2x16384x128 1 × IVec S2x256x128 1 × IVec S8 1 :=
  let main_v0 : FVec F S2x256x128 .bf16 := (extractStridedSlice S2x256x128 ![0, 0, 10752] · slices_S2x256x11264_S2x256x128_0_0_10752) main_arg3
  let main_v1 : FVec F S2x16384x512 .f32 := (extf .f32 · bitsLt_bf16_f32) main_arg0
  let main_v2 : FVec F S2x16384x512 .f32 := Host.absf main_v1
  let main_cst : FVec F S_ .f32 := constant S_ .f32 0x7F800000#32
  let main_v3 : FVec F S2x16384x512 .f32 := broadcastInDim S2x16384x512 ![] bcast_S_S2x16384x512 main_cst
  let main_v4 : IVec S2x16384x512 1 := cmpf .olt main_v2 main_v3
  let main_v5 : FVec F S2x16384x128 .f32 := (extf .f32 · bitsLt_bf16_f32) main_arg1
  let main_v6 : FVec F S2x16384x128 .f32 := Host.absf main_v5
  let main_cst_0 : FVec F S_ .f32 := constant S_ .f32 0x7F800000#32
  let main_v7 : FVec F S2x16384x128 .f32 := broadcastInDim S2x16384x128 ![] bcast_S_S2x16384x128 main_cst_0
  let main_v8 : IVec S2x16384x128 1 := cmpf .olt main_v6 main_v7
  let main_v9 : FVec F S2x256x128 .f32 := (extf .f32 · bitsLt_bf16_f32) main_v0
  let main_v10 : FVec F S2x256x128 .f32 := Host.absf main_v9
  let main_cst_1 : FVec F S_ .f32 := constant S_ .f32 0x7F800000#32
  let main_v11 : FVec F S2x256x128 .f32 := broadcastInDim S2x256x128 ![] bcast_S_S2x256x128 main_cst_1
  let main_v12 : IVec S2x256x128 1 := cmpf .olt main_v10 main_v11
  let main_v13 : FVec F S8 .f32 := Host.absf main_arg4
  let main_cst_2 : FVec F S_ .f32 := constant S_ .f32 0x7F800000#32
  let main_v14 : FVec F S8 .f32 := broadcastInDim S8 ![] bcast_S_S8 main_cst_2
  let main_v15 : IVec S8 1 := cmpf .olt main_v13 main_v14
  (main_v4, main_v8, main_v12, main_v15)
-- ==== Natten.lean ====
abbrev S2x16384x11264 : Shape := ⟨3, ![2, 16384, 11264]⟩
abbrev S2x256x11264 : Shape := ⟨3, ![2, 256, 11264]⟩
abbrev S8x15x31 : Shape := ⟨3, ![8, 15, 31]⟩
abbrev S_ : Shape := ⟨0, ![]⟩
abbrev S8x15x95 : Shape := ⟨3, ![8, 15, 95]⟩
abbrev S1x8x1x15x1x95 : Shape := ⟨6, ![1, 8, 1, 15, 1, 95]⟩
abbrev S1x8x1x15x64x95 : Shape := ⟨6, ![1, 8, 1, 15, 64, 95]⟩
abbrev S8x15x6080 : Shape := ⟨3, ![8, 15, 6080]⟩
abbrev S8x15x6016 : Shape := ⟨3, ![8, 15, 6016]⟩
abbrev S8x15x64x94 : Shape := ⟨4, ![8, 15, 64, 94]⟩
abbrev S8x15x64x64 : Shape := ⟨4, ![8, 15, 64, 64]⟩
abbrev S8x8x64x64 : Shape := ⟨4, ![8, 8, 64, 64]⟩
abbrev S1x8x8x64x64 : Shape := ⟨5, ![1, 8, 8, 64, 64]⟩
abbrev S8x8x8x64x64 : Shape := ⟨5, ![8, 8, 8, 64, 64]⟩
abbrev S8x8x64x8x64 : Shape := ⟨5, ![8, 8, 64, 8, 64]⟩
abbrev S8x4x128x512 : Shape := ⟨4, ![8, 4, 128, 512]⟩
abbrev S2x16384x512 : Shape := ⟨3, ![2, 16384, 512]⟩
abbrev S1x2048x128 : Shape := ⟨3, ![1, 2048, 128]⟩
abbrev S1x16384x128 : Shape := ⟨3, ![1, 16384, 128]⟩
abbrev S1x256x128 : Shape := ⟨3, ![1, 256, 128]⟩
abbrev S8x1x128x512 : Shape := ⟨4, ![8, 1, 128, 512]⟩
abbrev S256x128 : Shape := ⟨2, ![256, 128]⟩
abbrev S2048x128 : Shape := ⟨2, ![2048, 128]⟩
abbrev S64x128 : Shape := ⟨2, ![64, 128]⟩
abbrev S2048x256 : Shape := ⟨2, ![2048, 256]⟩
abbrev S128x512 : Shape := ⟨2, ![128, 512]⟩
abbrev S128x128 : Shape := ⟨2, ![128, 128]⟩
abbrev S1x512x128 : Shape := ⟨3, ![1, 512, 128]⟩
abbrev S512x128 : Shape := ⟨2, ![512, 128]⟩
abbrev S1x1x128x512 : Shape := ⟨4, ![1, 1, 128, 512]⟩
abbrev S64x256 : Shape := ⟨2, ![64, 256]⟩
abbrev S128x256 : Shape := ⟨2, ![128, 256]⟩
abbrev S128 : Shape := ⟨1, ![128]⟩
abbrev S128x1 : Shape := ⟨2, ![128, 1]⟩
abbrev S64x1 : Shape := ⟨2, ![64, 1]⟩
abbrev S2048x1 : Shape := ⟨2, ![2048, 1]⟩

abbrev nBuf : Space → Nat
  | .hbm => 32
  | .vmem => 14
  | .smem => 0
  | _ => 0

abbrev bufTy : (tb : Table) → Fin (tcTables nBuf tb) → BufTy
  | .hbm, ⟨0, _⟩ => ⟨S2x16384x11264, .bf16⟩
  | .hbm, ⟨1, _⟩ => ⟨S2x256x11264, .bf16⟩
  | .hbm, ⟨2, _⟩ => ⟨S8x15x31, .f32⟩
  | .hbm, ⟨3, _⟩ => ⟨S_, .i32⟩
  | .hbm, ⟨4, _⟩ => ⟨S_, .f32⟩
  | .hbm, ⟨5, _⟩ => ⟨S8x15x95, .f32⟩
  | .hbm, ⟨6, _⟩ => ⟨S1x8x1x15x1x95, .f32⟩
  | .hbm, ⟨7, _⟩ => ⟨S1x8x1x15x64x95, .f32⟩
  | .hbm, ⟨8, _⟩ => ⟨S8x15x6080, .f32⟩
  | .hbm, ⟨9, _⟩ => ⟨S8x15x6016, .f32⟩
  | .hbm, ⟨10, _⟩ => ⟨S8x15x64x94, .f32⟩
  | .hbm, ⟨11, _⟩ => ⟨S8x15x64x64, .f32⟩
  | .hbm, ⟨12, _⟩ => ⟨S8x8x64x64, .f32⟩
  | .hbm, ⟨13, _⟩ => ⟨S8x8x64x64, .f32⟩
  | .hbm, ⟨14, _⟩ => ⟨S8x8x64x64, .f32⟩
  | .hbm, ⟨15, _⟩ => ⟨S8x8x64x64, .f32⟩
  | .hbm, ⟨16, _⟩ => ⟨S8x8x64x64, .f32⟩
  | .hbm, ⟨17, _⟩ => ⟨S8x8x64x64, .f32⟩
  | .hbm, ⟨18, _⟩ => ⟨S8x8x64x64, .f32⟩
  | .hbm, ⟨19, _⟩ => ⟨S8x8x64x64, .f32⟩
  | .hbm, ⟨20, _⟩ => ⟨S1x8x8x64x64, .f32⟩
  | .hbm, ⟨21, _⟩ => ⟨S1x8x8x64x64, .f32⟩
  | .hbm, ⟨22, _⟩ => ⟨S1x8x8x64x64, .f32⟩
  | .hbm, ⟨23, _⟩ => ⟨S1x8x8x64x64, .f32⟩
  | .hbm, ⟨24, _⟩ => ⟨S1x8x8x64x64, .f32⟩
  | .hbm, ⟨25, _⟩ => ⟨S1x8x8x64x64, .f32⟩
  | .hbm, ⟨26, _⟩ => ⟨S1x8x8x64x64, .f32⟩
  | .hbm, ⟨27, _⟩ => ⟨S1x8x8x64x64, .f32⟩
  | .hbm, ⟨28, _⟩ => ⟨S8x8x8x64x64, .f32⟩
  | .hbm, ⟨29, _⟩ => ⟨S8x8x64x8x64, .f32⟩
  | .hbm, ⟨30, _⟩ => ⟨S8x4x128x512, .f32⟩
  | .hbm, ⟨31, _⟩ => ⟨S2x16384x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S8x1x128x512, .f32⟩
  | .local _ .vmem, ⟨11, _⟩ => ⟨S8x1x128x512, .f32⟩
  | .local _ .vmem, ⟨12, _⟩ => ⟨S1x2048x128, .bf16⟩
  | .local _ .vmem, ⟨13, _⟩ => ⟨S1x2048x128, .bf16⟩
  | _, _ => ⟨S2x16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let c248_i32 : BitVec 32 := 248#32
  let c0_i32_14 : BitVec 32 := 0#32
  let arg2 : BitVec 32 := BitVec.ofNat 32 (i 2).val
  let c32_i32 : BitVec 32 := 32#32
  let v38 : BitVec 32 := Scalar.muli arg2 c32_i32
  let c0_i32_13 : BitVec 32 := 0#32
  let v39 : BitVec 32 := Scalar.addi v38 c0_i32_13
  let c4_i32 : BitVec 32 := 4#32
  let v40 : BitVec 32 := Scalar.subi v39 c4_i32
  let v41 : BitVec 32 := Scalar.maxsi c0_i32_14 v40
  let v42 : BitVec 32 := Scalar.minsi c248_i32 v41
  let c64_i32_15 : BitVec 32 := 64#32
  let v45 : BitVec 32 := Scalar.muli v42 c64_i32_15
  v45
def k0_off1 (i : grid0.Coords) (c0_i32_13 : BitVec 32) : Fin 3 → Nat :=
  let c0_16 : Index := 0#32
  let c248_i32 : BitVec 32 := 248#32
  let c0_i32_14 : BitVec 32 := 0#32
  let arg2 : BitVec 32 := BitVec.ofNat 32 (i 2).val
  let c32_i32 : BitVec 32 := 32#32
  let v38 : BitVec 32 := Scalar.muli arg2 c32_i32
  let v39 : BitVec 32 := Scalar.addi v38 c0_i32_13
  let c4_i32 : BitVec 32 := 4#32
  let v40 : BitVec 32 := Scalar.subi v39 c4_i32
  let v41 : BitVec 32 := Scalar.maxsi c0_i32_14 v40
  let v42 : BitVec 32 := Scalar.minsi c248_i32 v41
  let c64_i32_15 : BitVec 32 := 64#32
  let v45 : BitVec 32 := Scalar.muli v42 c64_i32_15
  let v46 : BitVec 32 := v45
  let v50 : Index := Scalar.indexCast v46
  let c0_17 : Index := 0#32
  ![0, v50.toNat, 0]
def k0_off2 (i : grid0.Coords) (c0_i32_13 : BitVec 32) : Fin 4 → Nat :=
  let c248_i32 : BitVec 32 := 248#32
  let c0_i32_14 : BitVec 32 := 0#32
  let arg2 : BitVec 32 := BitVec.ofNat 32 (i 2).val
  let c32_i32 : BitVec 32 := 32#32
  let v38 : BitVec 32 := Scalar.muli arg2 c32_i32
  let v39 : BitVec 32 := Scalar.addi v38 c0_i32_13
  let c4_i32 : BitVec 32 := 4#32
  let v40 : BitVec 32 := Scalar.subi v39 c4_i32
  let v41 : BitVec 32 := Scalar.maxsi c0_i32_14 v40
  let v42 : BitVec 32 := Scalar.minsi c248_i32 v41
  let v43 : BitVec 32 := Scalar.subi v42 v39
  let c7_i32 : BitVec 32 := 7#32
  let v44 : BitVec 32 := Scalar.addi v43 c7_i32
  let v54 : Index := Scalar.indexCast v44
  let c0_19 : Index := 0#32
  let c0_20 : Index := 0#32
  let c0_21 : Index := 0#32
  ![v54.toNat, 0, 0, 0]
def k0_mult2 (i : grid0.Coords) : BitVec 32 :=
  let c248_i32_27 : BitVec 32 := 248#32
  let c0_i32_26 : BitVec 32 := 0#32
  let arg2 : BitVec 32 := BitVec.ofNat 32 (i 2).val
  let c32_i32_24 : BitVec 32 := 32#32
  let v65 : BitVec 32 := Scalar.muli arg2 c32_i32_24
  let c1_i32 : BitVec 32 := 1#32
  let v66 : BitVec 32 := Scalar.addi v65 c1_i32
  let c4_i32_25 : BitVec 32 := 4#32
  let v67 : BitVec 32 := Scalar.subi v66 c4_i32_25
  let v68 : BitVec 32 := Scalar.maxsi c0_i32_26 v67
  let v69 : BitVec 32 := Scalar.minsi c248_i32_27 v68
  let c64_i32_29 : BitVec 32 := 64#32
  let v72 : BitVec 32 := Scalar.muli v69 c64_i32_29
  v72
def k0_mult3 (i : grid0.Coords) : BitVec 32 :=
  let c248_i32_41 : BitVec 32 := 248#32
  let c0_i32_40 : BitVec 32 := 0#32
  let arg2 : BitVec 32 := BitVec.ofNat 32 (i 2).val
  let c32_i32_38 : BitVec 32 := 32#32
  let v92 : BitVec 32 := Scalar.muli arg2 c32_i32_38
  let c2_i32 : BitVec 32 := 2#32
  let v93 : BitVec 32 := Scalar.addi v92 c2_i32
  let c4_i32_39 : BitVec 32 := 4#32
  let v94 : BitVec 32 := Scalar.subi v93 c4_i32_39
  let v95 : BitVec 32 := Scalar.maxsi c0_i32_40 v94
  let v96 : BitVec 32 := Scalar.minsi c248_i32_41 v95
  let c64_i32_43 : BitVec 32 := 64#32
  let v99 : BitVec 32 := Scalar.muli v96 c64_i32_43
  v99
def k0_mult4 (i : grid0.Coords) : BitVec 32 :=
  let c248_i32_63 : BitVec 32 := 248#32
  let c0_i32_62 : BitVec 32 := 0#32
  let arg2 : BitVec 32 := BitVec.ofNat 32 (i 2).val
  let c32_i32_60 : BitVec 32 := 32#32
  let v150 : BitVec 32 := Scalar.muli arg2 c32_i32_60
  let c3_i32 : BitVec 32 := 3#32
  let v151 : BitVec 32 := Scalar.addi v150 c3_i32
  let c4_i32_61 : BitVec 32 := 4#32
  let v152 : BitVec 32 := Scalar.subi v151 c4_i32_61
  let v153 : BitVec 32 := Scalar.maxsi c0_i32_62 v152
  let v154 : BitVec 32 := Scalar.minsi c248_i32_63 v153
  let c64_i32_65 : BitVec 32 := 64#32
  let v157 : BitVec 32 := Scalar.muli v154 c64_i32_65
  v157
def k0_mult5 (i : grid0.Coords) : BitVec 32 :=
  let c248_i32_86 : BitVec 32 := 248#32
  let c0_i32_85 : BitVec 32 := 0#32
  let arg2 : BitVec 32 := BitVec.ofNat 32 (i 2).val
  let c32_i32_82 : BitVec 32 := 32#32
  let v208 : BitVec 32 := Scalar.muli arg2 c32_i32_82
  let c4_i32_83 : BitVec 32 := 4#32
  let v209 : BitVec 32 := Scalar.addi v208 c4_i32_83
  let c4_i32_84 : BitVec 32 := 4#32
  let v210 : BitVec 32 := Scalar.subi v209 c4_i32_84
  let v211 : BitVec 32 := Scalar.maxsi c0_i32_85 v210
  let v212 : BitVec 32 := Scalar.minsi c248_i32_86 v211
  let c64_i32_88 : BitVec 32 := 64#32
  let v215 : BitVec 32 := Scalar.muli v212 c64_i32_88
  v215
def k0_mult6 (i : grid0.Coords) : BitVec 32 :=
  let c248_i32_108 : BitVec 32 := 248#32
  let c0_i32_107 : BitVec 32 := 0#32
  let arg2 : BitVec 32 := BitVec.ofNat 32 (i 2).val
  let c32_i32_105 : BitVec 32 := 32#32
  let v266 : BitVec 32 := Scalar.muli arg2 c32_i32_105
  let c5_i32 : BitVec 32 := 5#32
  let v267 : BitVec 32 := Scalar.addi v266 c5_i32
  let c4_i32_106 : BitVec 32 := 4#32
  let v268 : BitVec 32 := Scalar.subi v267 c4_i32_106
  let v269 : BitVec 32 := Scalar.maxsi c0_i32_107 v268
  let v270 : BitVec 32 := Scalar.minsi c248_i32_108 v269
  let c64_i32_110 : BitVec 32 := 64#32
  let v273 : BitVec 32 := Scalar.muli v270 c64_i32_110
  v273
def k0_mult7 (i : grid0.Coords) : BitVec 32 :=
  let c248_i32_130 : BitVec 32 := 248#32
  let c0_i32_129 : BitVec 32 := 0#32
  let arg2 : BitVec 32 := BitVec.ofNat 32 (i 2).val
  let c32_i32_127 : BitVec 32 := 32#32
  let v324 : BitVec 32 := Scalar.muli arg2 c32_i32_127
  let c6_i32 : BitVec 32 := 6#32
  let v325 : BitVec 32 := Scalar.addi v324 c6_i32
  let c4_i32_128 : BitVec 32 := 4#32
  let v326 : BitVec 32 := Scalar.subi v325 c4_i32_128
  let v327 : BitVec 32 := Scalar.maxsi c0_i32_129 v326
  let v328 : BitVec 32 := Scalar.minsi c248_i32_130 v327
  let c64_i32_132 : BitVec 32 := 64#32
  let v331 : BitVec 32 := Scalar.muli v328 c64_i32_132
  v331
def k0_mult8 (i : grid0.Coords) : BitVec 32 :=
  let c248_i32_153 : BitVec 32 := 248#32
  let c0_i32_152 : BitVec 32 := 0#32
  let arg2 : BitVec 32 := BitVec.ofNat 32 (i 2).val
  let c32_i32_149 : BitVec 32 := 32#32
  let v382 : BitVec 32 := Scalar.muli arg2 c32_i32_149
  let c7_i32_150 : BitVec 32 := 7#32
  let v383 : BitVec 32 := Scalar.addi v382 c7_i32_150
  let c4_i32_151 : BitVec 32 := 4#32
  let v384 : BitVec 32 := Scalar.subi v383 c4_i32_151
  let v385 : BitVec 32 := Scalar.maxsi c0_i32_152 v384
  let v386 : BitVec 32 := Scalar.minsi c248_i32_153 v385
  let c64_i32_155 : BitVec 32 := 64#32
  let v389 : BitVec 32 := Scalar.muli v386 c64_i32_155
  v389
def k0_mult9 (i : grid0.Coords) : BitVec 32 :=
  let c248_i32_176 : BitVec 32 := 248#32
  let c0_i32_175 : BitVec 32 := 0#32
  let arg2 : BitVec 32 := BitVec.ofNat 32 (i 2).val
  let c32_i32_172 : BitVec 32 := 32#32
  let v440 : BitVec 32 := Scalar.muli arg2 c32_i32_172
  let c8_i32_173 : BitVec 32 := 8#32
  let v441 : BitVec 32 := Scalar.addi v440 c8_i32_173
  let c4_i32_174 : BitVec 32 := 4#32
  let v442 : BitVec 32 := Scalar.subi v441 c4_i32_174
  let v443 : BitVec 32 := Scalar.maxsi c0_i32_175 v442
  let v444 : BitVec 32 := Scalar.minsi c248_i32_176 v443
  let c64_i32_178 : BitVec 32 := 64#32
  let v447 : BitVec 32 := Scalar.muli v444 c64_i32_178
  v447
def k0_mult10 (i : grid0.Coords) : BitVec 32 :=
  let c248_i32_198 : BitVec 32 := 248#32
  let c0_i32_197 : BitVec 32 := 0#32
  let arg2 : BitVec 32 := BitVec.ofNat 32 (i 2).val
  let c32_i32_195 : BitVec 32 := 32#32
  let v498 : BitVec 32 := Scalar.muli arg2 c32_i32_195
  let c9_i32 : BitVec 32 := 9#32
  let v499 : BitVec 32 := Scalar.addi v498 c9_i32
  let c4_i32_196 : BitVec 32 := 4#32
  let v500 : BitVec 32 := Scalar.subi v499 c4_i32_196
  let v501 : BitVec 32 := Scalar.maxsi c0_i32_197 v500
  let v502 : BitVec 32 := Scalar.minsi c248_i32_198 v501
  let c64_i32_200 : BitVec 32 := 64#32
  let v505 : BitVec 32 := Scalar.muli v502 c64_i32_200
  v505
def k0_mult11 (i : grid0.Coords) : BitVec 32 :=
  let c248_i32_220 : BitVec 32 := 248#32
  let c0_i32_219 : BitVec 32 := 0#32
  let arg2 : BitVec 32 := BitVec.ofNat 32 (i 2).val
  let c32_i32_217 : BitVec 32 := 32#32
  let v556 : BitVec 32 := Scalar.muli arg2 c32_i32_217
  let c10_i32 : BitVec 32 := 10#32
  let v557 : BitVec 32 := Scalar.addi v556 c10_i32
  let c4_i32_218 : BitVec 32 := 4#32
  let v558 : BitVec 32 := Scalar.subi v557 c4_i32_218
  let v559 : BitVec 32 := Scalar.maxsi c0_i32_219 v558
  let v560 : BitVec 32 := Scalar.minsi c248_i32_220 v559
  let c64_i32_222 : BitVec 32 := 64#32
  let v563 : BitVec 32 := Scalar.muli v560 c64_i32_222
  v563
def k0_mult12 (i : grid0.Coords) : BitVec 32 :=
  let c248_i32_242 : BitVec 32 := 248#32
  let c0_i32_241 : BitVec 32 := 0#32
  let arg2 : BitVec 32 := BitVec.ofNat 32 (i 2).val
  let c32_i32_239 : BitVec 32 := 32#32
  let v614 : BitVec 32 := Scalar.muli arg2 c32_i32_239
  let c11_i32 : BitVec 32 := 11#32
  let v615 : BitVec 32 := Scalar.addi v614 c11_i32
  let c4_i32_240 : BitVec 32 := 4#32
  let v616 : BitVec 32 := Scalar.subi v615 c4_i32_240
  let v617 : BitVec 32 := Scalar.maxsi c0_i32_241 v616
  let v618 : BitVec 32 := Scalar.minsi c248_i32_242 v617
  let c64_i32_244 : BitVec 32 := 64#32
  let v621 : BitVec 32 := Scalar.muli v618 c64_i32_244
  v621
def k0_mult13 (i : grid0.Coords) : BitVec 32 :=
  let c248_i32_264 : BitVec 32 := 248#32
  let c0_i32_263 : BitVec 32 := 0#32
  let arg2 : BitVec 32 := BitVec.ofNat 32 (i 2).val
  let c32_i32_261 : BitVec 32 := 32#32
  let v672 : BitVec 32 := Scalar.muli arg2 c32_i32_261
  let c12_i32 : BitVec 32 := 12#32
  let v673 : BitVec 32 := Scalar.addi v672 c12_i32
  let c4_i32_262 : BitVec 32 := 4#32
  let v674 : BitVec 32 := Scalar.subi v673 c4_i32_262
  let v675 : BitVec 32 := Scalar.maxsi c0_i32_263 v674
  let v676 : BitVec 32 := Scalar.minsi c248_i32_264 v675
  let c64_i32_266 : BitVec 32 := 64#32
  let v679 : BitVec 32 := Scalar.muli v676 c64_i32_266
  v679
def k0_mult14 (i : grid0.Coords) : BitVec 32 :=
  let c248_i32_286 : BitVec 32 := 248#32
  let c0_i32_285 : BitVec 32 := 0#32
  let arg2 : BitVec 32 := BitVec.ofNat 32 (i 2).val
  let c32_i32_283 : BitVec 32 := 32#32
  let v730 : BitVec 32 := Scalar.muli arg2 c32_i32_283
  let c13_i32 : BitVec 32 := 13#32
  let v731 : BitVec 32 := Scalar.addi v730 c13_i32
  let c4_i32_284 : BitVec 32 := 4#32
  let v732 : BitVec 32 := Scalar.subi v731 c4_i32_284
  let v733 : BitVec 32 := Scalar.maxsi c0_i32_285 v732
  let v734 : BitVec 32 := Scalar.minsi c248_i32_286 v733
  let c64_i32_288 : BitVec 32 := 64#32
  let v737 : BitVec 32 := Scalar.muli v734 c64_i32_288
  v737
def k0_mult15 (i : grid0.Coords) : BitVec 32 :=
  let c248_i32_308 : BitVec 32 := 248#32
  let c0_i32_307 : BitVec 32 := 0#32
  let arg2 : BitVec 32 := BitVec.ofNat 32 (i 2).val
  let c32_i32_305 : BitVec 32 := 32#32
  let v788 : BitVec 32 := Scalar.muli arg2 c32_i32_305
  let c14_i32 : BitVec 32 := 14#32
  let v789 : BitVec 32 := Scalar.addi v788 c14_i32
  let c4_i32_306 : BitVec 32 := 4#32
  let v790 : BitVec 32 := Scalar.subi v789 c4_i32_306
  let v791 : BitVec 32 := Scalar.maxsi c0_i32_307 v790
  let v792 : BitVec 32 := Scalar.minsi c248_i32_308 v791
  let c64_i32_310 : BitVec 32 := 64#32
  let v795 : BitVec 32 := Scalar.muli v792 c64_i32_310
  v795
def k0_mult16 (i : grid0.Coords) : BitVec 32 :=
  let c248_i32_330 : BitVec 32 := 248#32
  let c0_i32_329 : BitVec 32 := 0#32
  let arg2 : BitVec 32 := BitVec.ofNat 32 (i 2).val
  let c32_i32_327 : BitVec 32 := 32#32
  let v846 : BitVec 32 := Scalar.muli arg2 c32_i32_327
  let c15_i32 : BitVec 32 := 15#32
  let v847 : BitVec 32 := Scalar.addi v846 c15_i32
  let c4_i32_328 : BitVec 32 := 4#32
  let v848 : BitVec 32 := Scalar.subi v847 c4_i32_328
  let v849 : BitVec 32 := Scalar.maxsi c0_i32_329 v848
  let v850 : BitVec 32 := Scalar.minsi c248_i32_330 v849
  let c64_i32_332 : BitVec 32 := 64#32
  let v853 : BitVec 32 := Scalar.muli v850 c64_i32_332
  v853
def k0_mult17 (i : grid0.Coords) : BitVec 32 :=
  let c248_i32_353 : BitVec 32 := 248#32
  let c0_i32_352 : BitVec 32 := 0#32
  let arg2 : BitVec 32 := BitVec.ofNat 32 (i 2).val
  let c32_i32_349 : BitVec 32 := 32#32
  let v904 : BitVec 32 := Scalar.muli arg2 c32_i32_349
  let c16_i32_350 : BitVec 32 := 16#32
  let v905 : BitVec 32 := Scalar.addi v904 c16_i32_350
  let c4_i32_351 : BitVec 32 := 4#32
  let v906 : BitVec 32 := Scalar.subi v905 c4_i32_351
  let v907 : BitVec 32 := Scalar.maxsi c0_i32_352 v906
  let v908 : BitVec 32 := Scalar.minsi c248_i32_353 v907
  let c64_i32_355 : BitVec 32 := 64#32
  let v911 : BitVec 32 := Scalar.muli v908 c64_i32_355
  v911
def k0_mult18 (i : grid0.Coords) : BitVec 32 :=
  let c248_i32_375 : BitVec 32 := 248#32
  let c0_i32_374 : BitVec 32 := 0#32
  let arg2 : BitVec 32 := BitVec.ofNat 32 (i 2).val
  let c32_i32_372 : BitVec 32 := 32#32
  let v962 : BitVec 32 := Scalar.muli arg2 c32_i32_372
  let c17_i32 : BitVec 32 := 17#32
  let v963 : BitVec 32 := Scalar.addi v962 c17_i32
  let c4_i32_373 : BitVec 32 := 4#32
  let v964 : BitVec 32 := Scalar.subi v963 c4_i32_373
  let v965 : BitVec 32 := Scalar.maxsi c0_i32_374 v964
  let v966 : BitVec 32 := Scalar.minsi c248_i32_375 v965
  let c64_i32_377 : BitVec 32 := 64#32
  let v969 : BitVec 32 := Scalar.muli v966 c64_i32_377
  v969
def k0_mult19 (i : grid0.Coords) : BitVec 32 :=
  let c248_i32_397 : BitVec 32 := 248#32
  let c0_i32_396 : BitVec 32 := 0#32
  let arg2 : BitVec 32 := BitVec.ofNat 32 (i 2).val
  let c32_i32_394 : BitVec 32 := 32#32
  let v1020 : BitVec 32 := Scalar.muli arg2 c32_i32_394
  let c18_i32 : BitVec 32 := 18#32
  let v1021 : BitVec 32 := Scalar.addi v1020 c18_i32
  let c4_i32_395 : BitVec 32 := 4#32
  let v1022 : BitVec 32 := Scalar.subi v1021 c4_i32_395
  let v1023 : BitVec 32 := Scalar.maxsi c0_i32_396 v1022
  let v1024 : BitVec 32 := Scalar.minsi c248_i32_397 v1023
  let c64_i32_399 : BitVec 32 := 64#32
  let v1027 : BitVec 32 := Scalar.muli v1024 c64_i32_399
  v1027
def k0_mult20 (i : grid0.Coords) : BitVec 32 :=
  let c248_i32_419 : BitVec 32 := 248#32
  let c0_i32_418 : BitVec 32 := 0#32
  let arg2 : BitVec 32 := BitVec.ofNat 32 (i 2).val
  let c32_i32_416 : BitVec 32 := 32#32
  let v1078 : BitVec 32 := Scalar.muli arg2 c32_i32_416
  let c19_i32 : BitVec 32 := 19#32
  let v1079 : BitVec 32 := Scalar.addi v1078 c19_i32
  let c4_i32_417 : BitVec 32 := 4#32
  let v1080 : BitVec 32 := Scalar.subi v1079 c4_i32_417
  let v1081 : BitVec 32 := Scalar.maxsi c0_i32_418 v1080
  let v1082 : BitVec 32 := Scalar.minsi c248_i32_419 v1081
  let c64_i32_421 : BitVec 32 := 64#32
  let v1085 : BitVec 32 := Scalar.muli v1082 c64_i32_421
  v1085
def k0_mult21 (i : grid0.Coords) : BitVec 32 :=
  let c248_i32_441 : BitVec 32 := 248#32
  let c0_i32_440 : BitVec 32 := 0#32
  let arg2 : BitVec 32 := BitVec.ofNat 32 (i 2).val
  let c32_i32_438 : BitVec 32 := 32#32
  let v1136 : BitVec 32 := Scalar.muli arg2 c32_i32_438
  let c20_i32 : BitVec 32 := 20#32
  let v1137 : BitVec 32 := Scalar.addi v1136 c20_i32
  let c4_i32_439 : BitVec 32 := 4#32
  let v1138 : BitVec 32 := Scalar.subi v1137 c4_i32_439
  let v1139 : BitVec 32 := Scalar.maxsi c0_i32_440 v1138
  let v1140 : BitVec 32 := Scalar.minsi c248_i32_441 v1139
  let c64_i32_443 : BitVec 32 := 64#32
  let v1143 : BitVec 32 := Scalar.muli v1140 c64_i32_443
  v1143
def k0_mult22 (i : grid0.Coords) : BitVec 32 :=
  let c248_i32_463 : BitVec 32 := 248#32
  let c0_i32_462 : BitVec 32 := 0#32
  let arg2 : BitVec 32 := BitVec.ofNat 32 (i 2).val
  let c32_i32_460 : BitVec 32 := 32#32
  let v1194 : BitVec 32 := Scalar.muli arg2 c32_i32_460
  let c21_i32 : BitVec 32 := 21#32
  let v1195 : BitVec 32 := Scalar.addi v1194 c21_i32
  let c4_i32_461 : BitVec 32 := 4#32
  let v1196 : BitVec 32 := Scalar.subi v1195 c4_i32_461
  let v1197 : BitVec 32 := Scalar.maxsi c0_i32_462 v1196
  let v1198 : BitVec 32 := Scalar.minsi c248_i32_463 v1197
  let c64_i32_465 : BitVec 32 := 64#32
  let v1201 : BitVec 32 := Scalar.muli v1198 c64_i32_465
  v1201
def k0_mult23 (i : grid0.Coords) : BitVec 32 :=
  let c248_i32_485 : BitVec 32 := 248#32
  let c0_i32_484 : BitVec 32 := 0#32
  let arg2 : BitVec 32 := BitVec.ofNat 32 (i 2).val
  let c32_i32_482 : BitVec 32 := 32#32
  let v1252 : BitVec 32 := Scalar.muli arg2 c32_i32_482
  let c22_i32 : BitVec 32 := 22#32
  let v1253 : BitVec 32 := Scalar.addi v1252 c22_i32
  let c4_i32_483 : BitVec 32 := 4#32
  let v1254 : BitVec 32 := Scalar.subi v1253 c4_i32_483
  let v1255 : BitVec 32 := Scalar.maxsi c0_i32_484 v1254
  let v1256 : BitVec 32 := Scalar.minsi c248_i32_485 v1255
  let c64_i32_487 : BitVec 32 := 64#32
  let v1259 : BitVec 32 := Scalar.muli v1256 c64_i32_487
  v1259
def k0_mult24 (i : grid0.Coords) : BitVec 32 :=
  let c248_i32_507 : BitVec 32 := 248#32
  let c0_i32_506 : BitVec 32 := 0#32
  let arg2 : BitVec 32 := BitVec.ofNat 32 (i 2).val
  let c32_i32_504 : BitVec 32 := 32#32
  let v1310 : BitVec 32 := Scalar.muli arg2 c32_i32_504
  let c23_i32 : BitVec 32 := 23#32
  let v1311 : BitVec 32 := Scalar.addi v1310 c23_i32
  let c4_i32_505 : BitVec 32 := 4#32
  let v1312 : BitVec 32 := Scalar.subi v1311 c4_i32_505
  let v1313 : BitVec 32 := Scalar.maxsi c0_i32_506 v1312
  let v1314 : BitVec 32 := Scalar.minsi c248_i32_507 v1313
  let c64_i32_509 : BitVec 32 := 64#32
  let v1317 : BitVec 32 := Scalar.muli v1314 c64_i32_509
  v1317
def k0_mult25 (i : grid0.Coords) : BitVec 32 :=
  let c248_i32_529 : BitVec 32 := 248#32
  let c0_i32_528 : BitVec 32 := 0#32
  let arg2 : BitVec 32 := BitVec.ofNat 32 (i 2).val
  let c32_i32_526 : BitVec 32 := 32#32
  let v1368 : BitVec 32 := Scalar.muli arg2 c32_i32_526
  let c24_i32 : BitVec 32 := 24#32
  let v1369 : BitVec 32 := Scalar.addi v1368 c24_i32
  let c4_i32_527 : BitVec 32 := 4#32
  let v1370 : BitVec 32 := Scalar.subi v1369 c4_i32_527
  let v1371 : BitVec 32 := Scalar.maxsi c0_i32_528 v1370
  let v1372 : BitVec 32 := Scalar.minsi c248_i32_529 v1371
  let c64_i32_531 : BitVec 32 := 64#32
  let v1375 : BitVec 32 := Scalar.muli v1372 c64_i32_531
  v1375
def k0_mult26 (i : grid0.Coords) : BitVec 32 :=
  let c248_i32_551 : BitVec 32 := 248#32
  let c0_i32_550 : BitVec 32 := 0#32
  let arg2 : BitVec 32 := BitVec.ofNat 32 (i 2).val
  let c32_i32_548 : BitVec 32 := 32#32
  let v1426 : BitVec 32 := Scalar.muli arg2 c32_i32_548
  let c25_i32 : BitVec 32 := 25#32
  let v1427 : BitVec 32 := Scalar.addi v1426 c25_i32
  let c4_i32_549 : BitVec 32 := 4#32
  let v1428 : BitVec 32 := Scalar.subi v1427 c4_i32_549
  let v1429 : BitVec 32 := Scalar.maxsi c0_i32_550 v1428
  let v1430 : BitVec 32 := Scalar.minsi c248_i32_551 v1429
  let c64_i32_553 : BitVec 32 := 64#32
  let v1433 : BitVec 32 := Scalar.muli v1430 c64_i32_553
  v1433
def k0_mult27 (i : grid0.Coords) : BitVec 32 :=
  let c248_i32_573 : BitVec 32 := 248#32
  let c0_i32_572 : BitVec 32 := 0#32
  let arg2 : BitVec 32 := BitVec.ofNat 32 (i 2).val
  let c32_i32_570 : BitVec 32 := 32#32
  let v1484 : BitVec 32 := Scalar.muli arg2 c32_i32_570
  let c26_i32 : BitVec 32 := 26#32
  let v1485 : BitVec 32 := Scalar.addi v1484 c26_i32
  let c4_i32_571 : BitVec 32 := 4#32
  let v1486 : BitVec 32 := Scalar.subi v1485 c4_i32_571
  let v1487 : BitVec 32 := Scalar.maxsi c0_i32_572 v1486
  let v1488 : BitVec 32 := Scalar.minsi c248_i32_573 v1487
  let c64_i32_575 : BitVec 32 := 64#32
  let v1491 : BitVec 32 := Scalar.muli v1488 c64_i32_575
  v1491
def k0_mult28 (i : grid0.Coords) : BitVec 32 :=
  let c248_i32_595 : BitVec 32 := 248#32
  let c0_i32_594 : BitVec 32 := 0#32
  let arg2 : BitVec 32 := BitVec.ofNat 32 (i 2).val
  let c32_i32_592 : BitVec 32 := 32#32
  let v1542 : BitVec 32 := Scalar.muli arg2 c32_i32_592
  let c27_i32 : BitVec 32 := 27#32
  let v1543 : BitVec 32 := Scalar.addi v1542 c27_i32
  let c4_i32_593 : BitVec 32 := 4#32
  let v1544 : BitVec 32 := Scalar.subi v1543 c4_i32_593
  let v1545 : BitVec 32 := Scalar.maxsi c0_i32_594 v1544
  let v1546 : BitVec 32 := Scalar.minsi c248_i32_595 v1545
  let c64_i32_597 : BitVec 32 := 64#32
  let v1549 : BitVec 32 := Scalar.muli v1546 c64_i32_597
  v1549
def k0_mult29 (i : grid0.Coords) : BitVec 32 :=
  let c248_i32_617 : BitVec 32 := 248#32
  let c0_i32_616 : BitVec 32 := 0#32
  let arg2 : BitVec 32 := BitVec.ofNat 32 (i 2).val
  let c32_i32_614 : BitVec 32 := 32#32
  let v1600 : BitVec 32 := Scalar.muli arg2 c32_i32_614
  let c28_i32 : BitVec 32 := 28#32
  let v1601 : BitVec 32 := Scalar.addi v1600 c28_i32
  let c4_i32_615 : BitVec 32 := 4#32
  let v1602 : BitVec 32 := Scalar.subi v1601 c4_i32_615
  let v1603 : BitVec 32 := Scalar.maxsi c0_i32_616 v1602
  let v1604 : BitVec 32 := Scalar.minsi c248_i32_617 v1603
  let c64_i32_619 : BitVec 32 := 64#32
  let v1607 : BitVec 32 := Scalar.muli v1604 c64_i32_619
  v1607
def k0_mult30 (i : grid0.Coords) : BitVec 32 :=
  let c248_i32_639 : BitVec 32 := 248#32
  let c0_i32_638 : BitVec 32 := 0#32
  let arg2 : BitVec 32 := BitVec.ofNat 32 (i 2).val
  let c32_i32_636 : BitVec 32 := 32#32
  let v1658 : BitVec 32 := Scalar.muli arg2 c32_i32_636
  let c29_i32 : BitVec 32 := 29#32
  let v1659 : BitVec 32 := Scalar.addi v1658 c29_i32
  let c4_i32_637 : BitVec 32 := 4#32
  let v1660 : BitVec 32 := Scalar.subi v1659 c4_i32_637
  let v1661 : BitVec 32 := Scalar.maxsi c0_i32_638 v1660
  let v1662 : BitVec 32 := Scalar.minsi c248_i32_639 v1661
  let c64_i32_641 : BitVec 32 := 64#32
  let v1665 : BitVec 32 := Scalar.muli v1662 c64_i32_641
  v1665
def k0_mult31 (i : grid0.Coords) : BitVec 32 :=
  let c248_i32_661 : BitVec 32 := 248#32
  let c0_i32_660 : BitVec 32 := 0#32
  let arg2 : BitVec 32 := BitVec.ofNat 32 (i 2).val
  let c32_i32_658 : BitVec 32 := 32#32
  let v1716 : BitVec 32 := Scalar.muli arg2 c32_i32_658
  let c30_i32 : BitVec 32 := 30#32
  let v1717 : BitVec 32 := Scalar.addi v1716 c30_i32
  let c4_i32_659 : BitVec 32 := 4#32
  let v1718 : BitVec 32 := Scalar.subi v1717 c4_i32_659
  let v1719 : BitVec 32 := Scalar.maxsi c0_i32_660 v1718
  let v1720 : BitVec 32 := Scalar.minsi c248_i32_661 v1719
  let c64_i32_663 : BitVec 32 := 64#32
  let v1723 : BitVec 32 := Scalar.muli v1720 c64_i32_663
  v1723
def k0_mult32 (i : grid0.Coords) : BitVec 32 :=
  let c248_i32_683 : BitVec 32 := 248#32
  let c0_i32_682 : BitVec 32 := 0#32
  let arg2 : BitVec 32 := BitVec.ofNat 32 (i 2).val
  let c32_i32_680 : BitVec 32 := 32#32
  let v1774 : BitVec 32 := Scalar.muli arg2 c32_i32_680
  let c31_i32 : BitVec 32 := 31#32
  let v1775 : BitVec 32 := Scalar.addi v1774 c31_i32
  let c4_i32_681 : BitVec 32 := 4#32
  let v1776 : BitVec 32 := Scalar.subi v1775 c4_i32_681
  let v1777 : BitVec 32 := Scalar.maxsi c0_i32_682 v1776
  let v1778 : BitVec 32 := Scalar.minsi c248_i32_683 v1777
  let c64_i32_685 : BitVec 32 := 64#32
  let v1781 : BitVec 32 := Scalar.muli v1778 c64_i32_685
  v1781
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== NattenIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== NattenRefIdeal.lean ====
abbrev S2x16384x11264 : Shape := ⟨3, ![2, 16384, 11264]⟩
abbrev S2x256x11264 : Shape := ⟨3, ![2, 256, 11264]⟩
abbrev S8x15x31 : Shape := ⟨3, ![8, 15, 31]⟩
abbrev S4x16x32 : Shape := ⟨3, ![4, 16, 32]⟩
abbrev S4x16x1x32 : Shape := ⟨4, ![4, 16, 1, 32]⟩
abbrev S4x32 : Shape := ⟨2, ![4, 32]⟩
abbrev S2x16384x512 : Shape := ⟨3, ![2, 16384, 512]⟩
abbrev S2x16384x8x64 : Shape := ⟨4, ![2, 16384, 8, 64]⟩
abbrev S2x8x16384x64 : Shape := ⟨4, ![2, 8, 16384, 64]⟩
abbrev S2x256x512 : Shape := ⟨3, ![2, 256, 512]⟩
abbrev S2x256x8x64 : Shape := ⟨4, ![2, 256, 8, 64]⟩
abbrev S2x8x256x64 : Shape := ⟨4, ![2, 8, 256, 64]⟩
abbrev S4x16x8x32 : Shape := ⟨4, ![4, 16, 8, 32]⟩
abbrev S4x16x256 : Shape := ⟨3, ![4, 16, 256]⟩
abbrev S2x8x256x64x64 : Shape := ⟨5, ![2, 8, 256, 64, 64]⟩
abbrev S256 : Shape := ⟨1, ![256]⟩
abbrev S_ : Shape := ⟨0, ![]⟩
abbrev S256x2x8x64x64 : Shape := ⟨5, ![256, 2, 8, 64, 64]⟩
abbrev S1 : Shape := ⟨1, ![1]⟩
abbrev S2x8x1x64x64 : Shape := ⟨5, ![2, 8, 1, 64, 64]⟩
abbrev S2x8x64x64 : Shape := ⟨4, ![2, 8, 64, 64]⟩
abbrev S2x8x4x16x64 : Shape := ⟨5, ![2, 8, 4, 16, 64]⟩
abbrev S2x8x8x64x64 : Shape := ⟨5, ![2, 8, 8, 64, 64]⟩
abbrev S4x32x1 : Shape := ⟨3, ![4, 32, 1]⟩
abbrev S2x8x8x4x32x64 : Shape := ⟨6, ![2, 8, 8, 4, 32, 64]⟩
abbrev S2x8x4x8x32x64 : Shape := ⟨6, ![2, 8, 4, 8, 32, 64]⟩
abbrev S2x8x4x256x64 : Shape := ⟨5, ![2, 8, 4, 256, 64]⟩
abbrev S8 : Shape := ⟨1, ![8]⟩
abbrev S1x1x8x1 : Shape := ⟨4, ![1, 1, 8, 1]⟩
abbrev S4x16x8x32x1 : Shape := ⟨5, ![4, 16, 8, 32, 1]⟩
abbrev S4x16x8x32x2 : Shape := ⟨5, ![4, 16, 8, 32, 2]⟩
abbrev S8x4x16x8x32 : Shape := ⟨5, ![8, 4, 16, 8, 32]⟩
abbrev S8x4x16x256 : Shape := ⟨4, ![8, 4, 16, 256]⟩
abbrev S2x8x4x16x256 : Shape := ⟨5, ![2, 8, 4, 16, 256]⟩
abbrev S1x8x4x16x256 : Shape := ⟨5, ![1, 8, 4, 16, 256]⟩
abbrev S2x8x4x16x512 : Shape := ⟨5, ![2, 8, 4, 16, 512]⟩
abbrev S2x8x4x16 : Shape := ⟨4, ![2, 8, 4, 16]⟩
abbrev S2x8x4x16x1 : Shape := ⟨5, ![2, 8, 4, 16, 1]⟩
abbrev S1x2x8x64x64 : Shape := ⟨5, ![1, 2, 8, 64, 64]⟩

abbrev nBuf : Space → Nat
  | .hbm => 188
  | .vmem => 0
  | .smem => 0
  | _ => 0

abbrev hbmTy0_0 (i : Nat) : BufTy := match i % 128 with
  | 0 => ⟨S2x16384x11264, .bf16⟩
  | 1 => ⟨S2x256x11264, .bf16⟩
  | 2 => ⟨S8x15x31, .f32⟩
  | 3 => ⟨S4x16x32, .i1⟩
  | 4 => ⟨S4x16x1x32, .i1⟩
  | 5 => ⟨S4x32, .i32⟩
  | 6 => ⟨S4x32, .i1⟩
  | 7 => ⟨S4x32, .i1⟩
  | 8 => ⟨S4x16x1x32, .i32⟩
  | 9 => ⟨S4x16x1x32, .i1⟩
  | 10 => ⟨S2x16384x11264, .f32⟩
  | 11 => ⟨S2x256x11264, .f32⟩
  | 12 => ⟨S2x16384x512, .f32⟩
  | 13 => ⟨S2x16384x8x64, .f32⟩
  | 14 => ⟨S2x8x16384x64, .f32⟩
  | 15 => ⟨S2x16384x512, .f32⟩
  | 16 => ⟨S2x16384x8x64, .f32⟩
  | 17 => ⟨S2x8x16384x64, .f32⟩
  | 18 => ⟨S2x16384x512, .f32⟩
  | 19 => ⟨S2x16384x8x64, .f32⟩
  | 20 => ⟨S2x8x16384x64, .f32⟩
  | 21 => ⟨S2x256x512, .f32⟩
  | 22 => ⟨S2x256x8x64, .f32⟩
  | 23 => ⟨S2x8x256x64, .f32⟩
  | 24 => ⟨S2x256x512, .f32⟩
  | 25 => ⟨S2x256x8x64, .f32⟩
  | 26 => ⟨S2x8x256x64, .f32⟩
  | 27 => ⟨S4x16x8x32, .i1⟩
  | 28 => ⟨S4x16x256, .i1⟩
  | 29 => ⟨S2x8x256x64x64, .f32⟩
  | 30 => ⟨S2x8x256x64x64, .f32⟩
  | 31 => ⟨S2x8x256x64x64, .f32⟩
  | 32 => ⟨S256, .i32⟩
  | 33 => ⟨S_, .f32⟩
  | 34 => ⟨S256x2x8x64x64, .f32⟩
  | 35 => ⟨S_, .i32⟩
  | 36 => ⟨S256, .i32⟩
  | 37 => ⟨S2x8x256x64x64, .f32⟩
  | 38 => ⟨S2x8x256x64x64, .f32⟩
  | 39 => ⟨S4x32, .i32⟩
  | 40 => ⟨S4x32, .i1⟩
  | 41 => ⟨S2x8x256x64x64, .f32⟩
  | 42 => ⟨S4x32, .i1⟩
  | 43 => ⟨S4x16x1x32, .i32⟩
  | 44 => ⟨S4x16x1x32, .i1⟩
  | 45 => ⟨S8x15x31, .f32⟩
  | 46 => ⟨S4x16x256, .i1⟩
  | 47 => ⟨S2x8x256x64, .f32⟩
  | 48 => ⟨S2x8x256x64, .f32⟩
  | 49 => ⟨S_, .i32⟩
  | 50 => ⟨S256x2x8x64x64, .f32⟩
  | 51 => ⟨S_, .i32⟩
  | 52 => ⟨S_, .i1⟩
  | 53 => ⟨S1, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S2x8x1x64x64, .f32⟩
  | 73 => ⟨S2x8x64x64, .f32⟩
  | 74 => ⟨S2x8x4x16x64, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S2x8x8x64x64, .f32⟩
  | 85 => ⟨S_, .i32⟩
  | 86 => ⟨S4x32, .i32⟩
  | 87 => ⟨S4x32, .i32⟩
  | 88 => ⟨S4x32, .i32⟩
  | 89 => ⟨S4x32x1, .i32⟩
  | 90 => ⟨S2x8x8x4x32x64, .f32⟩
  | 91 => ⟨S2x8x4x8x32x64, .f32⟩
  | 92 => ⟨S2x8x4x256x64, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S2x8x8x64x64, .f32⟩
  | 103 => ⟨S_, .i32⟩
  | 104 => ⟨S4x32, .i32⟩
  | 105 => ⟨S4x32, .i32⟩
  | 106 => ⟨S4x32, .i32⟩
  | 107 => ⟨S4x32x1, .i32⟩
  | 108 => ⟨S2x8x8x4x32x64, .f32⟩
  | 109 => ⟨S2x8x4x8x32x64, .f32⟩
  | 110 => ⟨S2x8x4x256x64, .f32⟩
  | 111 => ⟨S8, .i32⟩
  | 112 => ⟨S8, .i32⟩
  | 113 => ⟨S8, .i32⟩
  | 114 => ⟨S8, .i32⟩
  | 115 => ⟨S8, .i32⟩
  | 116 => ⟨S_, .i32⟩
  | 117 => ⟨S8, .i32⟩
  | 118 => ⟨S8, .i32⟩
  | 119 => ⟨S1x1x8x1, .i32⟩
  | 120 => ⟨S_, .i32⟩
  | 121 => ⟨S1x1x8x1, .i32⟩
  | 122 => ⟨S1x1x8x1, .i1⟩
  | 123 => ⟨S_, .i32⟩
  | 124 => ⟨S1x1x8x1, .i32⟩
  | 125 => ⟨S1x1x8x1, .i32⟩
  | 126 => ⟨S1x1x8x1, .i32⟩
  | 127 => ⟨S_, .i32⟩
  | _ => ⟨S2x16384x11264, .bf16⟩

abbrev hbmTy0_1 (i : Nat) : BufTy := match i % 128 with
  | 0 => ⟨S4x16x1x32, .i32⟩
  | 1 => ⟨S4x16x1x32, .i32⟩
  | 2 => ⟨S4x16x1x32, .i32⟩
  | 3 => ⟨S4x16x8x32, .i32⟩
  | 4 => ⟨S4x16x8x32, .i32⟩
  | 5 => ⟨S4x16x8x32x1, .i32⟩
  | 6 => ⟨S4x16x8x32x1, .i32⟩
  | 7 => ⟨S4x16x8x32x2, .i32⟩
  | 8 => ⟨S8x4x16x8x32, .f32⟩
  | 9 => ⟨S8x4x16x256, .f32⟩
  | 10 => ⟨S2x8x4x16x256, .f32⟩
  | 11 => ⟨S_, .f32⟩
  | 12 => ⟨S2x8x4x16x256, .f32⟩
  | 13 => ⟨S2x8x4x16x256, .f32⟩
  | 14 => ⟨S1x8x4x16x256, .f32⟩
  | 15 => ⟨S2x8x4x16x256, .f32⟩
  | 16 => ⟨S2x8x4x16x256, .f32⟩
  | 17 => ⟨S_, .f32⟩
  | 18 => ⟨S_, .f32⟩
  | 19 => ⟨S2x8x4x16x256, .i1⟩
  | 20 => ⟨S2x8x4x16x256, .f32⟩
  | 21 => ⟨S2x8x4x16x256, .f32⟩
  | 22 => ⟨S2x8x4x16x256, .f32⟩
  | 23 => ⟨S_, .f32⟩
  | 24 => ⟨S2x8x4x16x256, .f32⟩
  | 25 => ⟨S2x8x4x16x256, .f32⟩
  | 26 => ⟨S2x8x4x16x512, .f32⟩
  | 27 => ⟨S_, .f32⟩
  | 28 => ⟨S2x8x4x16, .f32⟩
  | 29 => ⟨S_, .f32⟩
  | 30 => ⟨S2x8x4x16, .f32⟩
  | 31 => ⟨S2x8x4x16, .f32⟩
  | 32 => ⟨S2x8x4x16x1, .f32⟩
  | 33 => ⟨S2x8x4x16x512, .f32⟩
  | 34 => ⟨S2x8x4x16x512, .f32⟩
  | 35 => ⟨S2x8x4x16x512, .f32⟩
  | 36 => ⟨S_, .f32⟩
  | 37 => ⟨S2x8x4x16, .f32⟩
  | 38 => ⟨S2x8x4x16x1, .f32⟩
  | 39 => ⟨S2x8x4x16x512, .f32⟩
  | 40 => ⟨S2x8x4x16x512, .f32⟩
  | 41 => ⟨S2x8x4x16x256, .f32⟩
  | 42 => ⟨S2x8x4x16x64, .f32⟩
  | 43 => ⟨S2x8x4x16x256, .f32⟩
  | 44 => ⟨S2x8x4x16x64, .f32⟩
  | 45 => ⟨S2x8x4x16x64, .f32⟩
  | 46 => ⟨S2x8x64x64, .f32⟩
  | 47 => ⟨S1x2x8x64x64, .f32⟩
  | 48 => ⟨S_, .i32⟩
  | 49 => ⟨S_, .i32⟩
  | 50 => ⟨S_, .i32⟩
  | 51 => ⟨S_, .i32⟩
  | 52 => ⟨S256x2x8x64x64, .f32⟩
  | 53 => ⟨S_, .i32⟩
  | 54 => ⟨S_, .i32⟩
  | 55 => ⟨S2x8x256x64x64, .f32⟩
  | 56 => ⟨S2x8x16384x64, .f32⟩
  | 57 => ⟨S2x16384x8x64, .f32⟩
  | 58 => ⟨S2x16384x512, .f32⟩
  | 59 => ⟨S2x16384x512, .bf16⟩
  | _ => ⟨S2x16384x11264, .bf16⟩

abbrev hbmTy (i : Nat) : BufTy := match i / 128 with
  | 0 => hbmTy0_0 i
  | 1 => hbmTy0_1 i
  | _ => ⟨S2x16384x11264, .bf16⟩

abbrev bufTy : (tb : Table) → Fin (tcTables nBuf tb) → BufTy
  | .hbm, ⟨i, _⟩ => hbmTy i
  | _, _ => ⟨S2x16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_c_5 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev main_v25_6 : Ref sig .tc := ⟨.hbm, 42, rfl⟩
abbrev main_v25_7 : Ref sig .tc := ⟨.hbm, 43, rfl⟩
abbrev main_v25_8 : Ref sig .tc := ⟨.hbm, 44, rfl⟩
abbrev main_v25_9 : Ref sig .tc := ⟨.hbm, 45, rfl⟩
abbrev main_v25_10 : Ref sig .tc := ⟨.hbm, 46, rfl⟩
abbrev main_v25_11 : Ref sig .tc := ⟨.hbm, 47, rfl⟩
abbrev main_v25_12 : Ref sig .tc := ⟨.hbm, 48, rfl⟩
abbrev main_v25_13 : Ref sig .tc := ⟨.hbm, 49, rfl⟩
abbrev main_v25_14 : Ref sig .tc := ⟨.hbm, 50, rfl⟩
abbrev main_while0c_c_20 : Ref sig .tc := ⟨.hbm, 51, rfl⟩
abbrev main_while0c_v31 : Ref sig .tc := ⟨.hbm, 52, rfl⟩
abbrev main_while0b_call0_v0 : Ref sig .tc := ⟨.hbm, 53, rfl⟩
abbrev main_while0b_v31 : Ref sig .tc := ⟨.hbm, 54, rfl⟩
abbrev main_while0b_c_20 : Ref sig .tc := ⟨.hbm, 55, rfl⟩
abbrev main_while0b_v32 : Ref sig .tc := ⟨.hbm, 56, rfl⟩
abbrev main_while0b_c_21 : Ref sig .tc := ⟨.hbm, 57, rfl⟩
abbrev main_while0b_c_22 : Ref sig .tc := ⟨.hbm, 58, rfl⟩
abbrev main_while0b_call1_v0 : Ref sig .tc := ⟨.hbm, 59, rfl⟩
abbrev main_while0b_call1_v1 : Ref sig .tc := ⟨.hbm, 60, rfl⟩
abbrev main_while0b_call1_v2 : Ref sig .tc := ⟨.hbm, 61, rfl⟩
abbrev main_while0b_v33 : Ref sig .tc := ⟨.hbm, 62, rfl⟩
abbrev main_while0b_call2_c : Ref sig .tc := ⟨.hbm, 63, rfl⟩
abbrev main_while0b_call2_v0 : Ref sig .tc := ⟨.hbm, 64, rfl⟩
abbrev main_while0b_call2_c_0 : Ref sig .tc := ⟨.hbm, 65, rfl⟩
abbrev main_while0b_call2_v1 : Ref sig .tc := ⟨.hbm, 66, rfl⟩
abbrev main_while0b_call2_v2 : Ref sig .tc := ⟨.hbm, 67, rfl⟩
abbrev main_while0b_call2_c_1 : Ref sig .tc := ⟨.hbm, 68, rfl⟩
abbrev main_while0b_call2_c_2 : Ref sig .tc := ⟨.hbm, 69, rfl⟩
abbrev main_while0b_call2_c_3 : Ref sig .tc := ⟨.hbm, 70, rfl⟩
abbrev main_while0b_call2_c_4 : Ref sig .tc := ⟨.hbm, 71, rfl⟩
abbrev main_while0b_call2_v3 : Ref sig .tc := ⟨.hbm, 72, rfl⟩
abbrev main_while0b_v34 : Ref sig .tc := ⟨.hbm, 73, rfl⟩
abbrev main_while0b_v35 : Ref sig .tc := ⟨.hbm, 74, rfl⟩
abbrev main_while0b_c_23 : Ref sig .tc := ⟨.hbm, 75, rfl⟩
abbrev main_while0b_v36 : Ref sig .tc := ⟨.hbm, 76, rfl⟩
abbrev main_while0b_c_24 : Ref sig .tc := ⟨.hbm, 77, rfl⟩
abbrev main_while0b_v37 : Ref sig .tc := ⟨.hbm, 78, rfl⟩
abbrev main_while0b_v38 : Ref sig .tc := ⟨.hbm, 79, rfl⟩
abbrev main_while0b_c_25 : Ref sig .tc := ⟨.hbm, 80, rfl⟩
abbrev main_while0b_c_26 : Ref sig .tc := ⟨.hbm, 81, rfl⟩
abbrev main_while0b_c_27 : Ref sig .tc := ⟨.hbm, 82, rfl⟩
abbrev main_while0b_c_28 : Ref sig .tc := ⟨.hbm, 83, rfl⟩
abbrev main_while0b_v39 : Ref sig .tc := ⟨.hbm, 84, rfl⟩
abbrev main_while0b_c_29 : Ref sig .tc := ⟨.hbm, 85, rfl⟩
abbrev main_while0b_v40 : Ref sig .tc := ⟨.hbm, 86, rfl⟩
abbrev main_while0b_v41 : Ref sig .tc := ⟨.hbm, 87, rfl⟩
abbrev main_while0b_v42 : Ref sig .tc := ⟨.hbm, 88, rfl⟩
abbrev main_while0b_v43 : Ref sig .tc := ⟨.hbm, 89, rfl⟩
abbrev main_while0b_v44 : Ref sig .tc := ⟨.hbm, 90, rfl⟩
abbrev main_while0b_v45 : Ref sig .tc := ⟨.hbm, 91, rfl⟩
abbrev main_while0b_v46 : Ref sig .tc := ⟨.hbm, 92, rfl⟩
abbrev main_while0b_c_30 : Ref sig .tc := ⟨.hbm, 93, rfl⟩
abbrev main_while0b_v47 : Ref sig .tc := ⟨.hbm, 94, rfl⟩
abbrev main_while0b_c_31 : Ref sig .tc := ⟨.hbm, 95, rfl⟩
abbrev main_while0b_v48 : Ref sig .tc := ⟨.hbm, 96, rfl⟩
abbrev main_while0b_v49 : Ref sig .tc := ⟨.hbm, 97, rfl⟩
abbrev main_while0b_c_32 : Ref sig .tc := ⟨.hbm, 98, rfl⟩
abbrev main_while0b_c_33 : Ref sig .tc := ⟨.hbm, 99, rfl⟩
abbrev main_while0b_c_34 : Ref sig .tc := ⟨.hbm, 100, rfl⟩
abbrev main_while0b_c_35 : Ref sig .tc := ⟨.hbm, 101, rfl⟩
abbrev main_while0b_v50 : Ref sig .tc := ⟨.hbm, 102, rfl⟩
abbrev main_while0b_c_36 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_v60 : Ref sig .tc := ⟨.hbm, 113, rfl⟩
abbrev main_while0b_v61 : Ref sig .tc := ⟨.hbm, 114, rfl⟩
abbrev main_while0b_v62 : Ref sig .tc := ⟨.hbm, 115, rfl⟩
abbrev main_while0b_c_37 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_c_38 : Ref sig .tc := ⟨.hbm, 120, rfl⟩
abbrev main_while0b_v66 : Ref sig .tc := ⟨.hbm, 121, rfl⟩
abbrev main_while0b_v67 : Ref sig .tc := ⟨.hbm, 122, rfl⟩
abbrev main_while0b_c_39 : Ref sig .tc := ⟨.hbm, 123, rfl⟩
abbrev main_while0b_v68 : Ref sig .tc := ⟨.hbm, 124, rfl⟩
abbrev main_while0b_v69 : Ref sig .tc := ⟨.hbm, 125, rfl⟩
abbrev main_while0b_v70 : Ref sig .tc := ⟨.hbm, 126, rfl⟩
abbrev main_while0b_c_40 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_v76 : Ref sig .tc := ⟨.hbm, 133, rfl⟩
abbrev main_while0b_v77 : Ref sig .tc := ⟨.hbm, 134, rfl⟩
abbrev main_while0b_v78 : Ref sig .tc := ⟨.hbm, 135, rfl⟩
abbrev main_while0b_v79 : Ref sig .tc := ⟨.hbm, 136, rfl⟩
abbrev main_while0b_v80 : Ref sig .tc := ⟨.hbm, 137, rfl⟩
abbrev main_while0b_v81 : Ref sig .tc := ⟨.hbm, 138, rfl⟩
abbrev main_while0b_cst_41 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_cst_42 : Ref sig .tc := ⟨.hbm, 145, rfl⟩
abbrev main_while0b_call3_v0 : Ref sig .tc := ⟨.hbm, 146, rfl⟩
abbrev main_while0b_call3_v1 : Ref sig .tc := ⟨.hbm, 147, rfl⟩
abbrev main_while0b_call3_v2 : Ref sig .tc := ⟨.hbm, 148, rfl⟩
abbrev main_while0b_v87 : Ref sig .tc := ⟨.hbm, 149, rfl⟩
abbrev main_while0b_v88 : Ref sig .tc := ⟨.hbm, 150, rfl⟩
abbrev main_while0b_cst_43 : Ref sig .tc := ⟨.hbm, 151, rfl⟩
abbrev main_while0b_v89 : Ref sig .tc := ⟨.hbm, 152, rfl⟩
abbrev main_while0b_v90 : Ref sig .tc := ⟨.hbm, 153, rfl⟩
abbrev main_while0b_v91 : Ref sig .tc := ⟨.hbm, 154, rfl⟩
abbrev main_while0b_cst_44 : Ref sig .tc := ⟨.hbm, 155, rfl⟩
abbrev main_while0b_v92 : Ref sig .tc := ⟨.hbm, 156, rfl⟩
abbrev main_while0b_cst_45 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_v97 : Ref sig .tc := ⟨.hbm, 162, rfl⟩
abbrev main_while0b_v98 : Ref sig .tc := ⟨.hbm, 163, rfl⟩
abbrev main_while0b_cst_46 : Ref sig .tc := ⟨.hbm, 164, rfl⟩
abbrev main_while0b_v99 : Ref sig .tc := ⟨.hbm, 165, rfl⟩
abbrev main_while0b_v100 : Ref sig .tc := ⟨.hbm, 166, rfl⟩
abbrev main_while0b_v101 : Ref sig .tc := ⟨.hbm, 167, rfl⟩
abbrev main_while0b_v102 : Ref sig .tc := ⟨.hbm, 168, rfl⟩
abbrev main_while0b_v103 : Ref sig .tc := ⟨.hbm, 169, rfl⟩
abbrev main_while0b_v104 : Ref sig .tc := ⟨.hbm, 170, rfl⟩
abbrev main_while0b_v105 : Ref sig .tc := ⟨.hbm, 171, rfl⟩
abbrev main_while0b_v106 : Ref sig .tc := ⟨.hbm, 172, rfl⟩
abbrev main_while0b_v107 : Ref sig .tc := ⟨.hbm, 173, rfl⟩
abbrev main_while0b_v108 : Ref sig .tc := ⟨.hbm, 174, rfl⟩
abbrev main_while0b_call4_v0 : Ref sig .tc := ⟨.hbm, 175, rfl⟩
abbrev main_while0b_call4_c : Ref sig .tc := ⟨.hbm, 176, rfl⟩
abbrev main_while0b_call4_c_0 : Ref sig .tc := ⟨.hbm, 177, rfl⟩
abbrev main_while0b_call4_c_1 : Ref sig .tc := ⟨.hbm, 178, rfl⟩
abbrev main_while0b_call4_c_2 : Ref sig .tc := ⟨.hbm, 179, rfl⟩
abbrev main_while0b_v109 : Ref sig .tc := ⟨.hbm, 180, rfl⟩
abbrev main_while0b_c_47 : Ref sig .tc := ⟨.hbm, 181, rfl⟩
abbrev main_while0b_v110 : Ref sig .tc := ⟨.hbm, 182, rfl⟩
abbrev main_v26 : Ref sig .tc := ⟨.hbm, 183, rfl⟩
abbrev main_v27 : Ref sig .tc := ⟨.hbm, 184, rfl⟩
abbrev main_v28 : Ref sig .tc := ⟨.hbm, 185, rfl⟩
abbrev main_v29 : Ref sig .tc := ⟨.hbm, 186, rfl⟩
abbrev main_v30 : Ref sig .tc := ⟨.hbm, 187, rfl⟩

abbrev nD : Nat := 1
abbrev τ : Topo := Topo.v7x

variable {F : FTy → Type} [FloatOps F]

abbrev main_while0_count : Scf.Loop 32 := ⟨0#32, 256#32, 1#32⟩
-- ==== Inproj.lean ====
abbrev S2x16384x1024 : Shape := ⟨3, ![2, 16384, 1024]⟩
abbrev S2x3072 : Shape := ⟨2, ![2, 3072]⟩
abbrev S1024 : Shape := ⟨1, ![1024]⟩
abbrev S2x1024x11264 : Shape := ⟨3, ![2, 1024, 11264]⟩
abbrev S2x1x3072 : Shape := ⟨3, ![2, 1, 3072]⟩
abbrev S2x1x1024 : Shape := ⟨3, ![2, 1, 1024]⟩
abbrev S1x1024 : Shape := ⟨2, ![1, 1024]⟩
abbrev S2x16384x11264 : Shape := ⟨3, ![2, 16384, 11264]⟩
abbrev S1x2048x1024 : Shape := ⟨3, ![1, 2048, 1024]⟩
abbrev S1x1x1024 : Shape := ⟨3, ![1, 1, 1024]⟩
abbrev S1x1024x1024 : Shape := ⟨3, ![1, 1024, 1024]⟩
abbrev S2048x1024 : Shape := ⟨2, ![2048, 1024]⟩
abbrev S2048 : Shape := ⟨1, ![2048]⟩
abbrev S2048x1 : Shape := ⟨2, ![2048, 1]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x3072, .f32⟩
  | .hbm, ⟨2, _⟩ => ⟨S1024, .f32⟩
  | .hbm, ⟨3, _⟩ => ⟨S2x1024x11264, .bf16⟩
  | .hbm, ⟨4, _⟩ => ⟨S2x1x3072, .f32⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S2x16384x11264, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S2048x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InprojRefIdeal.lean ====
abbrev S2x16384x1024 : Shape := ⟨3, ![2, 16384, 1024]⟩
abbrev S2x3072 : Shape := ⟨2, ![2, 3072]⟩
abbrev S1024 : Shape := ⟨1, ![1024]⟩
abbrev S2x1024x11264 : Shape := ⟨3, ![2, 1024, 11264]⟩
abbrev S2x1x3072 : Shape := ⟨3, ![2, 1, 3072]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x11264 : Shape := ⟨3, ![1, 1024, 11264]⟩
abbrev S1024x11264 : Shape := ⟨2, ![1024, 11264]⟩
abbrev S2x16384x11264 : Shape := ⟨3, ![2, 16384, 11264]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x3072, .f32⟩
  | .hbm, ⟨2, _⟩ => ⟨S1024, .f32⟩
  | .hbm, ⟨3, _⟩ => ⟨S2x1024x11264, .bf16⟩
  | .hbm, ⟨4, _⟩ => ⟨S2x1x3072, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S1x1024x11264, .bf16⟩
  | .hbm, ⟨32, _⟩ => ⟨S1024x11264, .bf16⟩
  | .hbm, ⟨33, _⟩ => ⟨S1024x11264, .f32⟩
  | .hbm, ⟨34, _⟩ => ⟨S2x16384x11264, .f32⟩
  | .hbm, ⟨35, _⟩ => ⟨S2x16384x11264, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Merge.lean ====
abbrev S2x16384x1024 : Shape := ⟨3, ![2, 16384, 1024]⟩
abbrev S2x16384x512 : Shape := ⟨3, ![2, 16384, 512]⟩
abbrev S2x16384x11264 : Shape := ⟨3, ![2, 16384, 11264]⟩
abbrev S2x3072 : Shape := ⟨2, ![2, 3072]⟩
abbrev S4x512x1024 : Shape := ⟨3, ![4, 512, 1024]⟩
abbrev S1024x1024 : Shape := ⟨2, ![1024, 1024]⟩
abbrev S1024 : Shape := ⟨1, ![1024]⟩
abbrev S2x1x3072 : Shape := ⟨3, ![2, 1, 3072]⟩
abbrev S2x1x1024 : Shape := ⟨3, ![2, 1, 1024]⟩
abbrev S_ : Shape := ⟨0, ![]⟩
abbrev S1x512x1024 : Shape := ⟨3, ![1, 512, 1024]⟩
abbrev S512x1024 : Shape := ⟨2, ![512, 1024]⟩
abbrev S64x1024 : Shape := ⟨2, ![64, 1024]⟩
abbrev S1x1024 : Shape := ⟨2, ![1, 1024]⟩
abbrev S1x512x512 : Shape := ⟨3, ![1, 512, 512]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 41
  | .vmem => 33
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S2x16384x512, .bf16⟩
  | .hbm, ⟨5, _⟩ => ⟨S2x16384x11264, .bf16⟩
  | .hbm, ⟨6, _⟩ => ⟨S2x3072, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S2x1x3072, .f32⟩
  | .hbm, ⟨11, _⟩ => ⟨S2x1x1024, .f32⟩
  | .hbm, ⟨12, _⟩ => ⟨S4x512x1024, .bf16⟩
  | .hbm, ⟨13, _⟩ => ⟨S_, .bf16⟩
  | .hbm, ⟨14, _⟩ => ⟨S4x512x1024, .bf16⟩
  | .hbm, ⟨15, _⟩ => ⟨S4x512x1024, .bf16⟩
  | .hbm, ⟨16, _⟩ => ⟨S1x512x1024, .bf16⟩
  | .hbm, ⟨17, _⟩ => ⟨S512x1024, .bf16⟩
  | .hbm, ⟨18, _⟩ => ⟨S1x512x1024, .bf16⟩
  | .hbm, ⟨19, _⟩ => ⟨S512x1024, .bf16⟩
  | .hbm, ⟨20, _⟩ => ⟨S64x1024, .bf16⟩
  | .hbm, ⟨21, _⟩ => ⟨S64x1024, .bf16⟩
  | .hbm, ⟨22, _⟩ => ⟨S64x1024, .bf16⟩
  | .hbm, ⟨23, _⟩ => ⟨S64x1024, .bf16⟩
  | .hbm, ⟨24, _⟩ => ⟨S64x1024, .bf16⟩
  | .hbm, ⟨25, _⟩ => ⟨S64x1024, .bf16⟩
  | .hbm, ⟨26, _⟩ => ⟨S64x1024, .bf16⟩
  | .hbm, ⟨27, _⟩ => ⟨S64x1024, .bf16⟩
  | .hbm, ⟨28, _⟩ => ⟨S512x1024, .bf16⟩
  | .hbm, ⟨29, _⟩ => ⟨S1x512x1024, .bf16⟩
  | .hbm, ⟨30, _⟩ => ⟨S512x1024, .bf16⟩
  | .hbm, ⟨31, _⟩ => ⟨S1x512x1024, .bf16⟩
  | .hbm, ⟨32, _⟩ => ⟨S512x1024, .bf16⟩
  | .hbm, ⟨33, _⟩ => ⟨S1x512x1024, .bf16⟩
  | .hbm, ⟨34, _⟩ => ⟨S1x512x1024, .bf16⟩
  | .hbm, ⟨35, _⟩ => ⟨S1x512x1024, .bf16⟩
  | .hbm, ⟨36, _⟩ => ⟨S1x512x1024, .bf16⟩
  | .hbm, ⟨37, _⟩ => ⟨S4x512x1024, .bf16⟩
  | .hbm, ⟨38, _⟩ => ⟨S1024x1024, .bf16⟩
  | .hbm, ⟨39, _⟩ => ⟨S1x1024, .f32⟩
  | .hbm, ⟨40, _⟩ => ⟨S2x16384x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S4x512x1024, .bf16⟩
  | .local _ .vmem, ⟨25, _⟩ => ⟨S1024x1024, .bf16⟩
  | .local _ .vmem, ⟨26, _⟩ => ⟨S1x1x1024, .f32⟩
  | .local _ .vmem, ⟨27, _⟩ => ⟨S1x1x1024, .f32⟩
  | .local _ .vmem, ⟨28, _⟩ => ⟨S1x512x1024, .f32⟩
  | .local _ .vmem, ⟨29, _⟩ => ⟨S1x512x1024, .f32⟩
  | .local _ .vmem, ⟨30, _⟩ => ⟨S1x1024, .f32⟩
  | .local _ .vmem, ⟨31, _⟩ => ⟨S1x512x1024, .f32⟩
  | .local _ .vmem, ⟨32, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_11 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MergeRefIdeal.lean ====
abbrev S2x16384x1024 : Shape := ⟨3, ![2, 16384, 1024]⟩
abbrev S2x16384x512 : Shape := ⟨3, ![2, 16384, 512]⟩
abbrev S2x16384x11264 : Shape := ⟨3, ![2, 16384, 11264]⟩
abbrev S2x3072 : Shape := ⟨2, ![2, 3072]⟩
abbrev S4x512x1024 : Shape := ⟨3, ![4, 512, 1024]⟩
abbrev S1024x1024 : Shape := ⟨2, ![1024, 1024]⟩
abbrev S1024 : Shape := ⟨1, ![1024]⟩
abbrev S2x1x3072 : Shape := ⟨3, ![2, 1, 3072]⟩
abbrev S2x1x1024 : Shape := ⟨3, ![2, 1, 1024]⟩
abbrev S2x16384x4x2x64 : Shape := ⟨5, ![2, 16384, 4, 2, 64]⟩
abbrev S2x16384x2x4x64 : Shape := ⟨5, ![2, 16384, 2, 4, 64]⟩
abbrev S_ : Shape := ⟨0, ![]⟩
abbrev S2x16384x4096 : Shape := ⟨3, ![2, 16384, 4096]⟩
abbrev S2x16384x4x1024 : Shape := ⟨4, ![2, 16384, 4, 1024]⟩
abbrev S2x16384x1x1024 : Shape := ⟨4, ![2, 16384, 1, 1024]⟩
abbrev S1x512x1024 : Shape := ⟨3, ![1, 512, 1024]⟩
abbrev S512x1024 : Shape := ⟨2, ![512, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 145
  | .vmem => 0
  | .smem => 0
  | _ => 0

abbrev hbmTy0_0 (i : Nat) : BufTy := match i % 128 with
  | 0 => ⟨S2x16384x1024, .f32⟩
  | 1 => ⟨S2x16384x512, .bf16⟩
  | 2 => ⟨S2x16384x512, .bf16⟩
  | 3 => ⟨S2x16384x512, .bf16⟩
  | 4 => ⟨S2x16384x512, .bf16⟩
  | 5 => ⟨S2x16384x11264, .bf16⟩
  | 6 => ⟨S2x3072, .f32⟩
  | 7 => ⟨S4x512x1024, .f32⟩
  | 8 => ⟨S1024x1024, .f32⟩
  | 9 => ⟨S1024, .f32⟩
  | 10 => ⟨S2x1x3072, .f32⟩
  | 11 => ⟨S2x1x1024, .f32⟩
  | 12 => ⟨S2x1x1024, .f32⟩
  | 13 => ⟨S2x1x1024, .f32⟩
  | 14 => ⟨S2x16384x512, .f32⟩
  | 15 => ⟨S2x16384x512, .f32⟩
  | 16 => ⟨S2x16384x4x2x64, .f32⟩
  | 17 => ⟨S2x16384x2x4x64, .f32⟩
  | 18 => ⟨S2x16384x512, .f32⟩
  | 19 => ⟨S2x16384x512, .f32⟩
  | 20 => ⟨S2x16384x512, .f32⟩
  | 21 => ⟨S2x16384x512, .bf16⟩
  | 22 => ⟨S2x16384x512, .f32⟩
  | 23 => ⟨S_, .f32⟩
  | 24 => ⟨S2x16384x512, .f32⟩
  | 25 => ⟨S2x16384x512, .f32⟩
  | 26 => ⟨S2x16384x512, .bf16⟩
  | 27 => ⟨S2x16384x512, .f32⟩
  | 28 => ⟨S_, .f32⟩
  | 29 => ⟨S2x16384x512, .f32⟩
  | 30 => ⟨S2x16384x512, .f32⟩
  | 31 => ⟨S2x16384x4x2x64, .f32⟩
  | 32 => ⟨S2x16384x2x4x64, .f32⟩
  | 33 => ⟨S2x16384x512, .f32⟩
  | 34 => ⟨S2x16384x512, .bf16⟩
  | 35 => ⟨S2x16384x512, .f32⟩
  | 36 => ⟨S_, .f32⟩
  | 37 => ⟨S2x16384x512, .f32⟩
  | 38 => ⟨S2x16384x512, .f32⟩
  | 39 => ⟨S2x16384x512, .bf16⟩
  | 40 => ⟨S2x16384x512, .f32⟩
  | 41 => ⟨S_, .f32⟩
  | 42 => ⟨S2x16384x512, .f32⟩
  | 43 => ⟨S2x16384x512, .f32⟩
  | 44 => ⟨S2x16384x4096, .bf16⟩
  | 45 => ⟨S2x16384x4096, .f32⟩
  | 46 => ⟨S_, .f32⟩
  | 47 => ⟨S2x16384x4096, .f32⟩
  | 48 => ⟨S2x16384x4096, .f32⟩
  | 49 => ⟨S2x16384x512, .f32⟩
  | 50 => ⟨S2x16384x512, .f32⟩
  | 51 => ⟨S_, .f32⟩
  | 52 => ⟨S2x16384x512, .f32⟩
  | 53 => ⟨S2x16384x512, .f32⟩
  | 54 => ⟨S_, .f32⟩
  | 55 => ⟨S2x16384x512, .f32⟩
  | 56 => ⟨S2x16384x512, .f32⟩
  | 57 => ⟨S2x16384x512, .f32⟩
  | 58 => ⟨S2x16384x512, .f32⟩
  | 59 => ⟨S2x16384x512, .f32⟩
  | 60 => ⟨S2x16384x512, .f32⟩
  | 61 => ⟨S_, .f32⟩
  | 62 => ⟨S2x16384x512, .f32⟩
  | 63 => ⟨S2x16384x512, .f32⟩
  | 64 => ⟨S_, .f32⟩
  | 65 => ⟨S2x16384x512, .f32⟩
  | 66 => ⟨S2x16384x512, .f32⟩
  | 67 => ⟨S2x16384x512, .f32⟩
  | 68 => ⟨S2x16384x512, .f32⟩
  | 69 => ⟨S2x16384x512, .f32⟩
  | 70 => ⟨S2x16384x512, .f32⟩
  | 71 => ⟨S_, .f32⟩
  | 72 => ⟨S2x16384x512, .f32⟩
  | 73 => ⟨S2x16384x512, .f32⟩
  | 74 => ⟨S_, .f32⟩
  | 75 => ⟨S2x16384x512, .f32⟩
  | 76 => ⟨S2x16384x512, .f32⟩
  | 77 => ⟨S2x16384x512, .f32⟩
  | 78 => ⟨S2x16384x512, .f32⟩
  | 79 => ⟨S2x16384x512, .f32⟩
  | 80 => ⟨S2x16384x512, .f32⟩
  | 81 => ⟨S_, .f32⟩
  | 82 => ⟨S2x16384x512, .f32⟩
  | 83 => ⟨S2x16384x512, .f32⟩
  | 84 => ⟨S_, .f32⟩
  | 85 => ⟨S2x16384x512, .f32⟩
  | 86 => ⟨S2x16384x512, .f32⟩
  | 87 => ⟨S2x16384x512, .f32⟩
  | 88 => ⟨S2x16384x512, .f32⟩
  | 89 => ⟨S2x16384x4x1024, .f32⟩
  | 90 => ⟨S2x16384x4x1024, .f32⟩
  | 91 => ⟨S2x16384x4x1024, .f32⟩
  | 92 => ⟨S_, .f32⟩
  | 93 => ⟨S2x16384x4x1024, .f32⟩
  | 94 => ⟨S2x16384x4x1024, .f32⟩
  | 95 => ⟨S_, .f32⟩
  | 96 => ⟨S2x16384x4x1024, .f32⟩
  | 97 => ⟨S2x16384x4x1024, .f32⟩
  | 98 => ⟨S2x16384x1x1024, .f32⟩
  | 99 => ⟨S2x16384x1024, .f32⟩
  | 100 => ⟨S1x512x1024, .f32⟩
  | 101 => ⟨S512x1024, .f32⟩
  | 102 => ⟨S2x16384x1024, .f32⟩
  | 103 => ⟨S2x16384x1024, .f32⟩
  | 104 => ⟨S2x16384x1x1024, .f32⟩
  | 105 => ⟨S2x16384x1024, .f32⟩
  | 106 => ⟨S1x512x1024, .f32⟩
  | 107 => ⟨S512x1024, .f32⟩
  | 108 => ⟨S2x16384x1024, .f32⟩
  | 109 => ⟨S2x16384x1024, .f32⟩
  | 110 => ⟨S2x16384x1024, .f32⟩
  | 111 => ⟨S2x16384x1x1024, .f32⟩
  | 112 => ⟨S2x16384x1024, .f32⟩
  | 113 => ⟨S1x512x1024, .f32⟩
  | 114 => ⟨S512x1024, .f32⟩
  | 115 => ⟨S2x16384x1024, .f32⟩
  | 116 => ⟨S2x16384x1024, .f32⟩
  | 117 => ⟨S2x16384x1024, .f32⟩
  | 118 => ⟨S2x16384x1x1024, .f32⟩
  | 119 => ⟨S2x16384x1024, .f32⟩
  | 120 => ⟨S1x512x1024, .f32⟩
  | 121 => ⟨S512x1024, .f32⟩
  | 122 => ⟨S2x16384x1024, .f32⟩
  | 123 => ⟨S2x16384x1024, .f32⟩
  | 124 => ⟨S2x16384x1024, .f32⟩
  | 125 => ⟨S2x16384x1024, .f32⟩
  | 126 => ⟨S2x16384x1024, .f32⟩
  | 127 => ⟨S2x16384x1024, .f32⟩
  | _ => ⟨S2x16384x1024, .f32⟩

abbrev hbmTy0_1 (i : Nat) : BufTy := match i % 128 with
  | 0 => ⟨S2x16384x1024, .f32⟩
  | 1 => ⟨S2x16384x1024, .f32⟩
  | 2 => ⟨S_, .f32⟩
  | 3 => ⟨S2x16384, .f32⟩
  | 4 => ⟨S2x16384x1, .f32⟩
  | 5 => ⟨S_, .f32⟩
  | 6 => ⟨S2x16384x1, .f32⟩
  | 7 => ⟨S2x16384x1, .f32⟩
  | 8 => ⟨S_, .f32⟩
  | 9 => ⟨S2x16384x1, .f32⟩
  | 10 => ⟨S2x16384x1, .f32⟩
  | 11 => ⟨S2x16384x1, .f32⟩
  | 12 => ⟨S2x16384x1024, .f32⟩
  | 13 => ⟨S2x16384x1024, .f32⟩
  | 14 => ⟨S1x1x1024, .f32⟩
  | 15 => ⟨S2x16384x1024, .f32⟩
  | 16 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v34 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v36 : Ref sig .tc := ⟨.hbm, 67, rfl⟩
abbrev main_v37 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v38 : Ref sig .tc := ⟨.hbm, 77, rfl⟩
abbrev main_v39 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_4 : Ref sig .tc := ⟨.hbm, 92, rfl⟩
abbrev main_v45 : Ref sig .tc := ⟨.hbm, 93, rfl⟩
abbrev main_v46 : Ref sig .tc := ⟨.hbm, 94, rfl⟩
abbrev main_cst_5 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_6 : Ref sig .tc := ⟨.hbm, 130, rfl⟩
abbrev main_v81 : Ref sig .tc := ⟨.hbm, 131, rfl⟩
abbrev main_v82 : Ref sig .tc := ⟨.hbm, 132, rfl⟩
abbrev main_cst_7 : Ref sig .tc := ⟨.hbm, 133, rfl⟩
abbrev main_v83 : Ref sig .tc := ⟨.hbm, 134, rfl⟩
abbrev main_v84 : Ref sig .tc := ⟨.hbm, 135, rfl⟩
abbrev main_cst_8 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩

abbrev nD : Nat := 1
abbrev τ : Topo := Topo.v7x

variable {F : FTy → Type} [FloatOps F]
-- ==== Swa.lean ====
abbrev S2x16384x512 : Shape := ⟨3, ![2, 16384, 512]⟩
abbrev S2x16384x128 : Shape := ⟨3, ![2, 16384, 128]⟩
abbrev S2x16384x11264 : Shape := ⟨3, ![2, 16384, 11264]⟩
abbrev S2x256x11264 : Shape := ⟨3, ![2, 256, 11264]⟩
abbrev S8 : Shape := ⟨1, ![8]⟩
abbrev S8x1 : Shape := ⟨2, ![8, 1]⟩
abbrev S8x128 : Shape := ⟨2, ![8, 128]⟩
abbrev S3x256x384 : Shape := ⟨3, ![3, 256, 384]⟩
abbrev S_ : Shape := ⟨0, ![]⟩
abbrev S1x1024x512 : Shape := ⟨3, ![1, 1024, 512]⟩
abbrev S1x16384x128 : Shape := ⟨3, ![1, 16384, 128]⟩
abbrev S1x256x128 : Shape := ⟨3, ![1, 256, 128]⟩
abbrev S256x128 : Shape := ⟨2, ![256, 128]⟩
abbrev S128x128 : Shape := ⟨2, ![128, 128]⟩
abbrev S256x1 : Shape := ⟨2, ![256, 1]⟩
abbrev S1x128x128 : Shape := ⟨3, ![1, 128, 128]⟩
abbrev S8192x128 : Shape := ⟨2, ![8192, 128]⟩
abbrev S8192x256 : Shape := ⟨2, ![8192, 256]⟩
abbrev S1x384x128 : Shape := ⟨3, ![1, 384, 128]⟩
abbrev S384x128 : Shape := ⟨2, ![384, 128]⟩
abbrev S256x384 : Shape := ⟨2, ![256, 384]⟩
abbrev S1x256x384 : Shape := ⟨3, ![1, 256, 384]⟩
abbrev S256x256 : Shape := ⟨2, ![256, 256]⟩
abbrev S1x1 : Shape := ⟨2, ![1, 1]⟩
abbrev S256 : Shape := ⟨1, ![256]⟩

abbrev nBuf : Space → Nat
  | .hbm => 28
  | .vmem => 14
  | .smem => 0
  | _ => 0

abbrev bufTy : (tb : Table) → Fin (tcTables nBuf tb) → BufTy
  | .hbm, ⟨0, _⟩ => ⟨S2x16384x512, .bf16⟩
  | .hbm, ⟨1, _⟩ => ⟨S2x16384x128, .bf16⟩
  | .hbm, ⟨2, _⟩ => ⟨S2x16384x11264, .bf16⟩
  | .hbm, ⟨3, _⟩ => ⟨S2x256x11264, .bf16⟩
  | .hbm, ⟨4, _⟩ => ⟨S8, .f32⟩
  | .hbm, ⟨5, _⟩ => ⟨S8x1, .f32⟩
  | .hbm, ⟨6, _⟩ => ⟨S8x128, .f32⟩
  | .hbm, ⟨7, _⟩ => ⟨S3x256x384, .i32⟩
  | .hbm, ⟨8, _⟩ => ⟨S3x256x384, .i32⟩
  | .hbm, ⟨9, _⟩ => ⟨S3x256x384, .i32⟩
  | .hbm, ⟨10, _⟩ => ⟨S_, .i32⟩
  | .hbm, ⟨11, _⟩ => ⟨S3x256x384, .i32⟩
  | .hbm, ⟨12, _⟩ => ⟨S3x256x384, .i32⟩
  | .hbm, ⟨13, _⟩ => ⟨S_, .i32⟩
  | .hbm, ⟨14, _⟩ => ⟨S3x256x384, .i32⟩
  | .hbm, ⟨15, _⟩ => ⟨S3x256x384, .i32⟩
  | .hbm, ⟨16, _⟩ => ⟨S3x256x384, .i32⟩
  | .hbm, ⟨17, _⟩ => ⟨S3x256x384, .i32⟩
  | .hbm, ⟨18, _⟩ => ⟨S3x256x384, .i32⟩
  | .hbm, ⟨19, _⟩ => ⟨S_, .i32⟩
  | .hbm, ⟨20, _⟩ => ⟨S3x256x384, .i32⟩
  | .hbm, ⟨21, _⟩ => ⟨S3x256x384, .i1⟩
  | .hbm, ⟨22, _⟩ => ⟨S_, .f32⟩
  | .hbm, ⟨23, _⟩ => ⟨S_, .f32⟩
  | .hbm, ⟨24, _⟩ => ⟨S3x256x384, .f32⟩
  | .hbm, ⟨25, _⟩ => ⟨S3x256x384, .f32⟩
  | .hbm, ⟨26, _⟩ => ⟨S3x256x384, .f32⟩
  | .hbm, ⟨27, _⟩ => ⟨S2x16384x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S8x128, .f32⟩
  | .local _ .vmem, ⟨11, _⟩ => ⟨S3x256x384, .f32⟩
  | .local _ .vmem, ⟨12, _⟩ => ⟨S1x1024x512, .bf16⟩
  | .local _ .vmem, ⟨13, _⟩ => ⟨S1x1024x512, .bf16⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c16000_i32 : BitVec 32 := 16000#32
  let c0_i32_139 : BitVec 32 := 0#32
  let arg1 : BitVec 32 := BitVec.ofNat 32 (i 1).val
  let c8_i32 : BitVec 32 := 8#32
  let v246 : BitVec 32 := Scalar.muli arg1 c8_i32
  let c0_i32_136 : BitVec 32 := 0#32
  let v247 : BitVec 32 := Scalar.addi v246 c0_i32_136
  let c1_i32_137 : BitVec 32 := 1#32
  let v248 : BitVec 32 := Scalar.subi v247 c1_i32_137
  let c128_i32_138 : BitVec 32 := 128#32
  let v249 : BitVec 32 := Scalar.muli v248 c128_i32_138
  let v250 : BitVec 32 := Scalar.maxsi c0_i32_139 v249
  let v251 : BitVec 32 := Scalar.minsi c16000_i32 v250
  v251
def k0_off1 (i : grid0.Coords) (c0_i32_136 : BitVec 32) : Fin 3 → Nat :=
  let c0_148 : Index := 0#32
  let c16000_i32 : BitVec 32 := 16000#32
  let c0_i32_139 : BitVec 32 := 0#32
  let arg1 : BitVec 32 := BitVec.ofNat 32 (i 1).val
  let c8_i32 : BitVec 32 := 8#32
  let v246 : BitVec 32 := Scalar.muli arg1 c8_i32
  let v247 : BitVec 32 := Scalar.addi v246 c0_i32_136
  let c1_i32_137 : BitVec 32 := 1#32
  let v248 : BitVec 32 := Scalar.subi v247 c1_i32_137
  let c128_i32_138 : BitVec 32 := 128#32
  let v249 : BitVec 32 := Scalar.muli v248 c128_i32_138
  let v250 : BitVec 32 := Scalar.maxsi c0_i32_139 v249
  let v251 : BitVec 32 := Scalar.minsi c16000_i32 v250
  let v252 : BitVec 32 := v251
  let v263 : Index := Scalar.indexCast v252
  let c0_149 : Index := 0#32
  ![0, v263.toNat, 0]
def k0_off2 (i : grid0.Coords) (c0_i32_136 : BitVec 32) : Fin 3 → Nat :=
  let arg1 : BitVec 32 := BitVec.ofNat 32 (i 1).val
  let c8_i32 : BitVec 32 := 8#32
  let v246 : BitVec 32 := Scalar.muli arg1 c8_i32
  let v247 : BitVec 32 := Scalar.addi v246 c0_i32_136
  let c0_i32_140 : BitVec 32 := 0#32
  let v253 : BitVec 1 := Scalar.cmpi .eq v247 c0_i32_140
  let c0_i32_143 : BitVec 32 := 0#32
  let c127_i32 : BitVec 32 := 127#32
  let v254 : BitVec 1 := Scalar.cmpi .eq v247 c127_i32
  let c2_i32_141 : BitVec 32 := 2#32
  let c1_i32_142 : BitVec 32 := 1#32
  let v255 : BitVec 32 := Scalar.select v254 c2_i32_141 c1_i32_142
  let v256 : BitVec 32 := Scalar.select v253 c0_i32_143 v255
  let v267 : Index := Scalar.indexCast v256
  let c0_151 : Index := 0#32
  let c0_152 : Index := 0#32
  ![v267.toNat, 0, 0]
def k0_mult2 (i : grid0.Coords) : BitVec 32 :=
  let c16000_i32_172 : BitVec 32 := 16000#32
  let c0_i32_171 : BitVec 32 := 0#32
  let arg1 : BitVec 32 := BitVec.ofNat 32 (i 1).val
  let c8_i32_167 : BitVec 32 := 8#32
  let v315 : BitVec 32 := Scalar.muli arg1 c8_i32_167
  let c0_i32_168 : BitVec 32 := 0#32
  let v316 : BitVec 32 := Scalar.addi v315 c0_i32_168
  let c1_i32_169 : BitVec 32 := 1#32
  let v317 : BitVec 32 := Scalar.subi v316 c1_i32_169
  let c128_i32_170 : BitVec 32 := 128#32
  let v318 : BitVec 32 := Scalar.muli v317 c128_i32_170
  let v319 : BitVec 32 := Scalar.maxsi c0_i32_171 v318
  let v320 : BitVec 32 := Scalar.minsi c16000_i32_172 v319
  v320
def k0_mult3 (i : grid0.Coords) : BitVec 32 :=
  let c16000_i32_205 : BitVec 32 := 16000#32
  let c0_i32_204 : BitVec 32 := 0#32
  let arg1 : BitVec 32 := BitVec.ofNat 32 (i 1).val
  let c8_i32_200 : BitVec 32 := 8#32
  let v384 : BitVec 32 := Scalar.muli arg1 c8_i32_200
  let c0_i32_201 : BitVec 32 := 0#32
  let v385 : BitVec 32 := Scalar.addi v384 c0_i32_201
  let c1_i32_202 : BitVec 32 := 1#32
  let v386 : BitVec 32 := Scalar.subi v385 c1_i32_202
  let c128_i32_203 : BitVec 32 := 128#32
  let v387 : BitVec 32 := Scalar.muli v386 c128_i32_203
  let v388 : BitVec 32 := Scalar.maxsi c0_i32_204 v387
  let v389 : BitVec 32 := Scalar.minsi c16000_i32_205 v388
  v389
def k0_mult4 (i : grid0.Coords) : BitVec 32 :=
  let c16000_i32_238 : BitVec 32 := 16000#32
  let c0_i32_237 : BitVec 32 := 0#32
  let arg1 : BitVec 32 := BitVec.ofNat 32 (i 1).val
  let c8_i32_233 : BitVec 32 := 8#32
  let v453 : BitVec 32 := Scalar.muli arg1 c8_i32_233
  let c0_i32_234 : BitVec 32 := 0#32
  let v454 : BitVec 32 := Scalar.addi v453 c0_i32_234
  let c1_i32_235 : BitVec 32 := 1#32
  let v455 : BitVec 32 := Scalar.subi v454 c1_i32_235
  let c128_i32_236 : BitVec 32 := 128#32
  let v456 : BitVec 32 := Scalar.muli v455 c128_i32_236
  let v457 : BitVec 32 := Scalar.maxsi c0_i32_237 v456
  let v458 : BitVec 32 := Scalar.minsi c16000_i32_238 v457
  v458
def k0_mult5 (i : grid0.Coords) : BitVec 32 :=
  let c16000_i32_271 : BitVec 32 := 16000#32
  let c0_i32_270 : BitVec 32 := 0#32
  let arg1 : BitVec 32 := BitVec.ofNat 32 (i 1).val
  let c8_i32_266 : BitVec 32 := 8#32
  let v522 : BitVec 32 := Scalar.muli arg1 c8_i32_266
  let c1_i32_267 : BitVec 32 := 1#32
  let v523 : BitVec 32 := Scalar.addi v522 c1_i32_267
  let c1_i32_268 : BitVec 32 := 1#32
  let v524 : BitVec 32 := Scalar.subi v523 c1_i32_268
  let c128_i32_269 : BitVec 32 := 128#32
  let v525 : BitVec 32 := Scalar.muli v524 c128_i32_269
  let v526 : BitVec 32 := Scalar.maxsi c0_i32_270 v525
  let v527 : BitVec 32 := Scalar.minsi c16000_i32_271 v526
  v527
def k0_mult6 (i : grid0.Coords) : BitVec 32 :=
  let c16000_i32_306 : BitVec 32 := 16000#32
  let c0_i32_305 : BitVec 32 := 0#32
  let arg1 : BitVec 32 := BitVec.ofNat 32 (i 1).val
  let c8_i32_301 : BitVec 32 := 8#32
  let v591 : BitVec 32 := Scalar.muli arg1 c8_i32_301
  let c1_i32_302 : BitVec 32 := 1#32
  let v592 : BitVec 32 := Scalar.addi v591 c1_i32_302
  let c1_i32_303 : BitVec 32 := 1#32
  let v593 : BitVec 32 := Scalar.subi v592 c1_i32_303
  let c128_i32_304 : BitVec 32 := 128#32
  let v594 : BitVec 32 := Scalar.muli v593 c128_i32_304
  let v595 : BitVec 32 := Scalar.maxsi c0_i32_305 v594
  let v596 : BitVec 32 := Scalar.minsi c16000_i32_306 v595
  v596
def k0_mult7 (i : grid0.Coords) : BitVec 32 :=
  let c16000_i32_341 : BitVec 32 := 16000#32
  let c0_i32_340 : BitVec 32 := 0#32
  let arg1 : BitVec 32 := BitVec.ofNat 32 (i 1).val
  let c8_i32_336 : BitVec 32 := 8#32
  let v660 : BitVec 32 := Scalar.muli arg1 c8_i32_336
  let c1_i32_337 : BitVec 32 := 1#32
  let v661 : BitVec 32 := Scalar.addi v660 c1_i32_337
  let c1_i32_338 : BitVec 32 := 1#32
  let v662 : BitVec 32 := Scalar.subi v661 c1_i32_338
  let c128_i32_339 : BitVec 32 := 128#32
  let v663 : BitVec 32 := Scalar.muli v662 c128_i32_339
  let v664 : BitVec 32 := Scalar.maxsi c0_i32_340 v663
  let v665 : BitVec 32 := Scalar.minsi c16000_i32_341 v664
  v665
def k0_mult8 (i : grid0.Coords) : BitVec 32 :=
  let c16000_i32_376 : BitVec 32 := 16000#32
  let c0_i32_375 : BitVec 32 := 0#32
  let arg1 : BitVec 32 := BitVec.ofNat 32 (i 1).val
  let c8_i32_371 : BitVec 32 := 8#32
  let v729 : BitVec 32 := Scalar.muli arg1 c8_i32_371
  let c1_i32_372 : BitVec 32 := 1#32
  let v730 : BitVec 32 := Scalar.addi v729 c1_i32_372
  let c1_i32_373 : BitVec 32 := 1#32
  let v731 : BitVec 32 := Scalar.subi v730 c1_i32_373
  let c128_i32_374 : BitVec 32 := 128#32
  let v732 : BitVec 32 := Scalar.muli v731 c128_i32_374
  let v733 : BitVec 32 := Scalar.maxsi c0_i32_375 v732
  let v734 : BitVec 32 := Scalar.minsi c16000_i32_376 v733
  v734
def k0_mult9 (i : grid0.Coords) : BitVec 32 :=
  let c16000_i32_411 : BitVec 32 := 16000#32
  let c0_i32_410 : BitVec 32 := 0#32
  let arg1 : BitVec 32 := BitVec.ofNat 32 (i 1).val
  let c8_i32_406 : BitVec 32 := 8#32
  let v798 : BitVec 32 := Scalar.muli arg1 c8_i32_406
  let c2_i32_407 : BitVec 32 := 2#32
  let v799 : BitVec 32 := Scalar.addi v798 c2_i32_407
  let c1_i32_408 : BitVec 32 := 1#32
  let v800 : BitVec 32 := Scalar.subi v799 c1_i32_408
  let c128_i32_409 : BitVec 32 := 128#32
  let v801 : BitVec 32 := Scalar.muli v800 c128_i32_409
  let v802 : BitVec 32 := Scalar.maxsi c0_i32_410 v801
  let v803 : BitVec 32 := Scalar.minsi c16000_i32_411 v802
  v803
def k0_mult10 (i : grid0.Coords) : BitVec 32 :=
  let c16000_i32_446 : BitVec 32 := 16000#32
  let c0_i32_445 : BitVec 32 := 0#32
  let arg1 : BitVec 32 := BitVec.ofNat 32 (i 1).val
  let c8_i32_441 : BitVec 32 := 8#32
  let v867 : BitVec 32 := Scalar.muli arg1 c8_i32_441
  let c2_i32_442 : BitVec 32 := 2#32
  let v868 : BitVec 32 := Scalar.addi v867 c2_i32_442
  let c1_i32_443 : BitVec 32 := 1#32
  let v869 : BitVec 32 := Scalar.subi v868 c1_i32_443
  let c128_i32_444 : BitVec 32 := 128#32
  let v870 : BitVec 32 := Scalar.muli v869 c128_i32_444
  let v871 : BitVec 32 := Scalar.maxsi c0_i32_445 v870
  let v872 : BitVec 32 := Scalar.minsi c16000_i32_446 v871
  v872
def k0_mult11 (i : grid0.Coords) : BitVec 32 :=
  let c16000_i32_481 : BitVec 32 := 16000#32
  let c0_i32_480 : BitVec 32 := 0#32
  let arg1 : BitVec 32 := BitVec.ofNat 32 (i 1).val
  let c8_i32_476 : BitVec 32 := 8#32
  let v936 : BitVec 32 := Scalar.muli arg1 c8_i32_476
  let c2_i32_477 : BitVec 32 := 2#32
  let v937 : BitVec 32 := Scalar.addi v936 c2_i32_477
  let c1_i32_478 : BitVec 32 := 1#32
  let v938 : BitVec 32 := Scalar.subi v937 c1_i32_478
  let c128_i32_479 : BitVec 32 := 128#32
  let v939 : BitVec 32 := Scalar.muli v938 c128_i32_479
  let v940 : BitVec 32 := Scalar.maxsi c0_i32_480 v939
  let v941 : BitVec 32 := Scalar.minsi c16000_i32_481 v940
  v941
def k0_mult12 (i : grid0.Coords) : BitVec 32 :=
  let c16000_i32_516 : BitVec 32 := 16000#32
  let c0_i32_515 : BitVec 32 := 0#32
  let arg1 : BitVec 32 := BitVec.ofNat 32 (i 1).val
  let c8_i32_511 : BitVec 32 := 8#32
  let v1005 : BitVec 32 := Scalar.muli arg1 c8_i32_511
  let c2_i32_512 : BitVec 32 := 2#32
  let v1006 : BitVec 32 := Scalar.addi v1005 c2_i32_512
  let c1_i32_513 : BitVec 32 := 1#32
  let v1007 : BitVec 32 := Scalar.subi v1006 c1_i32_513
  let c128_i32_514 : BitVec 32 := 128#32
  let v1008 : BitVec 32 := Scalar.muli v1007 c128_i32_514
  let v1009 : BitVec 32 := Scalar.maxsi c0_i32_515 v1008
  let v1010 : BitVec 32 := Scalar.minsi c16000_i32_516 v1009
  v1010
def k0_mult13 (i : grid0.Coords) : BitVec 32 :=
  let c16000_i32_550 : BitVec 32 := 16000#32
  let c0_i32_549 : BitVec 32 := 0#32
  let arg1 : BitVec 32 := BitVec.ofNat 32 (i 1).val
  let c8_i32_546 : BitVec 32 := 8#32
  let v1074 : BitVec 32 := Scalar.muli arg1 c8_i32_546
  let c3_i32 : BitVec 32 := 3#32
  let v1075 : BitVec 32 := Scalar.addi v1074 c3_i32
  let c1_i32_547 : BitVec 32 := 1#32
  let v1076 : BitVec 32 := Scalar.subi v1075 c1_i32_547
  let c128_i32_548 : BitVec 32 := 128#32
  let v1077 : BitVec 32 := Scalar.muli v1076 c128_i32_548
  let v1078 : BitVec 32 := Scalar.maxsi c0_i32_549 v1077
  let v1079 : BitVec 32 := Scalar.minsi c16000_i32_550 v1078
  v1079
def k0_mult14 (i : grid0.Coords) : BitVec 32 :=
  let c16000_i32_585 : BitVec 32 := 16000#32
  let c0_i32_584 : BitVec 32 := 0#32
  let arg1 : BitVec 32 := BitVec.ofNat 32 (i 1).val
  let c8_i32_580 : BitVec 32 := 8#32
  let v1143 : BitVec 32 := Scalar.muli arg1 c8_i32_580
  let c3_i32_581 : BitVec 32 := 3#32
  let v1144 : BitVec 32 := Scalar.addi v1143 c3_i32_581
  let c1_i32_582 : BitVec 32 := 1#32
  let v1145 : BitVec 32 := Scalar.subi v1144 c1_i32_582
  let c128_i32_583 : BitVec 32 := 128#32
  let v1146 : BitVec 32 := Scalar.muli v1145 c128_i32_583
  let v1147 : BitVec 32 := Scalar.maxsi c0_i32_584 v1146
  let v1148 : BitVec 32 := Scalar.minsi c16000_i32_585 v1147
  v1148
def k0_mult15 (i : grid0.Coords) : BitVec 32 :=
  let c16000_i32_620 : BitVec 32 := 16000#32
  let c0_i32_619 : BitVec 32 := 0#32
  let arg1 : BitVec 32 := BitVec.ofNat 32 (i 1).val
  let c8_i32_615 : BitVec 32 := 8#32
  let v1212 : BitVec 32 := Scalar.muli arg1 c8_i32_615
  let c3_i32_616 : BitVec 32 := 3#32
  let v1213 : BitVec 32 := Scalar.addi v1212 c3_i32_616
  let c1_i32_617 : BitVec 32 := 1#32
  let v1214 : BitVec 32 := Scalar.subi v1213 c1_i32_617
  let c128_i32_618 : BitVec 32 := 128#32
  let v1215 : BitVec 32 := Scalar.muli v1214 c128_i32_618
  let v1216 : BitVec 32 := Scalar.maxsi c0_i32_619 v1215
  let v1217 : BitVec 32 := Scalar.minsi c16000_i32_620 v1216
  v1217
def k0_mult16 (i : grid0.Coords) : BitVec 32 :=
  let c16000_i32_655 : BitVec 32 := 16000#32
  let c0_i32_654 : BitVec 32 := 0#32
  let arg1 : BitVec 32 := BitVec.ofNat 32 (i 1).val
  let c8_i32_650 : BitVec 32 := 8#32
  let v1281 : BitVec 32 := Scalar.muli arg1 c8_i32_650
  let c3_i32_651 : BitVec 32 := 3#32
  let v1282 : BitVec 32 := Scalar.addi v1281 c3_i32_651
  let c1_i32_652 : BitVec 32 := 1#32
  let v1283 : BitVec 32 := Scalar.subi v1282 c1_i32_652
  let c128_i32_653 : BitVec 32 := 128#32
  let v1284 : BitVec 32 := Scalar.muli v1283 c128_i32_653
  let v1285 : BitVec 32 := Scalar.maxsi c0_i32_654 v1284
  let v1286 : BitVec 32 := Scalar.minsi c16000_i32_655 v1285
  v1286
def k0_mult17 (i : grid0.Coords) : BitVec 32 :=
  let c16000_i32_689 : BitVec 32 := 16000#32
  let c0_i32_688 : BitVec 32 := 0#32
  let arg1 : BitVec 32 := BitVec.ofNat 32 (i 1).val
  let c8_i32_685 : BitVec 32 := 8#32
  let v1350 : BitVec 32 := Scalar.muli arg1 c8_i32_685
  let c4_i32 : BitVec 32 := 4#32
  let v1351 : BitVec 32 := Scalar.addi v1350 c4_i32
  let c1_i32_686 : BitVec 32 := 1#32
  let v1352 : BitVec 32 := Scalar.subi v1351 c1_i32_686
  let c128_i32_687 : BitVec 32 := 128#32
  let v1353 : BitVec 32 := Scalar.muli v1352 c128_i32_687
  let v1354 : BitVec 32 := Scalar.maxsi c0_i32_688 v1353
  let v1355 : BitVec 32 := Scalar.minsi c16000_i32_689 v1354
  v1355
def k0_mult18 (i : grid0.Coords) : BitVec 32 :=
  let c16000_i32_724 : BitVec 32 := 16000#32
  let c0_i32_723 : BitVec 32 := 0#32
  let arg1 : BitVec 32 := BitVec.ofNat 32 (i 1).val
  let c8_i32_719 : BitVec 32 := 8#32
  let v1419 : BitVec 32 := Scalar.muli arg1 c8_i32_719
  let c4_i32_720 : BitVec 32 := 4#32
  let v1420 : BitVec 32 := Scalar.addi v1419 c4_i32_720
  let c1_i32_721 : BitVec 32 := 1#32
  let v1421 : BitVec 32 := Scalar.subi v1420 c1_i32_721
  let c128_i32_722 : BitVec 32 := 128#32
  let v1422 : BitVec 32 := Scalar.muli v1421 c128_i32_722
  let v1423 : BitVec 32 := Scalar.maxsi c0_i32_723 v1422
  let v1424 : BitVec 32 := Scalar.minsi c16000_i32_724 v1423
  v1424
def k0_mult19 (i : grid0.Coords) : BitVec 32 :=
  let c16000_i32_759 : BitVec 32 := 16000#32
  let c0_i32_758 : BitVec 32 := 0#32
  let arg1 : BitVec 32 := BitVec.ofNat 32 (i 1).val
  let c8_i32_754 : BitVec 32 := 8#32
  let v1488 : BitVec 32 := Scalar.muli arg1 c8_i32_754
  let c4_i32_755 : BitVec 32 := 4#32
  let v1489 : BitVec 32 := Scalar.addi v1488 c4_i32_755
  let c1_i32_756 : BitVec 32 := 1#32
  let v1490 : BitVec 32 := Scalar.subi v1489 c1_i32_756
  let c128_i32_757 : BitVec 32 := 128#32
  let v1491 : BitVec 32 := Scalar.muli v1490 c128_i32_757
  let v1492 : BitVec 32 := Scalar.maxsi c0_i32_758 v1491
  let v1493 : BitVec 32 := Scalar.minsi c16000_i32_759 v1492
  v1493
def k0_mult20 (i : grid0.Coords) : BitVec 32 :=
  let c16000_i32_794 : BitVec 32 := 16000#32
  let c0_i32_793 : BitVec 32 := 0#32
  let arg1 : BitVec 32 := BitVec.ofNat 32 (i 1).val
  let c8_i32_789 : BitVec 32 := 8#32
  let v1557 : BitVec 32 := Scalar.muli arg1 c8_i32_789
  let c4_i32_790 : BitVec 32 := 4#32
  let v1558 : BitVec 32 := Scalar.addi v1557 c4_i32_790
  let c1_i32_791 : BitVec 32 := 1#32
  let v1559 : BitVec 32 := Scalar.subi v1558 c1_i32_791
  let c128_i32_792 : BitVec 32 := 128#32
  let v1560 : BitVec 32 := Scalar.muli v1559 c128_i32_792
  let v1561 : BitVec 32 := Scalar.maxsi c0_i32_793 v1560
  let v1562 : BitVec 32 := Scalar.minsi c16000_i32_794 v1561
  v1562
def k0_mult21 (i : grid0.Coords) : BitVec 32 :=
  let c16000_i32_828 : BitVec 32 := 16000#32
  let c0_i32_827 : BitVec 32 := 0#32
  let arg1 : BitVec 32 := BitVec.ofNat 32 (i 1).val
  let c8_i32_824 : BitVec 32 := 8#32
  let v1626 : BitVec 32 := Scalar.muli arg1 c8_i32_824
  let c5_i32 : BitVec 32 := 5#32
  let v1627 : BitVec 32 := Scalar.addi v1626 c5_i32
  let c1_i32_825 : BitVec 32 := 1#32
  let v1628 : BitVec 32 := Scalar.subi v1627 c1_i32_825
  let c128_i32_826 : BitVec 32 := 128#32
  let v1629 : BitVec 32 := Scalar.muli v1628 c128_i32_826
  let v1630 : BitVec 32 := Scalar.maxsi c0_i32_827 v1629
  let v1631 : BitVec 32 := Scalar.minsi c16000_i32_828 v1630
  v1631
def k0_mult22 (i : grid0.Coords) : BitVec 32 :=
  let c16000_i32_863 : BitVec 32 := 16000#32
  let c0_i32_862 : BitVec 32 := 0#32
  let arg1 : BitVec 32 := BitVec.ofNat 32 (i 1).val
  let c8_i32_858 : BitVec 32 := 8#32
  let v1695 : BitVec 32 := Scalar.muli arg1 c8_i32_858
  let c5_i32_859 : BitVec 32 := 5#32
  let v1696 : BitVec 32 := Scalar.addi v1695 c5_i32_859
  let c1_i32_860 : BitVec 32 := 1#32
  let v1697 : BitVec 32 := Scalar.subi v1696 c1_i32_860
  let c128_i32_861 : BitVec 32 := 128#32
  let v1698 : BitVec 32 := Scalar.muli v1697 c128_i32_861
  let v1699 : BitVec 32 := Scalar.maxsi c0_i32_862 v1698
  let v1700 : BitVec 32 := Scalar.minsi c16000_i32_863 v1699
  v1700
def k0_mult23 (i : grid0.Coords) : BitVec 32 :=
  let c16000_i32_898 : BitVec 32 := 16000#32
  let c0_i32_897 : BitVec 32 := 0#32
  let arg1 : BitVec 32 := BitVec.ofNat 32 (i 1).val
  let c8_i32_893 : BitVec 32 := 8#32
  let v1764 : BitVec 32 := Scalar.muli arg1 c8_i32_893
  let c5_i32_894 : BitVec 32 := 5#32
  let v1765 : BitVec 32 := Scalar.addi v1764 c5_i32_894
  let c1_i32_895 : BitVec 32 := 1#32
  let v1766 : BitVec 32 := Scalar.subi v1765 c1_i32_895
  let c128_i32_896 : BitVec 32 := 128#32
  let v1767 : BitVec 32 := Scalar.muli v1766 c128_i32_896
  let v1768 : BitVec 32 := Scalar.maxsi c0_i32_897 v1767
  let v1769 : BitVec 32 := Scalar.minsi c16000_i32_898 v1768
  v1769
def k0_mult24 (i : grid0.Coords) : BitVec 32 :=
  let c16000_i32_933 : BitVec 32 := 16000#32
  let c0_i32_932 : BitVec 32 := 0#32
  let arg1 : BitVec 32 := BitVec.ofNat 32 (i 1).val
  let c8_i32_928 : BitVec 32 := 8#32
  let v1833 : BitVec 32 := Scalar.muli arg1 c8_i32_928
  let c5_i32_929 : BitVec 32 := 5#32
  let v1834 : BitVec 32 := Scalar.addi v1833 c5_i32_929
  let c1_i32_930 : BitVec 32 := 1#32
  let v1835 : BitVec 32 := Scalar.subi v1834 c1_i32_930
  let c128_i32_931 : BitVec 32 := 128#32
  let v1836 : BitVec 32 := Scalar.muli v1835 c128_i32_931
  let v1837 : BitVec 32 := Scalar.maxsi c0_i32_932 v1836
  let v1838 : BitVec 32 := Scalar.minsi c16000_i32_933 v1837
  v1838
def k0_mult25 (i : grid0.Coords) : BitVec 32 :=
  let c16000_i32_967 : BitVec 32 := 16000#32
  let c0_i32_966 : BitVec 32 := 0#32
  let arg1 : BitVec 32 := BitVec.ofNat 32 (i 1).val
  let c8_i32_963 : BitVec 32 := 8#32
  let v1902 : BitVec 32 := Scalar.muli arg1 c8_i32_963
  let c6_i32 : BitVec 32 := 6#32
  let v1903 : BitVec 32 := Scalar.addi v1902 c6_i32
  let c1_i32_964 : BitVec 32 := 1#32
  let v1904 : BitVec 32 := Scalar.subi v1903 c1_i32_964
  let c128_i32_965 : BitVec 32 := 128#32
  let v1905 : BitVec 32 := Scalar.muli v1904 c128_i32_965
  let v1906 : BitVec 32 := Scalar.maxsi c0_i32_966 v1905
  let v1907 : BitVec 32 := Scalar.minsi c16000_i32_967 v1906
  v1907
def k0_mult26 (i : grid0.Coords) : BitVec 32 :=
  let c16000_i32_1002 : BitVec 32 := 16000#32
  let c0_i32_1001 : BitVec 32 := 0#32
  let arg1 : BitVec 32 := BitVec.ofNat 32 (i 1).val
  let c8_i32_997 : BitVec 32 := 8#32
  let v1971 : BitVec 32 := Scalar.muli arg1 c8_i32_997
  let c6_i32_998 : BitVec 32 := 6#32
  let v1972 : BitVec 32 := Scalar.addi v1971 c6_i32_998
  let c1_i32_999 : BitVec 32 := 1#32
  let v1973 : BitVec 32 := Scalar.subi v1972 c1_i32_999
  let c128_i32_1000 : BitVec 32 := 128#32
  let v1974 : BitVec 32 := Scalar.muli v1973 c128_i32_1000
  let v1975 : BitVec 32 := Scalar.maxsi c0_i32_1001 v1974
  let v1976 : BitVec 32 := Scalar.minsi c16000_i32_1002 v1975
  v1976
def k0_mult27 (i : grid0.Coords) : BitVec 32 :=
  let c16000_i32_1037 : BitVec 32 := 16000#32
  let c0_i32_1036 : BitVec 32 := 0#32
  let arg1 : BitVec 32 := BitVec.ofNat 32 (i 1).val
  let c8_i32_1032 : BitVec 32 := 8#32
  let v2040 : BitVec 32 := Scalar.muli arg1 c8_i32_1032
  let c6_i32_1033 : BitVec 32 := 6#32
  let v2041 : BitVec 32 := Scalar.addi v2040 c6_i32_1033
  let c1_i32_1034 : BitVec 32 := 1#32
  let v2042 : BitVec 32 := Scalar.subi v2041 c1_i32_1034
  let c128_i32_1035 : BitVec 32 := 128#32
  let v2043 : BitVec 32 := Scalar.muli v2042 c128_i32_1035
  let v2044 : BitVec 32 := Scalar.maxsi c0_i32_1036 v2043
  let v2045 : BitVec 32 := Scalar.minsi c16000_i32_1037 v2044
  v2045
def k0_mult28 (i : grid0.Coords) : BitVec 32 :=
  let c16000_i32_1072 : BitVec 32 := 16000#32
  let c0_i32_1071 : BitVec 32 := 0#32
  let arg1 : BitVec 32 := BitVec.ofNat 32 (i 1).val
  let c8_i32_1067 : BitVec 32 := 8#32
  let v2109 : BitVec 32 := Scalar.muli arg1 c8_i32_1067
  let c6_i32_1068 : BitVec 32 := 6#32
  let v2110 : BitVec 32 := Scalar.addi v2109 c6_i32_1068
  let c1_i32_1069 : BitVec 32 := 1#32
  let v2111 : BitVec 32 := Scalar.subi v2110 c1_i32_1069
  let c128_i32_1070 : BitVec 32 := 128#32
  let v2112 : BitVec 32 := Scalar.muli v2111 c128_i32_1070
  let v2113 : BitVec 32 := Scalar.maxsi c0_i32_1071 v2112
  let v2114 : BitVec 32 := Scalar.minsi c16000_i32_1072 v2113
  v2114
def k0_mult29 (i : grid0.Coords) : BitVec 32 :=
  let c16000_i32_1106 : BitVec 32 := 16000#32
  let c0_i32_1105 : BitVec 32 := 0#32
  let arg1 : BitVec 32 := BitVec.ofNat 32 (i 1).val
  let c8_i32_1102 : BitVec 32 := 8#32
  let v2178 : BitVec 32 := Scalar.muli arg1 c8_i32_1102
  let c7_i32 : BitVec 32 := 7#32
  let v2179 : BitVec 32 := Scalar.addi v2178 c7_i32
  let c1_i32_1103 : BitVec 32 := 1#32
  let v2180 : BitVec 32 := Scalar.subi v2179 c1_i32_1103
  let c128_i32_1104 : BitVec 32 := 128#32
  let v2181 : BitVec 32 := Scalar.muli v2180 c128_i32_1104
  let v2182 : BitVec 32 := Scalar.maxsi c0_i32_1105 v2181
  let v2183 : BitVec 32 := Scalar.minsi c16000_i32_1106 v2182
  v2183
def k0_mult30 (i : grid0.Coords) : BitVec 32 :=
  let c16000_i32_1141 : BitVec 32 := 16000#32
  let c0_i32_1140 : BitVec 32 := 0#32
  let arg1 : BitVec 32 := BitVec.ofNat 32 (i 1).val
  let c8_i32_1136 : BitVec 32 := 8#32
  let v2247 : BitVec 32 := Scalar.muli arg1 c8_i32_1136
  let c7_i32_1137 : BitVec 32 := 7#32
  let v2248 : BitVec 32 := Scalar.addi v2247 c7_i32_1137
  let c1_i32_1138 : BitVec 32 := 1#32
  let v2249 : BitVec 32 := Scalar.subi v2248 c1_i32_1138
  let c128_i32_1139 : BitVec 32 := 128#32
  let v2250 : BitVec 32 := Scalar.muli v2249 c128_i32_1139
  let v2251 : BitVec 32 := Scalar.maxsi c0_i32_1140 v2250
  let v2252 : BitVec 32 := Scalar.minsi c16000_i32_1141 v2251
  v2252
def k0_mult31 (i : grid0.Coords) : BitVec 32 :=
  let c16000_i32_1176 : BitVec 32 := 16000#32
  let c0_i32_1175 : BitVec 32 := 0#32
  let arg1 : BitVec 32 := BitVec.ofNat 32 (i 1).val
  let c8_i32_1171 : BitVec 32 := 8#32
  let v2316 : BitVec 32 := Scalar.muli arg1 c8_i32_1171
  let c7_i32_1172 : BitVec 32 := 7#32
  let v2317 : BitVec 32 := Scalar.addi v2316 c7_i32_1172
  let c1_i32_1173 : BitVec 32 := 1#32
  let v2318 : BitVec 32 := Scalar.subi v2317 c1_i32_1173
  let c128_i32_1174 : BitVec 32 := 128#32
  let v2319 : BitVec 32 := Scalar.muli v2318 c128_i32_1174
  let v2320 : BitVec 32 := Scalar.maxsi c0_i32_1175 v2319
  let v2321 : BitVec 32 := Scalar.minsi c16000_i32_1176 v2320
  v2321
def k0_mult32 (i : grid0.Coords) : BitVec 32 :=
  let c16000_i32_1211 : BitVec 32 := 16000#32
  let c0_i32_1210 : BitVec 32 := 0#32
  let arg1 : BitVec 32 := BitVec.ofNat 32 (i 1).val
  let c8_i32_1206 : BitVec 32 := 8#32
  let v2385 : BitVec 32 := Scalar.muli arg1 c8_i32_1206
  let c7_i32_1207 : BitVec 32 := 7#32
  let v2386 : BitVec 32 := Scalar.addi v2385 c7_i32_1207
  let c1_i32_1208 : BitVec 32 := 1#32
  let v2387 : BitVec 32 := Scalar.subi v2386 c1_i32_1208
  let c128_i32_1209 : BitVec 32 := 128#32
  let v2388 : BitVec 32 := Scalar.muli v2387 c128_i32_1209
  let v2389 : BitVec 32 := Scalar.maxsi c0_i32_1210 v2388
  let v2390 : BitVec 32 := Scalar.minsi c16000_i32_1211 v2389
  v2390
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c85_i32 : BitVec 32 := 85#32
  let c0_i32_0 : BitVec 32 := 0#32
  ![arg0.toNat, c0_i32.toNat, c85_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c84_i32 : BitVec 32 := 84#32
  let c0_i32_0 : BitVec 32 := 0#32
  ![arg0.toNat, c0_i32.toNat, c84_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c85_i32 : BitVec 32 := 85#32
  let c0_i32_0 : BitVec 32 := 0#32
  ![arg0.toNat, c0_i32.toNat, c85_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x256x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaIdeal.lean ====
variable {F : FTy → Type} [FloatOps F] [Named F]
def κ : String → Option EReal := fun
  | "log2e" => some (((Real.log 2)⁻¹ : ℝ) : EReal)
  | "mask" => some ⊥
  | _ => none
-- ==== SwaRefIdeal.lean ====
abbrev S2x16384x512 : Shape := ⟨3, ![2, 16384, 512]⟩
abbrev S2x16384x128 : Shape := ⟨3, ![2, 16384, 128]⟩
abbrev S2x16384x11264 : Shape := ⟨3, ![2, 16384, 11264]⟩
abbrev S2x256x11264 : Shape := ⟨3, ![2, 256, 11264]⟩
abbrev S8 : Shape := ⟨1, ![8]⟩
abbrev S2x16384x4x2x2x32 : Shape := ⟨6, ![2, 16384, 4, 2, 2, 32]⟩
abbrev S2x2x4x16384x2x32 : Shape := ⟨6, ![2, 2, 4, 16384, 2, 32]⟩
abbrev S2x8x16384x64 : Shape := ⟨4, ![2, 8, 16384, 64]⟩
abbrev S2x16384x2x64 : Shape := ⟨4, ![2, 16384, 2, 64]⟩
abbrev S2x2x16384x64 : Shape := ⟨4, ![2, 2, 16384, 64]⟩
abbrev S2x256x128 : Shape := ⟨3, ![2, 256, 128]⟩
abbrev S2x256x2x64 : Shape := ⟨4, ![2, 256, 2, 64]⟩
abbrev S2x2x256x64 : Shape := ⟨4, ![2, 2, 256, 64]⟩
abbrev S2x256x2x2x32 : Shape := ⟨5, ![2, 256, 2, 2, 32]⟩
abbrev S2x2x256x2x32 : Shape := ⟨5, ![2, 2, 256, 2, 32]⟩
abbrev S2x16384x2x2x32 : Shape := ⟨5, ![2, 16384, 2, 2, 32]⟩
abbrev S2x2x16384x2x32 : Shape := ⟨5, ![2, 2, 16384, 2, 32]⟩
abbrev S_ : Shape := ⟨0, ![]⟩
abbrev S2x2x4x128x128x64 : Shape := ⟨6, ![2, 2, 4, 128, 128, 64]⟩
abbrev S2x2x16640x64 : Shape := ⟨4, ![2, 2, 16640, 64]⟩
abbrev S2x2x130x128x64 : Shape := ⟨5, ![2, 2, 130, 128, 64]⟩
abbrev S2x2x128x128x64 : Shape := ⟨5, ![2, 2, 128, 128, 64]⟩
abbrev S2x2x128x384x64 : Shape := ⟨5, ![2, 2, 128, 384, 64]⟩
abbrev S16384 : Shape := ⟨1, ![16384]⟩
abbrev S128x128 : Shape := ⟨2, ![128, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x128x1 : Shape := ⟨3, ![128, 128, 1]⟩
abbrev S128x1x384 : Shape := ⟨3, ![128, 1, 384]⟩
abbrev S128x128x384 : Shape := ⟨3, ![128, 128, 384]⟩
abbrev S2x2x128x384x4x128 : Shape := ⟨6, ![2, 2, 128, 384, 4, 128]⟩
abbrev S2x2x4x128x128x384 : Shape := ⟨6, ![2, 2, 4, 128, 128, 384]⟩
abbrev S2x2x4x128x128x256 : Shape := ⟨6, ![2, 2, 4, 128, 128, 256]⟩
abbrev S1x2x4x1x1x1 : Shape := ⟨6, ![1, 2, 4, 1, 1, 1]⟩
abbrev S2x2x4x128x128x1 : Shape := ⟨6, ![2, 2, 4, 128, 128, 1]⟩
abbrev S2x2x4x128x128x641 : Shape := ⟨6, ![2, 2, 4, 128, 128, 641]⟩
abbrev S2x2x4x128x128 : Shape := ⟨5, ![2, 2, 4, 128, 128]⟩
abbrev S2x2x128x64x4x128 : Shape := ⟨6, ![2, 2, 128, 64, 4, 128]⟩
abbrev S2x2x4x16384x64 : Shape := ⟨5, ![2, 2, 4, 16384, 64]⟩
abbrev S2x16384x4x2x64 : Shape := ⟨5, ![2, 16384, 4, 2, 64]⟩

abbrev nBuf : Space → Nat
  | .hbm => 123
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x128, .bf16⟩
  | .hbm, ⟨2, _⟩ => ⟨S2x16384x11264, .bf16⟩
  | .hbm, ⟨3, _⟩ => ⟨S2x256x11264, .bf16⟩
  | .hbm, ⟨4, _⟩ => ⟨S8, .f32⟩
  | .hbm, ⟨5, _⟩ => ⟨S2x16384x512, .f32⟩
  | .hbm, ⟨6, _⟩ => ⟨S2x16384x4x2x2x32, .f32⟩
  | .hbm, ⟨7, _⟩ => ⟨S2x2x4x16384x2x32, .f32⟩
  | .hbm, ⟨8, _⟩ => ⟨S2x8x16384x64, .f32⟩
  | .hbm, ⟨9, _⟩ => ⟨S2x16384x128, .bf16⟩
  | .hbm, ⟨10, _⟩ => ⟨S2x16384x128, .f32⟩
  | .hbm, ⟨11, _⟩ => ⟨S2x16384x2x64, .f32⟩
  | .hbm, ⟨12, _⟩ => ⟨S2x2x16384x64, .f32⟩
  | .hbm, ⟨13, _⟩ => ⟨S2x256x128, .bf16⟩
  | .hbm, ⟨14, _⟩ => ⟨S2x256x128, .f32⟩
  | .hbm, ⟨15, _⟩ => ⟨S2x256x2x64, .f32⟩
  | .hbm, ⟨16, _⟩ => ⟨S2x2x256x64, .f32⟩
  | .hbm, ⟨17, _⟩ => ⟨S2x256x128, .bf16⟩
  | .hbm, ⟨18, _⟩ => ⟨S2x256x128, .f32⟩
  | .hbm, ⟨19, _⟩ => ⟨S2x256x2x2x32, .f32⟩
  | .hbm, ⟨20, _⟩ => ⟨S2x2x256x2x32, .f32⟩
  | .hbm, ⟨21, _⟩ => ⟨S2x2x256x64, .f32⟩
  | .hbm, ⟨22, _⟩ => ⟨S2x16384x128, .f32⟩
  | .hbm, ⟨23, _⟩ => ⟨S2x16384x2x2x32, .f32⟩
  | .hbm, ⟨24, _⟩ => ⟨S2x2x16384x2x32, .f32⟩
  | .hbm, ⟨25, _⟩ => ⟨S2x2x16384x64, .f32⟩
  | .hbm, ⟨26, _⟩ => ⟨S_, .f32⟩
  | .hbm, ⟨27, _⟩ => ⟨S_, .f32⟩
  | .hbm, ⟨28, _⟩ => ⟨S2x2x4x128x128x64, .f32⟩
  | .hbm, ⟨29, _⟩ => ⟨S_, .i32⟩
  | .hbm, ⟨30, _⟩ => ⟨S_, .f32⟩
  | .hbm, ⟨31, _⟩ => ⟨S2x2x16640x64, .f32⟩
  | .hbm, ⟨32, _⟩ => ⟨S2x2x130x128x64, .f32⟩
  | .hbm, ⟨33, _⟩ => ⟨S2x2x128x128x64, .f32⟩
  | .hbm, ⟨34, _⟩ => ⟨S2x2x128x128x64, .f32⟩
  | .hbm, ⟨35, _⟩ => ⟨S2x2x128x128x64, .f32⟩
  | .hbm, ⟨36, _⟩ => ⟨S2x2x128x384x64, .f32⟩
  | .hbm, ⟨37, _⟩ => ⟨S_, .i32⟩
  | .hbm, ⟨38, _⟩ => ⟨S_, .f32⟩
  | .hbm, ⟨39, _⟩ => ⟨S2x2x16640x64, .f32⟩
  | .hbm, ⟨40, _⟩ => ⟨S2x2x130x128x64, .f32⟩
  | .hbm, ⟨41, _⟩ => ⟨S2x2x128x128x64, .f32⟩
  | .hbm, ⟨42, _⟩ => ⟨S2x2x128x128x64, .f32⟩
  | .hbm, ⟨43, _⟩ => ⟨S2x2x128x128x64, .f32⟩
  | .hbm, ⟨44, _⟩ => ⟨S2x2x128x384x64, .f32⟩
  | .hbm, ⟨45, _⟩ => ⟨S16384, .i32⟩
  | .hbm, ⟨46, _⟩ => ⟨S128x128, .i32⟩
  | .hbm, ⟨47, _⟩ => ⟨S128, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S384, .i32⟩
  | .hbm, ⟨56, _⟩ => ⟨S1x384, .i32⟩
  | .hbm, ⟨57, _⟩ => ⟨S128x384, .i32⟩
  | .hbm, ⟨58, _⟩ => ⟨S128x384, .i32⟩
  | .hbm, ⟨59, _⟩ => ⟨S128x384, .i32⟩
  | .hbm, ⟨60, _⟩ => ⟨S128x128x1, .i32⟩
  | .hbm, ⟨61, _⟩ => ⟨S128x1x384, .i32⟩
  | .hbm, ⟨62, _⟩ => ⟨S128x128x384, .i32⟩
  | .hbm, ⟨63, _⟩ => ⟨S128x128x384, .i32⟩
  | .hbm, ⟨64, _⟩ => ⟨S128x128x384, .i32⟩
  | .hbm, ⟨65, _⟩ => ⟨S128x128x384, .i32⟩
  | .hbm, ⟨66, _⟩ => ⟨S_, .i32⟩
  | .hbm, ⟨67, _⟩ => ⟨S128x128x384, .i32⟩
  | .hbm, ⟨68, _⟩ => ⟨S128x128x384, .i1⟩
  | .hbm, ⟨69, _⟩ => ⟨S128x1x384, .i32⟩
  | .hbm, ⟨70, _⟩ => ⟨S_, .i32⟩
  | .hbm, ⟨71, _⟩ => ⟨S128x1x384, .i32⟩
  | .hbm, ⟨72, _⟩ => ⟨S128x1x384, .i1⟩
  | .hbm, ⟨73, _⟩ => ⟨S128x128x384, .i1⟩
  | .hbm, ⟨74, _⟩ => ⟨S128x128x384, .i1⟩
  | .hbm, ⟨75, _⟩ => ⟨S128x1x384, .i32⟩
  | .hbm, ⟨76, _⟩ => ⟨S_, .i32⟩
  | .hbm, ⟨77, _⟩ => ⟨S128x1x384, .i32⟩
  | .hbm, ⟨78, _⟩ => ⟨S128x1x384, .i1⟩
  | .hbm, ⟨79, _⟩ => ⟨S128x128x384, .i1⟩
  | .hbm, ⟨80, _⟩ => ⟨S128x128x384, .i1⟩
  | .hbm, ⟨81, _⟩ => ⟨S2x2x128x384x4x128, .f32⟩
  | .hbm, ⟨82, _⟩ => ⟨S2x2x4x128x128x384, .f32⟩
  | .hbm, ⟨83, _⟩ => ⟨S_, .f32⟩
  | .hbm, ⟨84, _⟩ => ⟨S2x2x4x128x128x384, .f32⟩
  | .hbm, ⟨85, _⟩ => ⟨S2x2x4x128x128x384, .f32⟩
  | .hbm, ⟨86, _⟩ => ⟨S_, .f32⟩
  | .hbm, ⟨87, _⟩ => ⟨S_, .f32⟩
  | .hbm, ⟨88, _⟩ => ⟨S2x2x4x128x128x384, .i1⟩
  | .hbm, ⟨89, _⟩ => ⟨S2x2x4x128x128x384, .f32⟩
  | .hbm, ⟨90, _⟩ => ⟨S2x2x4x128x128x384, .f32⟩
  | .hbm, ⟨91, _⟩ => ⟨S2x2x4x128x128x256, .f32⟩
  | .hbm, ⟨92, _⟩ => ⟨S_, .f32⟩
  | .hbm, ⟨93, _⟩ => ⟨S2x2x4x128x128x256, .f32⟩
  | .hbm, ⟨94, _⟩ => ⟨S2x2x4x128x128x256, .f32⟩
  | .hbm, ⟨95, _⟩ => ⟨S1x2x4x1x1x1, .f32⟩
  | .hbm, ⟨96, _⟩ => ⟨S2x2x4x128x128x1, .f32⟩
  | .hbm, ⟨97, _⟩ => ⟨S2x2x4x128x128x641, .f32⟩
  | .hbm, ⟨98, _⟩ => ⟨S_, .f32⟩
  | .hbm, ⟨99, _⟩ => ⟨S2x2x4x128x128, .f32⟩
  | .hbm, ⟨100, _⟩ => ⟨S_, .f32⟩
  | .hbm, ⟨101, _⟩ => ⟨S2x2x4x128x128, .f32⟩
  | .hbm, ⟨102, _⟩ => ⟨S2x2x4x128x128, .f32⟩
  | .hbm, ⟨103, _⟩ => ⟨S2x2x4x128x128x1, .f32⟩
  | .hbm, ⟨104, _⟩ => ⟨S2x2x4x128x128x641, .f32⟩
  | .hbm, ⟨105, _⟩ => ⟨S2x2x4x128x128x641, .f32⟩
  | .hbm, ⟨106, _⟩ => ⟨S2x2x4x128x128x641, .f32⟩
  | .hbm, ⟨107, _⟩ => ⟨S_, .f32⟩
  | .hbm, ⟨108, _⟩ => ⟨S2x2x4x128x128, .f32⟩
  | .hbm, ⟨109, _⟩ => ⟨S2x2x4x128x128x1, .f32⟩
  | .hbm, ⟨110, _⟩ => ⟨S2x2x4x128x128x641, .f32⟩
  | .hbm, ⟨111, _⟩ => ⟨S2x2x4x128x128x641, .f32⟩
  | .hbm, ⟨112, _⟩ => ⟨S2x2x4x128x128x384, .f32⟩
  | .hbm, ⟨113, _⟩ => ⟨S2x2x128x64x4x128, .f32⟩
  | .hbm, ⟨114, _⟩ => ⟨S2x2x4x128x128x64, .f32⟩
  | .hbm, ⟨115, _⟩ => ⟨S2x2x4x128x128x256, .f32⟩
  | .hbm, ⟨116, _⟩ => ⟨S2x2x4x128x128x64, .f32⟩
  | .hbm, ⟨117, _⟩ => ⟨S2x2x4x128x128x64, .f32⟩
  | .hbm, ⟨118, _⟩ => ⟨S2x8x16384x64, .f32⟩
  | .hbm, ⟨119, _⟩ => ⟨S2x2x4x16384x64, .f32⟩
  | .hbm, ⟨120, _⟩ => ⟨S2x16384x4x2x64, .f32⟩
  | .hbm, ⟨121, _⟩ => ⟨S2x16384x512, .f32⟩
  | .hbm, ⟨122, _⟩ => ⟨S2x16384x512, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_0 : Ref sig .tc := ⟨.hbm, 37, rfl⟩
abbrev main_call1_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_1 : Ref sig .tc := ⟨.hbm, 49, rfl⟩
abbrev main_v39 : Ref sig .tc := ⟨.hbm, 50, rfl⟩
abbrev main_v40 : Ref sig .tc := ⟨.hbm, 51, rfl⟩
abbrev main_c_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_3 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_4 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c_5 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_6 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_7 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_9 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩

abbrev nD : Nat := 1
abbrev τ : Topo := Topo.v7x

variable {F : FTy → Type} [FloatOps F]
-- ==== Rope.lean ====
abbrev S2x16384x11264 : Shape := ⟨3, ![2, 16384, 11264]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S2x16384x512 : Shape := ⟨3, ![2, 16384, 512]⟩
abbrev S2x16384x128 : Shape := ⟨3, ![2, 16384, 128]⟩
abbrev S1x1024x512 : Shape := ⟨3, ![1, 1024, 512]⟩
abbrev S1x1024x128 : Shape := ⟨3, ![1, 1024, 128]⟩
abbrev S1024x128 : Shape := ⟨2, ![1024, 128]⟩

abbrev nBuf : Space → Nat
  | .hbm => 73
  | .vmem => 12
  | .smem => 0
  | _ => 0

abbrev bufTy : (tb : Table) → Fin (tcTables nBuf tb) → BufTy
  | .hbm, ⟨0, _⟩ => ⟨S2x16384x11264, .bf16⟩
  | .hbm, ⟨1, _⟩ => ⟨S16384, .i32⟩
  | .hbm, ⟨2, _⟩ => ⟨S_, .i32⟩
  | .hbm, ⟨3, _⟩ => ⟨S_, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S_, .i1⟩
  | .hbm, ⟨37, _⟩ => ⟨S16384, .i1⟩
  | .hbm, ⟨38, _⟩ => ⟨S16384, .i1⟩
  | .hbm, ⟨39, _⟩ => ⟨S16384, .i1⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16384x1, .f32⟩
  | .hbm, ⟨53, _⟩ => ⟨S1x16, .f32⟩
  | .hbm, ⟨54, _⟩ => ⟨S16384x16, .f32⟩
  | .hbm, ⟨55, _⟩ => ⟨S16384x16, .f32⟩
  | .hbm, ⟨56, _⟩ => ⟨S16384x16, .f32⟩
  | .hbm, ⟨57, _⟩ => ⟨S16384x1, .f32⟩
  | .hbm, ⟨58, _⟩ => ⟨S1x16, .f32⟩
  | .hbm, ⟨59, _⟩ => ⟨S16384x16, .f32⟩
  | .hbm, ⟨60, _⟩ => ⟨S16384x16, .f32⟩
  | .hbm, ⟨61, _⟩ => ⟨S16384x16, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S1x16384x1x32, .f32⟩
  | .hbm, ⟨66, _⟩ => ⟨S1x16384x4x32, .f32⟩
  | .hbm, ⟨67, _⟩ => ⟨S16384x128, .f32⟩
  | .hbm, ⟨68, _⟩ => ⟨S16384x32, .f32⟩
  | .hbm, ⟨69, _⟩ => ⟨S16384x32, .f32⟩
  | .hbm, ⟨70, _⟩ => ⟨S16384x128, .f32⟩
  | .hbm, ⟨71, _⟩ => ⟨S2x16384x512, .bf16⟩
  | .hbm, ⟨72, _⟩ => ⟨S2x16384x128, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x128, .bf16⟩
  | .local _ .vmem, ⟨11, _⟩ => ⟨S1x1024x128, .bf16⟩
  | _, _ => ⟨S2x16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30_0 : Ref sig .tc := ⟨.hbm, 71, rfl⟩
abbrev main_v30_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c84_i32 : BitVec 32 := 84#32
  let c0_i32 : BitVec 32 := 0#32
  ![arg0.toNat, arg1.toNat, c84_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeIdeal.lean ====
variable {F : FTy → Type} [FloatOps F] [Named F]
def κ : String → Option EReal := fun
  | "qscale" => some (((1 / 8) * (Real.log 2)⁻¹ : ℝ) : EReal)
  | _ => none
-- ==== RopeRefIdeal.lean ====
abbrev S2x16384x11264 : Shape := ⟨3, ![2, 16384, 11264]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S2x16384x512 : Shape := ⟨3, ![2, 16384, 512]⟩
abbrev S2x16384x4x2x2x32 : Shape := ⟨6, ![2, 16384, 4, 2, 2, 32]⟩
abbrev S2x4x2x16384x2x32 : Shape := ⟨6, ![2, 4, 2, 16384, 2, 32]⟩
abbrev S2x4x2x16384x64 : Shape := ⟨5, ![2, 4, 2, 16384, 64]⟩
abbrev S2x4x2x16384x32 : Shape := ⟨5, ![2, 4, 2, 16384, 32]⟩
abbrev S1x1x1x16384x32 : Shape := ⟨5, ![1, 1, 1, 16384, 32]⟩
abbrev S2x16384x128 : Shape := ⟨3, ![2, 16384, 128]⟩
abbrev S2x16384x1x2x2x32 : Shape := ⟨6, ![2, 16384, 1, 2, 2, 32]⟩
abbrev S2x1x2x16384x2x32 : Shape := ⟨6, ![2, 1, 2, 16384, 2, 32]⟩
abbrev S2x1x2x16384x64 : Shape := ⟨5, ![2, 1, 2, 16384, 64]⟩
abbrev S2x1x2x16384x32 : Shape := ⟨5, ![2, 1, 2, 16384, 32]⟩

abbrev nBuf : Space → Nat
  | .hbm => 124
  | .vmem => 0
  | .smem => 0
  | _ => 0

abbrev bufTy : (tb : Table) → Fin (tcTables nBuf tb) → BufTy
  | .hbm, ⟨0, _⟩ => ⟨S2x16384x11264, .bf16⟩
  | .hbm, ⟨1, _⟩ => ⟨S16384, .i32⟩
  | .hbm, ⟨2, _⟩ => ⟨S_, .i32⟩
  | .hbm, ⟨3, _⟩ => ⟨S_, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S_, .i1⟩
  | .hbm, ⟨37, _⟩ => ⟨S16384, .i1⟩
  | .hbm, ⟨38, _⟩ => ⟨S16384, .i1⟩
  | .hbm, ⟨39, _⟩ => ⟨S16384, .i1⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16384x1, .f32⟩
  | .hbm, ⟨53, _⟩ => ⟨S1x16, .f32⟩
  | .hbm, ⟨54, _⟩ => ⟨S16384x16, .f32⟩
  | .hbm, ⟨55, _⟩ => ⟨S16384x16, .f32⟩
  | .hbm, ⟨56, _⟩ => ⟨S16384x16, .f32⟩
  | .hbm, ⟨57, _⟩ => ⟨S16384x1, .f32⟩
  | .hbm, ⟨58, _⟩ => ⟨S1x16, .f32⟩
  | .hbm, ⟨59, _⟩ => ⟨S16384x16, .f32⟩
  | .hbm, ⟨60, _⟩ => ⟨S16384x16, .f32⟩
  | .hbm, ⟨61, _⟩ => ⟨S16384x16, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S2x16384x512, .bf16⟩
  | .hbm, ⟨66, _⟩ => ⟨S2x16384x512, .f32⟩
  | .hbm, ⟨67, _⟩ => ⟨S2x16384x4x2x2x32, .f32⟩
  | .hbm, ⟨68, _⟩ => ⟨S2x4x2x16384x2x32, .f32⟩
  | .hbm, ⟨69, _⟩ => ⟨S2x4x2x16384x64, .f32⟩
  | .hbm, ⟨70, _⟩ => ⟨S2x4x2x16384x32, .f32⟩
  | .hbm, ⟨71, _⟩ => ⟨S2x4x2x16384x32, .f32⟩
  | .hbm, ⟨72, _⟩ => ⟨S1x1x1x16384x32, .f32⟩
  | .hbm, ⟨73, _⟩ => ⟨S2x4x2x16384x32, .f32⟩
  | .hbm, ⟨74, _⟩ => ⟨S2x4x2x16384x32, .f32⟩
  | .hbm, ⟨75, _⟩ => ⟨S1x1x1x16384x32, .f32⟩
  | .hbm, ⟨76, _⟩ => ⟨S2x4x2x16384x32, .f32⟩
  | .hbm, ⟨77, _⟩ => ⟨S2x4x2x16384x32, .f32⟩
  | .hbm, ⟨78, _⟩ => ⟨S2x4x2x16384x32, .f32⟩
  | .hbm, ⟨79, _⟩ => ⟨S1x1x1x16384x32, .f32⟩
  | .hbm, ⟨80, _⟩ => ⟨S2x4x2x16384x32, .f32⟩
  | .hbm, ⟨81, _⟩ => ⟨S2x4x2x16384x32, .f32⟩
  | .hbm, ⟨82, _⟩ => ⟨S1x1x1x16384x32, .f32⟩
  | .hbm, ⟨83, _⟩ => ⟨S2x4x2x16384x32, .f32⟩
  | .hbm, ⟨84, _⟩ => ⟨S2x4x2x16384x32, .f32⟩
  | .hbm, ⟨85, _⟩ => ⟨S2x4x2x16384x32, .f32⟩
  | .hbm, ⟨86, _⟩ => ⟨S2x4x2x16384x64, .f32⟩
  | .hbm, ⟨87, _⟩ => ⟨S2x4x2x16384x2x32, .f32⟩
  | .hbm, ⟨88, _⟩ => ⟨S2x16384x4x2x2x32, .f32⟩
  | .hbm, ⟨89, _⟩ => ⟨S2x16384x512, .f32⟩
  | .hbm, ⟨90, _⟩ => ⟨S2x16384x128, .bf16⟩
  | .hbm, ⟨91, _⟩ => ⟨S2x16384x128, .f32⟩
  | .hbm, ⟨92, _⟩ => ⟨S2x16384x1x2x2x32, .f32⟩
  | .hbm, ⟨93, _⟩ => ⟨S2x1x2x16384x2x32, .f32⟩
  | .hbm, ⟨94, _⟩ => ⟨S2x1x2x16384x64, .f32⟩
  | .hbm, ⟨95, _⟩ => ⟨S2x1x2x16384x32, .f32⟩
  | .hbm, ⟨96, _⟩ => ⟨S2x1x2x16384x32, .f32⟩
  | .hbm, ⟨97, _⟩ => ⟨S1x1x1x16384x32, .f32⟩
  | .hbm, ⟨98, _⟩ => ⟨S2x1x2x16384x32, .f32⟩
  | .hbm, ⟨99, _⟩ => ⟨S2x1x2x16384x32, .f32⟩
  | .hbm, ⟨100, _⟩ => ⟨S1x1x1x16384x32, .f32⟩
  | .hbm, ⟨101, _⟩ => ⟨S2x1x2x16384x32, .f32⟩
  | .hbm, ⟨102, _⟩ => ⟨S2x1x2x16384x32, .f32⟩
  | .hbm, ⟨103, _⟩ => ⟨S2x1x2x16384x32, .f32⟩
  | .hbm, ⟨104, _⟩ => ⟨S1x1x1x16384x32, .f32⟩
  | .hbm, ⟨105, _⟩ => ⟨S2x1x2x16384x32, .f32⟩
  | .hbm, ⟨106, _⟩ => ⟨S2x1x2x16384x32, .f32⟩
  | .hbm, ⟨107, _⟩ => ⟨S1x1x1x16384x32, .f32⟩
  | .hbm, ⟨108, _⟩ => ⟨S2x1x2x16384x32, .f32⟩
  | .hbm, ⟨109, _⟩ => ⟨S2x1x2x16384x32, .f32⟩
  | .hbm, ⟨110, _⟩ => ⟨S2x1x2x16384x32, .f32⟩
  | .hbm, ⟨111, _⟩ => ⟨S2x1x2x16384x64, .f32⟩
  | .hbm, ⟨112, _⟩ => ⟨S2x1x2x16384x2x32, .f32⟩
  | .hbm, ⟨113, _⟩ => ⟨S2x16384x1x2x2x32, .f32⟩
  | .hbm, ⟨114, _⟩ => ⟨S2x16384x128, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S2x16384x512, .f32⟩
  | .hbm, ⟨121, _⟩ => ⟨S2x16384x512, .f32⟩
  | .hbm, ⟨122, _⟩ => ⟨S2x16384x512, .bf16⟩
  | .hbm, ⟨123, _⟩ => ⟨S2x16384x128, .bf16⟩
  | _, _ => ⟨S2x16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_2 : Ref sig .tc := ⟨.hbm, 115, rfl⟩
abbrev main_v74 : Ref sig .tc := ⟨.hbm, 116, rfl⟩
abbrev main_cst_3 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩

abbrev nD : Nat := 1
abbrev τ : Topo := Topo.v7x

variable {F : FTy → Type} [FloatOps F]
-- ==== Proof.NattenRow.lean ====
module
public import proofs.«01_k».proof.Proof.Gen.NattenIdeal.Value
public import Idealize.ShloMosaic.Lib.Pipeline.ValueKit

/-!
# What one grid point of the attention kernel stores

A grid point holds 32 rows of 64 queries, for one pair of heads: head `2p` in the lanes below 64 and head `2p + 1` in
the others.  Here the computation of ONE row is written as functions of the row number, and the block a grid point
stores is shown to be those functions laid end to end over the 32 rows.
-/
@[expose] public section
set_option maxRecDepth 16384
noncomputable section
open Idealize.ShloMosaic Idealize.ShloMosaic.TcCoe Idealize.SL.Sem
open Idealize.ShloMosaic.Pipeline (Dat)
namespace Cert.NattenIdeal.Val
open Cert.NattenIdeal Cert.NattenIdeal.Gen

theorem slices_q (r : Fin 32) : S2048x128.Slices ![64 * r.val, 0] S64x128 := by
  revert r; decide +kernel
theorem slices_s (r : Fin 32) : S2048x256.Slices ![64 * r.val, 0] S64x256 := by
  revert r; decide +kernel

/-- The scores of row `r`'s queries (both heads) against the 512 keys of its window, scaled, biased and masked. -/
def rowS (q : FVec Ideal S1x2048x128 .bf16) (keys : FVec Ideal S1x512x128 .bf16) (bias : FVec Ideal S1x1x128x512 .f32)
    (r : Fin 32) : FVec Ideal S128x512 .f32 :=
  addf (matmul dot_S128x128_S512x128_S128x512_1_1_0_0_n_n none
      (concatenate S128x128 0 [⟨S64x128, extractStridedSlice S64x128 ![64 * r.val, 0] (k0_pay9 q) (slices_q r)⟩,
        ⟨S64x128, extractStridedSlice S64x128 ![64 * r.val, 0] (k0_pay10 q) (slices_q r)⟩]
        concatenates_S64x128_S64x128_S128x128_d0)
      (shapeCast S512x128 keys shapeCasts_S1x512x128_S512x128) (constant (F := Ideal) S128x512 .f32 0x00000000#32))
    (select (k0_pay17 k0_pay13 k0_pay15 k0_pay16)
      (mulf (shapeCast S128x512 bias shapeCasts_S1x1x128x512_S128x512)
        (broadcast S128x512 (Named.named (F := Ideal) κ "log2e" 0x3FB8AA3B#32)))
      (broadcast S128x512 (Named.named (F := Ideal) κ "mask" 0xF149F2CA#32)))

/-- The scores of row `r`'s queries (both heads) against the 256 context keys. -/
def rowC (q : FVec Ideal S1x2048x128 .bf16) (kc : FVec Ideal S1x256x128 .bf16) (r : Fin 32) : FVec Ideal S128x256 .f32 :=
  concatenate S128x256 0 [⟨S64x256, extractStridedSlice S64x256 ![64 * r.val, 0] (k0_pay11 kc q) (slices_s r)⟩,
    ⟨S64x256, extractStridedSlice S64x256 ![64 * r.val, 0] (k0_pay12 kc q) (slices_s r)⟩]
    concatenates_S64x256_S64x256_S128x256_d0

/-- The greatest score of each query of a row. -/
def rowM (s : FVec Ideal S128x512 .f32) (sc : FVec Ideal S128x256 .f32) : FVec Ideal S128x1 .f32 :=
  maximumf
    (shapeCast S128x1 (multiReduction .maximumf [1] S128 s 0xFF800000#32 reduces_S128x512_S128 (.inl rfl) rfl)
      shapeCasts_S128_S128x1)
    (shapeCast S128x1 (multiReduction .maximumf [1] S128 sc 0xFF800000#32 reduces_S128x256_S128 (.inl rfl) rfl)
      shapeCasts_S128_S128x1)

/-- The weights of the window's keys. -/
def rowP (s : FVec Ideal S128x512 .f32) (sc : FVec Ideal S128x256 .f32) : FVec Ideal S128x512 .f32 :=
  exp2 (subf s (broadcastTo S128x512 (rowM s sc) broadcasts_S128x1_S128x512))

/-- The weights of the context keys. -/
def rowPC (s : FVec Ideal S128x512 .f32) (sc : FVec Ideal S128x256 .f32) : FVec Ideal S128x256 .f32 :=
  exp2 (subf sc (broadcastTo S128x256 (rowM s sc) broadcasts_S128x1_S128x256))

/-- One over the sum of a query's weights. -/
def rowD (s : FVec Ideal S128x512 .f32) (sc : FVec Ideal S128x256 .f32) : FVec Ideal S128x1 .f32 :=
  divf (broadcast S128x1 (Scalar.ofBits (F := Ideal) .f32 0x3F800000#32))
    (addf
      (shapeCast S128x1 (multiReduction .add [1] S128 (rowP s sc) 0x00000000#32 reduces_S128x512_S128 (.inl rfl) rfl)
        shapeCasts_S128_S128x1)
      (shapeCast S128x1 (multiReduction .add [1] S128 (rowPC s sc) 0x00000000#32 reduces_S128x256_S128 (.inl rfl) rfl)
        shapeCasts_S128_S128x1))

/-- The weighted sum of the window's values, both heads. -/
def rowPV (s : FVec Ideal S128x512 .f32) (sc : FVec Ideal S128x256 .f32) (vals : FVec Ideal S1x512x128 .bf16) :
    FVec Ideal S128x128 .f32 :=
  matmul dot_S128x512_S512x128_S128x128_1_0_0_1_n_n none (truncf .bf16 (rowP s sc) bitsLt_bf16_f32)
    (shapeCast S512x128 vals shapeCasts_S1x512x128_S512x128) (constant (F := Ideal) S128x128 .f32 0x00000000#32)

/-- The lanes of the first head from the first half of the rows, the others from the second half. -/
def rowO (s : FVec Ideal S128x512 .f32) (sc : FVec Ideal S128x256 .f32) (vals : FVec Ideal S1x512x128 .bf16) :
    FVec Ideal S64x128 .f32 :=
  select k0_pay6
    (extractStridedSlice S64x128 ![0, 0] (rowPV s sc vals) slices_S128x128_o0_0_S64x128)
    (extractStridedSlice S64x128 ![64, 0] (rowPV s sc vals) slices_S128x128_o64_0_S64x128)

/-- 32 pieces of one shape laid end to end along the first axis. -/
def glue {α : Type} (t s : Shape) (a : Fin t.rank) (h : Shape.Concatenates (List.replicate 32 s) t a) (f : Fin 32 → s.Idx → α) :
    t.Idx → α :=
  concatenate t a (List.ofFn fun r : Fin 32 => ⟨s, f r⟩)
    (by rw [List.map_ofFn, show ((fun x : (s : Shape) × (s.Idx → α) => x.1) ∘ fun r : Fin 32 => ⟨s, f r⟩) = fun _ => s from rfl,
          List.ofFn_const]; exact h)

/-- The block a grid point stores, from its queries, the windows' keys, values and biases, and the context. -/
def OUT (q : FVec Ideal S1x2048x128 .bf16) (K V : Fin 32 → FVec Ideal S1x512x128 .bf16)
    (B : Fin 32 → FVec Ideal S1x1x128x512 .f32) (kc vc : FVec Ideal S1x256x128 .bf16) : FVec Ideal S1x2048x128 .bf16 :=
  k0_pay2 (F := Ideal) (k0_pay4 vc) k0_pay5
    (glue S2048x256 S64x256 0 (by decide +kernel) fun r : Fin 32 => extractStridedSlice S64x256 ![0, 0]
      (truncf .bf16 (rowPC (rowS q (K r) (B r) r) (rowC q kc r)) bitsLt_bf16_f32) slices_S128x256_o0_0_S64x256)
    (constant (F := Ideal) S2048x128 .f32 0x00000000#32)
    (matmul dot_S2048x256_S256x128_S2048x128_1_0_0_1_n_n none
      (glue S2048x256 S64x256 0 (by decide +kernel) fun r : Fin 32 => extractStridedSlice S64x256 ![64, 0]
        (truncf .bf16 (rowPC (rowS q (K r) (B r) r) (rowC q kc r)) bitsLt_bf16_f32) slices_S128x256_o64_0_S64x256)
      (k0_pay4 vc) (constant (F := Ideal) S2048x128 .f32 0x00000000#32))
    (k0_pay1 (F := Ideal) k0_pay5
      (glue S2048x1 S64x1 0 (by decide +kernel) fun r : Fin 32 => extractStridedSlice S64x1 ![0, 0]
        (rowD (rowS q (K r) (B r) r) (rowC q kc r)) slices_S128x1_o0_0_S64x1)
      (glue S2048x1 S64x1 0 (by decide +kernel) fun r : Fin 32 => extractStridedSlice S64x1 ![64, 0]
        (rowD (rowS q (K r) (B r) r) (rowC q kc r)) slices_S128x1_o64_0_S64x1))
    (glue S2048x128 S64x128 0 (by decide +kernel) fun r : Fin 32 => rowO (rowS q (K r) (B r) r) (rowC q kc r) (V r))

variable (m : (ℓ : Loc nD τ sig) → Buf (Elt Ideal) ℓ)

/-- What a grid point stores is `OUT` of its blocks. -/
theorem outsAt0_eq (c : Dev nD) (t : Fin cfg0.N) :
    outsAt0 m c t = OUT (iblk m c 0 t)
      (fun r => View.ld (iblk m c 1 t) (Rect.unit (s := S1x16384x128) (k0_off1 (grid0.coords t) (BitVec.ofNat 32 r.val)) ![1, 512, 128] (k0_off1_inb (grid0.coords t) r)))
      (fun r => View.ld (iblk m c 2 t) (Rect.unit (s := S1x16384x128) (k0_off1 (grid0.coords t) (BitVec.ofNat 32 r.val)) ![1, 512, 128] (k0_off1_inb (grid0.coords t) r)))
      (fun r => View.ld (iblk m c 5 t) (Rect.unit (s := S8x1x128x512) (k0_off2 (grid0.coords t) (BitVec.ofNat 32 r.val)) ![1, 1, 128, 512] (k0_off2_inb (grid0.coords t) r)))
      (iblk m c 3 t)
      (iblk m c 4 t) := by
  unfold outsAt0
  frame_open
  rw [View.read_writes_junk_eq_canon]
  rw [View.canon_cons_unit_lit' (h := by decide)]
  refine Eq.trans (b := OUT (View.ld (View.read (Elt Ideal) (ms0_0 t).view ((hs0_0 t).unread (iblk m c 0 t))) (Rect.unit (s := S1x2048x128) ![0, 0, 0] ![1, 2048, 128] inb_S1x2048x128_S1x2048x128_0_0_0))
      (fun r => View.ld (View.read (Elt Ideal) (ms0_1 t).view ((hs0_1 t).unread (iblk m c 1 t))) (Rect.unit (s := S1x16384x128) (k0_off1 (grid0.coords t) (BitVec.ofNat 32 r.val)) ![1, 512, 128] (k0_off1_inb (grid0.coords t) r)))
      (fun r => View.ld (View.read (Elt Ideal) (ms0_2 t).view ((hs0_2 t).unread (iblk m c 2 t))) (Rect.unit (s := S1x16384x128) (k0_off1 (grid0.coords t) (BitVec.ofNat 32 r.val)) ![1, 512, 128] (k0_off1_inb (grid0.coords t) r)))
      (fun r => View.ld (View.read (Elt Ideal) (ms0_5 t).view ((hs0_5 t).unread (iblk m c 5 t))) (Rect.unit (s := S8x1x128x512) (k0_off2 (grid0.coords t) (BitVec.ofNat 32 r.val)) ![1, 1, 128, 512] (k0_off2_inb (grid0.coords t) r)))
      (View.ld (View.read (Elt Ideal) (ms0_3 t).view ((hs0_3 t).unread (iblk m c 3 t))) (Rect.unit (s := S1x256x128) ![0, 0, 0] ![1, 256, 128] inb_S1x256x128_S1x256x128_0_0_0))
      (View.ld (View.read (Elt Ideal) (ms0_4 t).view ((hs0_4 t).unread (iblk m c 4 t))) (Rect.unit (s := S1x256x128) ![0, 0, 0] ![1, 256, 128] inb_S1x256x128_S1x256x128_0_0_0))) ?_ ?_
  · rfl
  · simp (disch := decide) only [View.ld_unit_lit', Memref.IsWhole.read_unread]
    rfl

end Cert.NattenIdeal.Val
end
-- ==== Proof.NattenRead.lean ====
module
public import proofs.«01_k».proof.Proof.NattenRow
public import Idealize.ShloMosaic.Lib.Pointwise

@[expose] public section
set_option maxRecDepth 16384
noncomputable section
open Idealize.ShloMosaic Idealize.ShloMosaic.TcCoe Idealize.SL.Sem
namespace Cert.NattenIdeal.Val
open Cert.NattenIdeal Cert.NattenIdeal.Gen

/-- Pieces laid end to end, read at an index: the piece the row falls in, at the row's place in it. -/
theorem glue_apply {α : Type} {n : Nat} (h) (f : Fin 32 → (⟨2, ![64, n]⟩ : Shape).Idx → α) (r : Fin 32) (c : Fin 64) (l : Fin n) :
    glue ⟨2, ![2048, n]⟩ ⟨2, ![64, n]⟩ 0 h f (ix2 ⟨64 * r.val + c.val, by omega⟩ l) = f r (ix2 c l) := by
  unfold glue
  refine concatenate_ofFn_apply (t := ⟨2, ![2048, n]⟩) (s₁ := ⟨2, ![64, n]⟩) 0 f _ rfl 64 rfl _ r ?_ _ ?_ ?_
  · show (64 * r.val + c.val) / 64 = r.val
    omega
  · show c.val = (64 * r.val + c.val) % 64
    omega
  · intro b hb
    match b with
    | ⟨0, _⟩ => exact absurd rfl hb
    | ⟨1, _⟩ => rfl

/-- The scale of the queries, as the kernel multiplies by it. -/
def QS : EReal := Named.named (F := Ideal) (φ := .f32) κ "qscale" 0x3E38AA3B#32
/-- The scale of the biases, as the kernel multiplies by it. -/
def LE : EReal := Named.named (F := Ideal) (φ := .f32) κ "log2e" 0x3FB8AA3B#32

theorem QS_eq : QS = ((((1 / 8) * (Real.log 2)⁻¹ : ℝ)) : EReal) := rfl
theorem LE_eq : LE = (((Real.log 2)⁻¹ : ℝ) : EReal) := rfl
theorem mask_eq : Named.named (F := Ideal) (φ := .f32) κ "mask" 0xF149F2CA#32 = (⊥ : EReal) := rfl

theorem lt64 (l : Fin 128) : IntOp.cmpi CmpIPredicate.slt (BitVec.ofNat 32 l.val) 64#32 = if l.val < 64 then 1#1 else 0#1 := by
  revert l; decide +kernel

theorem pay9_at (q : FVec Ideal S1x2048x128 .bf16) (i : Fin 2048) (l : Fin 128) :
    k0_pay9 (F := Ideal) q (ix2 i l) = if l.val < 64 then (q (ix3 0 i l) : EReal) * QS else (0 : EReal) := by
  pointwise [k0_pay9, k0_pay5, k0_pay7, k0_pay8, lt64]
  split
  · rfl
  · rfl
theorem pay10_at (q : FVec Ideal S1x2048x128 .bf16) (i : Fin 2048) (l : Fin 128) :
    k0_pay10 (F := Ideal) q (ix2 i l) = if l.val < 64 then (0 : EReal) else (q (ix3 0 i l) : EReal) * QS := by
  pointwise [k0_pay10, k0_pay5, k0_pay7, k0_pay8, lt64]
  split
  · rfl
  · rfl

/-- Lane `d` of head `a` of a pair. -/
abbrev lane (a : Fin 2) (d : Fin 64) : Fin 128 := ⟨64 * a.val + d.val, by omega⟩
/-- Row `r`, column `c` of a block. -/
abbrev qrow (r : Fin 32) (c : Fin 64) : Fin 2048 := ⟨64 * r.val + c.val, by omega⟩

/-- The first column of the window of column `c`. -/
abbrev cs (c : Nat) : Nat := min 48 (c - 8)

theorem and63 (n : Nat) : IntOp.andi (BitVec.ofNat 32 n) 63#32 = BitVec.ofNat 32 (n % 64) := by
  apply BitVec.eq_of_toNat_eq
  show (BitVec.ofNat 32 n &&& 63#32).toNat = _
  rw [BitVec.toNat_and, BitVec.toNat_ofNat, BitVec.toNat_ofNat]
  rw [show 63 % 2 ^ 32 = 2 ^ 6 - 1 from rfl, Nat.and_two_pow_sub_one_eq_mod, BitVec.toNat_ofNat]
  omega

theorem colmask (c k : Fin 64) :
    (IntOp.andi
      (IntOp.cmpi CmpIPredicate.sge (BitVec.ofNat 32 k.val)
        (IntOp.minsi (48#32) (IntOp.maxsi (0#32) (IntOp.subi (BitVec.ofNat 32 c.val) 8#32))))
      (IntOp.cmpi CmpIPredicate.slt (BitVec.ofNat 32 k.val)
        (IntOp.addi (IntOp.minsi (48#32) (IntOp.maxsi (0#32) (IntOp.subi (BitVec.ofNat 32 c.val) 8#32))) 16#32)))
      = if cs c.val ≤ k.val ∧ k.val < cs c.val + 16 then 1#1 else 0#1 := by
  revert c k; decide +kernel

/-- A row's scaled score: the query's head against the key's, and the bias where the key's column is in the window. -/
def scoreS (q : FVec Ideal S1x2048x128 .bf16) (K : FVec Ideal S1x512x128 .bf16) (B : FVec Ideal S1x1x128x512 .f32)
    (r : Fin 32) (c : Fin 64) (a : Fin 2) (k : Fin 512) : EReal :=
  (∑ d : Fin 64, ((q (ix3 0 (qrow r c) (lane a d)) : EReal) * QS) * (K (ix3 0 k (lane a d)) : EReal))
    + if cs c.val ≤ k.val % 64 ∧ k.val % 64 < cs c.val + 16 then (B (ix4 0 0 (lane a c) k) : EReal) * LE else ⊥

/-- A row's scaled score against a context key. -/
def scoreC (q : FVec Ideal S1x2048x128 .bf16) (kc : FVec Ideal S1x256x128 .bf16)
    (r : Fin 32) (c : Fin 64) (a : Fin 2) (k : Fin 256) : EReal :=
  ∑ d : Fin 64, ((q (ix3 0 (qrow r c) (lane a d)) : EReal) * QS) * (kc (ix3 0 k (lane a d)) : EReal)

theorem rowS_at (q : FVec Ideal S1x2048x128 .bf16) (K : FVec Ideal S1x512x128 .bf16) (B : FVec Ideal S1x1x128x512 .f32)
    (r : Fin 32) (c : Fin 64) (a : Fin 2) (k : Fin 512) : rowS q K B r (ix2 (lane a c) k) = scoreS q K B r c a k := by
  have hm := colmask c ⟨k.val % 64, by omega⟩
  unfold scoreS
  generalize hcc : lane a c = cc
  have h64 : cc.val % 64 = c.val := by rw [← hcc]; show (64 * a.val + c.val) % 64 = _; omega
  pointwise [rowS, k0_pay17, k0_pay13, k0_pay15, k0_pay14, k0_pay16, and63, pay9_at, pay10_at]
  rw [h64]
  dsimp only at hm
  rw [hm]
  refine Ideal.add_congr ?_ ?_
  · match a with
    | 0 =>
      have hv : cc.val = 64 * 0 + c.val := by rw [← hcc]; rfl
      have hlt : cc.val < 64 := by omega
      simp only [dif_pos hlt]
      refine (congrArg₂ (· + ·) rfl (Finset.sum_eq_zero fun x _ => zero_mul _)).trans
        ((add_zero _).trans (Finset.sum_congr rfl fun d _ => ?_))
      exact congrArg₂ (fun i l => (q (ix3 0 i l) : EReal) * QS * (K (ix3 0 k l) : EReal))
        (Fin.ext (by show 64 * r.val + cc.val = 64 * r.val + c.val; omega)) (Fin.ext (by show d.val = 64 * 0 + d.val; omega))
    | 1 =>
      have hv : cc.val = 64 * 1 + c.val := by rw [← hcc]; rfl
      have hlt : ¬ cc.val < 64 := by omega
      simp only [dif_neg hlt]
      refine (congrArg₂ (· + ·) (Finset.sum_eq_zero fun x _ => zero_mul _) rfl).trans
        ((zero_add _).trans (Finset.sum_congr rfl fun d _ => ?_))
      exact congrArg₂ (fun i l => (q (ix3 0 i l) : EReal) * QS * (K (ix3 0 k l) : EReal))
        (Fin.ext (by show 64 * r.val + (cc.val - 64) = 64 * r.val + c.val; omega)) (Fin.ext rfl)
  · split <;> rfl

theorem rowC_at (q : FVec Ideal S1x2048x128 .bf16) (K : FVec Ideal S1x256x128 .bf16)
    (r : Fin 32) (c : Fin 64) (a : Fin 2) (k : Fin 256) : rowC q K r (ix2 (lane a c) k) = scoreC q K r c a k := by
  unfold scoreC
  generalize hcc : lane a c = cc
  pointwise [rowC, k0_pay11, k0_pay12, k0_pay3, pay9_at, pay10_at]
  match a with
  | 0 =>
    have hv : cc.val = 64 * 0 + c.val := by rw [← hcc]; rfl
    have hlt : cc.val < 64 := by omega
    simp only [dif_pos hlt]
    refine (congrArg₂ (· + ·) rfl (Finset.sum_eq_zero fun x _ => zero_mul _)).trans
      ((add_zero _).trans (Finset.sum_congr rfl fun d _ => ?_))
    exact congrArg₂ (fun i l => (q (ix3 0 i l) : EReal) * QS * (K (ix3 0 k l) : EReal))
      (Fin.ext (by show 64 * r.val + cc.val = 64 * r.val + c.val; omega)) (Fin.ext (by show d.val = 64 * 0 + d.val; omega))
  | 1 =>
    have hv : cc.val = 64 * 1 + c.val := by rw [← hcc]; rfl
    have hlt : ¬ cc.val < 64 := by omega
    simp only [dif_neg hlt]
    refine (congrArg₂ (· + ·) (Finset.sum_eq_zero fun x _ => zero_mul _) rfl).trans
      ((zero_add _).trans (Finset.sum_congr rfl fun d _ => ?_))
    exact congrArg₂ (fun i l => (q (ix3 0 i l) : EReal) * QS * (K (ix3 0 k l) : EReal))
      (Fin.ext (by show 64 * r.val + (cc.val - 64) = 64 * r.val + c.val; omega)) (Fin.ext rfl)

theorem negInf : Ideal.ofBits FTy.f32 4286578688#32 = (⊥ : EReal) := rfl

/-- The greatest of a query's scores. -/
def top (s : Fin 512 → EReal) (sc : Fin 256 → EReal) : EReal :=
  max (Finset.univ.fold max ⊥ s) (Finset.univ.fold max ⊥ sc)

theorem rowP_at (s : FVec Ideal S128x512 .f32) (sc : FVec Ideal S128x256 .f32) (c : Fin 128) (k : Fin 512) :
    rowP s sc (ix2 c k) = Ideal.exp2 ((s (ix2 c k) : EReal) - top (fun k => s (ix2 c k)) fun k => sc (ix2 c k)) := by
  pointwise [rowP, rowM, negInf, top]
  rfl
theorem rowPC_at (s : FVec Ideal S128x512 .f32) (sc : FVec Ideal S128x256 .f32) (c : Fin 128) (k : Fin 256) :
    rowPC s sc (ix2 c k) = Ideal.exp2 ((sc (ix2 c k) : EReal) - top (fun k => s (ix2 c k)) fun k => sc (ix2 c k)) := by
  pointwise [rowPC, rowM, negInf, top]
  rfl
theorem rowD_at (s : FVec Ideal S128x512 .f32) (sc : FVec Ideal S128x256 .f32) (c : Fin 128) (u : Fin 1) :
    rowD s sc (ix2 c u) = Ideal.div 1
      (∑ k, Ideal.exp2 ((s (ix2 c k) : EReal) - top (fun k => s (ix2 c k)) fun k => sc (ix2 c k))
        + ∑ k, Ideal.exp2 ((sc (ix2 c k) : EReal) - top (fun k => s (ix2 c k)) fun k => sc (ix2 c k))) := by
  pointwise [rowD, rowP_at, rowPC_at]
theorem sel_lo (d : Fin 64) : ∀ x y : EReal, Scalar.select (IntOp.cmpi CmpIPredicate.slt (BitVec.ofNat 32 (64 * (0 : Fin 2).val + d.val)) 64#32) x y = x := by
  intro x y
  rw [show IntOp.cmpi CmpIPredicate.slt (BitVec.ofNat 32 (64 * (0 : Fin 2).val + d.val)) 64#32 = 1#1 by revert d; decide +kernel]
  rfl
theorem sel_hi (d : Fin 64) : ∀ x y : EReal, Scalar.select (IntOp.cmpi CmpIPredicate.slt (BitVec.ofNat 32 (64 * (1 : Fin 2).val + d.val)) 64#32) x y = y := by
  intro x y
  rw [show IntOp.cmpi CmpIPredicate.slt (BitVec.ofNat 32 (64 * (1 : Fin 2).val + d.val)) 64#32 = 0#1 by revert d; decide +kernel]
  rfl
theorem rowO_at (s : FVec Ideal S128x512 .f32) (sc : FVec Ideal S128x256 .f32) (V : FVec Ideal S1x512x128 .bf16)
    (c : Fin 64) (a : Fin 2) (d : Fin 64) : rowO s sc V (ix2 c (lane a d))
      = ∑ k, Ideal.exp2 ((s (ix2 (lane a c) k) : EReal) - top (fun k => s (ix2 (lane a c) k)) fun k => sc (ix2 (lane a c) k))
          * (V (ix3 0 k (lane a d)) : EReal) := by
  pointwise [rowO, rowPV, rowP_at, k0_pay6]
  match a with
  | 0 =>
    rw [sel_lo d]
    exact Finset.sum_congr rfl fun k _ => by
      rw [show (⟨c.val, by omega⟩ : Fin 128) = lane 0 c from Fin.ext (by show c.val = 64 * 0 + c.val; omega)]
  | 1 =>
    rw [sel_hi d]
    rfl

/-- What the kernel computes at row `64 r + c`, head `a`, lane `d` of its block. -/
def outAt (q : FVec Ideal S1x2048x128 .bf16) (K V : Fin 32 → FVec Ideal S1x512x128 .bf16) (B : Fin 32 → FVec Ideal S1x1x128x512 .f32)
    (kc vc : FVec Ideal S1x256x128 .bf16) (r : Fin 32) (c : Fin 64) (a : Fin 2) (d : Fin 64) : EReal :=
  (∑ k, Ideal.exp2 (scoreS q (K r) (B r) r c a k - top (scoreS q (K r) (B r) r c a) (scoreC q kc r c a)) * (V r (ix3 0 k (lane a d)) : EReal)
    + ∑ k, Ideal.exp2 (scoreC q kc r c a k - top (scoreS q (K r) (B r) r c a) (scoreC q kc r c a)) * (vc (ix3 0 k (lane a d)) : EReal))
  * Ideal.div 1
      (∑ k, Ideal.exp2 (scoreS q (K r) (B r) r c a k - top (scoreS q (K r) (B r) r c a) (scoreC q kc r c a))
        + ∑ k, Ideal.exp2 (scoreC q kc r c a k - top (scoreS q (K r) (B r) r c a) (scoreC q kc r c a)))

theorem glue_o (h) (f : Fin 32 → FVec Ideal S64x128 .f32) (r : Fin 32) (c : Fin 64) (l : Fin 128) :
    glue S2048x128 S64x128 0 h f (ix2 (qrow r c) l) = f r (ix2 c l) := glue_apply _ f r c l
theorem glue_d_lo (h) (f : Fin 32 → FVec Ideal S128x1 .f32) (r : Fin 32) (c : Fin 64) :
    glue S2048x1 S64x1 0 h (fun r => extractStridedSlice S64x1 ![0, 0] (f r) slices_S128x1_o0_0_S64x1) (ix2 (qrow r c) 0)
      = f r (ix2 (lane 0 c) 0) := by
  refine (glue_apply _ _ r c 0).trans ?_
  pointwise
  exact congrArg (fun i => f r (ix2 i 0)) (Fin.ext (by show c.val = 64 * 0 + c.val; omega))
theorem glue_d_hi (h) (f : Fin 32 → FVec Ideal S128x1 .f32) (r : Fin 32) (c : Fin 64) :
    glue S2048x1 S64x1 0 h (fun r => extractStridedSlice S64x1 ![64, 0] (f r) slices_S128x1_o64_0_S64x1) (ix2 (qrow r c) 0)
      = f r (ix2 (lane 1 c) 0) := by
  refine (glue_apply _ _ r c 0).trans ?_
  pointwise
  rfl
theorem glue_c_lo (h) (f : Fin 32 → FVec Ideal S128x256 .f32) (r : Fin 32) (c : Fin 64) (x : Fin 256) :
    glue S2048x256 S64x256 0 h (fun r => extractStridedSlice S64x256 ![0, 0] (truncf .bf16 (f r) bitsLt_bf16_f32) slices_S128x256_o0_0_S64x256)
      (ix2 (qrow r c) x) = f r (ix2 (lane 0 c) x) := by
  refine (glue_apply _ _ r c x).trans ?_
  pointwise
  exact congrArg (fun i => f r (ix2 i x)) (Fin.ext (by show c.val = 64 * 0 + c.val; omega))
theorem glue_c_hi (h) (f : Fin 32 → FVec Ideal S128x256 .f32) (r : Fin 32) (c : Fin 64) (x : Fin 256) :
    glue S2048x256 S64x256 0 h (fun r => extractStridedSlice S64x256 ![64, 0] (truncf .bf16 (f r) bitsLt_bf16_f32) slices_S128x256_o64_0_S64x256)
      (ix2 (qrow r c) x) = f r (ix2 (lane 1 c) x) := by
  refine (glue_apply _ _ r c x).trans ?_
  pointwise
  rfl

theorem OUT_at (q : FVec Ideal S1x2048x128 .bf16) (K V : Fin 32 → FVec Ideal S1x512x128 .bf16) (B : Fin 32 → FVec Ideal S1x1x128x512 .f32)
    (kc vc : FVec Ideal S1x256x128 .bf16) (r : Fin 32) (c : Fin 64) (a : Fin 2) (d : Fin 64) :
    OUT q K V B kc vc (ix3 0 (qrow r c) (lane a d)) = outAt q K V B kc vc r c a d := by
  unfold outAt
  have eS : scoreS q (K r) (B r) r c a = fun k => rowS q (K r) (B r) r (ix2 (lane a c) k) := funext fun k => (rowS_at ..).symm
  have eC : scoreC q kc r c a = fun k => rowC q kc r (ix2 (lane a c) k) := funext fun k => (rowC_at ..).symm
  rw [eS, eC]
  pointwise [OUT, k0_pay2, k0_pay1, k0_pay5, k0_pay4]
  rw [glue_o, rowO_at]
  match a with
  | 0 =>
    rw [sel_lo d, sel_lo d]
    refine congrArg₂ (· * ·) (Ideal.add_congr rfl (Finset.sum_congr rfl fun x _ => congrArg₂ (· * ·) ?_ rfl)) ?_
    · exact (glue_c_lo _ _ r c x).trans (rowPC_at _ _ _ _)
    · exact (glue_d_lo _ _ r c).trans (rowD_at _ _ _ _)
  | 1 =>
    rw [sel_hi d, sel_hi d]
    refine congrArg₂ (· * ·) (Ideal.add_congr rfl (Finset.sum_congr rfl fun x _ => congrArg₂ (· * ·) ?_ rfl)) ?_
    · exact (glue_c_hi _ _ r c x).trans (rowPC_at _ _ _ _)
    · exact (glue_d_hi _ _ r c).trans (rowD_at _ _ _ _)
end Cert.NattenIdeal.Val
end
-- ==== Proof.NattenArray.lean ====
module
public import proofs.«01_k».proof.Proof.NattenRead
public import proofs.«01_k».proof.Proof.Gen.NattenIdeal.Value
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.NattenIdeal.Val
open Cert.NattenIdeal Cert.NattenIdeal.Gen
variable (m : (ℓ : Loc nD τ sig) → Buf (Elt Ideal) ℓ)

theorem idx0 : ∀ t : Fin grid0.N, win0_0.index t = ![t.val / 32, t.val % 8, t.val / 8 % 4] := by decide +kernel
theorem idx1 : ∀ t : Fin grid0.N, win0_1.index t = ![t.val / 32, 0, 4 + t.val / 8 % 4] := by decide +kernel
theorem idx2 : ∀ t : Fin grid0.N, win0_2.index t = ![t.val / 32, 0, 8 + t.val / 8 % 4] := by decide +kernel
theorem idx3 : ∀ t : Fin grid0.N, win0_3.index t = ![t.val / 32, 0, 4 + t.val / 8 % 4] := by decide +kernel
theorem idx4 : ∀ t : Fin grid0.N, win0_4.index t = ![t.val / 32, 0, 8 + t.val / 8 % 4] := by decide +kernel
theorem idx5 : ∀ t : Fin grid0.N, win0_5.index t = ![0, t.val / 8 % 4, 0, 0] := by decide +kernel
theorem idx6 : ∀ t : Fin grid0.N, win0_6.index t = ![t.val / 32, t.val % 8, t.val / 8 % 4] := by decide +kernel
theorem emb6 (t : Fin cfg0.N) (i : Fin 2048) (l : Fin 128) (h1 h2 h3) :
    (ix3 ⟨t.val / 32, h1⟩ ⟨2048 * (t.val % 8) + i.val, h2⟩ ⟨128 * (t.val / 8 % 4) + l.val, h3⟩ : S2x16384x512.Idx)
      = (win0_6.blk t).view.emb (ix3 0 i l) := by
  blk_ext [idx6 t]
theorem cell (c0 : Dev nD) (t : Fin cfg0.N) (r : Fin 32) (c : Fin 64) (a : Fin 2) (d : Fin 64) :
    (dats m 0 c0).arrAt 6 cfg0.N (ix3 ⟨t.val / 32, Nat.div_lt_of_lt_mul t.isLt⟩ ⟨2048 * (t.val % 8) + (64 * r.val + c.val), by omega⟩
      ⟨128 * (t.val / 8 % 4) + (64 * a.val + d.val), by omega⟩) = outsAt0 m c0 t (ix3 0 (qrow r c) (lane a d)) := by
  have h := congrFun (Value.blocks6 m c0 t (by revert t; decide +kernel)) (ix3 0 (qrow r c) (lane a d))
  rw [Value.flushed6] at h
  have e : ((cfg0.win 6).cut (grid0.coords t) (outsAt0 m c0 t)) (ix3 0 (qrow r c) (lane a d)) = outsAt0 m c0 t (ix3 0 (qrow r c) (lane a d)) := rfl
  rw [e] at h
  refine Eq.trans ?_ h
  exact congrArg ((dats m 0 c0).arrAt 6 cfg0.N) (emb6 t (qrow r c) (lane a d) _ _ _)

theorem off1 : ∀ (t : Fin grid0.N) (r : Fin 32), k0_off1 (grid0.coords t) (BitVec.ofNat 32 r.val) = ![0, 64 * min 248 (32 * (t.val % 8) + r.val - 4), 0] := by
  decide +kernel
theorem off2 : ∀ (t : Fin grid0.N) (r : Fin 32), k0_off2 (grid0.coords t) (BitVec.ofNat 32 r.val) = ![min 248 (32 * (t.val % 8) + r.val - 4) + 7 - (32 * (t.val % 8) + r.val), 0, 0, 0] := by
  decide +kernel
theorem q_at (c0 : Dev nD) (t : Fin cfg0.N) (i : Fin 2048) (l : Fin 128) (h1 h2 h3) :
    iblk m c0 0 t (ix3 0 i l) = m ((c0.tc : Thread nD τ).loc main_arg0) (ix3 ⟨t.val / 32, h1⟩ ⟨2048 * (t.val % 8) + i, h2⟩ ⟨128 * (t.val / 8 % 4) + l, h3⟩) := by
  blk_ext [iblk, V, idx0 t]

theorem ld_rows (X : Vec Ideal S1x16384x128 .bf16) (off : Fin 3 → Nat) (o : Nat) (h : off = ![0, o, 0]) (hin) (i : Fin 512) (l : Fin 128) (h1) :
    View.ld X (Rect.unit (s := S1x16384x128) off ![1, 512, 128] hin) (ix3 0 i l) = X (ix3 0 ⟨o + i.val, h1⟩ l) := by
  subst h
  exact View.ld_unit_apply_of X _ _ _ _ _ fun a => by
    match a with
    | ⟨0, _⟩ => rfl
    | ⟨1, _⟩ => rfl
    | ⟨2, _⟩ => exact (Nat.zero_add _).symm
theorem ld_bias (X : Vec Ideal S8x1x128x512 .f32) (off : Fin 4 → Nat) (o : Nat) (h : off = ![o, 0, 0, 0]) (hin) (i : Fin 128) (l : Fin 512) (h1) :
    View.ld X (Rect.unit (s := S8x1x128x512) off ![1, 1, 128, 512] hin) (ix4 0 0 i l) = X (ix4 ⟨o, h1⟩ 0 i l) := by
  subst h
  exact View.ld_unit_apply_of X _ _ _ _ _ fun a => by
    match a with
    | ⟨0, _⟩ => rfl
    | ⟨1, _⟩ => rfl
    | ⟨2, _⟩ => exact (Nat.zero_add _).symm
    | ⟨3, _⟩ => exact (Nat.zero_add _).symm

theorem keys_at (c0 : Dev nD) (t : Fin cfg0.N) (i : Fin 16384) (l : Fin 128) (h1 h3) :
    iblk m c0 1 t (ix3 0 i l) = m ((c0.tc : Thread nD τ).loc main_arg0) (ix3 ⟨t.val / 32, h1⟩ i ⟨512 + 128 * (t.val / 8 % 4) + l.val, h3⟩) := by
  blk_ext [iblk, V, idx1 t]
theorem vals_at (c0 : Dev nD) (t : Fin cfg0.N) (i : Fin 16384) (l : Fin 128) (h1 h3) :
    iblk m c0 2 t (ix3 0 i l) = m ((c0.tc : Thread nD τ).loc main_arg0) (ix3 ⟨t.val / 32, h1⟩ i ⟨1024 + 128 * (t.val / 8 % 4) + l.val, h3⟩) := by
  blk_ext [iblk, V, idx2 t]
theorem ckeys_at (c0 : Dev nD) (t : Fin cfg0.N) (i : Fin 256) (l : Fin 128) (h1 h3) :
    iblk m c0 3 t (ix3 0 i l) = m ((c0.tc : Thread nD τ).loc main_arg1) (ix3 ⟨t.val / 32, h1⟩ i ⟨512 + 128 * (t.val / 8 % 4) + l.val, h3⟩) := by
  blk_ext [iblk, V, idx3 t]
theorem cvals_at (c0 : Dev nD) (t : Fin cfg0.N) (i : Fin 256) (l : Fin 128) (h1 h3) :
    iblk m c0 4 t (ix3 0 i l) = m ((c0.tc : Thread nD τ).loc main_arg1) (ix3 ⟨t.val / 32, h1⟩ i ⟨1024 + 128 * (t.val / 8 % 4) + l.val, h3⟩) := by
  blk_ext [iblk, V, idx4 t]
theorem bias_blk (c0 : Dev nD) (t : Fin cfg0.N) (o : Fin 8) (i : Fin 128) (l : Fin 512) (h2) :
    iblk m c0 5 t (ix4 o 0 i l) = (V m c0 main_v25 : S8x4x128x512.Idx → EReal) (ix4 o ⟨(t.val / 8 % 4) , h2⟩ i l) := by
  unfold iblk
  blk_simp
  show (V m c0 main_v25 : S8x4x128x512.Idx → EReal) _ = _
  blk_ext [idx5 t]
end Cert.NattenIdeal.Val
end
-- ==== Proof.NattenBias.lean ====
module
public import proofs.«01_k».proof.Proof.NattenRead
public import proofs.«01_k».proof.Proof.Gen.NattenIdeal.Value
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.NattenIdeal.Val
open Cert.NattenIdeal Cert.NattenIdeal.Gen
variable (m : (ℓ : Loc nD τ sig) → Buf (Elt Ideal) ℓ)

/-- The host operations before the slices. -/
abbrev opsA : List (HloOp τ sig (Elt Ideal)) := hostOps0_2.take 6
/-- The slices. -/
abbrev opsB : List (HloOp τ sig (Elt Ideal)) := (hostOps0_2.drop 6).take 16
/-- The joining. -/
abbrev opsC : List (HloOp τ sig (Elt Ideal)) := (hostOps0_2.drop 22).take 1
/-- The last two. -/
abbrev opsD : List (HloOp τ sig (Elt Ideal)) := hostOps0_2.drop 23

/-- What a buffer holds when the kernel starts, the host operations taken in parts. -/
theorem V_parts (c0 : Dev nD) (b) : V m c0 b = StableHlo.after opsD (StableHlo.after opsC (StableHlo.after opsB (StableHlo.after opsA
    (StableHlo.after hostOps0_1 (StableHlo.after hostOps0 fun b => m (c0, b)))))) (Proc.tc.devRef b) := by
  rfl

/-- The last two operations lay the joined rows out as the kernel reads them. -/
theorem partD (σ : Valuation τ sig (Elt Ideal)) : StableHlo.after opsD σ (Proc.tc.devRef main_v25)
    = shapeCast S8x4x128x512 (transpose S8x8x64x8x64 [0, 1, 3, 2, 4] (σ (Proc.tc.devRef main_v23) : S8x8x8x64x64.Idx → EReal) transposes_S8x8x8x64x64_S8x8x64x8x64_0_1_3_2_4) shapeCasts_S8x8x64x8x64_S8x4x128x512 := by
  show StableHlo.after [_, _] σ _ = _
  entry_read
  rfl
/-- The joining of the eight slices. -/
theorem partC (σ : Valuation τ sig (Elt Ideal)) : StableHlo.after opsC σ (Proc.tc.devRef main_v23)
    = concatenate S8x8x8x64x64 0
              [⟨S1x8x8x64x64, σ (Proc.tc.devRef main_v15)⟩, ⟨S1x8x8x64x64, σ (Proc.tc.devRef main_v16)⟩, ⟨S1x8x8x64x64, σ (Proc.tc.devRef main_v17)⟩, ⟨S1x8x8x64x64, σ (Proc.tc.devRef main_v18)⟩, ⟨S1x8x8x64x64, σ (Proc.tc.devRef main_v19)⟩,
                ⟨S1x8x8x64x64, σ (Proc.tc.devRef main_v20)⟩, ⟨S1x8x8x64x64, σ (Proc.tc.devRef main_v21)⟩, ⟨S1x8x8x64x64, σ (Proc.tc.devRef main_v22)⟩]
              concatenates_S1x8x8x64x64_S1x8x8x64x64_S1x8x8x64x64_S1x8x8x64x64_S1x8x8x64x64_S1x8x8x64x64_S1x8x8x64x64_S1x8x8x64x64_S8x8x8x64x64_d0 := by
  show StableHlo.after [_] σ _ = _
  simp only [StableHlo.after_cons, StableHlo.after_nil]
  rw [StableHlo.nary_result']
  rfl
/-- Eight consecutive rows of biases, from row `o`. -/
def rows8 (T : S8x15x64x64.Idx → EReal) (o : Nat) (h : S8x15x64x64.Slices ![0, o, 0, 0] S8x8x64x64) : S1x8x8x64x64.Idx → EReal :=
  broadcastInDim S1x8x8x64x64 ![1, 2, 3, 4] bcast_S8x8x64x64_S1x8x8x64x64_1_2_3_4 (extractStridedSlice S8x8x64x64 ![0, o, 0, 0] T h)

/-- The slices: rows `o` to `o + 8` for each `o`. -/
theorem partB (σ : Valuation τ sig (Elt Ideal)) (T : S8x15x64x64.Idx → EReal) (hT : T = σ (Proc.tc.devRef main_v6)) :
    StableHlo.after opsB σ (Proc.tc.devRef main_v15) = rows8 T 0 slices_S8x15x64x64_S8x8x64x64_0_0_0_0
    ∧ StableHlo.after opsB σ (Proc.tc.devRef main_v16) = rows8 T 1 slices_S8x15x64x64_S8x8x64x64_0_1_0_0
    ∧ StableHlo.after opsB σ (Proc.tc.devRef main_v17) = rows8 T 2 slices_S8x15x64x64_S8x8x64x64_0_2_0_0
    ∧ StableHlo.after opsB σ (Proc.tc.devRef main_v18) = rows8 T 3 slices_S8x15x64x64_S8x8x64x64_0_3_0_0
    ∧ StableHlo.after opsB σ (Proc.tc.devRef main_v19) = rows8 T 4 slices_S8x15x64x64_S8x8x64x64_0_4_0_0
    ∧ StableHlo.after opsB σ (Proc.tc.devRef main_v20) = rows8 T 5 slices_S8x15x64x64_S8x8x64x64_0_5_0_0
    ∧ StableHlo.after opsB σ (Proc.tc.devRef main_v21) = rows8 T 6 slices_S8x15x64x64_S8x8x64x64_0_6_0_0
    ∧ StableHlo.after opsB σ (Proc.tc.devRef main_v22) = rows8 T 7 slices_S8x15x64x64_S8x8x64x64_0_7_0_0 := by
  subst hT
  refine ⟨?_, ?_, ?_, ?_, ?_, ?_, ?_, ?_⟩ <;>
  · show StableHlo.after [_, _, _, _, _, _, _, _, _, _, _, _, _, _, _, _] σ _ = _
    entry_read
    rfl
/-- The rolled table the slices are taken from. -/
theorem partA (σ : Valuation τ sig (Elt Ideal)) : StableHlo.after opsA σ (Proc.tc.devRef main_v6)
    = extractStridedSlice S8x15x64x64 ![0, 0, 0, 15] (shapeCast S8x15x64x94 (extractStridedSlice S8x15x6016 ![0, 0, 0]
       (shapeCast S8x15x6080 (broadcastInDim S1x8x1x15x64x95 ![0, 1, 2, 3, 4, 5] bcast_S1x8x1x15x1x95_S1x8x1x15x64x95_0_1_2_3_4_5
         (shapeCast S1x8x1x15x1x95 (σ (Proc.tc.devRef main_v0) : S8x15x95.Idx → EReal) shapeCasts_S8x15x95_S1x8x1x15x1x95)) shapeCasts_S1x8x1x15x64x95_S8x15x6080)
        slices_S8x15x6080_S8x15x6016_0_0_0) shapeCasts_S8x15x6016_S8x15x64x94) slices_S8x15x64x94_S8x15x64x64_0_0_0_15 := by
  show StableHlo.after [_, _, _, _, _, _] σ _ = _
  entry_read
  rfl
/-- The biases with 64 zeros after each row. -/
theorem part0 (σ : Valuation τ sig (Elt Ideal)) : StableHlo.after hostOps0_1 σ (Proc.tc.devRef main_v0)
    = pad S8x15x95 ![0, 0, 0] ![0, 0, 64] ![0, 0, 0] (σ (Proc.tc.devRef main_arg2) : S8x15x31.Idx → EReal) (sitofp (F := Ideal) FTy.f32 (σ (Proc.tc.devRef main_c) : IVec S_ 32)) pads_S8x15x31_S8x15x95_000_000_0640 h_S_ := by
  show StableHlo.after [_, _] σ _ = _
  entry_read
  rfl

/-- The table read at row offset `o`, head `2 hp + a`, query column `c`, window row `i` and key column `j`. -/
theorem table_at (T : S8x15x64x64.Idx → EReal) (o : Fin 8) (hp : Fin 4) (a : Fin 2) (c : Fin 64) (i : Fin 8) (j : Fin 64) (h1 h2 h3 h4) :
    shapeCast S8x4x128x512 (transpose S8x8x64x8x64 [0, 1, 3, 2, 4] (concatenate S8x8x8x64x64 0
        [⟨S1x8x8x64x64, rows8 T 0 slices_S8x15x64x64_S8x8x64x64_0_0_0_0⟩,
         ⟨S1x8x8x64x64, rows8 T 1 slices_S8x15x64x64_S8x8x64x64_0_1_0_0⟩,
         ⟨S1x8x8x64x64, rows8 T 2 slices_S8x15x64x64_S8x8x64x64_0_2_0_0⟩,
         ⟨S1x8x8x64x64, rows8 T 3 slices_S8x15x64x64_S8x8x64x64_0_3_0_0⟩,
         ⟨S1x8x8x64x64, rows8 T 4 slices_S8x15x64x64_S8x8x64x64_0_4_0_0⟩,
         ⟨S1x8x8x64x64, rows8 T 5 slices_S8x15x64x64_S8x8x64x64_0_5_0_0⟩,
         ⟨S1x8x8x64x64, rows8 T 6 slices_S8x15x64x64_S8x8x64x64_0_6_0_0⟩,
         ⟨S1x8x8x64x64, rows8 T 7 slices_S8x15x64x64_S8x8x64x64_0_7_0_0⟩]
              concatenates_S1x8x8x64x64_S1x8x8x64x64_S1x8x8x64x64_S1x8x8x64x64_S1x8x8x64x64_S1x8x8x64x64_S1x8x8x64x64_S1x8x8x64x64_S8x8x8x64x64_d0)
       transposes_S8x8x8x64x64_S8x8x64x8x64_0_1_3_2_4) shapeCasts_S8x8x64x8x64_S8x4x128x512
       (ix4 o hp ⟨64 * a.val + c.val, h1⟩ ⟨64 * i.val + j.val, h2⟩) = T (ix4 ⟨2 * hp.val + a.val, h3⟩ ⟨o.val + i.val, h4⟩ c j) := by
  pointwise [rows8]
  have ho := o.isLt
  repeat' split
  all_goals
    refine congrArg₂ (fun p q => T (ix4 p q c j)) (Fin.ext ?_) (Fin.ext ?_) <;> dsimp only <;> omega
/-- The rolled table holds, at query column `c` and key column `j`, the bias of column difference `j - c`. -/
theorem roll_at (R : S8x15x31.Idx → EReal) (u) (h : Fin 8) (di : Fin 15) (c j : Fin 64) (hk : c.val ≤ 15 + j.val ∧ 15 + j.val - c.val < 31) :
  extractStridedSlice S8x15x64x64 ![0, 0, 0, 15] (shapeCast S8x15x64x94 (extractStridedSlice S8x15x6016 ![0, 0, 0]
       (shapeCast S8x15x6080 (broadcastInDim S1x8x1x15x64x95 ![0, 1, 2, 3, 4, 5] bcast_S1x8x1x15x1x95_S1x8x1x15x64x95_0_1_2_3_4_5
         (shapeCast S1x8x1x15x1x95 (pad S8x15x95 ![0, 0, 0] ![0, 0, 64] ![0, 0, 0] R u pads_S8x15x31_S8x15x95_000_000_0640 h_S_) shapeCasts_S8x15x95_S1x8x1x15x1x95)) shapeCasts_S1x8x1x15x64x95_S8x15x6080)
        slices_S8x15x6080_S8x15x6016_0_0_0) shapeCasts_S8x15x6016_S8x15x64x94) slices_S8x15x64x94_S8x15x64x64_0_0_0_15 (ix4 h di c j)
     = R (ix3 h di ⟨15 + j.val - c.val, hk.2⟩) := by
  pointwise
  have e : (c.val * 94 + (15 + j.val)) % 95 = 15 + j.val - c.val := by omega
  rw [dif_pos (by omega)]
  exact congrArg (fun p => R (ix3 h di p)) (Fin.ext e)

/-- The bias a window's key gets, where the key's column is within 15 of the query's. -/
theorem bias_at (c0 : Dev nD) (o : Fin 8) (hp : Fin 4) (a : Fin 2) (c : Fin 64) (i : Fin 8) (j : Fin 64)
    (hk : c.val ≤ 15 + j.val ∧ 15 + j.val - c.val < 31) (h1 h2 h3 h4) :
    (V m c0 main_v25 : S8x4x128x512.Idx → EReal) (ix4 o hp ⟨64 * a.val + c.val, h1⟩ ⟨64 * i.val + j.val, h2⟩)
      = (m ((c0.tc : Thread nD τ).loc main_arg2) : S8x15x31.Idx → EReal) (ix3 ⟨2 * hp.val + a.val, h3⟩ ⟨o.val + i.val, h4⟩ ⟨15 + j.val - c.val, hk.2⟩) := by
  rw [V_parts, partD, partC]
  obtain ⟨e0, e1, e2, e3, e4, e5, e6, e7⟩ := partB (StableHlo.after opsA (StableHlo.after hostOps0_1 (StableHlo.after hostOps0 fun b => m (c0, b)))) _ rfl
  rw [e0, e1, e2, e3, e4, e5, e6, e7, partA, part0]
  exact (table_at _ o hp a c i j h1 h2 h3 h4).trans (roll_at _ _ _ _ c j hk)
end Cert.NattenIdeal.Val
end
-- ==== Proof.Softmax.lean ====
module
public import Idealize.ShloMosaic.Lib.Pointwise

/-!
# A softmax over two groups of scores

`attn x y v w` is the sum of the values `v` and `w`, weighted by the softmax of the scores `x` and `y` taken together.
Two other computations give the same: one whose scores are kept in base two, that divides last, and one that divides
each weight.  Both run over a larger set of places, in which the places without a score hold `-∞`.
-/
@[expose] public section
noncomputable section
open Idealize.ShloMosaic
namespace Attn

/-- A finite sum of reals is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A factor that is neither negative nor infinite may be taken out of a sum. -/
theorem mul_sum_of_nonneg {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s h ih =>
    rw [Finset.sum_insert h, Finset.sum_insert h,
      EReal.right_distrib_of_nonneg_of_ne_top (by exact_mod_cast hr) (EReal.coe_ne_top r), ih]

/-- The greatest of a family that is `-∞` off the places `φ` names is the greatest over those places. -/
theorem fold_max_extend {ι κ : Type*} [Fintype ι] [Fintype κ] (φ : κ → ι) (s : ι → EReal)
    (h : ∀ i, (∀ a, φ a ≠ i) → s i = ⊥) :
    Finset.univ.fold max ⊥ s = Finset.univ.fold max ⊥ fun a => s (φ a) := by
  show Finset.univ.sup s = Finset.univ.sup fun a => s (φ a)
  refine le_antisymm (Finset.sup_le fun i _ => ?_) (Finset.sup_le fun a _ => Finset.le_sup (f := s) (Finset.mem_univ (φ a)))
  by_cases hi : ∃ a, φ a = i
  · obtain ⟨a, rfl⟩ := hi
    exact Finset.le_sup (f := fun a => s (φ a)) (Finset.mem_univ a)
  · rw [h i fun a ha => hi ⟨a, ha⟩]; exact bot_le

/-- A positive real factor may be taken out of a maximum. -/
theorem fold_max_mul {ι : Type*} [Fintype ι] (L : ℝ) (hL : 0 < L) (x : ι → EReal) :
    (Finset.univ.fold max ⊥ fun i => (L : EReal) * x i) = (L : EReal) * Finset.univ.fold max ⊥ x := by
  have hm : Monotone fun t : EReal => (L : EReal) * t := fun a b h =>
    mul_le_mul_of_nonneg_left h (by exact_mod_cast hL.le)
  have h := Finset.fold_hom (op := max) (op' := max) (b := (⊥ : EReal)) (f := x) (s := Finset.univ)
    (m := fun t : EReal => (L : EReal) * t) fun a b => hm.map_max
  simpa [EReal.coe_mul_bot_of_pos hL] using h

/-- The greatest of real scores is real or, where there is none, `-∞`. -/
theorem fold_max_coe {ι : Type*} [Fintype ι] [Nonempty ι] (x : ι → ℝ) :
    ∃ M : ℝ, (Finset.univ.fold max ⊥ fun i => (x i : EReal)) = M := by
  refine ⟨Finset.univ.sup' Finset.univ_nonempty x, ?_⟩
  show Finset.univ.sup (fun i => (x i : EReal)) = _
  rw [← Finset.sup'_eq_sup Finset.univ_nonempty]
  exact (Finset.comp_sup'_eq_sup'_comp Finset.univ_nonempty (fun r : ℝ => (r : EReal))
    (fun a b => EReal.coe_strictMono.monotone.map_max)).symm

/-- The sum of `v` and `w`, weighted by the softmax of the scores `x` and `y` taken together. -/
def attn {κ μ : Type*} [Fintype κ] [Fintype μ] (x : κ → ℝ) (y : μ → ℝ) (v : κ → EReal) (w : μ → EReal) : EReal :=
  let M : EReal := max (Finset.univ.fold max ⊥ fun a => (x a : EReal)) (Finset.univ.fold max ⊥ fun b => (y b : EReal))
  (∑ a, Ideal.exp (x a - M) * v a + ∑ b, Ideal.exp (y b - M) * w b)
    * Ideal.div 1 (∑ a, Ideal.exp (x a - M) + ∑ b, Ideal.exp (y b - M))

section
variable {ι κ μ : Type*} [Fintype ι] [Fintype κ] [Fintype μ] [Nonempty κ] [Nonempty μ]

/-- Two to the scaled power is the exponential. -/
theorem exp2_scaled (t : ℝ) : Ideal.exp2 (((Real.log 2)⁻¹ * t : ℝ) : EReal) = Ideal.exp (t : EReal) := by
  show ((Real.rpow 2 ((Real.log 2)⁻¹ * t) : ℝ) : EReal) = ((Real.exp t : ℝ) : EReal)
  congr 1
  show (2 : ℝ) ^ ((Real.log 2)⁻¹ * t) = _
  rw [Real.rpow_def_of_pos (by norm_num), ← mul_assoc, mul_inv_cancel₀ (Real.log_pos (by norm_num)).ne', one_mul]

/-- Scores in base two, `-∞` off the places `φ` names, the division last. -/
theorem attn_base_two (φ : κ → ι) (hφ : Function.Injective φ) (x : κ → ℝ) (y : μ → ℝ) (s : ι → EReal) (c : μ → EReal)
    (hs : ∀ a, s (φ a) = (((Real.log 2)⁻¹ * x a : ℝ) : EReal)) (hb : ∀ i, (∀ a, φ a ≠ i) → s i = ⊥)
    (hc : ∀ b, c b = (((Real.log 2)⁻¹ * y b : ℝ) : EReal)) (v : ι → EReal) (w : μ → EReal) (M : EReal)
    (hM : M = max (Finset.univ.fold max ⊥ s) (Finset.univ.fold max ⊥ c)) :
    (∑ i, Ideal.exp2 (s i - M) * v i + ∑ b, Ideal.exp2 (c b - M) * w b)
        * Ideal.div 1 (∑ i, Ideal.exp2 (s i - M) + ∑ b, Ideal.exp2 (c b - M))
      = attn x y (fun a => v (φ a)) w := by
  have hL : 0 < (Real.log 2)⁻¹ := inv_pos.2 (Real.log_pos (by norm_num))
  obtain ⟨Mx, hMx⟩ := fold_max_coe x
  obtain ⟨My, hMy⟩ := fold_max_coe y
  have hM' : M = (((Real.log 2)⁻¹ * max Mx My : ℝ) : EReal) := by
    rw [hM, fold_max_extend φ s hb, funext hs, funext hc]
    simp only [EReal.coe_mul]
    rw [fold_max_mul _ hL, fold_max_mul _ hL, hMx, hMy, ← EReal.coe_mul, ← EReal.coe_mul, ← EReal.coe_mul,
      ← EReal.coe_strictMono.monotone.map_max, mul_max_of_nonneg _ _ hL.le]
  have hx : ∀ a, Ideal.exp2 (s (φ a) - M) = Ideal.exp (x a - ((max Mx My : ℝ) : EReal)) := fun a => by
    rw [hs, hM', ← EReal.coe_sub, ← mul_sub, exp2_scaled, EReal.coe_sub]
  have hy : ∀ b, Ideal.exp2 (c b - M) = Ideal.exp (y b - ((max Mx My : ℝ) : EReal)) := fun b => by
    rw [hc, hM', ← EReal.coe_sub, ← mul_sub, exp2_scaled, EReal.coe_sub]
  have h0 : ∀ i, (∀ a, φ a ≠ i) → Ideal.exp2 (s i - M) = 0 := fun i hi => by
    rw [hb i hi, hM', EReal.bot_sub]; rfl
  unfold attn
  rw [hMx, hMy, ← EReal.coe_strictMono.monotone.map_max]
  rw [← Fintype.sum_of_injective φ hφ (fun a => Ideal.exp2 (s (φ a) - M) * v (φ a)) (fun i => Ideal.exp2 (s i - M) * v i)
      (fun i hi => by rw [h0 i fun a ha => hi ⟨a, ha⟩, zero_mul]) (fun _ => rfl),
    ← Fintype.sum_of_injective φ hφ (fun a => Ideal.exp2 (s (φ a) - M)) (fun i => Ideal.exp2 (s i - M))
      (fun i hi => h0 i fun a ha => hi ⟨a, ha⟩) (fun _ => rfl)]
  simp only [hx, hy]

/-- Scores as they are, `-∞` off the places `φ` names, each weight divided. -/
theorem attn_divided (φ : κ → ι) (hφ : Function.Injective φ) (x : κ → ℝ) (y : μ → ℝ) (s : ι → EReal) (c : μ → EReal)
    (hs : ∀ a, s (φ a) = (x a : EReal)) (hb : ∀ i, (∀ a, φ a ≠ i) → s i = ⊥)
    (hc : ∀ b, c b = (y b : EReal)) (v : ι → EReal) (w : μ → EReal) (M D : EReal)
    (hM : M = max (Finset.univ.fold max ⊥ s) (Finset.univ.fold max ⊥ c))
    (hD : D = ∑ i, Ideal.exp (s i - M) + ∑ b, Ideal.exp (c b - M)) :
    ∑ i, Ideal.div (Ideal.exp (s i - M)) D * v i + ∑ b, Ideal.div (Ideal.exp (c b - M)) D * w b
      = attn x y (fun a => v (φ a)) w := by
  obtain ⟨Mx, hMx⟩ := fold_max_coe x
  obtain ⟨My, hMy⟩ := fold_max_coe y
  have hM' : M = ((max Mx My : ℝ) : EReal) := by
    rw [hM, fold_max_extend φ s hb, funext hs, funext hc, hMx, hMy, ← EReal.coe_strictMono.monotone.map_max]
  have h0 : ∀ i, (∀ a, φ a ≠ i) → Ideal.exp (s i - M) = 0 := fun i hi => by
    rw [hb i hi, hM', EReal.bot_sub]; rfl
  have hD1 : D = ∑ a, Ideal.exp (x a - M) + ∑ b, Ideal.exp (y b - M) := by
    rw [hD, ← Fintype.sum_of_injective φ hφ (fun a => Ideal.exp (s (φ a) - M)) (fun i => Ideal.exp (s i - M))
      (fun i hi => h0 i fun a ha => hi ⟨a, ha⟩) (fun _ => rfl)]
    simp only [hs, hc]
  have hD2 : ∃ d : ℝ, 0 < d ∧ D = d := by
    refine ⟨∑ a, Real.exp (x a - max Mx My) + ∑ b, Real.exp (y b - max Mx My), ?_, ?_⟩
    · exact add_pos (Finset.sum_pos (fun _ _ => Real.exp_pos _) Finset.univ_nonempty)
        (Finset.sum_pos (fun _ _ => Real.exp_pos _) Finset.univ_nonempty)
    · rw [hD1, EReal.coe_add, coe_sum, coe_sum, hM']
      simp only [← EReal.coe_sub]
      rfl
  obtain ⟨d, hd, hDd⟩ := hD2
  have hdiv : ∀ e u : EReal, Ideal.div e D * u = (e * u) * ((1 / d : ℝ) : EReal) := fun e u => by
    rw [hDd, Ideal.div_coe hd.ne', mul_right_comm]
  unfold attn
  dsimp only
  rw [hMx, hMy, ← EReal.coe_strictMono.monotone.map_max, ← hM', ← hD1, hDd, Ideal.div_coe hd.ne', ← hDd, one_mul,
    EReal.right_distrib_of_nonneg_of_ne_top (by exact_mod_cast (one_div_pos.2 hd).le) (EReal.coe_ne_top _),
    mul_sum_of_nonneg _ _ _ (one_div_pos.2 hd).le, mul_sum_of_nonneg _ _ _ (one_div_pos.2 hd).le]
  simp only [hdiv]
  rw [← Fintype.sum_of_injective φ hφ (fun a => Ideal.exp (s (φ a) - M) * v (φ a) * ((1 / d : ℝ) : EReal))
      (fun i => Ideal.exp (s i - M) * v i * ((1 / d : ℝ) : EReal))
      (fun i hi => by rw [h0 i fun a ha => hi ⟨a, ha⟩, zero_mul, zero_mul]) (fun _ => rfl)]
  simp only [hs, hc]
end
end Attn
end
-- ==== Proof.NattenSpec.lean ====
module
public import proofs.«01_k».proof.Proof.Softmax
public import Idealize.ShloMosaic.Lib.Pointwise

/-!
# Neighbourhood attention, element by element

The image has 256 rows of 64 columns.  A query attends the 8 rows from `rs R` and the 16 columns from `cs c`, with a
bias by the differences of rows and columns, and the 256 context keys, with none.
-/
@[expose] public section
noncomputable section
open Idealize.ShloMosaic
namespace Natten

/-- The queries, keys and values of the image, 512 columns each. -/
abbrev SP : Shape := ⟨3, ![2, 16384, 11264]⟩
/-- The same of the context. -/
abbrev SC : Shape := ⟨3, ![2, 256, 11264]⟩
/-- The biases. -/
abbrev SB : Shape := ⟨3, ![8, 15, 31]⟩

/-- The first row of the window of row `R`. -/
abbrev rs (R : Nat) : Nat := min 248 (R - 4)
/-- The first column of the window of column `c`. -/
abbrev cs (c : Nat) : Nat := min 48 (c - 8)

/-- Column `d` of head `h` of the queries. -/
abbrev qcol (h : Fin 8) (d : Fin 64) : Fin 11264 := ⟨64 * h.val + d.val, by omega⟩
/-- Column `d` of head `h` of the keys. -/
abbrev kcol (h : Fin 8) (d : Fin 64) : Fin 11264 := ⟨512 + (64 * h.val + d.val), by omega⟩
/-- Column `d` of head `h` of the values. -/
abbrev vcol (h : Fin 8) (d : Fin 64) : Fin 11264 := ⟨1024 + (64 * h.val + d.val), by omega⟩
/-- The token of row `R`, column `c`. -/
abbrev tok (R : Fin 256) (c : Fin 64) : Fin 16384 := ⟨64 * R.val + c.val, by omega⟩
/-- The token of place `(i, j)` of the window of row `R`, column `c`. -/
abbrev near (R : Fin 256) (c : Fin 64) (p : Fin 8 × Fin 16) : Fin 16384 :=
  ⟨64 * (rs R.val + p.1.val) + (cs c.val + p.2.val), by simp only [rs, cs]; omega⟩
/-- The bias row of the window's row `i`. -/
abbrev brow (R : Fin 256) (i : Fin 8) : Fin 15 := ⟨rs R.val + 7 - R.val + i.val, by simp only [rs]; omega⟩
/-- The bias column of the window's column `j`. -/
abbrev bcol (c : Fin 64) (j : Fin 16) : Fin 31 := ⟨15 + (cs c.val + j.val) - c.val, by simp only [cs]; omega⟩

/-- The arguments the scores are made of are finite. -/
structure Fin3 (P : SP.Idx → EReal) (C : SC.Idx → EReal) (B : SB.Idx → EReal) : Prop where
  q : ∀ b t h d, ∃ r : ℝ, P (ix3 b t (qcol h d)) = r
  k : ∀ b t h d, ∃ r : ℝ, P (ix3 b t (kcol h d)) = r
  c : ∀ b t h d, ∃ r : ℝ, C (ix3 b t (kcol h d)) = r
  b : ∀ h i j, ∃ r : ℝ, B (ix3 h i j) = r

/-- The score of a key of the window. -/
def score (P : SP.Idx → EReal) (B : SB.Idx → EReal) (b : Fin 2) (R : Fin 256) (c : Fin 64) (h : Fin 8) (p : Fin 8 × Fin 16) : ℝ :=
  (∑ l : Fin 64, (P (ix3 b (tok R c) (qcol h l))).toReal * (P (ix3 b (near R c p) (kcol h l))).toReal) * (1 / 8)
    + (B (ix3 h (brow R p.1) (bcol c p.2))).toReal
/-- The score of a context key. -/
def cscore (P : SP.Idx → EReal) (C : SC.Idx → EReal) (b : Fin 2) (R : Fin 256) (c : Fin 64) (h : Fin 8) (j : Fin 256) : ℝ :=
  (∑ l : Fin 64, (P (ix3 b (tok R c) (qcol h l))).toReal * (C (ix3 b j (kcol h l))).toReal) * (1 / 8)

/-- The attention of one query, at one column of its head. -/
def out (P : SP.Idx → EReal) (C : SC.Idx → EReal) (B : SB.Idx → EReal) (b : Fin 2) (R : Fin 256) (c : Fin 64) (h : Fin 8) (d : Fin 64) : EReal :=
  Attn.attn (score P B b R c h) (cscore P C b R c h) (fun p => P (ix3 b (near R c p) (vcol h d))) fun j => C (ix3 b j (vcol h d))
end Natten
end
-- ==== Proof.NattenKernel.lean ====
module
public import proofs.«01_k».proof.Proof.NattenArray
public import proofs.«01_k».proof.Proof.NattenBias
public import proofs.«01_k».proof.Proof.NattenSpec

/-!
# The kernel's result is the neighbourhood attention
-/
@[expose] public section
set_option maxRecDepth 16384
noncomputable section
open Idealize.ShloMosaic Idealize.ShloMosaic.TcCoe Idealize.SL.Sem
namespace Cert.NattenIdeal.Val
open Cert.NattenIdeal Cert.NattenIdeal.Gen
variable (m : (ℓ : Loc nD τ sig) → Buf (Elt Ideal) ℓ)

/-- The place of the window's key `(i, j)` among the 8 rows of 64 columns the scores run over. -/
def place (c : Fin 64) (p : Fin 8 × Fin 16) : Fin 512 := ⟨64 * p.1.val + (Natten.cs c.val + p.2.val), by simp only [Natten.cs]; omega⟩
theorem place_inj (c : Fin 64) : Function.Injective (place c) := fun p q h => by
  have h' : 64 * p.1.val + (Natten.cs c.val + p.2.val) = 64 * q.1.val + (Natten.cs c.val + q.2.val) := congrArg Fin.val h
  exact Prod.ext (Fin.ext (by omega)) (Fin.ext (by omega))

/-- A dot product of finite rows, the first scaled. -/
theorem dot_scaled (x y : Fin 64 → EReal) (s : ℝ) (hx : ∀ l, ∃ r : ℝ, x l = r) (hy : ∀ l, ∃ r : ℝ, y l = r) :
    ∑ l, x l * (s : EReal) * y l = ((s * ∑ l, (x l).toReal * (y l).toReal : ℝ) : EReal) := by
  rw [Finset.mul_sum, Attn.coe_sum]
  refine Finset.sum_congr rfl fun l _ => ?_
  obtain ⟨a, ha⟩ := hx l
  obtain ⟨b, hb⟩ := hy l
  rw [ha, hb, EReal.toReal_coe, EReal.toReal_coe, ← EReal.coe_mul, ← EReal.coe_mul]
  congr 1
  ring

/-- The arithmetic of one element: from what the blocks hold to the attention. -/
theorem outAt_eq (P : Natten.SP.Idx → EReal) (C : Natten.SC.Idx → EReal) (B : Natten.SB.Idx → EReal) (hF : Natten.Fin3 P C B)
    (q : FVec Ideal S1x2048x128 .bf16) (K W : Fin 32 → FVec Ideal S1x512x128 .bf16) (T : Fin 32 → FVec Ideal S1x1x128x512 .f32)
    (kc vc : FVec Ideal S1x256x128 .bf16) (r : Fin 32) (c : Fin 64) (a : Fin 2) (d : Fin 64)
    (b : Fin 2) (R : Fin 256) (h : Fin 8)
    (hq : ∀ l, q (ix3 0 (qrow r c) (lane a l)) = P (ix3 b (Natten.tok R c) (Natten.qcol h l)))
    (hK : ∀ p l, K r (ix3 0 (place c p) (lane a l)) = P (ix3 b (Natten.near R c p) (Natten.kcol h l)))
    (hW : ∀ p, W r (ix3 0 (place c p) (lane a d)) = P (ix3 b (Natten.near R c p) (Natten.vcol h d)))
    (hT : ∀ p, T r (ix4 0 0 (lane a c) (place c p)) = B (ix3 h (Natten.brow R p.1) (Natten.bcol c p.2)))
    (hkc : ∀ j l, kc (ix3 0 j (lane a l)) = C (ix3 b j (Natten.kcol h l)))
    (hvc : ∀ j, vc (ix3 0 j (lane a d)) = C (ix3 b j (Natten.vcol h d))) :
    outAt q K W T kc vc r c a d = Natten.out P C B b R c h d := by
  have e := Attn.attn_base_two (place c) (place_inj c) (Natten.score P B b R c h) (Natten.cscore P C b R c h)
    (scoreS q (K r) (T r) r c a) (scoreC q kc r c a)
    (fun p => by
      unfold scoreS
      rw [QS_eq, LE_eq, dot_scaled (fun l => q (ix3 0 (qrow r c) (lane a l))) (fun l => K r (ix3 0 (place c p) (lane a l))) _
        (fun l => by rw [hq]; exact hF.q ..) (fun l => by rw [hK]; exact hF.k ..)]
      rw [if_pos (by
        have e : (place c p).val % 64 = Natten.cs c.val + p.2.val := by
          show (64 * p.1.val + (Natten.cs c.val + p.2.val)) % 64 = _
          simp only [Natten.cs]; omega
        rw [e]; simp only [Natten.cs, cs]; omega)]
      obtain ⟨β, hβ⟩ := hF.b h (Natten.brow R p.1) (Natten.bcol c p.2)
      simp only [hq, hK]
      rw [hT, hβ, ← EReal.coe_mul, ← EReal.coe_add]
      unfold Natten.score
      rw [hβ, EReal.toReal_coe]
      congr 1
      ring)
    (fun i hi => by
      unfold scoreS
      rw [if_neg, EReal.add_bot]
      intro hm
      simp only [cs] at hm
      refine hi (⟨i.val / 64, by omega⟩, ⟨i.val % 64 - min 48 (c.val - 8), by omega⟩) (Fin.ext ?_)
      show 64 * (i.val / 64) + (min 48 (c.val - 8) + (i.val % 64 - min 48 (c.val - 8))) = i.val
      omega)
    (fun j => by
      unfold scoreC
      rw [QS_eq, dot_scaled (fun l => q (ix3 0 (qrow r c) (lane a l))) (fun l => kc (ix3 0 j (lane a l))) _
        (fun l => by rw [hq]; exact hF.q ..) (fun l => by rw [hkc]; exact hF.c ..)]
      simp only [hq, hkc]
      unfold Natten.cscore
      congr 1
      ring)
    (fun k => W r (ix3 0 k (lane a d))) (fun k => vc (ix3 0 k (lane a d))) _ rfl
  refine Eq.trans ?_ (e.trans ?_)
  · rfl
  · unfold Natten.out
    simp only [hW, hvc]

theorem result_at (c0 : Dev nD)
    (hF : Natten.Fin3 (m ((c0.tc : Thread nD τ).loc main_arg0)) (m ((c0.tc : Thread nD τ).loc main_arg1)) (m ((c0.tc : Thread nD τ).loc main_arg2)))
    (b : Fin 2) (R : Fin 256) (c : Fin 64) (h : Fin 8) (d : Fin 64) (h1) :
    (dats m 0 c0).arrAt 6 cfg0.N (ix3 b (Natten.tok R c) ⟨64 * h.val + d.val, h1⟩)
      = Natten.out (m ((c0.tc : Thread nD τ).loc main_arg0)) (m ((c0.tc : Thread nD τ).loc main_arg1)) (m ((c0.tc : Thread nD τ).loc main_arg2)) b R c h d := by
  have hN : cfg0.N = 64 := rfl
  obtain ⟨t, ht⟩ : ∃ t : Fin cfg0.N, t.val = 32 * b.val + 8 * (h.val / 2) + R.val / 32 := ⟨⟨32 * b.val + 8 * (h.val / 2) + R.val / 32, by rw [hN]; omega⟩, rfl⟩
  obtain ⟨r, hr⟩ : ∃ r : Fin 32, r.val = R.val % 32 := ⟨⟨R.val % 32, by omega⟩, rfl⟩
  obtain ⟨a, ha⟩ : ∃ a : Fin 2, a.val = h.val % 2 := ⟨⟨h.val % 2, by omega⟩, rfl⟩
  have t1 : t.val / 32 = b.val := by omega
  have t2 : t.val % 8 = R.val / 32 := by omega
  have t3 : t.val / 8 % 4 = h.val / 2 := by omega
  have t4 : 32 * (t.val % 8) + r.val = R.val := by omega
  have hc := cell m c0 t r c a d
  rw [outsAt0_eq, OUT_at] at hc
  have ei : (ix3 b (Natten.tok R c) ⟨64 * h.val + d.val, h1⟩ : S2x16384x512.Idx) = ix3 ⟨t.val / 32, Nat.div_lt_of_lt_mul t.isLt⟩ ⟨2048 * (t.val % 8) + (64 * r.val + c.val), by omega⟩
      ⟨128 * (t.val / 8 % 4) + (64 * a.val + d.val), by omega⟩ := by
    congr 1 <;> refine Fin.ext ?_ <;> dsimp only <;> omega
  rw [ei]
  refine hc.trans ?_
  have key : ∀ {x y z x' y' z'} (h1 : x.val = x'.val) (h2 : y.val = y'.val) (h3 : z.val = z'.val),
      (ix3 x y z : Natten.SP.Idx) = ix3 x' y' z' := fun h1 h2 h3 => by rw [Fin.ext h1, Fin.ext h2, Fin.ext h3]
  have keyC : ∀ {x y z x' y' z'} (h1 : x.val = x'.val) (h2 : y.val = y'.val) (h3 : z.val = z'.val),
      (ix3 x y z : Natten.SC.Idx) = ix3 x' y' z' := fun h1 h2 h3 => by rw [Fin.ext h1, Fin.ext h2, Fin.ext h3]
  have hrs : min 248 (32 * (t.val % 8) + r.val - 4) = Natten.rs R.val := by rw [t4]
  refine outAt_eq _ _ _ hF _ _ _ _ _ _ r c a d b R h (fun l => ?_) (fun p l => ?_) (fun p => ?_) (fun p => ?_) (fun j l => ?_) fun j => ?_
  · refine (q_at m c0 t _ _ (by omega) (by show 2048 * (t.val % 8) + (64 * r.val + c.val) < _; omega) (by show 128 * (t.val / 8 % 4) + (64 * a.val + l.val) < _; omega)).trans
      (congrArg (m ((c0.tc : Thread nD τ).loc main_arg0)) (key ?_ ?_ ?_))
    · exact t1
    · show 2048 * (t.val % 8) + (64 * r.val + c.val) = 64 * R.val + c.val; omega
    · show 128 * (t.val / 8 % 4) + (64 * a.val + l.val) = 64 * h.val + l.val; omega
  · refine (ld_rows _ _ _ (off1 t r) _ _ _ (by have := (place c p).isLt; omega)).trans ((keys_at m c0 t _ _ (by omega) (by show 512 + 128 * (t.val / 8 % 4) + (64 * a.val + l.val) < _; omega)).trans
      (congrArg (m ((c0.tc : Thread nD τ).loc main_arg0)) (key ?_ ?_ ?_)))
    · exact t1
    · show 64 * min 248 (32 * (t.val % 8) + r.val - 4) + (64 * p.1.val + (Natten.cs c.val + p.2.val)) = 64 * (Natten.rs R.val + p.1.val) + (Natten.cs c.val + p.2.val)
      rw [hrs]; ring
    · show 512 + 128 * (t.val / 8 % 4) + (64 * a.val + l.val) = 512 + (64 * h.val + l.val); omega
  · refine (ld_rows _ _ _ (off1 t r) _ _ _ (by have := (place c p).isLt; omega)).trans ((vals_at m c0 t _ _ (by omega) (by show 1024 + 128 * (t.val / 8 % 4) + (64 * a.val + d.val) < _; omega)).trans
      (congrArg (m ((c0.tc : Thread nD τ).loc main_arg0)) (key ?_ ?_ ?_)))
    · exact t1
    · show 64 * min 248 (32 * (t.val % 8) + r.val - 4) + (64 * p.1.val + (Natten.cs c.val + p.2.val)) = 64 * (Natten.rs R.val + p.1.val) + (Natten.cs c.val + p.2.val)
      rw [hrs]; ring
    · show 1024 + 128 * (t.val / 8 % 4) + (64 * a.val + d.val) = 1024 + (64 * h.val + d.val); omega
  · refine (ld_bias _ _ _ (off2 t r) _ _ _ (by omega)).trans ((bias_blk m c0 t _ _ _ (by omega)).trans ?_)
    have hcs : Natten.cs c.val = min 48 (c.val - 8) := rfl
    have e1 : place c p = ⟨64 * p.1.val + (⟨Natten.cs c.val + p.2.val, by omega⟩ : Fin 64).val, by show 64 * p.1.val + (Natten.cs c.val + p.2.val) < 512; omega⟩ := rfl
    rw [e1]
    refine (bias_at m c0 _ _ a c p.1 ⟨Natten.cs c.val + p.2.val, by omega⟩ (by dsimp only; omega) _ _ (by dsimp only; omega) (by dsimp only; omega)).trans ?_
    refine congrArg (m ((c0.tc : Thread nD τ).loc main_arg2) : Natten.SB.Idx → EReal) ?_
    congr 1 <;> refine Fin.ext ?_
    · show 2 * (t.val / 8 % 4) + a.val = h.val; omega
    · show min 248 (32 * (t.val % 8) + r.val - 4) + 7 - (32 * (t.val % 8) + r.val) + p.1.val = Natten.rs R.val + 7 - R.val + p.1.val
      rw [hrs, t4]
  · refine (ckeys_at m c0 t _ _ (by omega) (by show 512 + 128 * (t.val / 8 % 4) + (64 * a.val + l.val) < _; omega)).trans
      (congrArg (m ((c0.tc : Thread nD τ).loc main_arg1)) (keyC ?_ rfl ?_))
    · exact t1
    · show 512 + 128 * (t.val / 8 % 4) + (64 * a.val + l.val) = 512 + (64 * h.val + l.val); omega
  · refine (cvals_at m c0 t _ _ (by omega) (by show 1024 + 128 * (t.val / 8 % 4) + (64 * a.val + d.val) < _; omega)).trans
      (congrArg (m ((c0.tc : Thread nD τ).loc main_arg1)) (keyC ?_ rfl ?_))
    · exact t1
    · show 1024 + 128 * (t.val / 8 % 4) + (64 * a.val + d.val) = 1024 + (64 * h.val + d.val); omega
end Cert.NattenIdeal.Val
end
-- ==== Proof.NattenRefTab.lean ====
module
public import proofs.«01_k».proof.Proof.Gen.NattenRefIdeal.Run
public import proofs.«01_k».proof.Proof.NattenSpec
public import Idealize.ShloMosaic.Lib.ValueIdxCore
public import Idealize.ShloMosaic.Lib.Pointwise

/-!
# The reference's tables and look-ups

A block of 16 queries reads a stretch of 32 columns.  The tables hold, for every place of the stretch, its column, the
bias column of the difference, and whether the place is in the window; the look-ups read the keys and the biases there.
-/
@[expose] public section
set_option maxRecDepth 16384
noncomputable section
open Idealize.ShloMosaic Idealize.ShloMosaic.TcCoe Idealize.SL.Sem
namespace Cert.NattenRefIdeal.Val
open Cert.NattenRefIdeal Cert.NattenRefIdeal.Gen

/-- The first column of the stretch of block `j`. -/
abbrev kc0 (j : Nat) : Nat := min 32 (16 * j - 8)

theorem lit1_at : ∀ (j : Fin 4) (w : Fin 32), lit1 ⟨32 * j.val + w.val, by omega⟩ = BitVec.ofNat 32 (kc0 j.val + w.val) := by
  decide +kernel
theorem lit2_at : ∀ (j : Fin 4) (q : Fin 16) (w : Fin 32), lit2 ⟨512 * j.val + 32 * q.val + w.val, by omega⟩
    = BitVec.ofNat 32 (min 30 (kc0 j.val + w.val + 15 - (16 * j.val + q.val))) := by
  decide +kernel
theorem lit0_at : ∀ (j : Fin 4) (q : Fin 16) (w : Fin 32), lit0 ⟨512 * j.val + 32 * q.val + w.val, by omega⟩
    = BitVec.ofBool (decide (min 48 (16 * j.val + q.val - 8) ≤ kc0 j.val + w.val ∧ kc0 j.val + w.val < min 48 (16 * j.val + q.val - 8) + 16)) := by
  decide +kernel

variable {α : Type}

/-- A look-up of the columns of 8 rows. -/
theorem gather_cols (x : S2x8x8x64x64.Idx → α) (idx : IVec S4x32x1 32) (b : Fin 2) (h i : Fin 8) (j : Fin 4) (w : Fin 32) (d : Fin 64) :
    Host.gather gather_S2x8x8x64x64_S4x32x1_S2x8x8x4x32x64_0125_3_n_n_3_2_288164 x idx (ix6 b h i j w d)
      = x (ix5 b h i ⟨min (idx (ix3 j w 0)).toInt.toNat 63, by omega⟩ d) := by
  unfold Host.gather
  congr 1
  funext a
  refine Fin.ext ?_
  show GatherDims.start gather_S2x8x8x64x64_S4x32x1_S2x8x8x4x32x64_0125_3_n_n_3_2_288164 (ix6 b h i j w d) idx a
    + GatherDims.batchCoord gather_S2x8x8x64x64_S4x32x1_S2x8x8x4x32x64_0125_3_n_n_3_2_288164 (ix6 b h i j w d) a
    + GatherDims.offCoord gather_S2x8x8x64x64_S4x32x1_S2x8x8x4x32x64_0125_3_n_n_3_2_288164 (ix6 b h i j w d) a = _
  rw [GatherDims.batchCoord_eq_zero _ _ _ List.not_mem_nil]
  match a with
  | ⟨0, _⟩ => exact Nat.zero_add _
  | ⟨1, _⟩ => exact Nat.zero_add _
  | ⟨2, _⟩ => exact Nat.zero_add _
  | ⟨3, _⟩ =>
    have hsi : GatherDims.siIdx gather_S2x8x8x64x64_S4x32x1_S2x8x8x4x32x64_0125_3_n_n_3_2_288164 (ix6 b h i j w d) ⟨0, by decide⟩ = ix3 j w 0 := by
      funext e; refine Fin.ext ?_
      match e with
      | ⟨0, _⟩ => rfl
      | ⟨1, _⟩ => rfl
      | ⟨2, _⟩ => rfl
    exact congrArg (fun y => min (idx y).toInt.toNat 63) hsi
  | ⟨4, _⟩ => exact Nat.zero_add _

/-- A look-up of the biases. -/
theorem gather_bias (x : S8x15x31.Idx → α) (idx : IVec S4x16x8x32x2 32) (h : Fin 8) (j : Fin 4) (q : Fin 16) (i : Fin 8) (w : Fin 32) :
    Host.gather gather_S8x15x31_S4x16x8x32x2_S8x4x16x8x32_0_12_n_n_12_4_811 x idx (ix5 h j q i w)
      = x (ix3 h ⟨min (idx (ix5 j q i w 0)).toInt.toNat 14, by omega⟩ ⟨min (idx (ix5 j q i w 1)).toInt.toNat 30, by omega⟩) := by
  unfold Host.gather
  congr 1
  funext a
  refine Fin.ext ?_
  show GatherDims.start gather_S8x15x31_S4x16x8x32x2_S8x4x16x8x32_0_12_n_n_12_4_811 (ix5 h j q i w) idx a
    + GatherDims.batchCoord gather_S8x15x31_S4x16x8x32x2_S8x4x16x8x32_0_12_n_n_12_4_811 (ix5 h j q i w) a
    + GatherDims.offCoord gather_S8x15x31_S4x16x8x32x2_S8x4x16x8x32_0_12_n_n_12_4_811 (ix5 h j q i w) a = _
  rw [GatherDims.batchCoord_eq_zero _ _ _ List.not_mem_nil]
  match a with
  | ⟨0, _⟩ => exact Nat.zero_add _
  | ⟨1, _⟩ =>
    have hsi : GatherDims.siIdx gather_S8x15x31_S4x16x8x32x2_S8x4x16x8x32_0_12_n_n_12_4_811 (ix5 h j q i w) ⟨0, by decide⟩ = ix5 j q i w 0 := by
      funext e; refine Fin.ext ?_
      match e with
      | ⟨0, _⟩ => rfl
      | ⟨1, _⟩ => rfl
      | ⟨2, _⟩ => rfl
      | ⟨3, _⟩ => rfl
      | ⟨4, _⟩ => rfl
    exact congrArg (fun y => min (idx y).toInt.toNat 14) hsi
  | ⟨2, _⟩ =>
    have hsi : GatherDims.siIdx gather_S8x15x31_S4x16x8x32x2_S8x4x16x8x32_0_12_n_n_12_4_811 (ix5 h j q i w) ⟨1, by decide⟩ = ix5 j q i w 1 := by
      funext e; refine Fin.ext ?_
      match e with
      | ⟨0, _⟩ => rfl
      | ⟨1, _⟩ => rfl
      | ⟨2, _⟩ => rfl
      | ⟨3, _⟩ => rfl
      | ⟨4, _⟩ => rfl
    exact congrArg (fun y => min (idx y).toInt.toNat 30) hsi
end Cert.NattenRefIdeal.Val
end
-- ==== Proof.NattenRefRow.lean ====
module
public import proofs.«01_k».proof.Proof.NattenRefTab

/-!
# What one trip of the reference reads

The trip of row `R` reads the queries of that row, the keys and values of the window's 8 rows, and the biases.
-/
@[expose] public section
set_option maxRecDepth 16384
noncomputable section
open Idealize.ShloMosaic Idealize.ShloMosaic.TcCoe Idealize.SL.Sem
namespace Cert.NattenRefIdeal.Val
open Cert.NattenRefIdeal Cert.NattenRefIdeal.Gen Cert.NattenRefIdeal.Value

/-- A small word, read signed. -/
theorem word_toInt (n : Nat) (h : n < 65536) : (BitVec.ofNat 32 n).toInt = n := by
  rw [BitVec.toInt_eq_toNat_of_lt (by rw [BitVec.toNat_ofNat]; omega), BitVec.toNat_ofNat]
  omega
theorem word_nonneg (n : Nat) (h : n < 65536) : IntOp.cmpi .slt (BitVec.ofNat 32 n) 0#32 = 0#1 := by
  show BitVec.ofBool (decide ((BitVec.ofNat 32 n).toInt < 0)) = 0#1
  rw [word_toInt n h, decide_eq_false (by omega)]; rfl
/-- A look-up index that is not negative is taken as it is. -/
theorem wrap_word (n : Nat) (h : n < 65536) (x : BitVec 32) :
    Scalar.select (IntOp.cmpi .slt (BitVec.ofNat 32 n) 0#32) x (BitVec.ofNat 32 n) = BitVec.ofNat 32 n := by
  rw [word_nonneg n h]; rfl

variable {α : Type}
/-- One entry of a list of 256, at a given place. -/
theorem entry_at (X : S256.Idx → α) (st : Fin 1 → Int) (n : Nat) (h0 : st 0 = n) (hn : n < 256) (z : Fin 1) :
    Host.dynamicSlice S1 X st sliceFits_S256_S1 (ix1 z) = X (ix1 ⟨n, hn⟩) := by
  rw [Host.dynamicSlice_apply]
  refine congrArg X (funext fun a => Fin.ext ?_)
  match a with
  | ⟨0, _⟩ =>
    show Host.clampedStart S256 S1 _ st 0 + z.val = n
    rw [Host.clampedStart_of_le _ _ _ n h0 (by show n + 1 ≤ 256; omega)]
    omega
/-- Eight rows, from a given row. -/
theorem rows_at (X : S2x8x256x64x64.Idx → α) (st : Fin 5 → Int) (n : Nat) (h0 : st 0 = 0) (h1 : st 1 = 0) (h2 : st 2 = n) (h3 : st 3 = 0)
    (h4 : st 4 = 0) (hn : n + 8 ≤ 256) (b : Fin 2) (h i : Fin 8) (c d : Fin 64) (hi : n + i.val < 256) :
    Host.dynamicSlice S2x8x8x64x64 X st sliceFits_S2x8x256x64x64_S2x8x8x64x64 (ix5 b h i c d) = X (ix5 b h ⟨n + i.val, hi⟩ c d) := by
  rw [Host.dynamicSlice_apply]
  refine congrArg X (funext fun a => Fin.ext ?_)
  match a with
  | ⟨0, _⟩ =>
    show Host.clampedStart S2x8x256x64x64 S2x8x8x64x64 _ st 0 + b.val = b.val
    rw [Host.clampedStart_of_le _ _ _ 0 h0 (by decide)]; omega
  | ⟨1, _⟩ =>
    show Host.clampedStart S2x8x256x64x64 S2x8x8x64x64 _ st 1 + h.val = h.val
    rw [Host.clampedStart_of_le _ _ _ 0 h1 (by decide)]; omega
  | ⟨2, _⟩ =>
    show Host.clampedStart S2x8x256x64x64 S2x8x8x64x64 _ st 2 + i.val = n + i.val
    rw [Host.clampedStart_of_le _ _ _ n h2 hn]
  | ⟨3, _⟩ =>
    show Host.clampedStart S2x8x256x64x64 S2x8x8x64x64 _ st 3 + c.val = c.val
    rw [Host.clampedStart_of_le _ _ _ 0 h3 (by decide)]; omega
  | ⟨4, _⟩ =>
    show Host.clampedStart S2x8x256x64x64 S2x8x8x64x64 _ st 4 + d.val = d.val
    rw [Host.clampedStart_of_le _ _ _ 0 h4 (by decide)]; omega
/-- One row. -/
theorem row_at (X : S2x8x256x64x64.Idx → α) (st : Fin 5 → Int) (n : Nat) (h0 : st 0 = 0) (h1 : st 1 = 0) (h2 : st 2 = n) (h3 : st 3 = 0)
    (h4 : st 4 = 0) (hn : n < 256) (b : Fin 2) (h : Fin 8) (i : Fin 1) (c d : Fin 64) :
    Host.dynamicSlice S2x8x1x64x64 X st sliceFits_S2x8x256x64x64_S2x8x1x64x64 (ix5 b h i c d) = X (ix5 b h ⟨n, hn⟩ c d) := by
  rw [Host.dynamicSlice_apply]
  refine congrArg X (funext fun a => Fin.ext ?_)
  match a with
  | ⟨0, _⟩ =>
    show Host.clampedStart S2x8x256x64x64 S2x8x1x64x64 _ st 0 + b.val = b.val
    rw [Host.clampedStart_of_le _ _ _ 0 h0 (by decide)]; omega
  | ⟨1, _⟩ =>
    show Host.clampedStart S2x8x256x64x64 S2x8x1x64x64 _ st 1 + h.val = h.val
    rw [Host.clampedStart_of_le _ _ _ 0 h1 (by decide)]; omega
  | ⟨2, _⟩ =>
    show Host.clampedStart S2x8x256x64x64 S2x8x1x64x64 _ st 2 + i.val = n
    rw [Host.clampedStart_of_le _ _ _ n h2 (by show n + 1 ≤ 256; omega)]; omega
  | ⟨3, _⟩ =>
    show Host.clampedStart S2x8x256x64x64 S2x8x1x64x64 _ st 3 + c.val = c.val
    rw [Host.clampedStart_of_le _ _ _ 0 h3 (by decide)]; omega
  | ⟨4, _⟩ =>
    show Host.clampedStart S2x8x256x64x64 S2x8x1x64x64 _ st 4 + d.val = d.val
    rw [Host.clampedStart_of_le _ _ _ 0 h4 (by decide)]; omega

theorem only_at (y : IVec S1 32) (i : S_.Idx) : shapeCast S_ y shapeCasts_S1_S_ i = y (ix1 0) := by
  pointwise []
theorem row_words : ∀ R : Fin 256, IntOp.minsi 248#32 (IntOp.maxsi 0#32 (IntOp.subi (BitVec.ofNat 32 R.val) 4#32)) = BitVec.ofNat 32 (Natten.rs R.val) := by
  decide +kernel

/-- A row number, read off the list of row numbers. -/
theorem rowno_at (V : Valuation τ sig (Elt Ideal)) (R : Fin 256)
    (h0 : ∀ r : Fin 256, (V (Proc.devRef .tc main_v25_0) : IVec S256 32) (ix1 r) = BitVec.ofNat 32 r.val)
    (hc : (V (Proc.devRef .tc main_v25_13) : IVec S_ 32) = fun _ => BitVec.ofNat 32 R.val) :
    (res_main_while0b_v31 V : IVec S_ 32) = fun _ => BitVec.ofNat 32 R.val := by
  funext i
  unfold res_main_while0b_v31
  rw [hc]
  exact (only_at _ i).trans ((entry_at (V (Proc.devRef .tc main_v25_0) : IVec S256 32) _ R.val (word_toInt _ (by omega)) R.isLt 0).trans (h0 R))

theorem rowstart_at (V : Valuation τ sig (Elt Ideal)) (R : Fin 256)
    (hc : (res_main_while0b_v31 V : IVec S_ 32) = fun _ => BitVec.ofNat 32 R.val) :
    (res_main_while0b_v33 V : IVec S_ 32) = fun _ => BitVec.ofNat 32 (Natten.rs R.val) := by
  funext i
  unfold res_main_while0b_v33
  rw [hc]
  exact row_words R

/-- The keys, or the values, of the stretch of block `j`. -/
theorem near_at (X : Vec Ideal S2x8x256x64x64 .f32) (r : IVec S_ 32) (Z : IVec S4x32 1) (T : IVec S4x32 32) (R : Fin 256)
    (hr : r = fun _ => BitVec.ofNat 32 (Natten.rs R.val)) (hZ : ∀ j w, Z (ix2 j w) = 0#1)
    (hT : ∀ (j : Fin 4) (w : Fin 32), T (ix2 j w) = BitVec.ofNat 32 (kc0 j.val + w.val))
    (b : Fin 2) (h : Fin 8) (j : Fin 4) (i : Fin 8) (w : Fin 32) (d : Fin 64)
    (h2 : Natten.rs R.val + i.val < 256) (h3 : kc0 j.val + w.val < 64) :
    (Host.gather gather_S2x8x8x64x64_S4x32x1_S2x8x8x4x32x64_0125_3_n_n_3_2_288164 (Host.dynamicSlice S2x8x8x64x64 X (fun k => (((![constantI S_ 32 0#32, constantI S_ 32 0#32, select (cmpi .slt r (constantI S_ 32 0#32)) (addi r (constantI S_ 32 256#32)) r, constantI S_ 32 0#32, constantI S_ 32 0#32] : Fin 5 → (⟨S_, .i32⟩ : BufTy).Contents (Elt Ideal))) k (Shape.Idx.first h_S_)).toInt) sliceFits_S2x8x256x64x64_S2x8x8x64x64) (broadcastInDim S4x32x1 ![0, 1] bcast_S4x32_S4x32x1_0_1 (select Z (addi T (broadcastInDim S4x32 ![] bcast_S_S4x32 (constantI S_ 32 64#32))) T)) : Vec Ideal S2x8x8x4x32x64 .f32) (ix6 b h i j w d)
      = X (ix5 b h ⟨Natten.rs R.val + i.val, h2⟩ ⟨kc0 j.val + w.val, h3⟩ d) := by
  subst hr
  rw [gather_cols]
  have e1 : (broadcastInDim S4x32x1 ![0, 1] bcast_S4x32_S4x32x1_0_1 (select Z (addi T (broadcastInDim S4x32 ![] bcast_S_S4x32 (constantI S_ 32 64#32))) T)) (ix3 j w 0) = BitVec.ofNat 32 (kc0 j.val + w.val) := by
    pointwise []
    rw [hZ, hT]; rfl
  have e2 : ∀ (n : Fin 64), n.val = kc0 j.val + w.val →
    (Host.dynamicSlice S2x8x8x64x64 X (fun k => (((![constantI S_ 32 0#32, constantI S_ 32 0#32, select (cmpi .slt (fun _ => BitVec.ofNat 32 (Natten.rs R.val)) (constantI S_ 32 0#32)) (addi (fun _ => BitVec.ofNat 32 (Natten.rs R.val)) (constantI S_ 32 256#32)) (fun _ => BitVec.ofNat 32 (Natten.rs R.val)), constantI S_ 32 0#32, constantI S_ 32 0#32] : Fin 5 → (⟨S_, .i32⟩ : BufTy).Contents (Elt Ideal))) k (Shape.Idx.first h_S_)).toInt) sliceFits_S2x8x256x64x64_S2x8x8x64x64) (ix5 b h i n d)
      = X (ix5 b h ⟨Natten.rs R.val + i.val, h2⟩ ⟨kc0 j.val + w.val, h3⟩ d) := by
    intro n hn
    obtain rfl : n = ⟨kc0 j.val + w.val, h3⟩ := Fin.ext hn
    have hw := wrap_word (Natten.rs R.val) (by omega)
    refine rows_at X _ (Natten.rs R.val) rfl rfl ?_ rfl rfl (by simp only [Natten.rs]; omega) b h i _ d h2
    exact (congrArg BitVec.toInt (hw _)).trans (word_toInt _ (by omega))
  refine e2 _ ?_
  show min (BitVec.toInt _).toNat 63 = _
  rw [e1, word_toInt _ (by omega)]
  omega

theorem brow_words : ∀ (R : Fin 256) (i : Fin 8), IntOp.addi (IntOp.subi (IntOp.addi (BitVec.ofNat 32 (Natten.rs R.val)) (BitVec.ofNat 32 i.val)) (BitVec.ofNat 32 R.val)) 7#32 = BitVec.ofNat 32 (Natten.brow R i).val := by
  decide +kernel

/-- The bias rows of the window. -/
theorem brow_at (V : Valuation τ sig (Elt Ideal)) (R : Fin 256)
    (hc : (res_main_while0b_v31 V : IVec S_ 32) = fun _ => BitVec.ofNat 32 R.val) (i : Fin 8) :
    (res_main_while0b_v65 V : IVec S1x1x8x1 32) (ix4 0 0 i 0) = BitVec.ofNat 32 (Natten.brow R i).val := by
  unfold res_main_while0b_v65
  rw [rowstart_at V R hc, hc, ← brow_words]
  pointwise []

/-- The biases of the stretch of block `j`. -/
theorem bias_at (B : Vec Ideal S8x15x31 .f32) (T : IVec S4x16x1x32 32) (Z : IVec S4x16x1x32 1) (U : IVec S1x1x8x1 32) (R : Fin 256)
    (hU : ∀ i, U (ix4 0 0 i 0) = BitVec.ofNat 32 (Natten.brow R i).val)
    (hZ : ∀ j q w, Z (ix4 j q 0 w) = 0#1)
    (hT : ∀ (j : Fin 4) (q : Fin 16) (w : Fin 32), T (ix4 j q 0 w) = BitVec.ofNat 32 (min 30 (kc0 j.val + w.val + 15 - (16 * j.val + q.val))))
    (h : Fin 8) (j : Fin 4) (q : Fin 16) (i : Fin 8) (w : Fin 32) (h3 : min 30 (kc0 j.val + w.val + 15 - (16 * j.val + q.val)) < 31) :
    (Host.gather gather_S8x15x31_S4x16x8x32x2_S8x4x16x8x32_0_12_n_n_12_4_811 B (concatenate S4x16x8x32x2 4 [⟨S4x16x8x32x1, (broadcastInDim S4x16x8x32x1 ![0, 1, 2, 3] bcast_S4x16x8x32_S4x16x8x32x1_0_1_2_3 (broadcastInDim S4x16x8x32 ![0, 1, 2, 3] bcast_S1x1x8x1_S4x16x8x32_0_1_2_3 (select (cmpi .slt U (broadcastInDim S1x1x8x1 ![] bcast_S_S1x1x8x1 (constantI S_ 32 0#32))) (addi U (broadcastInDim S1x1x8x1 ![] bcast_S_S1x1x8x1 (constantI S_ 32 15#32))) U)))⟩, ⟨S4x16x8x32x1, (broadcastInDim S4x16x8x32x1 ![0, 1, 2, 3] bcast_S4x16x8x32_S4x16x8x32x1_0_1_2_3 (broadcastInDim S4x16x8x32 ![0, 1, 2, 3] bcast_S4x16x1x32_S4x16x8x32_0_1_2_3 (select Z (addi T (broadcastInDim S4x16x1x32 ![] bcast_S_S4x16x1x32 (constantI S_ 32 31#32))) T)))⟩] concatenates_S4x16x8x32x1_S4x16x8x32x1_S4x16x8x32x2_d4) : Vec Ideal S8x4x16x8x32 .f32) (ix5 h j q i w)
     = B (ix3 h (Natten.brow R i) ⟨min 30 (kc0 j.val + w.val + 15 - (16 * j.val + q.val)), h3⟩) := by
  rw [gather_bias]
  refine congrArg B (congrArg₂ (ix3 h) (Fin.ext ?_) (Fin.ext ?_))
  · show min (BitVec.toInt _).toNat 14 = _
    pointwise []
    rw [hU, wrap_word _ (by omega), word_toInt _ (by omega)]
    exact min_eq_left (by have := (Natten.brow R i).isLt; omega)
  · show min (BitVec.toInt _).toNat 30 = min 30 _
    pointwise []
    rw [hZ, hT]
    show min (BitVec.toInt (BitVec.ofNat 32 _)).toNat 30 = _
    rw [word_toInt _ (by omega)]
    rw [Int.toNat_natCast]
    exact min_eq_left (by omega)

/-- The queries of row `R`. -/
theorem query_at (V : Valuation τ sig (Elt Ideal)) (R : Fin 256)
    (hc : (res_main_while0b_v31 V : IVec S_ 32) = fun _ => BitVec.ofNat 32 R.val)
    (b : Fin 2) (h : Fin 8) (j : Fin 4) (q : Fin 16) (d : Fin 64) (h1 : 16 * j.val + q.val < 64) :
    (res_main_while0b_v35 V : Vec Ideal S2x8x4x16x64 .f32) (ix5 b h j q d)
      = (V (Proc.devRef .tc main_v25_1) : Vec Ideal S2x8x256x64x64 .f32) (ix5 b h R ⟨16 * j.val + q.val, h1⟩ d) := by
  unfold res_main_while0b_v35
  rw [hc]
  have hs : ∀ Y : Vec Ideal S2x8x1x64x64 .f32, shapeCast S2x8x4x16x64 (shapeCast S2x8x64x64 Y shapeCasts_S2x8x1x64x64_S2x8x64x64)
      shapeCasts_S2x8x64x64_S2x8x4x16x64 (ix5 b h j q d) = Y (ix5 b h 0 ⟨16 * j.val + q.val, h1⟩ d) := by
    intro Y
    pointwise []
    congr 2
    exact Fin.ext (by show j.val * 16 + q.val = 16 * j.val + q.val; omega)
  exact (hs _).trans (row_at (V (Proc.devRef .tc main_v25_1) : Vec Ideal S2x8x256x64x64 .f32) _ R.val rfl rfl
    ((congrArg BitVec.toInt (wrap_word R.val (by omega) _)).trans (word_toInt _ (by omega))) rfl rfl R.isLt b h 0 _ d)
end Cert.NattenRefIdeal.Val
end
-- ==== Proof.NattenRefScore.lean ====
module
public import proofs.«01_k».proof.Proof.NattenRefRow

/-!
# The scores of one trip of the reference
-/
@[expose] public section
set_option maxRecDepth 16384
noncomputable section
open Idealize.ShloMosaic Idealize.ShloMosaic.TcCoe Idealize.SL.Sem
namespace Cert.NattenRefIdeal.Val
open Cert.NattenRefIdeal Cert.NattenRefIdeal.Gen Cert.NattenRefIdeal.Value

/-- What the trips carry along unchanged, in terms of the arguments, and the number of trips done. -/
structure Carried (P : Natten.SP.Idx → EReal) (C : Natten.SC.Idx → EReal) (B : Natten.SB.Idx → EReal) (n : Nat)
    (V : Valuation τ sig (Elt Ideal)) : Prop where
  rows : ∀ r : Fin 256, (V (Proc.devRef .tc main_v25_0) : IVec S256 32) (ix1 r) = BitVec.ofNat 32 r.val
  q : ∀ b h R c d, (V (Proc.devRef .tc main_v25_1) : Vec Ideal S2x8x256x64x64 .f32) (ix5 b h R c d) = P (ix3 b (Natten.tok R c) (Natten.qcol h d))
  k : ∀ b h R c d, (V (Proc.devRef .tc main_v25_2) : Vec Ideal S2x8x256x64x64 .f32) (ix5 b h R c d) = P (ix3 b (Natten.tok R c) (Natten.kcol h d))
  v : ∀ b h R c d, (V (Proc.devRef .tc main_v25_5) : Vec Ideal S2x8x256x64x64 .f32) (ix5 b h R c d) = P (ix3 b (Natten.tok R c) (Natten.vcol h d))
  cols : ∀ (j : Fin 4) (w : Fin 32), (V (Proc.devRef .tc main_v25_3) : IVec S4x32 32) (ix2 j w) = BitVec.ofNat 32 (kc0 j.val + w.val)
  z4 : ∀ j w, (V (Proc.devRef .tc main_v25_4) : IVec S4x32 1) (ix2 j w) = 0#1
  z6 : ∀ j w, (V (Proc.devRef .tc main_v25_6) : IVec S4x32 1) (ix2 j w) = 0#1
  diff : ∀ (j : Fin 4) (q : Fin 16) (w : Fin 32), (V (Proc.devRef .tc main_v25_7) : IVec S4x16x1x32 32) (ix4 j q 0 w)
    = BitVec.ofNat 32 (min 30 (kc0 j.val + w.val + 15 - (16 * j.val + q.val)))
  z8 : ∀ j q w, (V (Proc.devRef .tc main_v25_8) : IVec S4x16x1x32 1) (ix4 j q 0 w) = 0#1
  bias : (V (Proc.devRef .tc main_v25_9) : Vec Ideal S8x15x31 .f32) = B
  mask : ∀ (j : Fin 4) (q : Fin 16) (i : Fin 8) (w : Fin 32) (h1 : 32 * i.val + w.val < 256),
    (V (Proc.devRef .tc main_v25_10) : IVec S4x16x256 1) (ix3 j q ⟨32 * i.val + w.val, h1⟩)
      = BitVec.ofBool (decide (min 48 (16 * j.val + q.val - 8) ≤ kc0 j.val + w.val ∧ kc0 j.val + w.val < min 48 (16 * j.val + q.val - 8) + 16))
  ck : ∀ b h n d, (V (Proc.devRef .tc main_v25_11) : Vec Ideal S2x8x256x64 .f32) (ix4 b h n d) = C (ix3 b n (Natten.kcol h d))
  cv : ∀ b h n d, (V (Proc.devRef .tc main_v25_12) : Vec Ideal S2x8x256x64 .f32) (ix4 b h n d) = C (ix3 b n (Natten.vcol h d))
  count : (V (Proc.devRef .tc main_v25_13) : IVec S_ 32) = fun _ => BitVec.ofNat 32 n

variable (P : Natten.SP.Idx → EReal) (C : Natten.SC.Idx → EReal) (B : Natten.SB.Idx → EReal)

/-- The score of a context key. -/
theorem score_ctx (V : Valuation τ sig (Elt Ideal)) (R : Fin 256) (hV : Carried P C B R.val V)
    (b : Fin 2) (h : Fin 8) (j : Fin 4) (q : Fin 16) (n : Fin 256) (h1 : 256 + n.val < 512) (hc : 16 * j.val + q.val < 64) :
    (res_main_while0b_v91 V : Vec Ideal S2x8x4x16x512 .f32) (ix5 b h j q ⟨256 + n.val, h1⟩)
      = (∑ l : Fin 64, P (ix3 b (Natten.tok R ⟨16 * j.val + q.val, hc⟩) (Natten.qcol h l)) * C (ix3 b n (Natten.kcol h l))) * Ideal.ofBits FTy.f32 0x3E000000#32 := by
  have hr := rowno_at V R hV.rows hV.count
  unfold res_main_while0b_v91
  pointwise []
  refine congrArg (· * _) (Finset.sum_congr rfl fun l _ => ?_)
  rw [query_at V R hr b h j q l hc, hV.q, hV.ck]

/-- The score of a place of the stretch. -/
theorem score_near (V : Valuation τ sig (Elt Ideal)) (R : Fin 256) (hV : Carried P C B R.val V)
    (b : Fin 2) (h : Fin 8) (j : Fin 4) (q : Fin 16) (i : Fin 8) (w : Fin 32) (h1 : 32 * i.val + w.val < 512) (hc : 16 * j.val + q.val < 64)
    (h2 : Natten.rs R.val + i.val < 256) (h3 : kc0 j.val + w.val < 64) (h4 : min 30 (kc0 j.val + w.val + 15 - (16 * j.val + q.val)) < 31) :
    (res_main_while0b_v91 V : Vec Ideal S2x8x4x16x512 .f32) (ix5 b h j q ⟨32 * i.val + w.val, h1⟩)
      = if min 48 (16 * j.val + q.val - 8) ≤ kc0 j.val + w.val ∧ kc0 j.val + w.val < min 48 (16 * j.val + q.val - 8) + 16 then
        (∑ l : Fin 64, P (ix3 b (Natten.tok R ⟨16 * j.val + q.val, hc⟩) (Natten.qcol h l)) * P (ix3 b (Natten.tok ⟨Natten.rs R.val + i.val, h2⟩ ⟨kc0 j.val + w.val, h3⟩) (Natten.kcol h l))) * Ideal.ofBits FTy.f32 0x3E000000#32
          + B (ix3 h (Natten.brow R i) ⟨min 30 (kc0 j.val + w.val + 15 - (16 * j.val + q.val)), h4⟩)
        else ⊥ := by
  have hr := rowno_at V R hV.rows hV.count
  unfold res_main_while0b_v91
  pointwise []
  rw [dif_pos (show 32 * i.val + w.val < 256 by omega), hV.mask j q i w (by omega)]
  by_cases hm : min 48 (16 * j.val + q.val - 8) ≤ kc0 j.val + w.val ∧ kc0 j.val + w.val < min 48 (16 * j.val + q.val - 8) + 16
  · rw [decide_eq_true hm, if_pos hm]
    refine (show Scalar.select (BitVec.ofBool true) _ _ = _ from rfl).trans ?_
    refine congrArg₂ (· + ·) (congrArg (· * _) (Finset.sum_congr rfl fun l _ => ?_)) ?_
    · rw [query_at V R hr b h j q l hc, hV.q]
      exact congrArg _ ((near_at (V (Proc.devRef .tc main_v25_2) : Vec Ideal S2x8x256x64x64 .f32) _ _ _ R (rowstart_at V R hr) hV.z4 hV.cols b h j i w l h2 h3).trans (hV.k ..))
    · refine (bias_at (V (Proc.devRef .tc main_v25_9) : Vec Ideal S8x15x31 .f32) _ _ _ R (brow_at V R hr) hV.z8 hV.diff h j q i w h4).trans ?_
      rw [hV.bias]
  · rw [decide_eq_false hm, if_neg hm]
    exact (show Scalar.select (BitVec.ofBool false) _ _ = _ from rfl).trans (show Ideal.ofBits FTy.f32 0xFF800000#32 = ⊥ from rfl)
end Cert.NattenRefIdeal.Val
end
-- ==== Proof.NattenRefTrip.lean ====
module
public import proofs.«01_k».proof.Proof.NattenRefScore

/-!
# One trip of the reference is one row of the attention
-/
@[expose] public section
set_option maxRecDepth 16384
noncomputable section
open Idealize.ShloMosaic Idealize.ShloMosaic.TcCoe Idealize.SL.Sem
namespace Cert.NattenRefIdeal.Val
open Cert.NattenRefIdeal Cert.NattenRefIdeal.Gen Cert.NattenRefIdeal.Value

/-- The 512 scores of a query. -/
def scores (V : Valuation τ sig (Elt Ideal)) (b : Fin 2) (h : Fin 8) (j : Fin 4) (q : Fin 16) (n : Fin 512) : EReal :=
  (res_main_while0b_v91 V : Vec Ideal S2x8x4x16x512 .f32) (ix5 b h j q n)
/-- The largest of them. -/
def topScore (V : Valuation τ sig (Elt Ideal)) (b : Fin 2) (h : Fin 8) (j : Fin 4) (q : Fin 16) : EReal :=
  Finset.univ.fold max ⊥ (scores V b h j q)

/-- Their exponentials. -/
def exps (V : Valuation τ sig (Elt Ideal)) (b : Fin 2) (h : Fin 8) (j : Fin 4) (q : Fin 16) (n : Fin 512) : EReal :=
  (res_main_while0b_v98 V : Vec Ideal S2x8x4x16x512 .f32) (ix5 b h j q n)
/-- Their weights. -/
def weights (V : Valuation τ sig (Elt Ideal)) (b : Fin 2) (h : Fin 8) (j : Fin 4) (q : Fin 16) (n : Fin 512) : EReal :=
  (res_main_while0b_v102 V : Vec Ideal S2x8x4x16x512 .f32) (ix5 b h j q n)

theorem fiber_at (j : S2x8x4x16.Idx) (i : S2x8x4x16x512.Idx) :
    reducesTo_S2x8x4x16x512_S2x8x4x16_d4.drop i = j ↔ ∃ k : Fin 512, ix5 (j 0) (j 1) (j 2) (j 3) k = i := by
  constructor
  · intro e
    refine ⟨i 4, ?_⟩
    funext b
    apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext b
    apply Fin.ext
    match b with
    | ⟨0, _⟩ => rfl
    | ⟨1, _⟩ => rfl
    | ⟨2, _⟩ => rfl
    | ⟨3, _⟩ => rfl

theorem fold_at (W : S2x8x4x16x512.Idx → EReal) (b : Fin 2) (h : Fin 8) (j : Fin 4) (q : Fin 16) :
    (Finset.univ.filter fun i => reducesTo_S2x8x4x16x512_S2x8x4x16_d4.drop i = ix4 b h j q).fold max ⊥ W
      = Finset.univ.fold max ⊥ fun k : Fin 512 => W (ix5 b h j q k) :=
  Finset.fold_filter_eq_fold_of_fiber max _ (fun k : Fin 512 => (ix5 b h j q k : S2x8x4x16x512.Idx)) (fun _ _ e => congrFun e 4)
    (fiber_at (ix4 b h j q)) ⊥ W

theorem exp_at (V : Valuation τ sig (Elt Ideal)) (b : Fin 2) (h : Fin 8) (j : Fin 4) (q : Fin 16) (n : Fin 512) :
    exps V b h j q n = Ideal.exp (scores V b h j q n - topScore V b h j q) := by
  unfold exps topScore scores res_main_while0b_v98
  generalize res_main_while0b_v91 V = W
  pointwise []
  refine congrArg (fun z : EReal => Ideal.exp (@HSub.hSub EReal EReal EReal _ (W (ix5 b h j q n)) z)) ?_
  refine (bot_sup_eq _).trans ?_
  exact fold_at W b h j q

theorem weight_at (V : Valuation τ sig (Elt Ideal)) (b : Fin 2) (h : Fin 8) (j : Fin 4) (q : Fin 16) (n : Fin 512) :
    weights V b h j q n = Ideal.div (exps V b h j q n) (∑ l : Fin 512, exps V b h j q l) := by
  unfold weights exps res_main_while0b_v102
  generalize res_main_while0b_v98 V = W
  pointwise []

/-- An update of one row of 256. -/
theorem update_at {α : Type} (X : S256x2x8x64x64.Idx → α) (U : S1x2x8x64x64.Idx → α) (st : Fin S256x2x8x64x64.rank → Int) (n : Nat) (h0 : st 0 = n) (h1 : st 1 = 0)
    (h2 : st 2 = 0) (h3 : st 3 = 0) (h4 : st 4 = 0) (hn : n < 256) (R : Fin 256) (b : Fin 2) (h : Fin 8) (c d : Fin 64) :
    Host.dynamicUpdateSlice X U st updateFits_S256x2x8x64x64_S1x2x8x64x64 (ix5 R b h c d)
      = if R.val = n then U (ix5 0 b h c d) else X (ix5 R b h c d) := by
  have e0 : Host.clampedStart S256x2x8x64x64 S1x2x8x64x64 updateFits_S256x2x8x64x64_S1x2x8x64x64.1 st 0 = n := Host.clampedStart_of_le _ _ _ n h0 (by show n + 1 ≤ 256; omega)
  have e1 : Host.clampedStart S256x2x8x64x64 S1x2x8x64x64 updateFits_S256x2x8x64x64_S1x2x8x64x64.1 st 1 = 0 := Host.clampedStart_of_le _ _ _ 0 h1 (by decide)
  have e2 : Host.clampedStart S256x2x8x64x64 S1x2x8x64x64 updateFits_S256x2x8x64x64_S1x2x8x64x64.1 st 2 = 0 := Host.clampedStart_of_le _ _ _ 0 h2 (by decide)
  have e3 : Host.clampedStart S256x2x8x64x64 S1x2x8x64x64 updateFits_S256x2x8x64x64_S1x2x8x64x64.1 st 3 = 0 := Host.clampedStart_of_le _ _ _ 0 h3 (by decide)
  have e4 : Host.clampedStart S256x2x8x64x64 S1x2x8x64x64 updateFits_S256x2x8x64x64_S1x2x8x64x64.1 st 4 = 0 := Host.clampedStart_of_le _ _ _ 0 h4 (by decide)
  rw [Host.dynamicUpdateSlice_apply]
  by_cases hR : R.val = n
  · rw [if_pos hR, dif_pos (fun a => by
      match a with
      | ⟨0, _⟩ => show Host.clampedStart S256x2x8x64x64 S1x2x8x64x64 updateFits_S256x2x8x64x64_S1x2x8x64x64.1 st 0 ≤ R.val ∧ R.val < Host.clampedStart S256x2x8x64x64 S1x2x8x64x64 updateFits_S256x2x8x64x64_S1x2x8x64x64.1 st 0 + 1; rw [e0]; omega
      | ⟨1, _⟩ => show Host.clampedStart S256x2x8x64x64 S1x2x8x64x64 updateFits_S256x2x8x64x64_S1x2x8x64x64.1 st 1 ≤ b.val ∧ b.val < Host.clampedStart S256x2x8x64x64 S1x2x8x64x64 updateFits_S256x2x8x64x64_S1x2x8x64x64.1 st 1 + 2; rw [e1]; omega
      | ⟨2, _⟩ => show Host.clampedStart S256x2x8x64x64 S1x2x8x64x64 updateFits_S256x2x8x64x64_S1x2x8x64x64.1 st 2 ≤ h.val ∧ h.val < Host.clampedStart S256x2x8x64x64 S1x2x8x64x64 updateFits_S256x2x8x64x64_S1x2x8x64x64.1 st 2 + 8; rw [e2]; omega
      | ⟨3, _⟩ => show Host.clampedStart S256x2x8x64x64 S1x2x8x64x64 updateFits_S256x2x8x64x64_S1x2x8x64x64.1 st 3 ≤ c.val ∧ c.val < Host.clampedStart S256x2x8x64x64 S1x2x8x64x64 updateFits_S256x2x8x64x64_S1x2x8x64x64.1 st 3 + 64; rw [e3]; omega
      | ⟨4, _⟩ => show Host.clampedStart S256x2x8x64x64 S1x2x8x64x64 updateFits_S256x2x8x64x64_S1x2x8x64x64.1 st 4 ≤ d.val ∧ d.val < Host.clampedStart S256x2x8x64x64 S1x2x8x64x64 updateFits_S256x2x8x64x64_S1x2x8x64x64.1 st 4 + 64; rw [e4]; omega)]
    refine congrArg U (funext fun a => Fin.ext ?_)
    match a with
    | ⟨0, _⟩ => show R.val - Host.clampedStart S256x2x8x64x64 S1x2x8x64x64 updateFits_S256x2x8x64x64_S1x2x8x64x64.1 st 0 = 0; rw [e0]; omega
    | ⟨1, _⟩ => show b.val - Host.clampedStart S256x2x8x64x64 S1x2x8x64x64 updateFits_S256x2x8x64x64_S1x2x8x64x64.1 st 1 = b.val; rw [e1]; omega
    | ⟨2, _⟩ => show h.val - Host.clampedStart S256x2x8x64x64 S1x2x8x64x64 updateFits_S256x2x8x64x64_S1x2x8x64x64.1 st 2 = h.val; rw [e2]; omega
    | ⟨3, _⟩ => show c.val - Host.clampedStart S256x2x8x64x64 S1x2x8x64x64 updateFits_S256x2x8x64x64_S1x2x8x64x64.1 st 3 = c.val; rw [e3]; omega
    | ⟨4, _⟩ => show d.val - Host.clampedStart S256x2x8x64x64 S1x2x8x64x64 updateFits_S256x2x8x64x64_S1x2x8x64x64.1 st 4 = d.val; rw [e4]; omega
  · rw [if_neg hR, dif_neg]
    intro hin
    have h := hin ⟨0, by decide⟩
    have h' : Host.clampedStart S256x2x8x64x64 S1x2x8x64x64 updateFits_S256x2x8x64x64_S1x2x8x64x64.1 st 0 ≤ R.val ∧ R.val < Host.clampedStart S256x2x8x64x64 S1x2x8x64x64 updateFits_S256x2x8x64x64_S1x2x8x64x64.1 st 0 + 1 := h
    rw [e0] at h'
    omega

variable (P : Natten.SP.Idx → EReal) (C : Natten.SC.Idx → EReal) (B : Natten.SB.Idx → EReal)

/-- The rows of the other trips are left alone. -/
theorem trip_other (V : Valuation τ sig (Elt Ideal)) (R : Fin 256) (hV : Carried P C B R.val V) (R' : Fin 256) (hR : R'.val ≠ R.val)
    (b : Fin 2) (h : Fin 8) (c d : Fin 64) :
    (step_main_v25_14 V : Vec Ideal S256x2x8x64x64 .f32) (ix5 R' b h c d) = (V (Proc.devRef .tc main_v25_14) : Vec Ideal S256x2x8x64x64 .f32) (ix5 R' b h c d) := by
  unfold step_main_v25_14
  rw [hV.count]
  exact (update_at (V (Proc.devRef .tc main_v25_14) : Vec Ideal S256x2x8x64x64 .f32) _ _ R.val (word_toInt _ (by omega)) rfl rfl rfl rfl R.isLt R' b h c d).trans (if_neg hR)

/-- The row of this trip, as the weights applied to the values. -/
theorem trip_sum (V : Valuation τ sig (Elt Ideal)) (R : Fin 256) (hV : Carried P C B R.val V)
    (b : Fin 2) (h : Fin 8) (j : Fin 4) (q : Fin 16) (d : Fin 64) (hc : 16 * j.val + q.val < 64) :
    (step_main_v25_14 V : Vec Ideal S256x2x8x64x64 .f32) (ix5 R b h ⟨16 * j.val + q.val, hc⟩ d)
      = (∑ n : Fin 256, weights V b h j q (Fin.castAdd 256 n)
          * P (ix3 b (Natten.tok ⟨Natten.rs R.val + n.val / 32, by simp only [Natten.rs]; omega⟩ ⟨kc0 j.val + n.val % 32, by simp only [kc0]; omega⟩) (Natten.vcol h d)))
        + ∑ n : Fin 256, weights V b h j q (Fin.natAdd 256 n) * C (ix3 b n (Natten.vcol h d)) := by
  have hr := rowno_at V R hV.rows hV.count
  unfold step_main_v25_14
  rw [hV.count]
  refine (update_at (V (Proc.devRef .tc main_v25_14) : Vec Ideal S256x2x8x64x64 .f32) _ _ R.val (word_toInt _ (by omega)) rfl rfl rfl rfl R.isLt R b h _ d).trans ((if_pos rfl).trans ?_)
  pointwise []
  refine congrArg₂ (· + ·) (Finset.sum_congr rfl fun n _ => ?_) (Finset.sum_congr rfl fun n _ => ?_)
  · refine congrArg₂ (· * ·) rfl ?_
    exact (near_at (V (Proc.devRef .tc main_v25_5) : Vec Ideal S2x8x256x64x64 .f32) _ _ _ R (rowstart_at V R hr) hV.z6 hV.cols b h j _ _ d _ _).trans (hV.v ..)
  · exact congrArg₂ (· * ·) rfl (hV.cv ..)

/-- A largest element over two halves. -/
theorem fold_halves (f : Fin 512 → EReal) : Finset.univ.fold max ⊥ f
    = max (Finset.univ.fold max ⊥ fun n : Fin 256 => f (Fin.castAdd 256 n)) (Finset.univ.fold max ⊥ fun n : Fin 256 => f (Fin.natAdd 256 n)) := by
  apply le_antisymm
  · refine (Finset.fold_max_le _).2 ⟨bot_le, fun n _ => ?_⟩
    by_cases hn : n.val < 256
    · exact le_max_of_le_left (Finset.le_fold_max _ |>.2 (Or.inr ⟨⟨n.val, hn⟩, Finset.mem_univ _, le_of_eq rfl⟩))
    · refine le_max_of_le_right (Finset.le_fold_max _ |>.2 (Or.inr ⟨⟨n.val - 256, by omega⟩, Finset.mem_univ _, le_of_eq (congrArg f (Fin.ext ?_))⟩))
      show n.val = 256 + (n.val - 256)
      omega
  · refine max_le ((Finset.fold_max_le _).2 ⟨bot_le, fun n _ => ?_⟩) ((Finset.fold_max_le _).2 ⟨bot_le, fun n _ => ?_⟩)
    · exact Finset.le_fold_max _ |>.2 (Or.inr ⟨_, Finset.mem_univ _, le_rfl⟩)
    · exact Finset.le_fold_max _ |>.2 (Or.inr ⟨_, Finset.mem_univ _, le_rfl⟩)

/-- The place of the window's key `(i, k)` among the 8 rows of 32 columns of the stretch. -/
def spot (j : Fin 4) (q : Fin 16) (p : Fin 8 × Fin 16) : Fin 256 :=
  ⟨32 * p.1.val + (Natten.cs (16 * j.val + q.val) - kc0 j.val + p.2.val), by simp only [Natten.cs, kc0]; omega⟩
theorem spot_inj (j : Fin 4) (q : Fin 16) : Function.Injective (spot j q) := fun p r h => by
  have h' : 32 * p.1.val + (Natten.cs (16 * j.val + q.val) - kc0 j.val + p.2.val) = 32 * r.1.val + (Natten.cs (16 * j.val + q.val) - kc0 j.val + r.2.val) := congrArg Fin.val h
  simp only [Natten.cs, kc0] at h'
  exact Prod.ext (Fin.ext (by omega)) (Fin.ext (by omega))

/-- A dot product of finite rows. -/
theorem dot_coe (x y : Fin 64 → EReal) (hx : ∀ l, ∃ r : ℝ, x l = r) (hy : ∀ l, ∃ r : ℝ, y l = r) :
    ∑ l, x l * y l = ((∑ l, (x l).toReal * (y l).toReal : ℝ) : EReal) := by
  rw [Attn.coe_sum]
  refine Finset.sum_congr rfl fun l _ => ?_
  obtain ⟨a, ha⟩ := hx l
  obtain ⟨b, hb⟩ := hy l
  rw [ha, hb, EReal.toReal_coe, EReal.toReal_coe, ← EReal.coe_mul]

theorem eighth : Ideal.ofBits FTy.f32 0x3E000000#32 = ((1 / 8 : ℝ) : EReal) := by
  simp [Ideal.ofBits, Ideal.ieee, -EReal.coe_mul]; norm_num

/-- One row of the reference is one row of the attention. -/
theorem trip_at (hF : Natten.Fin3 P C B) (V : Valuation τ sig (Elt Ideal)) (R : Fin 256) (hV : Carried P C B R.val V)
    (b : Fin 2) (h : Fin 8) (c d : Fin 64) :
    (step_main_v25_14 V : Vec Ideal S256x2x8x64x64 .f32) (ix5 R b h c d) = Natten.out P C B b R c h d := by
  obtain ⟨j, hj⟩ : ∃ j : Fin 4, j.val = c.val / 16 := ⟨⟨c.val / 16, by omega⟩, rfl⟩
  obtain ⟨q, hq⟩ : ∃ q : Fin 16, q.val = c.val % 16 := ⟨⟨c.val % 16, by omega⟩, rfl⟩
  have hc : 16 * j.val + q.val < 64 := by omega
  obtain rfl : c = ⟨16 * j.val + q.val, hc⟩ := Fin.ext (by show c.val = 16 * j.val + q.val; omega)
  clear hj hq
  rw [trip_sum P C B V R hV b h j q d hc]
  simp only [weight_at, exp_at]
  have e := Attn.attn_divided (spot j q) (spot_inj j q) (Natten.score P B b R ⟨16 * j.val + q.val, hc⟩ h) (Natten.cscore P C b R ⟨16 * j.val + q.val, hc⟩ h)
    (fun n : Fin 256 => scores V b h j q (Fin.castAdd 256 n)) (fun n : Fin 256 => scores V b h j q (Fin.natAdd 256 n))
    (fun p => by
      refine (score_near P C B V R hV b h j q p.1 ⟨Natten.cs (16 * j.val + q.val) - kc0 j.val + p.2.val, by simp only [Natten.cs, kc0]; omega⟩ (by dsimp only; simp only [Natten.cs, kc0]; omega) hc
        (by simp only [Natten.rs]; omega) (by dsimp only; simp only [Natten.cs, kc0]; omega) (by omega)).trans ?_
      rw [if_pos (by dsimp only; simp only [Natten.cs, kc0]; omega)]
      rw [dot_coe _ _ (fun l => hF.q ..) (fun l => hF.k ..), eighth]
      have e1 : (Natten.tok ⟨Natten.rs R.val + p.1.val, by simp only [Natten.rs]; omega⟩ ⟨kc0 j.val + (Natten.cs (16 * j.val + q.val) - kc0 j.val + p.2.val), by simp only [Natten.cs, kc0]; omega⟩)
          = Natten.near R ⟨16 * j.val + q.val, hc⟩ p := Fin.ext (by dsimp only; simp only [Natten.cs, kc0]; omega)
      have e2 : (⟨min 30 (kc0 j.val + (Natten.cs (16 * j.val + q.val) - kc0 j.val + p.2.val) + 15 - (16 * j.val + q.val)), by omega⟩ : Fin 31)
          = Natten.bcol ⟨16 * j.val + q.val, hc⟩ p.2 := Fin.ext (by dsimp only; simp only [Natten.cs, kc0]; omega)
      obtain ⟨β, hβ⟩ := hF.b h (Natten.brow R p.1) (Natten.bcol ⟨16 * j.val + q.val, hc⟩ p.2)
      unfold Natten.score
      rw [e1, e2, hβ, ← EReal.coe_mul, ← EReal.coe_add, EReal.toReal_coe])
    (fun n hn => by
      refine (congrArg (scores V b h j q) (Fin.ext (by show n.val = 32 * (n.val / 32) + n.val % 32; omega))).trans
        ((score_near P C B V R hV b h j q ⟨n.val / 32, by omega⟩ ⟨n.val % 32, by omega⟩ (by dsimp only; omega) hc
        (by simp only [Natten.rs]; omega) (by dsimp only; simp only [kc0]; omega) (by omega)).trans ?_)
      rw [if_neg]
      intro hm
      dsimp only at hm
      refine hn (⟨n.val / 32, by omega⟩, ⟨kc0 j.val + n.val % 32 - Natten.cs (16 * j.val + q.val), by simp only [Natten.cs]; omega⟩) (Fin.ext ?_)
      show 32 * (n.val / 32) + (Natten.cs (16 * j.val + q.val) - kc0 j.val + (kc0 j.val + n.val % 32 - Natten.cs (16 * j.val + q.val))) = n.val
      simp only [Natten.cs, kc0] at hm ⊢
      omega)
    (fun n => by
      refine (score_ctx P C B V R hV b h j q n (by omega) hc).trans ?_
      rw [dot_coe _ _ (fun l => hF.q ..) (fun l => hF.c ..), eighth, ← EReal.coe_mul]
      rfl)
    (fun n => P (ix3 b (Natten.tok ⟨Natten.rs R.val + n.val / 32, by simp only [Natten.rs]; omega⟩ ⟨kc0 j.val + n.val % 32, by simp only [kc0]; omega⟩) (Natten.vcol h d)))
    (fun n => C (ix3 b n (Natten.vcol h d))) (topScore V b h j q) _ (fold_halves _) rfl
  rw [Fin.sum_univ_add (a := 256) (b := 256) fun l : Fin 512 => Ideal.exp (scores V b h j q l - topScore V b h j q)]
  refine e.trans ?_
  unfold Natten.out
  refine congrArg (fun v => Attn.attn _ _ v _) (funext fun p => congrArg (fun t => P (ix3 b t (Natten.vcol h d))) (Fin.ext ?_))
  show 64 * (Natten.rs R.val + (32 * p.1.val + (Natten.cs (16 * j.val + q.val) - kc0 j.val + p.2.val)) / 32)
    + (kc0 j.val + (32 * p.1.val + (Natten.cs (16 * j.val + q.val) - kc0 j.val + p.2.val)) % 32) = 64 * (Natten.rs R.val + p.1.val) + (Natten.cs (16 * j.val + q.val) + p.2.val)
  simp only [Natten.cs, kc0]
  omega
end Cert.NattenRefIdeal.Val
end
-- ==== Proof.NattenRefLoop.lean ====
module
public import proofs.«01_k».proof.Proof.NattenRefTrip

/-!
# The reference's result is the neighbourhood attention

What the reference carries before its first trip; by induction, the rows of the attention that `k` trips have filled in;
the result.
-/
@[expose] public section
set_option maxRecDepth 16384
noncomputable section
open Idealize.ShloMosaic Idealize.ShloMosaic.TcCoe Idealize.SL.Sem
open Idealize.ShloMosaic.StableHlo
namespace Cert.NattenRefIdeal.Val
open Cert.NattenRefIdeal Cert.NattenRefIdeal.Gen Cert.NattenRefIdeal.Value
variable (m : (ℓ : Loc nD τ sig) → Buf (Elt Ideal) ℓ)

/-- The contents before the first trip. -/
abbrev start (c : Dev nD) : Valuation τ sig (Elt Ideal) := entryContents preI m c
/-- The image's queries, keys and values. -/
abbrev inP (c : Dev nD) : Natten.SP.Idx → EReal := m ((c.tc : Thread nD τ).loc main_arg0)
/-- The context's. -/
abbrev inC (c : Dev nD) : Natten.SC.Idx → EReal := m ((c.tc : Thread nD τ).loc main_arg1)
/-- The biases. -/
abbrev inB (c : Dev nD) : Natten.SB.Idx → EReal := m ((c.tc : Thread nD τ).loc main_arg2)

theorem ix3_congr {n0 n1 n2 : Nat} {x x' : Fin n0} {y y' : Fin n1} {z z' : Fin n2} (h0 : x.val = x'.val) (h1 : y.val = y'.val) (h2 : z.val = z'.val) :
    ix3 x y z = ix3 x' y' z' := by
  rw [Fin.ext h0, Fin.ext h1, Fin.ext h2]

theorem start_rows (c : Dev nD) (r : Fin 256) : (start m c (Proc.devRef .tc main_v25_0) : IVec S256 32) (ix1 r) = BitVec.ofNat 32 r.val := by
  unfold start
  simp only [entryContents, afterL_cons, afterL_nil]
  after_reads_simp
  rfl
theorem start_q (c : Dev nD) (b h R x d) : (start m c (Proc.devRef .tc main_v25_1) : Vec Ideal S2x8x256x64x64 .f32) (ix5 b h R x d)
    = inP m c (ix3 b (Natten.tok R x) (Natten.qcol h d)) := by
  unfold start
  simp only [entryContents, afterL_cons, afterL_nil]
  after_reads_simp
  pointwise []
  exact congrArg (inP m c) (ix3_congr rfl (by show R.val * 64 + x.val = 64 * R.val + x.val; omega) (by show h.val * 64 + d.val = 64 * h.val + d.val; omega))
theorem start_k (c : Dev nD) (b h R x d) : (start m c (Proc.devRef .tc main_v25_2) : Vec Ideal S2x8x256x64x64 .f32) (ix5 b h R x d)
    = inP m c (ix3 b (Natten.tok R x) (Natten.kcol h d)) := by
  unfold start
  simp only [entryContents, afterL_cons, afterL_nil]
  after_reads_simp
  pointwise []
  exact congrArg (inP m c) (ix3_congr rfl (by show R.val * 64 + x.val = 64 * R.val + x.val; omega) (by show 512 + (h.val * 64 + d.val) = 512 + (64 * h.val + d.val); omega))
theorem start_v (c : Dev nD) (b h R x d) : (start m c (Proc.devRef .tc main_v25_5) : Vec Ideal S2x8x256x64x64 .f32) (ix5 b h R x d)
    = inP m c (ix3 b (Natten.tok R x) (Natten.vcol h d)) := by
  unfold start
  simp only [entryContents, afterL_cons, afterL_nil]
  after_reads_simp
  pointwise []
  exact congrArg (inP m c) (ix3_congr rfl (by show R.val * 64 + x.val = 64 * R.val + x.val; omega) (by show 1024 + (h.val * 64 + d.val) = 1024 + (64 * h.val + d.val); omega))
theorem start_ck (c : Dev nD) (b h n d) : (start m c (Proc.devRef .tc main_v25_11) : Vec Ideal S2x8x256x64 .f32) (ix4 b h n d)
    = inC m c (ix3 b n (Natten.kcol h d)) := by
  unfold start
  simp only [entryContents, afterL_cons, afterL_nil]
  after_reads_simp
  pointwise []
  exact congrArg (inC m c) (ix3_congr rfl rfl (by show 512 + (h.val * 64 + d.val) = 512 + (64 * h.val + d.val); omega))
theorem start_cv (c : Dev nD) (b h n d) : (start m c (Proc.devRef .tc main_v25_12) : Vec Ideal S2x8x256x64 .f32) (ix4 b h n d)
    = inC m c (ix3 b n (Natten.vcol h d)) := by
  unfold start
  simp only [entryContents, afterL_cons, afterL_nil]
  after_reads_simp
  pointwise []
  exact congrArg (inC m c) (ix3_congr rfl rfl (by show 1024 + (h.val * 64 + d.val) = 1024 + (64 * h.val + d.val); omega))
theorem start_cols (c : Dev nD) (j : Fin 4) (w : Fin 32) : (start m c (Proc.devRef .tc main_v25_3) : IVec S4x32 32) (ix2 j w) = BitVec.ofNat 32 (kc0 j.val + w.val) := by
  unfold start
  simp only [entryContents, afterL_cons, afterL_nil]
  after_reads_simp
  rw [← lit1_at]
  exact congrArg lit1 (Fin.ext ((Shape.rowMajor_val_two _).trans (by show j.val * 32 + w.val = 32 * j.val + w.val; omega)))
theorem start_diff (c : Dev nD) (j : Fin 4) (q : Fin 16) (w : Fin 32) : (start m c (Proc.devRef .tc main_v25_7) : IVec S4x16x1x32 32) (ix4 j q 0 w)
    = BitVec.ofNat 32 (min 30 (kc0 j.val + w.val + 15 - (16 * j.val + q.val))) := by
  unfold start
  simp only [entryContents, afterL_cons, afterL_nil]
  after_reads_simp
  rw [← lit2_at]
  exact congrArg lit2 (Fin.ext ((Shape.rowMajor_val_four _).trans (by show ((j.val * 16 + q.val) * 1 + 0) * 32 + w.val = 512 * j.val + 32 * q.val + w.val; omega)))
theorem start_mask (c : Dev nD) (j : Fin 4) (q : Fin 16) (i : Fin 8) (w : Fin 32) (h1 : 32 * i.val + w.val < 256) :
    (start m c (Proc.devRef .tc main_v25_10) : IVec S4x16x256 1) (ix3 j q ⟨32 * i.val + w.val, h1⟩)
      = BitVec.ofBool (decide (min 48 (16 * j.val + q.val - 8) ≤ kc0 j.val + w.val ∧ kc0 j.val + w.val < min 48 (16 * j.val + q.val - 8) + 16)) := by
  unfold start
  simp only [entryContents, afterL_cons, afterL_nil]
  after_reads_simp
  rw [← lit0_at]
  pointwise []
  exact congrArg lit0 (Fin.ext ((Shape.rowMajor_val_three _).trans (by
    show (j.val * 16 + q.val) * 32 + (32 * i.val + w.val) % 32 = 512 * j.val + 32 * q.val + w.val; omega)))
theorem start_z4 (c : Dev nD) (j w) : (start m c (Proc.devRef .tc main_v25_4) : IVec S4x32 1) (ix2 j w) = 0#1 := by
  unfold start
  simp only [entryContents, afterL_cons, afterL_nil]
  after_reads_simp
  rfl
theorem start_z6 (c : Dev nD) (j w) : (start m c (Proc.devRef .tc main_v25_6) : IVec S4x32 1) (ix2 j w) = 0#1 := by
  unfold start
  simp only [entryContents, afterL_cons, afterL_nil]
  after_reads_simp
  rfl
theorem start_z8 (c : Dev nD) (j q w) : (start m c (Proc.devRef .tc main_v25_8) : IVec S4x16x1x32 1) (ix4 j q 0 w) = 0#1 := by
  unfold start
  simp only [entryContents, afterL_cons, afterL_nil]
  after_reads_simp
  rfl
theorem start_bias (c : Dev nD) : (start m c (Proc.devRef .tc main_v25_9) : Vec Ideal S8x15x31 .f32) = inB m c := by
  unfold start
  simp only [entryContents, afterL_cons, afterL_nil]
  after_reads_simp
  rfl

theorem start_carried (c : Dev nD) : Carried (inP m c) (inC m c) (inB m c) 0 (start m c) where
  rows := start_rows m c
  q := start_q m c
  k := start_k m c
  v := start_v m c
  cols := start_cols m c
  z4 := start_z4 m c
  z6 := start_z6 m c
  diff := start_diff m c
  z8 := start_z8 m c
  bias := start_bias m c
  mask := start_mask m c
  ck := start_ck m c
  cv := start_cv m c
  count := ctr_entry m c

/-- A trip leaves what it carries unchanged, and counts. -/
theorem step_carried (P : Natten.SP.Idx → EReal) (C : Natten.SC.Idx → EReal) (B : Natten.SB.Idx → EReal) (n : Nat) (V : Valuation τ sig (Elt Ideal))
    (h : Carried P C B n V) : Carried P C B (n + 1) (STEP V) where
  rows := by rw [STEP_main_v25_0]; exact h.rows
  q := by rw [STEP_main_v25_1]; exact h.q
  k := by rw [STEP_main_v25_2]; exact h.k
  v := by rw [STEP_main_v25_5]; exact h.v
  cols := by rw [STEP_main_v25_3]; exact h.cols
  z4 := by rw [STEP_main_v25_4]; exact h.z4
  z6 := by rw [STEP_main_v25_6]; exact h.z6
  diff := by rw [STEP_main_v25_7]; exact h.diff
  z8 := by rw [STEP_main_v25_8]; exact h.z8
  bias := by rw [STEP_main_v25_9]; exact h.bias
  mask := by rw [STEP_main_v25_10]; exact h.mask
  ck := by rw [STEP_main_v25_11]; exact h.ck
  cv := by rw [STEP_main_v25_12]; exact h.cv
  count := by
    rw [STEP_main_v25_13]
    unfold step_main_v25_13
    rw [h.count]
    funext i
    show BitVec.ofNat 32 n + 1#32 = BitVec.ofNat 32 (n + 1)
    rw [BitVec.ofNat_add]

theorem iter_carried (c : Dev nD) : ∀ n, Carried (inP m c) (inC m c) (inB m c) n (STEP^[n] (start m c))
  | 0 => start_carried m c
  | n + 1 => by
    rw [Function.iterate_succ_apply']
    exact step_carried _ _ _ n _ (iter_carried c n)

/-- The rows filled in. -/
theorem iter_rows (c : Dev nD) (hF : Natten.Fin3 (inP m c) (inC m c) (inB m c)) : ∀ n, n ≤ 256 → ∀ (R : Fin 256), R.val < n → ∀ (b : Fin 2) (h : Fin 8) (x d : Fin 64),
    (STEP^[n] (start m c) (Proc.devRef .tc main_v25_14) : Vec Ideal S256x2x8x64x64 .f32) (ix5 R b h x d)
      = Natten.out (inP m c) (inC m c) (inB m c) b R x h d
  | 0, _, R, hR, _, _, _, _ => absurd hR (Nat.not_lt_zero _)
  | n + 1, hn, R, hR, b, h, x, d => by
    rw [Function.iterate_succ_apply', STEP_main_v25_14]
    have hV := iter_carried m c n
    by_cases e : R.val = n
    · subst e
      exact trip_at _ _ _ hF _ R hV b h x d
    · exact (trip_other _ _ _ _ ⟨n, by omega⟩ hV R e b h x d).trans (iter_rows c hF n (by omega) R (by omega) b h x d)

/-- The reference's result. -/
theorem result_at (c : Dev nD) (hF : Natten.Fin3 (inP m c) (inC m c) (inB m c)) (b : Fin 2) (R : Fin 256) (x : Fin 64) (h : Fin 8) (d : Fin 64) (h1) :
    (out_main_v30 (STEP^[256] (start m c)) : Vec Ideal S2x16384x512 .bf16) (ix3 b (Natten.tok R x) ⟨64 * h.val + d.val, h1⟩)
      = Natten.out (inP m c) (inC m c) (inB m c) b R x h d := by
  rw [← iter_rows m c hF 256 le_rfl R R.isLt b h x d]
  unfold out_main_v30
  generalize STEP^[256] (start m c) = V
  pointwise []
end Cert.NattenRefIdeal.Val
end
-- ==== Proof.NattenClaims.lean ====
module
public import proofs.«01_k».proof.Defs
public import proofs.«01_k».proof.Proof.NattenKernel
public import proofs.«01_k».proof.Proof.NattenRefLoop
public import proofs.«01_k».proof.Proof.Gen.Natten.Frame
public import proofs.«01_k».proof.Proof.Gen.NattenIdeal.Frame
public import proofs.«01_k».proof.Proof.Gen.NattenRefIdeal.Run
public import Idealize.ShloMosaic.Lib.Quiescent

/-!
# The claims about the neighbourhood attention

Where the queries, the keys and the biases are finite, the kernel and the reference both compute the weighted means
`Natten.out`.
-/
@[expose] public section
set_option maxRecDepth 16384
noncomputable section
open Idealize.ShloMosaic Idealize.ShloMosaic.TcCoe Idealize.SL.Sem

namespace Cert.Proof.NattenClaims

/-- The shape relations of the precondition. -/
theorem preFacts : Cert.Pre_finite.Facts where
  slices_S2x16384x11264_S2x16384x1024_0_0_0 := by decide
  bitsLt_bf16_f32 := by decide
  bcast_S_S2x16384x1024 := by decide
  slices_S2x256x11264_S2x256x512_0_0_512 := by decide
  bcast_S_S2x256x512 := by decide
  bcast_S_S8x15x31 := by decide

/-- An extended real of absolute value below infinity is real. -/
theorem real_of_abs_lt (x : EReal) (h : Ideal.cmp .olt (max x (-x)) (Ideal.ofBits FTy.f32 0x7F800000#32) = 1#1) :
    ∃ r : ℝ, x = (r : EReal) := by
  have e : Ideal.ofBits FTy.f32 0x7F800000#32 = (⊤ : EReal) := rfl
  rw [e] at h
  induction x using EReal.rec with
  | bot => exact absurd h (by simp [Ideal.cmp])
  | top => exact absurd h (by simp [Ideal.cmp])
  | coe r => exact ⟨r, rfl⟩

/-- The precondition, read at an element of the queries and keys of the image. -/
theorem fin_rows [Cert.Pre_finite.Facts] (P : Vec Ideal Natten.SP .bf16) (C : Vec Ideal Natten.SC .bf16) (B : Vec Ideal Natten.SB .f32)
    (h : (Cert.Pre_finite.fn (F := Ideal) P C B).1 = fun _ => 1#1) (b : Fin 2) (t : Fin 16384) (j : Fin 1024) (hj : j.val < 11264) :
    ∃ r : ℝ, P (ix3 b t ⟨j.val, hj⟩) = (r : EReal) := by
  have e := congrFun h (ix3 b t j)
  refine real_of_abs_lt _ (Eq.trans (congrArg (fun z : EReal => Ideal.cmp .olt (max z (-z)) (Ideal.ofBits FTy.f32 0x7F800000#32)) ?_) e)
  refine congrArg P (funext fun a => Fin.ext ?_)
  fin_cases a <;> exact (Nat.zero_add _).symm

/-- The precondition, read at an element of the keys of the context. -/
theorem fin_ctx [Cert.Pre_finite.Facts] (P : Vec Ideal Natten.SP .bf16) (C : Vec Ideal Natten.SC .bf16) (B : Vec Ideal Natten.SB .f32)
    (h : (Cert.Pre_finite.fn (F := Ideal) P C B).2.1 = fun _ => 1#1) (b : Fin 2) (t : Fin 256) (j : Fin 512) (hj : 512 + j.val < 11264) :
    ∃ r : ℝ, C (ix3 b t ⟨512 + j.val, hj⟩) = (r : EReal) := by
  have e := congrFun h (ix3 b t j)
  refine real_of_abs_lt _ (Eq.trans (congrArg (fun z : EReal => Ideal.cmp .olt (max z (-z)) (Ideal.ofBits FTy.f32 0x7F800000#32)) ?_) e)
  refine congrArg C (funext fun a => Fin.ext ?_)
  fin_cases a
  · exact (Nat.zero_add _).symm
  · exact (Nat.zero_add _).symm
  · rfl

/-- The precondition, read at a bias. -/
theorem fin_bias [Cert.Pre_finite.Facts] (P : Vec Ideal Natten.SP .bf16) (C : Vec Ideal Natten.SC .bf16) (B : Vec Ideal Natten.SB .f32)
    (h : (Cert.Pre_finite.fn (F := Ideal) P C B).2.2 = fun _ => 1#1) (i : Fin 8) (j : Fin 15) (k : Fin 31) :
    ∃ r : ℝ, B (ix3 i j k) = (r : EReal) :=
  real_of_abs_lt _ (congrFun h (ix3 i j k))

/-- The precondition makes the scores' arguments finite. -/
theorem fin3 [Cert.Pre_finite.Facts] (P : Vec Ideal Natten.SP .bf16) (C : Vec Ideal Natten.SC .bf16) (B : Vec Ideal Natten.SB .f32)
    (h1 : (Cert.Pre_finite.fn (F := Ideal) P C B).1 = fun _ => 1#1) (h2 : (Cert.Pre_finite.fn (F := Ideal) P C B).2.1 = fun _ => 1#1)
    (h3 : (Cert.Pre_finite.fn (F := Ideal) P C B).2.2 = fun _ => 1#1) : Natten.Fin3 P C B where
  q b t h d := fin_rows P C B h1 b t ⟨64 * h.val + d.val, by omega⟩ _
  k b t h d := fin_rows P C B h1 b t ⟨512 + (64 * h.val + d.val), by omega⟩ _
  c b t h d := fin_ctx P C B h2 b t ⟨64 * h.val + d.val, by omega⟩ _
  b h i j := fin_bias P C B h3 h i j

/-- Every index of the result is some column of some head at some row and column of the image. -/
theorem ix_split (i : (⟨3, ![2, 16384, 512]⟩ : Shape).Idx) :
    ∃ (b : Fin 2) (R : Fin 256) (x : Fin 64) (h : Fin 8) (d : Fin 64) (h1 : 64 * h.val + d.val < 512),
      i = ix3 b (Natten.tok R x) ⟨64 * h.val + d.val, h1⟩ := by
  have l1 : (i 1).val < 16384 := (i 1).isLt
  have l2 : (i 2).val < 512 := (i 2).isLt
  refine ⟨i 0, ⟨(i 1).val / 64, by omega⟩, ⟨(i 1).val % 64, by omega⟩, ⟨(i 2).val / 64, by omega⟩, ⟨(i 2).val % 64, by omega⟩, ?_, ?_⟩
  · dsimp only; omega
  · refine funext fun a => Fin.ext ?_
    fin_cases a
    · rfl
    · show (i 1).val = 64 * ((i 1).val / 64) + (i 1).val % 64; omega
    · show (i 2).val = 64 * ((i 2).val / 64) + (i 2).val % 64; omega

theorem frame_p : Cert.quiescent_Natten := fun m ρ _ => Cert.Natten.Gen.frame m ρ
theorem frame_pi : Cert.quiescent_NattenIdeal := fun m ρ _ => Cert.NattenIdeal.Gen.frame m ρ
theorem frame_pi_finite [Cert.Pre_finite.Facts] : Cert.quiescent_NattenIdeal_pre_finite := fun m ρ _ => Cert.NattenIdeal.Gen.frame m ρ
theorem frame_ri : Cert.quiescent_NattenRefIdeal := fun m ρ _ =>
  (θ_run Cert.NattenRefIdeal.defs _ _).mono (fun r h => ⟨fun c => (h c).2, Idealize.ShloMosaic.sem_eq_zero_of_no_sems (by decide) r.2⟩)
    (Cert.NattenRefIdeal.Value.run (F := Ideal) m ρ)
theorem frame_ri_finite [Cert.Pre_finite.Facts] : Cert.quiescent_NattenRefIdeal_pre_finite := fun m ρ _ =>
  (θ_run Cert.NattenRefIdeal.defs _ _).mono (fun r h => ⟨fun c => (h c).2, Idealize.ShloMosaic.sem_eq_zero_of_no_sems (by decide) r.2⟩)
    (Cert.NattenRefIdeal.Value.run (F := Ideal) m ρ)

theorem preserves : Cert.preserves_Natten_NattenIdeal :=
  ⟨IdealRules.named_const.statement Cert.NattenIdeal.κ "qscale" .f32 0x3E38AA3B#32 (((1 / 8) * (Real.log 2)⁻¹ : ℝ) : EReal) rfl,
   IdealRules.named_const.statement Cert.NattenIdeal.κ "log2e" .f32 0x3FB8AA3B#32 (((Real.log 2)⁻¹ : ℝ) : EReal) rfl,
   IdealRules.named_const.statement Cert.NattenIdeal.κ "mask" .f32 0xF149F2CA#32 ⊥ rfl⟩

theorem algebraic [Cert.Pre_finite.Facts] : Cert.algebraic_NattenIdeal_NattenRefIdeal_pre_finite := by
  intro m ρ m' ρ' hpre hagree
  refine ⟨_, Cert.NattenIdeal.Value.run_blocks m ρ, ?_⟩
  refine (θ_run Cert.NattenRefIdeal.defs _ _).mono (fun _ h c => ⟨(h c).1.trans ?_, (h c).2⟩) (Cert.NattenRefIdeal.Value.run (F := Ideal) m' ρ')
  obtain ⟨a0, a1, a2⟩ := hagree c
  have hF := fin3 _ _ _ (hpre c).1 (hpre c).2.1 (hpre c).2.2
  have hF' : Natten.Fin3 (Cert.NattenRefIdeal.Val.inP m' c) (Cert.NattenRefIdeal.Val.inC m' c) (Cert.NattenRefIdeal.Val.inB m' c) := by
    simp only [Cert.NattenRefIdeal.Val.inP, Cert.NattenRefIdeal.Val.inC, Cert.NattenRefIdeal.Val.inB, a0, a1, a2]
    exact hF
  funext i
  obtain ⟨b, R, x, h, d, h1, rfl⟩ := ix_split i
  refine (Cert.NattenRefIdeal.Val.result_at m' c hF' b R x h d h1).trans (Eq.trans ?_ (Cert.NattenIdeal.Val.result_at m c hF b R x h d h1).symm)
  simp only [Cert.NattenRefIdeal.Val.inP, Cert.NattenRefIdeal.Val.inC, Cert.NattenRefIdeal.Val.inB, a0, a1, a2]
end Cert.Proof.NattenClaims
end
-- ==== Proof.Inproj.lean ====
module
public import proofs.«01_k».proof.Proof.Gen.InprojIdeal.Value
public import Idealize.ShloMosaic.Lib.Pointwise
public import Idealize.ShloMosaic.Lib.Pipeline.ValueKit
public import Idealize.ShloMosaic.Lib.StableHlo.RunRead

/-!
# The input projection, element by element

Each token's row is divided by its root mean square, scaled and shifted, and multiplied by the weights.  The kernel
computes a block of 2048 rows at the first of the block's eleven points, keeps it, and multiplies it by 1024 columns of
the weights at each.
-/
@[expose] public section
set_option maxRecDepth 16384
noncomputable section
open Idealize.ShloMosaic Idealize.ShloMosaic.TcCoe Idealize.SL.Sem

namespace Inproj

/-- Element `k` of a row divided by its root mean square, weighted. -/
def norm (x : Fin 1024 → EReal) (w : EReal) (k : Fin 1024) : EReal :=
  x k * Ideal.rsqrt (Ideal.div (∑ l, x l * x l) (Ideal.ofBits FTy.f32 0x44800000#32) + Ideal.ofBits FTy.f32 0x358637BD#32) * w
/-- The same, modulated. -/
def modded (x : Fin 1024 → EReal) (w sc sh : EReal) (k : Fin 1024) : EReal :=
  norm x w k * (1 + sc) + sh

end Inproj

namespace Cert.InprojIdeal.Val
open Cert.InprojIdeal Cert.InprojIdeal.Gen
variable (m : (ℓ : Loc nD τ sig) → Buf (Elt Ideal) ℓ)

theorem pay1_at (x : Vec Ideal S1x2048x1024 .f32) (nw : Vec Ideal S1x1024 .f32) (sc sh : Vec Ideal S1x1x1024 .f32) (r : Fin 2048) (k : Fin 1024) :
    k0_pay1 (F := Ideal) x nw sc sh (ix2 r k)
      = Inproj.modded (fun l => x (ix3 0 r l)) (nw (ix2 0 k)) (sc (ix3 0 0 k)) (sh (ix3 0 0 k)) k := by
  pointwise [k0_pay1, Inproj.modded, Inproj.norm]

theorem pay2_at (h : Vec Ideal S2048x1024 .bf16) (w : Vec Ideal S1x1024x1024 .bf16) (r : Fin 2048) (n : Fin 1024) :
    k0_pay2 (F := Ideal) h w (ix3 0 r n) = ∑ k : Fin 1024, (h (ix2 r k) : EReal) * (w (ix3 0 k n) : EReal) := by
  pointwise [k0_pay2]

theorem idx0 : ∀ t : Fin grid0.N, win0_0.index t = ![t.val / 88, t.val / 11 % 8, 0] := by decide +kernel
theorem idx1 : ∀ t : Fin grid0.N, win0_1.index t = ![0, 0] := by decide +kernel
theorem idx2 : ∀ t : Fin grid0.N, win0_2.index t = ![t.val / 88, 0, 0] := by decide +kernel
theorem idx3 : ∀ t : Fin grid0.N, win0_3.index t = ![t.val / 88, 0, 0] := by decide +kernel
theorem idx4 : ∀ t : Fin grid0.N, win0_4.index t = ![0, 0, t.val % 11] := by decide +kernel

theorem x_at (c : Dev nD) (t : Fin cfg0.N) (i : Fin 2048) (l : Fin 1024) (h1 h2) :
    iblk m c 0 t (ix3 0 i l) = m ((c.tc : Thread nD τ).loc main_arg0) (ix3 ⟨t.val / 88, h1⟩ ⟨2048 * (t.val / 11 % 8) + i.val, h2⟩ l) := by
  blk_ext [iblk, V, idx0 t]
theorem w_at (c : Dev nD) (t : Fin cfg0.N) (k n : Fin 1024) (h1) :
    iblk m c 4 t (ix3 0 k n) = m ((c.tc : Thread nD τ).loc main_arg3) (ix3 0 k ⟨1024 * (t.val % 11) + n.val, h1⟩) := by
  blk_ext [iblk, V, idx4 t]
theorem nw_blk (c : Dev nD) (t : Fin cfg0.N) (k : Fin 1024) :
    iblk m c 1 t (ix2 0 k) = (V m c main_v3 : S1x1024.Idx → EReal) (ix2 0 k) := by
  unfold iblk
  blk_simp
  show (V m c main_v3 : S1x1024.Idx → EReal) _ = _
  blk_ext [idx1 t]
theorem sc_blk (c : Dev nD) (t : Fin cfg0.N) (k : Fin 1024) (h1) :
    iblk m c 2 t (ix3 0 0 k) = (V m c main_v2 : S2x1x1024.Idx → EReal) (ix3 ⟨t.val / 88, h1⟩ 0 k) := by
  unfold iblk
  blk_simp
  show (V m c main_v2 : S2x1x1024.Idx → EReal) _ = _
  blk_ext [idx2 t]
theorem sh_blk (c : Dev nD) (t : Fin cfg0.N) (k : Fin 1024) (h1) :
    iblk m c 3 t (ix3 0 0 k) = (V m c main_v1 : S2x1x1024.Idx → EReal) (ix3 ⟨t.val / 88, h1⟩ 0 k) := by
  unfold iblk
  blk_simp
  show (V m c main_v1 : S2x1x1024.Idx → EReal) _ = _
  blk_ext [idx3 t]

theorem nw_V (c : Dev nD) (k : Fin 1024) : (V m c main_v3 : S1x1024.Idx → EReal) (ix2 0 k) = (m ((c.tc : Thread nD τ).loc main_arg2) : S1024.Idx → EReal) (ix1 k) := by
  have e : (V m c main_v3 : S1x1024.Idx → EReal) = shapeCast S1x1024 (m ((c.tc : Thread nD τ).loc main_arg2) : S1024.Idx → EReal) shapeCasts_S1024_S1x1024 := by
    unfold V
    after_reads_simp
    rfl
  rw [e]
  pointwise
theorem sc_V (c : Dev nD) (b : Fin 2) (k : Fin 1024) (h2) : (V m c main_v2 : S2x1x1024.Idx → EReal) (ix3 b 0 k)
    = (m ((c.tc : Thread nD τ).loc main_arg1) : S2x3072.Idx → EReal) (ix2 b ⟨1024 + k.val, h2⟩) := by
  have e : (V m c main_v2 : S2x1x1024.Idx → EReal) = extractStridedSlice S2x1x1024 ![0, 0, 1024] (shapeCast S2x1x3072 (m ((c.tc : Thread nD τ).loc main_arg1) : S2x3072.Idx → EReal) shapeCasts_S2x3072_S2x1x3072) slices_S2x1x3072_S2x1x1024_0_0_1024 := by
    unfold V
    after_reads_simp
    rfl
  rw [e]
  pointwise
theorem sh_V (c : Dev nD) (b : Fin 2) (k : Fin 1024) (h2) : (V m c main_v1 : S2x1x1024.Idx → EReal) (ix3 b 0 k)
    = (m ((c.tc : Thread nD τ).loc main_arg1) : S2x3072.Idx → EReal) (ix2 b ⟨k.val, h2⟩) := by
  have e : (V m c main_v1 : S2x1x1024.Idx → EReal) = extractStridedSlice S2x1x1024 ![0, 0, 0] (shapeCast S2x1x3072 (m ((c.tc : Thread nD τ).loc main_arg1) : S2x3072.Idx → EReal) shapeCasts_S2x3072_S2x1x3072) slices_S2x1x3072_S2x1x1024_0_0_0 := by
    unfold V
    after_reads_simp
    rfl
  rw [e]
  pointwise

/-- The modulated row of token `s` of batch `b`. -/
def hid (c : Dev nD) (b : Fin 2) (s : Fin 16384) (k : Fin 1024) : EReal :=
  Inproj.modded (fun l => (m ((c.tc : Thread nD τ).loc main_arg0) : S2x16384x1024.Idx → EReal) (ix3 b s l))
    ((m ((c.tc : Thread nD τ).loc main_arg2) : S1024.Idx → EReal) (ix1 k))
    ((m ((c.tc : Thread nD τ).loc main_arg1) : S2x3072.Idx → EReal) (ix2 b ⟨1024 + k.val, by omega⟩))
    ((m ((c.tc : Thread nD τ).loc main_arg1) : S2x3072.Idx → EReal) (ix2 b ⟨k.val, by omega⟩)) k

/-- What the first point of a block of rows computes and keeps. -/
theorem pay1_blk (c : Dev nD) (t : Fin cfg0.N) (r : Fin 2048) (k : Fin 1024) (h1 h2) :
    k0_pay1 (F := Ideal) (iblk m c 0 t) (iblk m c 1 t) (iblk m c 2 t) (iblk m c 3 t) (ix2 r k)
      = hid m c ⟨t.val / 88, h1⟩ ⟨2048 * (t.val / 11 % 8) + r.val, h2⟩ k := by
  refine (pay1_at _ _ _ _ r k).trans ?_
  rw [nw_blk, sc_blk m c t k h1, sh_blk m c t k h1, nw_V, sc_V m c _ k (by omega), sh_V m c _ k (by omega)]
  refine congrArg (fun x : Fin 1024 → EReal => Inproj.modded x _ _ _ k) (funext fun l => ?_)
  exact x_at m c t r l h1 h2

theorem kept_A (c : Dev nD) (t : Fin cfg0.N) (h0 : t.val % 11 = 0) :
    (outsAt0 m c t.val t.isLt).2 = k0_pay1 (F := Ideal) (iblk m c 0 t) (iblk m c 1 t) (iblk m c 2 t) (iblk m c 3 t) := by
  rw [outsAt0_A m c t h0]
  frame_out
theorem kept_B (c : Dev nD) (t : Fin cfg0.N) (h0 : ¬t.val % 11 = 0) :
    (outsAt0 m c t.val t.isLt).2 = (outsAt0 m c (t.val - 1) (Nat.lt_of_le_of_lt (Nat.sub_le _ _) t.isLt)).2 := by
  rw [outsAt0_B m c t h0]
  rfl
theorem out_A (c : Dev nD) (t : Fin cfg0.N) (h0 : t.val % 11 = 0) :
    (outsAt0 m c t.val t.isLt).1 = k0_pay2 (F := Ideal) (k0_pay1 (F := Ideal) (iblk m c 0 t) (iblk m c 1 t) (iblk m c 2 t) (iblk m c 3 t)) (iblk m c 4 t) := by
  rw [outsAt0_A m c t h0]
  frame_out
theorem out_B (c : Dev nD) (t : Fin cfg0.N) (h0 : ¬t.val % 11 = 0) :
    (outsAt0 m c t.val t.isLt).1 = k0_pay2 (F := Ideal) (outsAt0 m c (t.val - 1) (Nat.lt_of_le_of_lt (Nat.sub_le _ _) t.isLt)).2 (iblk m c 4 t) := by
  rw [outsAt0_B m c t h0]
  frame_out
  exact congrArg (fun h => k0_pay2 (F := Ideal) h (iblk m c 4 t)) (Memref.IsWhole.read_unread (Memref.isWhole_whole cc0_scratch0) _)

/-- The kept rows are those of the point's own block, at every point. -/
theorem kept (c : Dev nD) : ∀ (n : Nat) (hn : n < cfg0.N) (r : Fin 2048) (k : Fin 1024) (h1 h2),
    (outsAt0 m c n hn).2 (ix2 r k) = hid m c ⟨n / 88, h1⟩ ⟨2048 * (n / 11 % 8) + r.val, h2⟩ k := by
  intro n
  induction n with
  | zero => intro hn r k h1 h2; rw [kept_A m c ⟨0, hn⟩ rfl]; exact pay1_blk m c ⟨0, hn⟩ r k h1 h2
  | succ n ih =>
    intro hn r k h1 h2
    by_cases h0 : (n + 1) % 11 = 0
    · rw [kept_A m c ⟨n + 1, hn⟩ h0]; exact pay1_blk m c ⟨n + 1, hn⟩ r k h1 h2
    · rw [kept_B m c ⟨n + 1, hn⟩ h0]
      refine (ih _ r k (by omega) (by omega)).trans ?_
      have e1 : n / 88 = (n + 1) / 88 := by omega
      have e2 : n / 11 % 8 = (n + 1) / 11 % 8 := by omega
      simp only [e1, e2]

/-- Every point stores the product of its kept rows by its columns of the weights. -/
theorem stored (c : Dev nD) (t : Fin cfg0.N) (r : Fin 2048) (l : Fin 1024) (h1 h2 h3) :
    (outsAt0 m c t.val t.isLt).1 (ix3 0 r l) = ∑ k : Fin 1024, hid m c ⟨t.val / 88, h1⟩ ⟨2048 * (t.val / 11 % 8) + r.val, h2⟩ k
      * (m ((c.tc : Thread nD τ).loc main_arg3) : S2x1024x11264.Idx → EReal) (ix3 0 k ⟨1024 * (t.val % 11) + l.val, h3⟩) := by
  have e : (outsAt0 m c t.val t.isLt).1 = k0_pay2 (F := Ideal) (outsAt0 m c t.val t.isLt).2 (iblk m c 4 t) := by
    by_cases h0 : t.val % 11 = 0
    · rw [out_A m c t h0, kept_A m c t h0]
    · rw [out_B m c t h0, kept_B m c t h0]
  rw [e]
  refine (pay2_at _ _ r l).trans (Finset.sum_congr rfl fun k _ => ?_)
  exact congrArg₂ (fun a b : EReal => a * b) (kept m c t.val t.isLt r k h1 h2) (w_at m c t k l h3)

theorem idx5 : ∀ t : Fin grid0.N, win0_5.index t = ![t.val / 88, t.val / 11 % 8, t.val % 11] := by decide +kernel
theorem emb5 (t : Fin cfg0.N) (i : Fin 2048) (l : Fin 1024) (h1 h2 h3) :
    (ix3 ⟨t.val / 88, h1⟩ ⟨2048 * (t.val / 11 % 8) + i.val, h2⟩ ⟨1024 * (t.val % 11) + l.val, h3⟩ : S2x16384x11264.Idx)
      = (win0_5.blk t).view.emb (ix3 0 i l) := by
  blk_ext [idx5 t]
theorem flush5 : ∀ t : Fin grid0.N, win0_5.flush t = true := by decide +kernel
theorem cell (c : Dev nD) (t : Fin cfg0.N) (i : Fin 2048) (l : Fin 1024) (h1 h2 h3) :
    (dats m 0 c).arrAt 5 cfg0.N (ix3 ⟨t.val / 88, h1⟩ ⟨2048 * (t.val / 11 % 8) + i.val, h2⟩ ⟨1024 * (t.val % 11) + l.val, h3⟩)
      = (outsAt0 m c t.val t.isLt).1 (ix3 0 i l) := by
  have h := congrFun (Value.blocks5 m c t (flush5 t)) (ix3 0 i l)
  rw [Value.flushed5] at h
  have e : ((cfg0.win 5).cut (grid0.coords t) (outsAt0 m c t.val t.isLt).1) (ix3 0 i l) = (outsAt0 m c t.val t.isLt).1 (ix3 0 i l) := rfl
  rw [e] at h
  refine Eq.trans ?_ h
  exact congrArg ((dats m 0 c).arrAt 5 cfg0.N) (emb5 t i l _ _ _)

/-- The kernel's array: each token's modulated row times a column of the weights. -/
theorem value (c : Dev nD) (b : Fin 2) (s : Fin 16384) (n : Fin 11264) :
    (dats m 0 c).arrAt 5 cfg0.N (ix3 b s n) = ∑ k : Fin 1024, hid m c b s k
      * (m ((c.tc : Thread nD τ).loc main_arg3) : S2x1024x11264.Idx → EReal) (ix3 0 k n) := by
  have ht : 88 * b.val + 11 * (s.val / 2048) + n.val / 1024 < cfg0.N := lt_of_lt_of_eq (by omega) (N_0.symm : 176 = cfg0.N)
  let t : Fin cfg0.N := ⟨88 * b.val + 11 * (s.val / 2048) + n.val / 1024, ht⟩
  have e0 : t.val / 88 = b.val := by dsimp only [t]; omega
  have e1 : 2048 * (t.val / 11 % 8) + s.val % 2048 = s.val := by dsimp only [t]; omega
  have e2 : 1024 * (t.val % 11) + n.val % 1024 = n.val := by dsimp only [t]; omega
  have h := (cell m c t ⟨s.val % 2048, by omega⟩ ⟨n.val % 1024, by omega⟩ (by omega) (by dsimp only; omega) (by dsimp only; omega)).trans
    (stored m c t ⟨s.val % 2048, by omega⟩ ⟨n.val % 1024, by omega⟩ (by omega) (by dsimp only; omega) (by dsimp only; omega))
  simp only [e0, e1, e2] at h
  exact h
end Cert.InprojIdeal.Val
end
-- ==== Proof.InprojClaims.lean ====
module
public import proofs.«01_k».proof.Proof.Inproj
public import proofs.«01_k».proof.Defs
public import proofs.«01_k».proof.Proof.Gen.Inproj.Frame
public import proofs.«01_k».proof.Proof.Gen.InprojIdeal.Frame
public import proofs.«01_k».proof.Proof.Gen.InprojRefIdeal.Run
public import Idealize.ShloMosaic.Lib.Quiescent

/-!
# The input projection: the reference's elements, and the claims

The reference's element is the same sum over the hidden width as the kernel's.
-/
@[expose] public section
set_option maxRecDepth 16384
noncomputable section
open Idealize.ShloMosaic Idealize.ShloMosaic.TcCoe Idealize.SL.Sem

namespace Cert.InprojRefIdeal.Val
open Cert.InprojRefIdeal Cert.InprojRefIdeal.Gen

/-- The reference's result, of its four arguments. -/
def out (x : FVec Ideal S2x16384x1024 .f32) (md : FVec Ideal S2x3072 .f32) (nw : FVec Ideal S1024 .f32) (w : FVec Ideal S2x1024x11264 .bf16) : FVec Ideal S2x16384x11264 .bf16 :=
  truncf .bf16 (Host.dotGeneral dot_S2x16384x1024_S1024x11264_S2x16384x11264_2_0_01_1_n_n none (addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 nw))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 1024] (broadcastInDim S2x1x3072 ![0, 2] bcast_S2x3072_S2x1x3072_0_2 md) slices_S2x1x3072_S2x1x1024_0_0_1024)))) (broadcastInDim S2x16384x1024 ![0, 1, 2] bcast_S2x1x1024_S2x16384x1024_0_1_2 (extractStridedSlice S2x1x1024 ![0, 0, 0] (broadcastInDim S2x1x3072 ![0, 2] bcast_S2x3072_S2x1x3072_0_2 md) slices_S2x1x3072_S2x1x1024_0_0_0))) (extf .f32 (shapeCast _ (extractStridedSlice S1x1024x11264 ![0, 0, 0] w slices_S2x1024x11264_S1x1024x11264_0_0_0) shapeCasts_S1x1024x11264_S1024x11264) bitsLt_bf16_f32)) bitsLt_bf16_f32

theorem out_at (x : FVec Ideal S2x16384x1024 .f32) (md : FVec Ideal S2x3072 .f32) (nw : FVec Ideal S1024 .f32) (w : FVec Ideal S2x1024x11264 .bf16)
    (b : Fin 2) (s : Fin 16384) (n : Fin 11264) :
    out x md nw w (ix3 b s n) = ∑ k : Fin 1024, Inproj.modded (fun l => x (ix3 b s l)) (nw (ix1 k)) (md (ix2 b ⟨1024 + k.val, by omega⟩)) (md (ix2 b ⟨k.val, by omega⟩)) k
      * (w (ix3 0 k n) : EReal) := by
  pointwise [out, Inproj.modded, Inproj.norm]
end Cert.InprojRefIdeal.Val

namespace Cert.Proof.InprojClaims
theorem ix_eta (j : (⟨3, ![2, 16384, 11264]⟩ : Shape).Idx) : ∃ (b : Fin 2) (s : Fin 16384) (n : Fin 11264), j = ix3 b s n :=
  ⟨j 0, j 1, j 2, by funext a; match a with | ⟨0, _⟩ => rfl | ⟨1, _⟩ => rfl | ⟨2, _⟩ => rfl⟩

theorem frame_p : Cert.quiescent_Inproj (hInproj := Cert.Inproj.Gen.facts) := fun m ρ _ => Cert.Inproj.Gen.frame m ρ
theorem frame_pi : Cert.quiescent_InprojIdeal (hInprojIdeal := Cert.InprojIdeal.Gen.facts) := fun m ρ _ => Cert.InprojIdeal.Gen.frame m ρ
theorem frame_ri : Cert.quiescent_InprojRefIdeal (hInprojRefIdeal := Cert.InprojRefIdeal.Gen.facts) := fun m ρ _ =>
  (θ_run Cert.InprojRefIdeal.defs _ _).mono (fun r h => ⟨fun c => (h c).2, Idealize.ShloMosaic.sem_eq_zero_of_no_sems (by decide) r.2⟩)
    (Cert.InprojRefIdeal.Value.run (F := Ideal) m ρ)
theorem preserves : Cert.preserves_Inproj_InprojIdeal := trivial

theorem algebraic : Cert.algebraic_InprojIdeal_InprojRefIdeal (hInprojIdeal := Cert.InprojIdeal.Gen.facts) (hInprojRefIdeal := Cert.InprojRefIdeal.Gen.facts) := by
  intro m ρ m' ρ' hpre hagree
  refine ⟨_, Cert.InprojIdeal.Value.run_blocks m ρ, ?_⟩
  refine (θ_run Cert.InprojRefIdeal.defs _ _).mono (fun _ h c => ⟨(h c).1.trans ?_, (h c).2⟩) (Cert.InprojRefIdeal.Value.run (F := Ideal) m' ρ')
  obtain ⟨a0, a1, a2, a3⟩ := hagree c
  rw [a0, a1, a2, a3]
  funext j
  obtain ⟨b, s, n, rfl⟩ := ix_eta j
  exact (Cert.InprojRefIdeal.Val.out_at _ _ _ _ b s n).trans (Cert.InprojIdeal.Val.value m c b s n).symm
end Cert.Proof.InprojClaims
end
-- ==== Proof.MergeAlg.lean ====
module
public import Idealize.ShloMosaic.Lib.Pointwise
public import proofs.«01_k».proof.Proof.Softmax

/-!
# Gates by the hyperbolic tangent and by the logistic function

The merge kernel is handed halved gates `g` and halved branch weights, and writes `1 + tanh g` where the plain
formula has `2 σ(2 g)`. Here the two are shown equal: for a branch's entry, where the gate is a real number, and for a
whole branch, where the merge gate may be infinite.
-/
@[expose] public section
noncomputable section
open Idealize.ShloMosaic

namespace Merge

/-- The logistic function, as a quotient. -/
def sig (z : EReal) : EReal := Ideal.div 1 (1 + Ideal.exp (-z))
/-- A branch's entry `y` after its SiLU gate, from the halved gate `g`. -/
def passed (y g : EReal) : EReal := y * g + y * g * Ideal.tanh g
/-- A branch's entry `y` times the SiLU of `z`. -/
def swished (y z : EReal) : EReal := y * (z * sig z)
/-- A projected branch `h` after its merge gate, from the halved gate `g`. -/
def opened (h g : EReal) : EReal := h + h * Ideal.tanh g

theorem half_eq : Ideal.ofBits FTy.bf16 0x3F00#16 = ((1 / 2 : ℝ) : EReal) := by
  simp [Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num

theorem sig_coe (r : ℝ) : sig (r : EReal) = (((1 + Real.exp (-r))⁻¹ : ℝ) : EReal) := by
  have h : (1 + Real.exp (-r)) ≠ 0 := by positivity
  have e : (1 : EReal) + Ideal.exp (-(r : EReal)) = ((1 + Real.exp (-r) : ℝ) : EReal) := by
    rw [← EReal.coe_neg, EReal.coe_add]; rfl
  unfold sig
  rw [e]
  unfold Ideal.div
  rw [if_neg (by exact_mod_cast h), one_mul, EReal.coe_inv]
theorem one_add_tanh (r : ℝ) : 1 + Real.tanh r = 2 * (1 + Real.exp (-(2 * r)))⁻¹ := by
  have h1 : Real.exp r ≠ 0 := (Real.exp_pos r).ne'
  have e1 : Real.exp (-r) = (Real.exp r)⁻¹ := Real.exp_neg r
  have e2 : Real.exp (-(2 * r)) = (Real.exp r)⁻¹ * (Real.exp r)⁻¹ := by
    rw [← e1, ← Real.exp_add]; congr 1; ring
  have h2 := Real.exp_pos r
  rw [Real.tanh_eq_sinh_div_cosh, Real.sinh_eq, Real.cosh_eq, e1, e2]
  field_simp
  ring
/-- A branch's entry after its gate is a real number, and the two ways of writing it agree. -/
theorem passed_coe (y g : ℝ) : passed (y : EReal) (g : EReal) = ((y * (2 * g * (1 + Real.exp (-(2 * g)))⁻¹) : ℝ) : EReal) := by
  have e : passed (y : EReal) (g : EReal) = ((y * g + y * g * Real.tanh g : ℝ) : EReal) := by
    unfold passed; push_cast; rfl
  rw [e]
  congr 1
  have h := one_add_tanh g
  linear_combination (y * g) * h
theorem swished_coe (y g : ℝ) : swished (y : EReal) (((2 : ℝ) : EReal) * (g : EReal)) = ((y * (2 * g * (1 + Real.exp (-(2 * g)))⁻¹) : ℝ) : EReal) := by
  unfold swished
  rw [← EReal.coe_mul, sig_coe, ← EReal.coe_mul, ← EReal.coe_mul]
/-- Half a real number after the hyperbolic gate is that number times the logistic gate, whatever the gate. -/
theorem opened_half (h : ℝ) (g : EReal) : opened ((h * (1 / 2) : ℝ) : EReal) g = sig (((2 : ℝ) : EReal) * g) * (h : EReal) := by
  induction g with
  | bot =>
    have e1 : ((2 : ℝ) : EReal) * ⊥ = ⊥ := EReal.coe_mul_bot_of_pos (by norm_num)
    have e2 : sig ⊥ = 0 := by
      unfold sig Ideal.div
      rw [EReal.neg_bot]
      have : (1 : EReal) + Ideal.exp ⊤ = ⊤ := by
        show (1 : EReal) + ⊤ = ⊤
        rfl
      rw [this, if_neg EReal.top_ne_zero]; simp
    rw [e1, e2, zero_mul]
    show ((h * (1 / 2) : ℝ) : EReal) + ((h * (1 / 2) : ℝ) : EReal) * ((-1 : ℝ) : EReal) = 0
    rw [← EReal.coe_mul, ← EReal.coe_add]; norm_num
  | top =>
    have e1 : ((2 : ℝ) : EReal) * ⊤ = ⊤ := EReal.coe_mul_top_of_pos (by norm_num)
    have e2 : sig ⊤ = 1 := by
      unfold sig Ideal.div
      rw [EReal.neg_top]
      have : (1 : EReal) + Ideal.exp ⊥ = 1 := by
        show (1 : EReal) + 0 = 1
        simp
      rw [this, if_neg one_ne_zero]; simp
    rw [e1, e2, one_mul]
    show ((h * (1 / 2) : ℝ) : EReal) + ((h * (1 / 2) : ℝ) : EReal) * ((1 : ℝ) : EReal) = _
    rw [← EReal.coe_mul, ← EReal.coe_add]; congr 1; ring
  | coe r =>
    rw [← EReal.coe_mul, sig_coe, ← EReal.coe_mul]
    show ((h * (1 / 2) : ℝ) : EReal) + ((h * (1 / 2) : ℝ) : EReal) * ((Real.tanh r : ℝ) : EReal) = _
    rw [← EReal.coe_mul, ← EReal.coe_add]
    congr 1
    linear_combination (h / 2) * one_add_tanh r
/-- A whole branch: gated entries times halved weights, then the hyperbolic merge gate, against the plain formula. -/
theorem branch_eq (y g w : Fin 512 → EReal) (gm : EReal) (hy : ∀ l, ∃ r : ℝ, y l = r) (hg : ∀ l, ∃ r : ℝ, g l = r)
    (hw : ∀ l, ∃ r : ℝ, w l = r) :
    opened (∑ l, passed (y l) (g l) * (w l * Ideal.ofBits FTy.bf16 0x3F00#16)) gm
      = sig (Ideal.ofBits FTy.f32 0x40000000#32 * gm) * ∑ l, swished (y l) (Ideal.ofBits FTy.f32 0x40000000#32 * g l) * w l := by
  choose y' hy' using hy
  choose g' hg' using hg
  choose w' hw' using hw
  obtain rfl : y = fun l => (y' l : EReal) := funext hy'
  obtain rfl : g = fun l => (g' l : EReal) := funext hg'
  obtain rfl : w = fun l => (w' l : EReal) := funext hw'
  rw [half_eq, two_eq]
  simp only [passed_coe, swished_coe]
  simp only [← EReal.coe_mul, ← Attn.coe_sum]
  rw [← opened_half, Finset.sum_mul]
  simp only [mul_assoc]
/-- Where row `64 (2 t + u) + d` of the sliding-window branch lies in head order: row `64 (4 u + t) + d`. -/
def headRow (l : Fin 512) : Fin 512 := ⟨256 * (l.val / 64 % 2) + 64 * (l.val / 128) + l.val % 64, by omega⟩
/-- The way back. -/
def pairRow (l : Fin 512) : Fin 512 := ⟨128 * (l.val / 64 % 4) + 64 * (l.val / 256) + l.val % 64, by omega⟩
theorem head_pair : ∀ l, headRow (pairRow l) = l := by decide +kernel
theorem pair_head : ∀ l, pairRow (headRow l) = l := by decide +kernel
/-- A sum over rows in the kernel's order of the heads is the sum in head order. -/
theorem sum_heads (a w : Fin 512 → EReal) : ∑ l, a l * w (headRow l) = ∑ l, a (pairRow l) * w l :=
  Fintype.sum_equiv ⟨headRow, pairRow, pair_head, head_pair⟩ _ _ fun l => by
    show a l * w (headRow l) = a (pairRow (headRow l)) * w (headRow l)
    rw [pair_head]
/-- The row `x + g (acc · w)` at a column. -/
def mixed (x g : EReal) (acc w : Fin 1024 → EReal) : EReal := x + g * ∑ j, acc j * w j
/-- A row's entry after the mean-square norm and its weight. -/
def normed (o : Fin 1024 → EReal) (f : EReal) (n : Fin 1024) : EReal :=
  o n * Ideal.rsqrt (Ideal.div (∑ k, o k * o k) (Ideal.ofBits FTy.f32 0x44800000#32) + Ideal.ofBits FTy.f32 0x358637BD#32) * f
end Merge
end
-- ==== Proof.MergeKernel.lean ====
module
public import proofs.«01_k».proof.Proof.Gen.MergeIdeal.Value
public import proofs.«01_k».proof.Proof.MergeAlg
public import Idealize.ShloMosaic.Lib.Pointwise
public import Idealize.ShloMosaic.Lib.Pipeline.ValueKit
public import Idealize.ShloMosaic.Lib.StableHlo.RunRead

/-!
# The merge kernel, element by element

A grid point takes 512 tokens of a batch. Each of the four branches' rows is gated, multiplied by its halved weights and
gated again; the sum of the four goes through the output weights, is added to the tokens' residual rows and normalized.
-/
@[expose] public section
set_option maxRecDepth 16384
noncomputable section
open Idealize.ShloMosaic Idealize.ShloMosaic.TcCoe Idealize.SL.Sem

namespace Cert.MergeIdeal.Val
open Cert.MergeIdeal Cert.MergeIdeal.Gen Cert.MergeIdeal.Value
variable (m : (ℓ : Loc nD τ sig) → Buf (Elt Ideal) ℓ)

theorem pay2_at (g y : Vec Ideal S1x512x512 .bf16) (w gm : Vec Ideal S1x512x1024 .bf16) (r : Fin 512) (n : Fin 1024) :
    k0_pay2 (F := Ideal) g y w gm (ix2 r n)
      = Merge.opened (∑ l : Fin 512, Merge.passed (y (ix3 0 r l)) (g (ix3 0 r l)) * (w (ix3 0 l n) : EReal)) (gm (ix3 0 r n)) := by
  pointwise [k0_pay2, Merge.opened, Merge.passed]
theorem pay3_at (g y : Vec Ideal S1x512x512 .bf16) (w : Vec Ideal S1x512x1024 .bf16) (r : Fin 512) (n : Fin 1024) :
    k0_pay3 (F := Ideal) g y w (ix2 r n) = ∑ l : Fin 512, Merge.passed (y (ix3 0 r l)) (g (ix3 0 r l)) * (w (ix3 0 l n) : EReal) := by
  pointwise [k0_pay3, Merge.passed]
theorem pay4_at (a h : FVec Ideal S512x1024 .f32) (gm1 : Vec Ideal S1x512x1024 .bf16) (g y : Vec Ideal S1x512x512 .bf16)
    (w gm : Vec Ideal S1x512x1024 .bf16) (r : Fin 512) (n : Fin 1024) :
    k0_pay4 (F := Ideal) a h gm1 g y w gm (ix2 r n) = (a (ix2 r n) : EReal) + Merge.opened (h (ix2 r n)) (gm1 (ix3 0 r n))
      + Merge.opened (∑ l : Fin 512, Merge.passed (y (ix3 0 r l)) (g (ix3 0 r l)) * (w (ix3 0 l n) : EReal)) (gm (ix3 0 r n)) := by
  pointwise [k0_pay4, Merge.opened, Merge.passed]
theorem pay5_at (g y : Vec Ideal S1x512x512 .bf16) (r l : Fin 512) :
    k0_pay5 (F := Ideal) g y (ix2 r l) = Merge.passed (y (ix3 0 r l)) (g (ix3 0 r l)) := by
  pointwise [k0_pay5, Merge.passed]
theorem pay6_at (a : FVec Ideal S512x1024 .f32) (ys : FVec Ideal S512x512 .bf16) (w gm : Vec Ideal S1x512x1024 .bf16) (x : Vec Ideal S1x512x1024 .f32)
    (mg : Vec Ideal S1x1x1024 .f32) (wo : Vec Ideal S1024x1024 .bf16) (f : Vec Ideal S1x1024 .f32) (r : Fin 512) (n : Fin 1024) :
    k0_pay6 (F := Ideal) a ys w gm x mg wo f (ix2 r n)
      = Merge.normed (fun k => Merge.mixed (x (ix3 0 r k)) (mg (ix3 0 0 k)) (fun j => (a (ix2 r j) : EReal)
          + Merge.opened (∑ l : Fin 512, (ys (ix2 r l) : EReal) * (w (ix3 0 l j) : EReal)) (gm (ix3 0 r j))) (fun j => wo (ix2 j k)))
          (f (ix2 0 n)) n := by
  pointwise [k0_pay6, Merge.normed, Merge.mixed, Merge.opened]
theorem zero3 : (![0, 0, 0] : Fin 3 → Nat) = fun _ => 0 := by decide
theorem zero2 : (![0, 0] : Fin 2 → Nat) = fun _ => 0 := by decide
theorem ldy (x : Vec Ideal S1x512x512 .bf16) : View.ld x r0_0 = x := View.ld_unit_zero zero3 _ x
theorem ldg (x : Vec Ideal S1x512x1024 .bf16) : View.ld x r0_2 = x := View.ld_unit_zero zero3 _ x
theorem ldx (x : Vec Ideal S1x512x1024 .f32) : View.ld x r0_2 = x := View.ld_unit_zero zero3 _ x
theorem ldm (x : Vec Ideal S1x1x1024 .f32) : View.ld x r0_6 = x := View.ld_unit_zero zero3 _ x
theorem ldo (x : Vec Ideal S1024x1024 .bf16) : View.ld x r0_7 = x := View.ld_unit_zero zero2 _ x
theorem ldf (x : Vec Ideal S1x1024 .f32) : View.ld x r0_8 = x := View.ld_unit_zero zero2 _ x
/-- A plane of the branch weights. -/
def plane (i : Fin 4) (x : Vec Ideal S4x512x1024 .bf16) : Vec Ideal S1x512x1024 .bf16 := fun y => x (ix3 i (y 1) (y 2))
theorem ld_plane (i : Fin 4) (x : Vec Ideal S4x512x1024 .bf16) (h) :
    View.ld x (Rect.unit (s := S4x512x1024) ![i.val, 0, 0] S1x512x1024.size h) = plane i x :=
  funext fun y => View.ld_unit_apply_of x _ _ _ _ _ fun a => by
    match a with
    | ⟨0, _⟩ => exact (congrArg (i.val + ·) (Nat.lt_one_iff.mp (y 0).isLt)).symm
    | ⟨1, _⟩ => exact (Nat.zero_add _).symm
    | ⟨2, _⟩ => exact (Nat.zero_add _).symm
theorem plane0 (x : Vec Ideal S4x512x1024 .bf16) : View.ld x r0_1 = plane 0 x := ld_plane 0 x _
theorem plane1 (x : Vec Ideal S4x512x1024 .bf16) : View.ld x r0_3 = plane 1 x := ld_plane 1 x _
theorem plane2 (x : Vec Ideal S4x512x1024 .bf16) : View.ld x r0_4 = plane 2 x := ld_plane 2 x _
theorem plane3 (x : Vec Ideal S4x512x1024 .bf16) : View.ld x r0_5 = plane 3 x := ld_plane 3 x _

/-- What a point stores, from its blocks. -/
theorem out_at (y0 y1 y2 y3 g0 g1 g2 g3 : Vec Ideal S1x512x512 .bf16) (m0 m1 m2 m3 : Vec Ideal S1x512x1024 .bf16) (w : Vec Ideal S4x512x1024 .bf16)
    (wo : Vec Ideal S1024x1024 .bf16) (mg : Vec Ideal S1x1x1024 .f32) (x : Vec Ideal S1x512x1024 .f32) (f : Vec Ideal S1x1024 .f32) (r : Fin 512) (n : Fin 1024) :
    out0_17 (F := Ideal) y0 y1 y2 y3 g0 g1 g2 g3 m0 m1 m2 m3 w wo mg x f (ix3 0 r n)
      = Merge.normed (fun k => Merge.mixed (x (ix3 0 r k)) (mg (ix3 0 0 k)) (fun j =>
          Merge.opened (∑ l : Fin 512, Merge.passed (y0 (ix3 0 r l)) (g0 (ix3 0 r l)) * (w (ix3 0 l j) : EReal)) (m0 (ix3 0 r j))
          + Merge.opened (∑ l : Fin 512, Merge.passed (y1 (ix3 0 r l)) (g1 (ix3 0 r l)) * (w (ix3 1 l j) : EReal)) (m1 (ix3 0 r j))
          + Merge.opened (∑ l : Fin 512, Merge.passed (y2 (ix3 0 r l)) (g2 (ix3 0 r l)) * (w (ix3 2 l j) : EReal)) (m2 (ix3 0 r j))
          + Merge.opened (∑ l : Fin 512, Merge.passed (y3 (ix3 0 r l)) (g3 (ix3 0 r l)) * (w (ix3 3 l j) : EReal)) (m3 (ix3 0 r j)))
          (fun j => wo (ix2 j k))) (f (ix2 0 n)) n := by
  unfold out0_17
  rw [canon17_eq]
  simp only [ldy, ldg, ldx, ldm, ldo, ldf, plane0, plane1, plane2, plane3]
  have e : ix17_0 (ix3 0 r n) = ix2 r n := funext fun a => by fin_cases a <;> rfl
  show k0_pay6 (F := Ideal) _ (k0_pay5 (F := Ideal) g3 y3) _ _ _ _ _ _ (ix17_0 (ix3 0 r n)) = _
  rw [e]
  refine (pay6_at _ _ _ _ _ _ _ _ r n).trans ?_
  simp only [pay4_at, pay2_at, pay3_at, pay5_at]
  rfl
theorem idx0 : ∀ t : Fin grid0.N, win0_0.index t = ![t.val / 32, t.val % 32, 0] := by decide +kernel
theorem idx1 : ∀ t : Fin grid0.N, win0_1.index t = ![t.val / 32, t.val % 32, 0] := by decide +kernel
theorem idx2 : ∀ t : Fin grid0.N, win0_2.index t = ![t.val / 32, t.val % 32, 0] := by decide +kernel
theorem idx3 : ∀ t : Fin grid0.N, win0_3.index t = ![t.val / 32, t.val % 32, 0] := by decide +kernel
theorem idx4 : ∀ t : Fin grid0.N, win0_4.index t = ![t.val / 32, t.val % 32, 3] := by decide +kernel
theorem idx5 : ∀ t : Fin grid0.N, win0_5.index t = ![t.val / 32, t.val % 32, 5] := by decide +kernel
theorem idx6 : ∀ t : Fin grid0.N, win0_6.index t = ![t.val / 32, t.val % 32, 7] := by decide +kernel
theorem idx7 : ∀ t : Fin grid0.N, win0_7.index t = ![t.val / 32, t.val % 32, 11] := by decide +kernel
theorem idx8 : ∀ t : Fin grid0.N, win0_8.index t = ![t.val / 32, t.val % 32, 6] := by decide +kernel
theorem idx9 : ∀ t : Fin grid0.N, win0_9.index t = ![t.val / 32, t.val % 32, 7] := by decide +kernel
theorem idx10 : ∀ t : Fin grid0.N, win0_10.index t = ![t.val / 32, t.val % 32, 8] := by decide +kernel
theorem idx11 : ∀ t : Fin grid0.N, win0_11.index t = ![t.val / 32, t.val % 32, 9] := by decide +kernel
theorem idx12 : ∀ t : Fin grid0.N, win0_12.index t = ![0, 0, 0] := by decide +kernel
theorem idx13 : ∀ t : Fin grid0.N, win0_13.index t = ![0, 0] := by decide +kernel
theorem idx14 : ∀ t : Fin grid0.N, win0_14.index t = ![t.val / 32, 0, 0] := by decide +kernel
theorem idx15 : ∀ t : Fin grid0.N, win0_15.index t = ![t.val / 32, t.val % 32, 0] := by decide +kernel
theorem idx16 : ∀ t : Fin grid0.N, win0_16.index t = ![0, 0] := by decide +kernel
theorem idx17 : ∀ t : Fin grid0.N, win0_17.index t = ![t.val / 32, t.val % 32, 0] := by decide +kernel

theorem y0_blk (c : Dev nD) (t : Fin cfg0.N) (r l : Fin 512) (h1 h2) : iblk m c 0 t (ix3 0 r l)
    = m ((c.tc : Thread nD τ).loc main_arg1) (ix3 ⟨t.val / 32, h1⟩ ⟨512 * (t.val % 32) + r.val, h2⟩ l) := by
  blk_ext [iblk, V, idx0 t]
theorem y1_blk (c : Dev nD) (t : Fin cfg0.N) (r l : Fin 512) (h1 h2) : iblk m c 1 t (ix3 0 r l)
    = m ((c.tc : Thread nD τ).loc main_arg2) (ix3 ⟨t.val / 32, h1⟩ ⟨512 * (t.val % 32) + r.val, h2⟩ l) := by
  blk_ext [iblk, V, idx1 t]
theorem y2_blk (c : Dev nD) (t : Fin cfg0.N) (r l : Fin 512) (h1 h2) : iblk m c 2 t (ix3 0 r l)
    = m ((c.tc : Thread nD τ).loc main_arg3) (ix3 ⟨t.val / 32, h1⟩ ⟨512 * (t.val % 32) + r.val, h2⟩ l) := by
  blk_ext [iblk, V, idx2 t]
theorem y3_blk (c : Dev nD) (t : Fin cfg0.N) (r l : Fin 512) (h1 h2) : iblk m c 3 t (ix3 0 r l)
    = m ((c.tc : Thread nD τ).loc main_arg4) (ix3 ⟨t.val / 32, h1⟩ ⟨512 * (t.val % 32) + r.val, h2⟩ l) := by
  blk_ext [iblk, V, idx3 t]
theorem g0_blk (c : Dev nD) (t : Fin cfg0.N) (r l : Fin 512) (h1 h2 h3) : iblk m c 4 t (ix3 0 r l)
    = m ((c.tc : Thread nD τ).loc main_arg5) (ix3 ⟨t.val / 32, h1⟩ ⟨512 * (t.val % 32) + r.val, h2⟩ ⟨1536 + l.val, h3⟩) := by
  blk_ext [iblk, V, idx4 t]
theorem g1_blk (c : Dev nD) (t : Fin cfg0.N) (r l : Fin 512) (h1 h2 h3) : iblk m c 5 t (ix3 0 r l)
    = m ((c.tc : Thread nD τ).loc main_arg5) (ix3 ⟨t.val / 32, h1⟩ ⟨512 * (t.val % 32) + r.val, h2⟩ ⟨2560 + l.val, h3⟩) := by
  blk_ext [iblk, V, idx5 t]
theorem g2_blk (c : Dev nD) (t : Fin cfg0.N) (r l : Fin 512) (h1 h2 h3) : iblk m c 6 t (ix3 0 r l)
    = m ((c.tc : Thread nD τ).loc main_arg5) (ix3 ⟨t.val / 32, h1⟩ ⟨512 * (t.val % 32) + r.val, h2⟩ ⟨3584 + l.val, h3⟩) := by
  blk_ext [iblk, V, idx6 t]
theorem g3_blk (c : Dev nD) (t : Fin cfg0.N) (r l : Fin 512) (h1 h2 h3) : iblk m c 7 t (ix3 0 r l)
    = m ((c.tc : Thread nD τ).loc main_arg5) (ix3 ⟨t.val / 32, h1⟩ ⟨512 * (t.val % 32) + r.val, h2⟩ ⟨5632 + l.val, h3⟩) := by
  blk_ext [iblk, V, idx7 t]
theorem m0_blk (c : Dev nD) (t : Fin cfg0.N) (r : Fin 512) (n : Fin 1024) (h1 h2 h3) : iblk m c 8 t (ix3 0 r n)
    = m ((c.tc : Thread nD τ).loc main_arg5) (ix3 ⟨t.val / 32, h1⟩ ⟨512 * (t.val % 32) + r.val, h2⟩ ⟨6144 + n.val, h3⟩) := by
  blk_ext [iblk, V, idx8 t]
theorem m1_blk (c : Dev nD) (t : Fin cfg0.N) (r : Fin 512) (n : Fin 1024) (h1 h2 h3) : iblk m c 9 t (ix3 0 r n)
    = m ((c.tc : Thread nD τ).loc main_arg5) (ix3 ⟨t.val / 32, h1⟩ ⟨512 * (t.val % 32) + r.val, h2⟩ ⟨7168 + n.val, h3⟩) := by
  blk_ext [iblk, V, idx9 t]
theorem m2_blk (c : Dev nD) (t : Fin cfg0.N) (r : Fin 512) (n : Fin 1024) (h1 h2 h3) : iblk m c 10 t (ix3 0 r n)
    = m ((c.tc : Thread nD τ).loc main_arg5) (ix3 ⟨t.val / 32, h1⟩ ⟨512 * (t.val % 32) + r.val, h2⟩ ⟨8192 + n.val, h3⟩) := by
  blk_ext [iblk, V, idx10 t]
theorem m3_blk (c : Dev nD) (t : Fin cfg0.N) (r : Fin 512) (n : Fin 1024) (h1 h2 h3) : iblk m c 11 t (ix3 0 r n)
    = m ((c.tc : Thread nD τ).loc main_arg5) (ix3 ⟨t.val / 32, h1⟩ ⟨512 * (t.val % 32) + r.val, h2⟩ ⟨9216 + n.val, h3⟩) := by
  blk_ext [iblk, V, idx11 t]
theorem w_blk (c : Dev nD) (t : Fin cfg0.N) (i : Fin 4) (l : Fin 512) (n : Fin 1024) :
    iblk m c 12 t (ix3 i l n) = (V m c main_v26 : S4x512x1024.Idx → EReal) (ix3 i l n) := by
  unfold iblk
  blk_simp
  show (V m c main_v26 : S4x512x1024.Idx → EReal) _ = _
  blk_ext [idx12 t]
theorem wo_blk (c : Dev nD) (t : Fin cfg0.N) (j n : Fin 1024) :
    iblk m c 13 t (ix2 j n) = (V m c main_v27 : S1024x1024.Idx → EReal) (ix2 j n) := by
  unfold iblk
  blk_simp
  show (V m c main_v27 : S1024x1024.Idx → EReal) _ = _
  blk_ext [idx13 t]
theorem mg_blk (c : Dev nD) (t : Fin cfg0.N) (n : Fin 1024) (h1) :
    iblk m c 14 t (ix3 0 0 n) = (V m c main_v1 : S2x1x1024.Idx → EReal) (ix3 ⟨t.val / 32, h1⟩ 0 n) := by
  unfold iblk
  blk_simp
  show (V m c main_v1 : S2x1x1024.Idx → EReal) _ = _
  blk_ext [idx14 t]
theorem x_blk (c : Dev nD) (t : Fin cfg0.N) (r : Fin 512) (n : Fin 1024) (h1 h2) : iblk m c 15 t (ix3 0 r n)
    = m ((c.tc : Thread nD τ).loc main_arg0) (ix3 ⟨t.val / 32, h1⟩ ⟨512 * (t.val % 32) + r.val, h2⟩ n) := by
  blk_ext [iblk, V, idx15 t]
theorem f_blk (c : Dev nD) (t : Fin cfg0.N) (n : Fin 1024) :
    iblk m c 16 t (ix2 0 n) = (V m c main_v28 : S1x1024.Idx → EReal) (ix2 0 n) := by
  unfold iblk
  blk_simp
  show (V m c main_v28 : S1x1024.Idx → EReal) _ = _
  blk_ext [idx16 t]

theorem wo_V (c : Dev nD) (j n : Fin 1024) : (V m c main_v27 : S1024x1024.Idx → EReal) (ix2 j n)
    = (m ((c.tc : Thread nD τ).loc main_arg8) : S1024x1024.Idx → EReal) (ix2 j n) := by
  have e : (V m c main_v27 : S1024x1024.Idx → EReal) = (m ((c.tc : Thread nD τ).loc main_arg8) : S1024x1024.Idx → EReal) := by
    unfold V
    after_reads_simp
    rfl
  rw [e]
theorem mg_V (c : Dev nD) (b : Fin 2) (n : Fin 1024) (h2) : (V m c main_v1 : S2x1x1024.Idx → EReal) (ix3 b 0 n)
    = (m ((c.tc : Thread nD τ).loc main_arg6) : S2x3072.Idx → EReal) (ix2 b ⟨2048 + n.val, h2⟩) := by
  have e : (V m c main_v1 : S2x1x1024.Idx → EReal) = extractStridedSlice S2x1x1024 ![0, 0, 2048] (shapeCast S2x1x3072 (m ((c.tc : Thread nD τ).loc main_arg6) : S2x3072.Idx → EReal) shapeCasts_S2x3072_S2x1x3072) slices_S2x1x3072_S2x1x1024_0_0_2048 := by
    unfold V
    after_reads_simp
    rfl
  rw [e]
  pointwise
theorem f_V (c : Dev nD) (n : Fin 1024) : (V m c main_v28 : S1x1024.Idx → EReal) (ix2 0 n)
    = (m ((c.tc : Thread nD τ).loc main_arg9) : S1024.Idx → EReal) (ix1 n) := by
  have e : (V m c main_v28 : S1x1024.Idx → EReal) = shapeCast S1x1024 (m ((c.tc : Thread nD τ).loc main_arg9) : S1024.Idx → EReal) shapeCasts_S1024_S1x1024 := by
    unfold V
    after_reads_simp
    rfl
  rw [e]
  pointwise

/-- The operations that halve the branch weights and take the first two planes, with the second in eight parts. -/
abbrev opsA : List (HloOp τ sig (Elt Ideal)) := hostOps0.take 18
/-- The operation that puts the eight parts together, in the order of the heads in which the kernel gets them. -/
abbrev opsB : List (HloOp τ sig (Elt Ideal)) := (hostOps0.drop 18).take 1
/-- The operations that take the other planes. -/
abbrev opsC : List (HloOp τ sig (Elt Ideal)) := (hostOps0.drop 19).take 8
/-- The operation that stacks the four planes. -/
abbrev opsD : List (HloOp τ sig (Elt Ideal)) := (hostOps0.drop 27).take 1
/-- The operations after it. -/
abbrev opsE : List (HloOp τ sig (Elt Ideal)) := hostOps0.drop 28
/-- The halved weights. -/
def halved (W : S4x512x1024.Idx → EReal) : S4x512x1024.Idx → EReal :=
  mulf (F := Ideal) (φ := .bf16) W (broadcastInDim S4x512x1024 ![] bcast_S_S4x512x1024 (constant (F := Ideal) S_ .bf16 0x3F00#16))
theorem V_parts (c : Dev nD) : (V m c main_v26 : S4x512x1024.Idx → EReal)
    = StableHlo.after opsE (StableHlo.after opsD (StableHlo.after opsC (StableHlo.after opsB (StableHlo.after opsA fun b => m (c, b))))) (Proc.tc.devRef main_v26) := rfl
theorem partE (σ : Valuation τ sig (Elt Ideal)) : StableHlo.after opsE σ (Proc.tc.devRef main_v26) = σ (Proc.tc.devRef main_v26) := by
  show StableHlo.after [_, _] σ _ = _
  entry_read
  rfl
theorem partD (σ : Valuation τ sig (Elt Ideal)) : StableHlo.after opsD σ (Proc.tc.devRef main_v26)
    = concatenate S4x512x1024 0 [⟨S1x512x1024, (σ (Proc.tc.devRef main_v22) : S1x512x1024.Idx → EReal)⟩, ⟨S1x512x1024, (σ (Proc.tc.devRef main_v23) : S1x512x1024.Idx → EReal)⟩,
      ⟨S1x512x1024, (σ (Proc.tc.devRef main_v24) : S1x512x1024.Idx → EReal)⟩, ⟨S1x512x1024, (σ (Proc.tc.devRef main_v25) : S1x512x1024.Idx → EReal)⟩]
      concatenates_S1x512x1024_S1x512x1024_S1x512x1024_S1x512x1024_S4x512x1024_d0 := by
  show StableHlo.after [_] σ _ = _
  simp only [StableHlo.after_cons, StableHlo.after_nil]
  rw [StableHlo.nary_result']
  rfl
theorem partB (σ : Valuation τ sig (Elt Ideal)) : StableHlo.after opsB σ (Proc.tc.devRef main_v17)
    = concatenate S512x1024 0 [⟨S64x1024, (σ (Proc.tc.devRef main_v9) : S64x1024.Idx → EReal)⟩, ⟨S64x1024, (σ (Proc.tc.devRef main_v10) : S64x1024.Idx → EReal)⟩,
      ⟨S64x1024, (σ (Proc.tc.devRef main_v11) : S64x1024.Idx → EReal)⟩, ⟨S64x1024, (σ (Proc.tc.devRef main_v12) : S64x1024.Idx → EReal)⟩,
      ⟨S64x1024, (σ (Proc.tc.devRef main_v13) : S64x1024.Idx → EReal)⟩, ⟨S64x1024, (σ (Proc.tc.devRef main_v14) : S64x1024.Idx → EReal)⟩,
      ⟨S64x1024, (σ (Proc.tc.devRef main_v15) : S64x1024.Idx → EReal)⟩, ⟨S64x1024, (σ (Proc.tc.devRef main_v16) : S64x1024.Idx → EReal)⟩]
      concatenates_S64x1024_S64x1024_S64x1024_S64x1024_S64x1024_S64x1024_S64x1024_S64x1024_S512x1024_d0 := by
  show StableHlo.after [_] σ _ = _
  simp only [StableHlo.after_cons, StableHlo.after_nil]
  rw [StableHlo.nary_result']
  rfl
/-- A plane of the halved weights. -/
def hplane (W : S4x512x1024.Idx → EReal) (o : Nat) (h : S4x512x1024.Slices ![o, 0, 0] S1x512x1024) : S512x1024.Idx → EReal :=
  shapeCast S512x1024 (extractStridedSlice S1x512x1024 ![o, 0, 0] (halved W) h) shapeCasts_S1x512x1024_S512x1024
/-- 64 rows of the second plane. -/
def rows64 (W : S4x512x1024.Idx → EReal) (o : Nat) (h : S512x1024.Slices ![o, 0] S64x1024) : S64x1024.Idx → EReal :=
  extractStridedSlice S64x1024 ![o, 0] (hplane W 1 slices_S4x512x1024_S1x512x1024_1_0_0) h
theorem partA (σ : Valuation τ sig (Elt Ideal)) (W : S4x512x1024.Idx → EReal) (hW : (σ (Proc.tc.devRef main_arg7) : S4x512x1024.Idx → EReal) = W) :
    StableHlo.after opsA σ (Proc.tc.devRef main_v9) = rows64 W 0 slices_S512x1024_S64x1024_0_0
    ∧ StableHlo.after opsA σ (Proc.tc.devRef main_v10) = rows64 W 256 slices_S512x1024_S64x1024_256_0
    ∧ StableHlo.after opsA σ (Proc.tc.devRef main_v11) = rows64 W 64 slices_S512x1024_S64x1024_64_0
    ∧ StableHlo.after opsA σ (Proc.tc.devRef main_v12) = rows64 W 320 slices_S512x1024_S64x1024_320_0
    ∧ StableHlo.after opsA σ (Proc.tc.devRef main_v13) = rows64 W 128 slices_S512x1024_S64x1024_128_0
    ∧ StableHlo.after opsA σ (Proc.tc.devRef main_v14) = rows64 W 384 slices_S512x1024_S64x1024_384_0
    ∧ StableHlo.after opsA σ (Proc.tc.devRef main_v15) = rows64 W 192 slices_S512x1024_S64x1024_192_0
    ∧ StableHlo.after opsA σ (Proc.tc.devRef main_v16) = rows64 W 448 slices_S512x1024_S64x1024_448_0
    ∧ StableHlo.after opsA σ (Proc.tc.devRef main_v4) = halved W
    ∧ StableHlo.after opsA σ (Proc.tc.devRef main_v6) = hplane W 0 slices_S4x512x1024_S1x512x1024_0_0_0 := by
  subst hW
  refine ⟨?_, ?_, ?_, ?_, ?_, ?_, ?_, ?_, ?_, ?_⟩ <;>
  · show StableHlo.after [_, _, _, _, _, _, _, _, _, _, _, _, _, _, _, _, _, _] σ _ = _
    entry_read
    rfl
theorem keepB (σ : Valuation τ sig (Elt Ideal)) : StableHlo.after opsB σ (Proc.tc.devRef main_v4) = σ (Proc.tc.devRef main_v4)
    ∧ StableHlo.after opsB σ (Proc.tc.devRef main_v6) = σ (Proc.tc.devRef main_v6) := by
  refine ⟨?_, ?_⟩ <;>
  · show StableHlo.after [_] σ _ = _
    entry_read
    rfl
theorem partC (σ : Valuation τ sig (Elt Ideal)) (W : S4x512x1024.Idx → EReal) (h4 : (σ (Proc.tc.devRef main_v4) : S4x512x1024.Idx → EReal) = halved W) :
    StableHlo.after opsC σ (Proc.tc.devRef main_v22)
      = broadcastInDim S1x512x1024 ![1, 2] bcast_S512x1024_S1x512x1024_1_2 (σ (Proc.tc.devRef main_v6) : S512x1024.Idx → EReal)
    ∧ StableHlo.after opsC σ (Proc.tc.devRef main_v23)
      = broadcastInDim S1x512x1024 ![1, 2] bcast_S512x1024_S1x512x1024_1_2 (σ (Proc.tc.devRef main_v17) : S512x1024.Idx → EReal)
    ∧ StableHlo.after opsC σ (Proc.tc.devRef main_v24)
      = broadcastInDim S1x512x1024 ![1, 2] bcast_S512x1024_S1x512x1024_1_2 (hplane W 2 slices_S4x512x1024_S1x512x1024_2_0_0)
    ∧ StableHlo.after opsC σ (Proc.tc.devRef main_v25)
      = broadcastInDim S1x512x1024 ![1, 2] bcast_S512x1024_S1x512x1024_1_2 (hplane W 3 slices_S4x512x1024_S1x512x1024_3_0_0) := by
  unfold hplane
  rw [← h4]
  refine ⟨?_, ?_, ?_, ?_⟩ <;>
  · show StableHlo.after [_, _, _, _, _, _, _, _] σ _ = _
    entry_read
    rfl
/-- The eight parts of the second plane, put together: rows in the kernel's order of the heads. -/
def turned (W : S4x512x1024.Idx → EReal) : S512x1024.Idx → EReal :=
  concatenate S512x1024 0 [⟨S64x1024, rows64 W 0 slices_S512x1024_S64x1024_0_0⟩, ⟨S64x1024, rows64 W 256 slices_S512x1024_S64x1024_256_0⟩,
    ⟨S64x1024, rows64 W 64 slices_S512x1024_S64x1024_64_0⟩, ⟨S64x1024, rows64 W 320 slices_S512x1024_S64x1024_320_0⟩,
    ⟨S64x1024, rows64 W 128 slices_S512x1024_S64x1024_128_0⟩, ⟨S64x1024, rows64 W 384 slices_S512x1024_S64x1024_384_0⟩,
    ⟨S64x1024, rows64 W 192 slices_S512x1024_S64x1024_192_0⟩, ⟨S64x1024, rows64 W 448 slices_S512x1024_S64x1024_448_0⟩]
    concatenates_S64x1024_S64x1024_S64x1024_S64x1024_S64x1024_S64x1024_S64x1024_S64x1024_S512x1024_d0
/-- The weights as the kernel gets them. -/
theorem weights (c : Dev nD) : (V m c main_v26 : S4x512x1024.Idx → EReal)
    = concatenate S4x512x1024 0
      [⟨S1x512x1024, broadcastInDim S1x512x1024 ![1, 2] bcast_S512x1024_S1x512x1024_1_2 (hplane (m ((c.tc : Thread nD τ).loc main_arg7)) 0 slices_S4x512x1024_S1x512x1024_0_0_0)⟩,
       ⟨S1x512x1024, broadcastInDim S1x512x1024 ![1, 2] bcast_S512x1024_S1x512x1024_1_2 (turned (m ((c.tc : Thread nD τ).loc main_arg7)))⟩,
       ⟨S1x512x1024, broadcastInDim S1x512x1024 ![1, 2] bcast_S512x1024_S1x512x1024_1_2 (hplane (m ((c.tc : Thread nD τ).loc main_arg7)) 2 slices_S4x512x1024_S1x512x1024_2_0_0)⟩,
       ⟨S1x512x1024, broadcastInDim S1x512x1024 ![1, 2] bcast_S512x1024_S1x512x1024_1_2 (hplane (m ((c.tc : Thread nD τ).loc main_arg7)) 3 slices_S4x512x1024_S1x512x1024_3_0_0)⟩]
      concatenates_S1x512x1024_S1x512x1024_S1x512x1024_S1x512x1024_S4x512x1024_d0 := by
  obtain ⟨a9, a10, a11, a12, a13, a14, a15, a16, a4, a6⟩ := partA (fun b => m (c, b)) (m ((c.tc : Thread nD τ).loc main_arg7)) rfl
  obtain ⟨b4, b6⟩ := keepB (StableHlo.after opsA fun b => m (c, b))
  obtain ⟨c22, c23, c24, c25⟩ := partC (StableHlo.after opsB (StableHlo.after opsA fun b => m (c, b))) (m ((c.tc : Thread nD τ).loc main_arg7)) (b4.trans a4)
  rw [V_parts, partE, partD, c22, c23, c24, c25, b6, a6, partB, a9, a10, a11, a12, a13, a14, a15, a16]
  rfl
theorem hplane_at (W : S4x512x1024.Idx → EReal) (o : Nat) (h) (l : Fin 512) (n : Fin 1024) (h1) :
    hplane W o h (ix2 l n) = W (ix3 ⟨o, h1⟩ l n) * Ideal.ofBits FTy.bf16 0x3F00#16 := by
  pointwise [hplane, halved]
theorem turned_at (W : S4x512x1024.Idx → EReal) (l : Fin 512) (n : Fin 1024) :
    turned W (ix2 l n) = W (ix3 1 (Merge.headRow l) n) * Ideal.ofBits FTy.bf16 0x3F00#16 := by
  unfold turned rows64
  refine Eq.trans ?_ (hplane_at W 1 slices_S4x512x1024_S1x512x1024_1_0_0 (Merge.headRow l) n (by decide))
  generalize hplane W 1 slices_S4x512x1024_S1x512x1024_1_0_0 = X
  pointwise
  have hl := l.isLt
  repeat' split
  all_goals
    refine congrArg (fun p => X (ix2 p n)) (Fin.ext ?_)
    dsimp only [Merge.headRow]
    omega
/-- A branch weight. -/
def wgt (c : Dev nD) (i : Fin 4) (l : Fin 512) (n : Fin 1024) : EReal := (m ((c.tc : Thread nD τ).loc main_arg7) : S4x512x1024.Idx → EReal) (ix3 i l n)
/-- The four planes the kernel gets, at an element. -/
theorem w_V (c : Dev nD) (l : Fin 512) (n : Fin 1024) :
    (V m c main_v26 : S4x512x1024.Idx → EReal) (ix3 0 l n) = wgt m c 0 l n * Ideal.ofBits FTy.bf16 0x3F00#16
    ∧ (V m c main_v26 : S4x512x1024.Idx → EReal) (ix3 1 l n) = wgt m c 1 (Merge.headRow l) n * Ideal.ofBits FTy.bf16 0x3F00#16
    ∧ (V m c main_v26 : S4x512x1024.Idx → EReal) (ix3 2 l n) = wgt m c 2 l n * Ideal.ofBits FTy.bf16 0x3F00#16
    ∧ (V m c main_v26 : S4x512x1024.Idx → EReal) (ix3 3 l n) = wgt m c 3 l n * Ideal.ofBits FTy.bf16 0x3F00#16 := by
  rw [weights]
  refine ⟨Eq.trans ?_ (hplane_at _ 0 slices_S4x512x1024_S1x512x1024_0_0_0 l n (by decide)), Eq.trans ?_ (turned_at _ l n),
    Eq.trans ?_ (hplane_at _ 2 slices_S4x512x1024_S1x512x1024_2_0_0 l n (by decide)), Eq.trans ?_ (hplane_at _ 3 slices_S4x512x1024_S1x512x1024_3_0_0 l n (by decide))⟩ <;>
  pointwise

/-- The projected gates of a token. -/
def proj (c : Dev nD) (b : Fin 2) (s : Fin 16384) (k : Fin 11264) : EReal := (m ((c.tc : Thread nD τ).loc main_arg5) : S2x16384x11264.Idx → EReal) (ix3 b s k)
/-- The rows of the four branches. -/
def ya (c : Dev nD) (b : Fin 2) (s : Fin 16384) (l : Fin 512) : EReal := (m ((c.tc : Thread nD τ).loc main_arg1) : S2x16384x512.Idx → EReal) (ix3 b s l)
def yb (c : Dev nD) (b : Fin 2) (s : Fin 16384) (l : Fin 512) : EReal := (m ((c.tc : Thread nD τ).loc main_arg2) : S2x16384x512.Idx → EReal) (ix3 b s l)
def yc (c : Dev nD) (b : Fin 2) (s : Fin 16384) (l : Fin 512) : EReal := (m ((c.tc : Thread nD τ).loc main_arg3) : S2x16384x512.Idx → EReal) (ix3 b s l)
def yd (c : Dev nD) (b : Fin 2) (s : Fin 16384) (l : Fin 512) : EReal := (m ((c.tc : Thread nD τ).loc main_arg4) : S2x16384x512.Idx → EReal) (ix3 b s l)
/-- The sum of the four gated branches of a token, as the kernel computes it. -/
def kacc (c : Dev nD) (b : Fin 2) (s : Fin 16384) (j : Fin 1024) : EReal :=
  Merge.opened (∑ l : Fin 512, Merge.passed (ya m c b s l) (proj m c b s ⟨1536 + l.val, by omega⟩) * (wgt m c 0 l j * Ideal.ofBits FTy.bf16 0x3F00#16)) (proj m c b s ⟨6144 + j.val, by omega⟩)
  + Merge.opened (∑ l : Fin 512, Merge.passed (yb m c b s l) (proj m c b s ⟨2560 + l.val, by omega⟩) * (wgt m c 1 (Merge.headRow l) j * Ideal.ofBits FTy.bf16 0x3F00#16)) (proj m c b s ⟨7168 + j.val, by omega⟩)
  + Merge.opened (∑ l : Fin 512, Merge.passed (yc m c b s l) (proj m c b s ⟨3584 + l.val, by omega⟩) * (wgt m c 2 l j * Ideal.ofBits FTy.bf16 0x3F00#16)) (proj m c b s ⟨8192 + j.val, by omega⟩)
  + Merge.opened (∑ l : Fin 512, Merge.passed (yd m c b s l) (proj m c b s ⟨5632 + l.val, by omega⟩) * (wgt m c 3 l j * Ideal.ofBits FTy.bf16 0x3F00#16)) (proj m c b s ⟨9216 + j.val, by omega⟩)
/-- A token's row of the result, from the sum of its branches. -/
def row (acc : Fin 1024 → EReal) (c : Dev nD) (b : Fin 2) (s : Fin 16384) (n : Fin 1024) : EReal :=
  Merge.normed (fun k => Merge.mixed ((m ((c.tc : Thread nD τ).loc main_arg0) : S2x16384x1024.Idx → EReal) (ix3 b s k))
      ((m ((c.tc : Thread nD τ).loc main_arg6) : S2x3072.Idx → EReal) (ix2 b ⟨2048 + k.val, by omega⟩)) acc
      (fun j => (m ((c.tc : Thread nD τ).loc main_arg8) : S1024x1024.Idx → EReal) (ix2 j k)))
    ((m ((c.tc : Thread nD τ).loc main_arg9) : S1024.Idx → EReal) (ix1 n)) n

/-- What a point stores. -/
theorem stored (c : Dev nD) (t : Fin cfg0.N) (r : Fin 512) (n : Fin 1024) (h1 : t.val / 32 < 2) (h2 : 512 * (t.val % 32) + r.val < 16384) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 r n)
      = row m (kacc m c ⟨t.val / 32, h1⟩ ⟨512 * (t.val % 32) + r.val, h2⟩) c ⟨t.val / 32, h1⟩ ⟨512 * (t.val % 32) + r.val, h2⟩ n := by
  refine (out_at _ _ _ _ _ _ _ _ _ _ _ _ _ _ _ _ _ r n).trans ?_
  unfold row
  refine congr_arg₂ (fun a b => Merge.normed a b n) (funext fun k => ?_) ((f_blk m c t n).trans (f_V m c n))
  rw [x_blk m c t r k h1 h2, mg_blk m c t k h1, mg_V m c _ k (by omega)]
  refine congr_arg₂ (fun a b => Merge.mixed _ _ a b) (funext fun j => ?_) (funext fun j => (wo_blk m c t j k).trans (wo_V m c j k))
  rw [m0_blk m c t r j h1 h2 (by omega), m1_blk m c t r j h1 h2 (by omega), m2_blk m c t r j h1 h2 (by omega), m3_blk m c t r j h1 h2 (by omega)]
  unfold kacc
  refine congr (congrArg _ (congr (congrArg _ (congr (congrArg _ ?_) ?_)) ?_)) ?_ <;>
    refine congrArg (fun a => Merge.opened a _) (Finset.sum_congr rfl fun l _ => ?_)
  · exact congr (congrArg _ (congr (congrArg _ (y0_blk m c t r l h1 h2)) (g0_blk m c t r l h1 h2 (by omega)))) ((w_blk m c t 0 l j).trans (w_V m c l j).1)
  · exact congr (congrArg _ (congr (congrArg _ (y1_blk m c t r l h1 h2)) (g1_blk m c t r l h1 h2 (by omega)))) ((w_blk m c t 1 l j).trans (w_V m c l j).2.1)
  · exact congr (congrArg _ (congr (congrArg _ (y2_blk m c t r l h1 h2)) (g2_blk m c t r l h1 h2 (by omega)))) ((w_blk m c t 2 l j).trans (w_V m c l j).2.2.1)
  · exact congr (congrArg _ (congr (congrArg _ (y3_blk m c t r l h1 h2)) (g3_blk m c t r l h1 h2 (by omega)))) ((w_blk m c t 3 l j).trans (w_V m c l j).2.2.2)

theorem emb17 (t : Fin cfg0.N) (i : Fin 512) (l : Fin 1024) (h1 h2) :
    (ix3 ⟨t.val / 32, h1⟩ ⟨512 * (t.val % 32) + i.val, h2⟩ l : S2x16384x1024.Idx) = (win0_17.blk t).view.emb (ix3 0 i l) := by
  blk_ext [idx17 t]
theorem flush17 : ∀ t : Fin grid0.N, win0_17.flush t = true := by decide +kernel
theorem cell (c : Dev nD) (t : Fin cfg0.N) (i : Fin 512) (l : Fin 1024) (h1 : t.val / 32 < 2) (h2 : 512 * (t.val % 32) + i.val < 16384) :
    (dats m 0 c).arrAt 17 cfg0.N (ix3 ⟨t.val / 32, h1⟩ ⟨512 * (t.val % 32) + i.val, h2⟩ l)
      = row m (kacc m c ⟨t.val / 32, h1⟩ ⟨512 * (t.val % 32) + i.val, h2⟩) c ⟨t.val / 32, h1⟩ ⟨512 * (t.val % 32) + i.val, h2⟩ l := by
  have h := congrFun (Value.blocks17 m c t (flush17 t)) (ix3 0 i l)
  rw [Value.flushed17] at h
  refine Eq.trans ?_ (h.trans (stored m c t i l h1 h2))
  exact congrArg ((dats m 0 c).arrAt 17 cfg0.N) (emb17 t i l _ _)
/-- The kernel's array: each token's row. -/
theorem value (c : Dev nD) (b : Fin 2) (s : Fin 16384) (n : Fin 1024) :
    (dats m 0 c).arrAt 17 cfg0.N (ix3 b s n) = row m (kacc m c b s) c b s n := by
  have ht : 32 * b.val + s.val / 512 < cfg0.N := lt_of_lt_of_eq (by omega) (N_0.symm : 64 = cfg0.N)
  let t : Fin cfg0.N := ⟨32 * b.val + s.val / 512, ht⟩
  have e0 : t.val / 32 = b.val := by dsimp only [t]; omega
  have e1 : 512 * (t.val % 32) + s.val % 512 = s.val := by dsimp only [t]; omega
  have h := cell m c t ⟨s.val % 512, by omega⟩ n (by omega) (by dsimp only; omega)
  simp only [e0, e1] at h
  exact h
end Cert.MergeIdeal.Val
end
-- ==== Proof.MergeRef.lean ====
module
public import proofs.«01_k».proof.Proof.Gen.MergeRefIdeal.Run
public import proofs.«01_k».proof.Proof.MergeAlg
public import Idealize.ShloMosaic.Lib.Pointwise

/-!
# The merge's reference, element by element

The reference's arrays, one after the other: the branches' gates, the gated branches' products with their weights, the
merge gates, the sum of the four, and the normalized rows.
-/
@[expose] public section
set_option maxRecDepth 16384
noncomputable section
open Idealize.ShloMosaic Idealize.ShloMosaic.TcCoe Idealize.SL.Sem

namespace Cert.MergeRefIdeal.Val
open Cert.MergeRefIdeal Cert.MergeRefIdeal.Gen

/-- A branch's gate: twice the columns from `o` on. -/
def gate (P : FVec Ideal S2x16384x11264 .bf16) (o : Nat) (h : S2x16384x11264.Slices ![0, 0, o] S2x16384x512) : FVec Ideal S2x16384x512 .f32 :=
  mulf (broadcastInDim S2x16384x512 ![] bcast_S_S2x16384x512 (constant S_ .f32 0x40000000#32)) (extf .f32 (extractStridedSlice S2x16384x512 ![0, 0, o] P h) bitsLt_bf16_f32)
/-- Sliding-window columns in head order. -/
def ordered (X : FVec Ideal S2x16384x512 .f32) : FVec Ideal S2x16384x512 .f32 :=
  shapeCast _ (transpose S2x16384x2x4x64 [0, 1, 3, 2, 4] (shapeCast _ X shapeCasts_S2x16384x512_S2x16384x4x2x64) transposes_S2x16384x4x2x64_S2x16384x2x4x64_0_1_3_2_4) shapeCasts_S2x16384x2x4x64_S2x16384x512
/-- A branch's rows times the SiLU of their gates. -/
def swish (Y G : FVec Ideal S2x16384x512 .f32) : FVec Ideal S2x16384x512 .f32 :=
  mulf Y (mulf G (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf G)))))
/-- Those times branch `k`'s weights. -/
def branch (Z : FVec Ideal S2x16384x512 .f32) (W : FVec Ideal S4x512x1024 .f32) (k : Nat) (h : S4x512x1024.Slices ![k, 0, 0] S1x512x1024) : FVec Ideal S2x16384x1024 .f32 :=
  Host.dotGeneral dot_S2x16384x512_S512x1024_S2x16384x1024_2_0_01_1_n_n none Z (shapeCast _ (extractStridedSlice S1x512x1024 ![k, 0, 0] W h) shapeCasts_S1x512x1024_S512x1024)
/-- The merge gates. -/
def gates (P : FVec Ideal S2x16384x11264 .bf16) : FVec Ideal S2x16384x4x1024 .f32 :=
  Host.divf (broadcastInDim S2x16384x4x1024 ![] bcast_S_S2x16384x4x1024 (constant S_ .f32 0x3F800000#32)) (addf (broadcastInDim S2x16384x4x1024 ![] bcast_S_S2x16384x4x1024 (constant S_ .f32 0x3F800000#32)) (Host.exp (Host.negf (shapeCast _ (mulf (broadcastInDim S2x16384x4096 ![] bcast_S_S2x16384x4096 (constant S_ .f32 0x40000000#32)) (extf .f32 (extractStridedSlice S2x16384x4096 ![0, 0, 6144] P slices_S2x16384x11264_S2x16384x4096_0_0_6144) bitsLt_bf16_f32)) shapeCasts_S2x16384x4096_S2x16384x4x1024))))
/-- Merge gate `k`. -/
def mgate (P : FVec Ideal S2x16384x11264 .bf16) (k : Nat) (h : S2x16384x4x1024.Slices ![0, 0, k, 0] S2x16384x1x1024) : FVec Ideal S2x16384x1024 .f32 :=
  shapeCast _ (extractStridedSlice S2x16384x1x1024 ![0, 0, k, 0] (gates P) h) shapeCasts_S2x16384x1x1024_S2x16384x1024
/-- The sum of the four gated branches. -/
def acc (ya yb yc yd : FVec Ideal S2x16384x512 .bf16) (P : FVec Ideal S2x16384x11264 .bf16) (W : FVec Ideal S4x512x1024 .f32) : FVec Ideal S2x16384x1024 .f32 :=
  addf (addf (addf
    (mulf (mgate P 0 slices_S2x16384x4x1024_S2x16384x1x1024_0_0_0_0) (branch (swish (extf .f32 ya bitsLt_bf16_f32) (gate P 1536 slices_S2x16384x11264_S2x16384x512_0_0_1536)) W 0 slices_S4x512x1024_S1x512x1024_0_0_0))
    (mulf (mgate P 1 slices_S2x16384x4x1024_S2x16384x1x1024_0_0_1_0) (branch (swish (ordered (extf .f32 yb bitsLt_bf16_f32)) (ordered (gate P 2560 slices_S2x16384x11264_S2x16384x512_0_0_2560))) W 1 slices_S4x512x1024_S1x512x1024_1_0_0)))
    (mulf (mgate P 2 slices_S2x16384x4x1024_S2x16384x1x1024_0_0_2_0) (branch (swish (extf .f32 yc bitsLt_bf16_f32) (gate P 3584 slices_S2x16384x11264_S2x16384x512_0_0_3584)) W 2 slices_S4x512x1024_S1x512x1024_2_0_0)))
    (mulf (mgate P 3 slices_S2x16384x4x1024_S2x16384x1x1024_0_0_3_0) (branch (swish (extf .f32 yd bitsLt_bf16_f32) (gate P 5632 slices_S2x16384x11264_S2x16384x512_0_0_5632)) W 3 slices_S4x512x1024_S1x512x1024_3_0_0))
/-- The residual rows plus the gated output of the layer. -/
def mix (x : FVec Ideal S2x16384x1024 .f32) (md : FVec Ideal S2x3072 .f32) (A : FVec Ideal S2x16384x1024 .f32) (wo : FVec Ideal S1024x1024 .f32) : FVec Ideal S2x16384x1024 .f32 :=
  addf x (mulf (broadcastInDim S2x16384x1024 ![0, 1, 2] bcast_S2x1x1024_S2x16384x1024_0_1_2 (extractStridedSlice S2x1x1024 ![0, 0, 2048] (broadcastInDim S2x1x3072 ![0, 2] bcast_S2x3072_S2x1x3072_0_2 md) slices_S2x1x3072_S2x1x1024_0_0_2048)) (Host.dotGeneral dot_S2x16384x1024_S1024x1024_S2x16384x1024_2_0_01_1_n_n none A wo))
/-- The normalized rows. -/
def nrm (o : FVec Ideal S2x16384x1024 .f32) (f : FVec Ideal S1024 .f32) : FVec Ideal S2x16384x1024 .f32 :=
  mulf (mulf o (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf o o) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 f))

/-- The reference's result, by these. -/
theorem result (m : (ℓ : Loc nD τ sig) → Buf (Elt Ideal) ℓ) (c : Dev nD) : Value.res_main_v92 (F := Ideal) m c
    = nrm (mix (m ((c.tc : Thread nD τ).loc main_arg0)) (m ((c.tc : Thread nD τ).loc main_arg6))
        (acc (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg7)))
        (m ((c.tc : Thread nD τ).loc main_arg8))) (m ((c.tc : Thread nD τ).loc main_arg9)) := rfl

theorem gate_at (P : FVec Ideal S2x16384x11264 .bf16) (o : Nat) (h) (b : Fin 2) (s : Fin 16384) (l : Fin 512) (h1) :
    gate P o h (ix3 b s l) = Ideal.ofBits FTy.f32 0x40000000#32 * (P (ix3 b s ⟨o + l.val, h1⟩) : EReal) := by
  pointwise [gate]
theorem ordered_at (X : FVec Ideal S2x16384x512 .f32) (b : Fin 2) (s : Fin 16384) (l : Fin 512) :
    ordered X (ix3 b s l) = X (ix3 b s (Merge.pairRow l)) := by
  pointwise [ordered]
  refine congrArg (fun p => X (ix3 b s p)) (Fin.ext ?_)
  dsimp only [Merge.pairRow]
  omega
theorem swish_at (Y G : FVec Ideal S2x16384x512 .f32) (b : Fin 2) (s : Fin 16384) (l : Fin 512) :
    swish Y G (ix3 b s l) = Merge.swished (Y (ix3 b s l)) (G (ix3 b s l)) := by
  pointwise [swish, Merge.swished, Merge.sig]
theorem branch_at (Z : FVec Ideal S2x16384x512 .f32) (W : FVec Ideal S4x512x1024 .f32) (k : Nat) (h) (b : Fin 2) (s : Fin 16384) (n : Fin 1024) (h1) :
    branch Z W k h (ix3 b s n) = ∑ l : Fin 512, (Z (ix3 b s l) : EReal) * (W (ix3 ⟨k, h1⟩ l n) : EReal) := by
  pointwise [branch]
theorem mgate_at (P : FVec Ideal S2x16384x11264 .bf16) (k : Nat) (h) (b : Fin 2) (s : Fin 16384) (n : Fin 1024) (h1) :
    mgate P k h (ix3 b s n) = Merge.sig (Ideal.ofBits FTy.f32 0x40000000#32 * (P (ix3 b s ⟨6144 + (k * 1024 + n.val), h1⟩) : EReal)) := by
  pointwise [mgate, gates, Merge.sig]
theorem mix_at (x : FVec Ideal S2x16384x1024 .f32) (md : FVec Ideal S2x3072 .f32) (A : FVec Ideal S2x16384x1024 .f32) (wo : FVec Ideal S1024x1024 .f32)
    (b : Fin 2) (s : Fin 16384) (n : Fin 1024) : mix x md A wo (ix3 b s n)
      = Merge.mixed (x (ix3 b s n)) (md (ix2 b ⟨2048 + n.val, by omega⟩)) (fun j => A (ix3 b s j)) (fun j => wo (ix2 j n)) := by
  pointwise [mix, Merge.mixed]
theorem nrm_at (o : FVec Ideal S2x16384x1024 .f32) (f : FVec Ideal S1024 .f32) (b : Fin 2) (s : Fin 16384) (n : Fin 1024) :
    nrm o f (ix3 b s n) = Merge.normed (fun k => o (ix3 b s k)) (f (ix1 n)) n := by
  pointwise [nrm, Merge.normed]
/-- The sum of the four gated branches, at an element. -/
theorem acc_at (ya yb yc yd : FVec Ideal S2x16384x512 .bf16) (P : FVec Ideal S2x16384x11264 .bf16) (W : FVec Ideal S4x512x1024 .f32) (b : Fin 2) (s : Fin 16384) (j : Fin 1024) :
    acc ya yb yc yd P W (ix3 b s j)
      = Merge.sig (Ideal.ofBits FTy.f32 0x40000000#32 * (P (ix3 b s ⟨6144 + j.val, by omega⟩) : EReal))
          * (∑ l : Fin 512, Merge.swished (ya (ix3 b s l)) (Ideal.ofBits FTy.f32 0x40000000#32 * (P (ix3 b s ⟨1536 + l.val, by omega⟩) : EReal)) * (W (ix3 0 l j) : EReal))
        + Merge.sig (Ideal.ofBits FTy.f32 0x40000000#32 * (P (ix3 b s ⟨7168 + j.val, by omega⟩) : EReal))
          * (∑ l : Fin 512, Merge.swished (yb (ix3 b s (Merge.pairRow l))) (Ideal.ofBits FTy.f32 0x40000000#32 * (P (ix3 b s ⟨2560 + (Merge.pairRow l).val, by omega⟩) : EReal)) * (W (ix3 1 l j) : EReal))
        + Merge.sig (Ideal.ofBits FTy.f32 0x40000000#32 * (P (ix3 b s ⟨8192 + j.val, by omega⟩) : EReal))
          * (∑ l : Fin 512, Merge.swished (yc (ix3 b s l)) (Ideal.ofBits FTy.f32 0x40000000#32 * (P (ix3 b s ⟨3584 + l.val, by omega⟩) : EReal)) * (W (ix3 2 l j) : EReal))
        + Merge.sig (Ideal.ofBits FTy.f32 0x40000000#32 * (P (ix3 b s ⟨9216 + j.val, by omega⟩) : EReal))
          * (∑ l : Fin 512, Merge.swished (yd (ix3 b s l)) (Ideal.ofBits FTy.f32 0x40000000#32 * (P (ix3 b s ⟨5632 + l.val, by omega⟩) : EReal)) * (W (ix3 3 l j) : EReal)) := by
  have key : ∀ (k : Nat) (hk) (Z : FVec Ideal S2x16384x512 .f32) (hs : S4x512x1024.Slices ![k, 0, 0] S1x512x1024) (h1 : k < 4) (q : Fin 11264) (hq : q.val = 6144 + (k * 1024 + j.val))
      (z : Fin 512 → EReal) (hz : ∀ l, Z (ix3 b s l) = z l),
      (mulf (mgate P k hk) (branch Z W k hs) : FVec Ideal S2x16384x1024 .f32) (ix3 b s j)
        = Merge.sig (Ideal.ofBits FTy.f32 0x40000000#32 * (P (ix3 b s q) : EReal)) * ∑ l : Fin 512, z l * (W (ix3 ⟨k, h1⟩ l j) : EReal) := by
    intro k hk Z hs h1 q hq z hz
    have e : q = ⟨6144 + (k * 1024 + j.val), hq ▸ q.isLt⟩ := Fin.ext hq
    rw [e]
    refine congrArg₂ (fun a b : EReal => a * b) (mgate_at P k hk b s j _) ((branch_at Z W k hs b s j h1).trans (Finset.sum_congr rfl fun l _ => ?_))
    rw [hz l]
  refine congrArg₂ (fun a b : EReal => a + b) (congrArg₂ (fun a b : EReal => a + b) (congrArg₂ (fun a b : EReal => a + b) ?_ ?_) ?_) ?_
  · exact key 0 _ _ _ (by decide) ⟨6144 + j.val, by omega⟩ (by dsimp only; omega) _ fun l => (swish_at _ _ b s l).trans (congrArg (Merge.swished _) (gate_at P 1536 _ b s l (by omega)))
  · exact key 1 _ _ _ (by decide) ⟨7168 + j.val, by omega⟩ (by dsimp only; omega) _ fun l => (swish_at _ _ b s l).trans
      (congrArg₂ Merge.swished (ordered_at _ b s l) ((ordered_at _ b s l).trans (gate_at P 2560 _ b s (Merge.pairRow l) (by omega))))
  · exact key 2 _ _ _ (by decide) ⟨8192 + j.val, by omega⟩ (by dsimp only; omega) _ fun l => (swish_at _ _ b s l).trans (congrArg (Merge.swished _) (gate_at P 3584 _ b s l (by omega)))
  · exact key 3 _ _ _ (by decide) ⟨9216 + j.val, by omega⟩ (by dsimp only; omega) _ fun l => (swish_at _ _ b s l).trans (congrArg (Merge.swished _) (gate_at P 5632 _ b s l (by omega)))
end Cert.MergeRefIdeal.Val
end
-- ==== Proof.MergeClaims.lean ====
module
public import proofs.«01_k».proof.Defs
public import proofs.«01_k».proof.Proof.MergeKernel
public import proofs.«01_k».proof.Proof.MergeRef
public import proofs.«01_k».proof.Proof.NattenClaims
public import proofs.«01_k».proof.Proof.Gen.Merge.Frame
public import proofs.«01_k».proof.Proof.Gen.MergeIdeal.Frame
public import proofs.«01_k».proof.Proof.Gen.MergeRefIdeal.Run
public import Idealize.ShloMosaic.Lib.Quiescent

/-!
# The claims about the merge

Where the branches' outputs, their gates and their weights are finite, the kernel's gates by the hyperbolic tangent and
the reference's by the logistic function give the same sum of branches, and so the same rows.
-/
@[expose] public section
set_option maxRecDepth 16384
noncomputable section
open Idealize.ShloMosaic Idealize.ShloMosaic.TcCoe Idealize.SL.Sem

namespace Cert.Proof.MergeClaims
theorem preFacts : Cert.Pre_finite_branches.Facts where
  slices_S2x16384x11264_S2x16384x512_0_0_1536 := by decide
  slices_S2x16384x11264_S2x16384x512_0_0_2560 := by decide
  slices_S2x16384x11264_S2x16384x512_0_0_3584 := by decide
  slices_S2x16384x11264_S2x16384x512_0_0_5632 := by decide
  bitsLt_bf16_f32 := by decide
  bcast_S_S2x16384x512 := by decide
  bcast_S_S4x512x1024 := by decide

/-- The comparison of absolute values with infinity, read at an element. -/
theorem fin_at {S : Shape} (X : S.Idx → EReal) (h : (fun i => Ideal.cmp .olt (max (X i) (-(X i))) (Ideal.ofBits FTy.f32 0x7F800000#32)) = fun _ => 1#1) (i : S.Idx) :
    ∃ r : ℝ, X i = (r : EReal) := NattenClaims.real_of_abs_lt _ (congrFun h i)
/-- The same for the columns from `o` on. -/
theorem fin_cols (P : (⟨3, ![2, 16384, 11264]⟩ : Shape).Idx → EReal) (o : Nat) (hs : (⟨3, ![2, 16384, 11264]⟩ : Shape).Slices ![0, 0, o] ⟨3, ![2, 16384, 512]⟩)
    (h : ∀ i, ∃ r : ℝ, extractStridedSlice ⟨3, ![2, 16384, 512]⟩ ![0, 0, o] P hs i = (r : EReal)) (b : Fin 2) (s : Fin 16384) (l : Fin 512) (h1) :
    ∃ r : ℝ, P (ix3 b s ⟨o + l.val, h1⟩) = (r : EReal) := by
  obtain ⟨r, e⟩ := h (ix3 b s l)
  refine ⟨r, Eq.trans ?_ e⟩
  pointwise

/-- The kernel's sum of branches is the reference's. -/
theorem acc_eq (m : (ℓ : Loc Cert.MergeIdeal.nD Cert.MergeIdeal.τ Cert.MergeIdeal.sig) → Buf (Elt Ideal) ℓ) (c : Dev Cert.MergeIdeal.nD) (b : Fin 2) (s : Fin 16384) (j : Fin 1024)
    (ha : ∀ l, ∃ r : ℝ, MergeIdeal.Val.ya m c b s l = r) (hb : ∀ l, ∃ r : ℝ, MergeIdeal.Val.yb m c b s l = r)
    (hc : ∀ l, ∃ r : ℝ, MergeIdeal.Val.yc m c b s l = r) (hd : ∀ l, ∃ r : ℝ, MergeIdeal.Val.yd m c b s l = r)
    (ga : ∀ l : Fin 512, ∃ r : ℝ, MergeIdeal.Val.proj m c b s ⟨1536 + l.val, by omega⟩ = r) (gb : ∀ l : Fin 512, ∃ r : ℝ, MergeIdeal.Val.proj m c b s ⟨2560 + l.val, by omega⟩ = r)
    (gc : ∀ l : Fin 512, ∃ r : ℝ, MergeIdeal.Val.proj m c b s ⟨3584 + l.val, by omega⟩ = r) (gd : ∀ l : Fin 512, ∃ r : ℝ, MergeIdeal.Val.proj m c b s ⟨5632 + l.val, by omega⟩ = r)
    (hw : ∀ i l, ∃ r : ℝ, MergeIdeal.Val.wgt m c i l j = r) :
    MergeIdeal.Val.kacc m c b s j = MergeRefIdeal.Val.acc (m ((c.tc : Thread Cert.MergeIdeal.nD Cert.MergeIdeal.τ).loc MergeIdeal.main_arg1)) (m ((c.tc : Thread Cert.MergeIdeal.nD Cert.MergeIdeal.τ).loc MergeIdeal.main_arg2))
      (m ((c.tc : Thread Cert.MergeIdeal.nD Cert.MergeIdeal.τ).loc MergeIdeal.main_arg3)) (m ((c.tc : Thread Cert.MergeIdeal.nD Cert.MergeIdeal.τ).loc MergeIdeal.main_arg4))
      (m ((c.tc : Thread Cert.MergeIdeal.nD Cert.MergeIdeal.τ).loc MergeIdeal.main_arg5)) (m ((c.tc : Thread Cert.MergeIdeal.nD Cert.MergeIdeal.τ).loc MergeIdeal.main_arg7)) (ix3 b s j) := by
  refine Eq.trans ?_ (MergeRefIdeal.Val.acc_at _ _ _ _ _ _ b s j).symm
  unfold MergeIdeal.Val.kacc
  rw [Merge.branch_eq _ _ _ _ ha ga (hw 0), Merge.branch_eq _ _ _ _ hb gb (fun l => hw 1 (Merge.headRow l)), Merge.branch_eq _ _ _ _ hc gc (hw 2), Merge.branch_eq _ _ _ _ hd gd (hw 3)]
  rw [Merge.sum_heads (fun l => Merge.swished (MergeIdeal.Val.yb m c b s l) (Ideal.ofBits FTy.f32 0x40000000#32 * MergeIdeal.Val.proj m c b s ⟨2560 + l.val, by omega⟩)) (fun l => MergeIdeal.Val.wgt m c 1 l j)]
  rfl

theorem ix_eta (j : (⟨3, ![2, 16384, 1024]⟩ : Shape).Idx) : ∃ (b : Fin 2) (s : Fin 16384) (n : Fin 1024), j = ix3 b s n :=
  ⟨j 0, j 1, j 2, by funext a; match a with | ⟨0, _⟩ => rfl | ⟨1, _⟩ => rfl | ⟨2, _⟩ => rfl⟩

theorem frame_p : Cert.quiescent_Merge (hMerge := Cert.Merge.Gen.facts) := fun m ρ _ => Cert.Merge.Gen.frame m ρ
theorem frame_pi : Cert.quiescent_MergeIdeal (hMergeIdeal := Cert.MergeIdeal.Gen.facts) := fun m ρ _ => Cert.MergeIdeal.Gen.frame m ρ
theorem frame_pi_finite [Cert.Pre_finite_branches.Facts] : Cert.quiescent_MergeIdeal_pre_finite_branches (hMergeIdeal := Cert.MergeIdeal.Gen.facts) :=
  fun m ρ _ => Cert.MergeIdeal.Gen.frame m ρ
theorem frame_ri : Cert.quiescent_MergeRefIdeal (hMergeRefIdeal := Cert.MergeRefIdeal.Gen.facts) := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)
theorem frame_ri_finite [Cert.Pre_finite_branches.Facts] : Cert.quiescent_MergeRefIdeal_pre_finite_branches (hMergeRefIdeal := Cert.MergeRefIdeal.Gen.facts) :=
  fun m ρ _ => (θ_run Cert.MergeRefIdeal.defs _ _).mono (fun r h => ⟨fun c => (h c).2, Idealize.ShloMosaic.sem_eq_zero_of_no_sems (by decide) r.2⟩)
    (Cert.MergeRefIdeal.Value.run (F := Ideal) m ρ)
theorem preserves : Cert.preserves_Merge_MergeIdeal := trivial

theorem algebraic [Cert.Pre_finite_branches.Facts] : Cert.algebraic_MergeIdeal_MergeRefIdeal_pre_finite_branches (hMergeIdeal := Cert.MergeIdeal.Gen.facts) (hMergeRefIdeal := Cert.MergeRefIdeal.Gen.facts) := by
  intro m ρ m' ρ' hpre hagree
  refine ⟨_, Cert.MergeIdeal.Value.run_blocks m ρ, ?_⟩
  refine (θ_run Cert.MergeRefIdeal.defs _ _).mono (fun _ h c => ⟨(h c).1.trans ?_, (h c).2⟩) (Cert.MergeRefIdeal.Value.run (F := Ideal) m' ρ')
  obtain ⟨a0, a1, a2, a3, a4, a5, a6, a7, a8, a9⟩ := hagree c
  obtain ⟨h0, h1, h2, h3, h4, h5, h6, h7, h8⟩ := hpre c
  rw [Cert.MergeRefIdeal.Val.result, a0, a1, a2, a3, a4, a5, a6, a7, a8, a9]
  funext j
  obtain ⟨b, s, n, rfl⟩ := ix_eta j
  refine Eq.trans ?_ (Cert.MergeIdeal.Val.value m c b s n).symm
  refine (Cert.MergeRefIdeal.Val.nrm_at _ _ b s n).trans (congrArg (fun o => Merge.normed o _ n) (funext fun k => ?_))
  refine (Cert.MergeRefIdeal.Val.mix_at _ _ _ _ b s k).trans (congrArg (fun A => Merge.mixed _ _ A _) (funext fun j => ?_))
  have fa : ∀ l, ∃ r : ℝ, MergeIdeal.Val.ya m c b s l = r := fun l => fin_at (S := ⟨3, ![2, 16384, 512]⟩) (m ((c.tc : Thread Cert.MergeIdeal.nD Cert.MergeIdeal.τ).loc MergeIdeal.main_arg1)) h0 (ix3 b s l)
  have fb : ∀ l, ∃ r : ℝ, MergeIdeal.Val.yb m c b s l = r := fun l => fin_at (S := ⟨3, ![2, 16384, 512]⟩) (m ((c.tc : Thread Cert.MergeIdeal.nD Cert.MergeIdeal.τ).loc MergeIdeal.main_arg2)) h1 (ix3 b s l)
  have fc : ∀ l, ∃ r : ℝ, MergeIdeal.Val.yc m c b s l = r := fun l => fin_at (S := ⟨3, ![2, 16384, 512]⟩) (m ((c.tc : Thread Cert.MergeIdeal.nD Cert.MergeIdeal.τ).loc MergeIdeal.main_arg3)) h2 (ix3 b s l)
  have fd : ∀ l, ∃ r : ℝ, MergeIdeal.Val.yd m c b s l = r := fun l => fin_at (S := ⟨3, ![2, 16384, 512]⟩) (m ((c.tc : Thread Cert.MergeIdeal.nD Cert.MergeIdeal.τ).loc MergeIdeal.main_arg4)) h3 (ix3 b s l)
  have ga : ∀ l : Fin 512, ∃ r : ℝ, MergeIdeal.Val.proj m c b s ⟨1536 + l.val, by omega⟩ = r := fun l =>
    fin_cols (m ((c.tc : Thread Cert.MergeIdeal.nD Cert.MergeIdeal.τ).loc MergeIdeal.main_arg5)) 1536 Cert.Pre_finite_branches.Facts.slices_S2x16384x11264_S2x16384x512_0_0_1536 (fin_at _ h4) b s l (by omega)
  have gb : ∀ l : Fin 512, ∃ r : ℝ, MergeIdeal.Val.proj m c b s ⟨2560 + l.val, by omega⟩ = r := fun l =>
    fin_cols (m ((c.tc : Thread Cert.MergeIdeal.nD Cert.MergeIdeal.τ).loc MergeIdeal.main_arg5)) 2560 Cert.Pre_finite_branches.Facts.slices_S2x16384x11264_S2x16384x512_0_0_2560 (fin_at _ h5) b s l (by omega)
  have gc : ∀ l : Fin 512, ∃ r : ℝ, MergeIdeal.Val.proj m c b s ⟨3584 + l.val, by omega⟩ = r := fun l =>
    fin_cols (m ((c.tc : Thread Cert.MergeIdeal.nD Cert.MergeIdeal.τ).loc MergeIdeal.main_arg5)) 3584 Cert.Pre_finite_branches.Facts.slices_S2x16384x11264_S2x16384x512_0_0_3584 (fin_at _ h6) b s l (by omega)
  have gd : ∀ l : Fin 512, ∃ r : ℝ, MergeIdeal.Val.proj m c b s ⟨5632 + l.val, by omega⟩ = r := fun l =>
    fin_cols (m ((c.tc : Thread Cert.MergeIdeal.nD Cert.MergeIdeal.τ).loc MergeIdeal.main_arg5)) 5632 Cert.Pre_finite_branches.Facts.slices_S2x16384x11264_S2x16384x512_0_0_5632 (fin_at _ h7) b s l (by omega)
  have fw : ∀ i l, ∃ r : ℝ, MergeIdeal.Val.wgt m c i l j = r := fun i l => fin_at (S := ⟨3, ![4, 512, 1024]⟩) (m ((c.tc : Thread Cert.MergeIdeal.nD Cert.MergeIdeal.τ).loc MergeIdeal.main_arg7)) h8 (ix3 i l j)
  exact (acc_eq m c b s j fa fb fc fd ga gb gc gd fw).symm
end Cert.Proof.MergeClaims
end
-- ==== Proof.SwaRow.lean ====
module
public import proofs.«01_k».proof.Proof.Gen.SwaIdeal.Value
public import proofs.«01_k».proof.Proof.NattenRow
public import Idealize.ShloMosaic.Lib.Pipeline.ValueKit

/-!
# What one grid point of the sliding-window attention stores

A grid point holds 8 blocks of 128 queries, each in 4 tiles of 128 lanes: 32 units.  A unit is two heads' queries
stacked, one in the first 128 rows and the other in the last.  Here the computation of ONE unit is written as functions
of its number, and the block a grid point stores is shown to be those functions side by side.
-/
@[expose] public section
set_option maxRecDepth 16384
noncomputable section
open Idealize.ShloMosaic Idealize.ShloMosaic.TcCoe Idealize.SL.Sem
open Idealize.ShloMosaic.Pipeline (Dat)
namespace Cert.SwaIdeal.Val
open Cert.SwaIdeal Cert.SwaIdeal.Gen
open Cert.NattenIdeal.Val (glue)

/-- The lanes of the first head. -/
def headLanes : IVec S128x128 1 :=
  k0_pay8 (Scalar.select (Scalar.cmpi .eq 2#32 0#32) 1#32 2#32) k0_pay4 k0_pay5 k0_pay6 k0_pay7

/-- The lanes of the first half of a tile. -/
def lowLanes : IVec S128x128 1 := k0_pay9 (iota .tc S128x128 32 [1] iota_S128x128_d1_w32)

/-- A tile of queries twice over, the lanes of one head each time. -/
def stack (q : FVec Ideal S1x128x128 .bf16) : FVec Ideal S256x128 .bf16 := k0_pay15 headLanes q

/-- The scores of a unit against the 384 keys of its window, with the mask. -/
def unitS (q : FVec Ideal S1x128x128 .bf16) (K : FVec Ideal S1x384x128 .bf16) (T : FVec Ideal S1x256x384 .f32) :
    FVec Ideal S256x384 .f32 := k0_pay40 headLanes q K T

/-- The sinks of a unit, in base two. -/
def unitK (s1 s2 : FVec Ideal S1x1 .f32) : FVec Ideal S256x1 .f32 := k0_pay42 k0_pay10 s1 s2

theorem slices_s (u : Fin 32) : S8192x256.Slices ![256 * u.val, 0] S256x256 := by
  revert u; decide +kernel
theorem slices_o (u : Fin 32) : S8192x128.Slices ![256 * u.val, 0] S256x128 := by
  revert u; decide +kernel

/-- The scores of every unit against the 256 context keys. -/
def ctxS (Q : Fin 32 → FVec Ideal S1x128x128 .bf16) (kc : FVec Ideal S1x256x128 .bf16) : FVec Ideal S8192x256 .f32 :=
  matmul dot_S8192x128_S256x128_S8192x256_1_1_0_0_n_n none
    (glue S8192x128 S256x128 0 (by decide +kernel) fun u => stack (Q u))
    (shapeCast S256x128 kc shapeCasts_S1x256x128_S256x128) (constant (F := Ideal) S8192x256 .f32 0x00000000#32)

/-- Those of unit `u`. -/
def unitC (Q : Fin 32 → FVec Ideal S1x128x128 .bf16) (kc : FVec Ideal S1x256x128 .bf16) (u : Fin 32) : FVec Ideal S256x256 .f32 :=
  extractStridedSlice S256x256 ![256 * u.val, 0] (ctxS Q kc) (slices_s u)

/-- The greatest score of each query of a unit. -/
def unitM (s : FVec Ideal S256x384 .f32) (sc : FVec Ideal S256x256 .f32) (sk : FVec Ideal S256x1 .f32) : FVec Ideal S256x1 .f32 :=
  maximumf (maximumf
    (shapeCast S256x1 (multiReduction .maximumf [1] S256 s 0xFF800000#32 reduces_S256x384_S256 (.inl rfl) rfl)
      shapeCasts_S256_S256x1)
    (shapeCast S256x1 (multiReduction .maximumf [1] S256 sc 0xFF800000#32 reduces_S256x256_S256 (.inl rfl) rfl)
      shapeCasts_S256_S256x1)) sk

/-- The weights of the window's keys. -/
def unitP (s : FVec Ideal S256x384 .f32) (sc : FVec Ideal S256x256 .f32) (sk : FVec Ideal S256x1 .f32) : FVec Ideal S256x384 .f32 :=
  exp2 (subf s (broadcastTo S256x384 (unitM s sc sk) broadcasts_S256x1_S256x384))

/-- The weights of the context keys. -/
def unitPC (s : FVec Ideal S256x384 .f32) (sc : FVec Ideal S256x256 .f32) (sk : FVec Ideal S256x1 .f32) : FVec Ideal S256x256 .f32 :=
  exp2 (subf sc (broadcastTo S256x256 (unitM s sc sk) broadcasts_S256x1_S256x256))

/-- One over the sum of a query's weights. -/
def unitD (s : FVec Ideal S256x384 .f32) (sc : FVec Ideal S256x256 .f32) (sk : FVec Ideal S256x1 .f32) : FVec Ideal S256x1 .f32 :=
  divf (broadcast S256x1 (Scalar.ofBits (F := Ideal) .f32 0x3F800000#32))
    (addf (addf
      (shapeCast S256x1 (multiReduction .add [1] S256 (unitP s sc sk) 0x00000000#32 reduces_S256x384_S256 (.inl rfl) rfl)
        shapeCasts_S256_S256x1)
      (shapeCast S256x1 (multiReduction .add [1] S256 (unitPC s sc sk) 0x00000000#32 reduces_S256x256_S256 (.inl rfl) rfl)
        shapeCasts_S256_S256x1))
      (exp2 (subf sk (unitM s sc sk))))

/-- The weighted sum of the window's values. -/
def unitV (s : FVec Ideal S256x384 .f32) (sc : FVec Ideal S256x256 .f32) (sk : FVec Ideal S256x1 .f32)
    (W : FVec Ideal S1x384x128 .bf16) : FVec Ideal S256x128 .f32 :=
  matmul dot_S256x384_S384x128_S256x128_1_0_0_1_n_n none (truncf .bf16 (unitP s sc sk) bitsLt_bf16_f32)
    (shapeCast S384x128 W shapeCasts_S1x384x128_S384x128) (constant (F := Ideal) S256x128 .f32 0x00000000#32)

/-- The weighted sums of the context's values, every unit. -/
def ctxO (S : Fin 32 → FVec Ideal S256x384 .f32) (SC : Fin 32 → FVec Ideal S256x256 .f32) (SK : Fin 32 → FVec Ideal S256x1 .f32)
    (vc : FVec Ideal S1x256x128 .bf16) : FVec Ideal S8192x128 .f32 :=
  matmul dot_S8192x256_S256x128_S8192x128_1_0_0_1_n_n none
    (glue S8192x256 S256x256 0 (by decide +kernel) fun u => truncf .bf16 (unitPC (S u) (SC u) (SK u)) bitsLt_bf16_f32)
    (shapeCast S256x128 vc shapeCasts_S1x256x128_S256x128) (constant (F := Ideal) S8192x128 .f32 0x00000000#32)

/-- The sums of unit `u`, divided. -/
def unitN (S : Fin 32 → FVec Ideal S256x384 .f32) (SC : Fin 32 → FVec Ideal S256x256 .f32) (SK : Fin 32 → FVec Ideal S256x1 .f32)
    (W : Fin 32 → FVec Ideal S1x384x128 .bf16) (vc : FVec Ideal S1x256x128 .bf16) (u : Fin 32) : FVec Ideal S256x128 .f32 :=
  mulf (addf (unitV (S u) (SC u) (SK u) (W u)) (extractStridedSlice S256x128 ![256 * u.val, 0] (ctxO S SC SK vc) (slices_o u)))
    (broadcastTo S256x128 (unitD (S u) (SC u) (SK u)) broadcasts_S256x1_S256x128)

/-- What unit `u` stores: the low lanes from the first head's rows, the others from the second head's. -/
def unitO (S : Fin 32 → FVec Ideal S256x384 .f32) (SC : Fin 32 → FVec Ideal S256x256 .f32) (SK : Fin 32 → FVec Ideal S256x1 .f32)
    (W : Fin 32 → FVec Ideal S1x384x128 .bf16) (vc : FVec Ideal S1x256x128 .bf16) (u : Fin 32) : FVec Ideal S1x128x128 .bf16 :=
  shapeCast S1x128x128 (truncf .bf16 (select lowLanes
      (extractStridedSlice S128x128 ![0, 0] (unitN S SC SK W vc u) slices_S256x128_o0_0_S128x128)
      (extractStridedSlice S128x128 ![128, 0] (unitN S SC SK W vc u) slices_S256x128_o128_0_S128x128)) bitsLt_bf16_f32)
    shapeCasts_S128x128_S1x128x128

/-- Where unit `u`'s queries lie in the block: rows from `128 (u / 4)`, lanes from `128 (u % 4)`. -/
abbrev offQ (u : Fin 32) : Fin 3 → Nat := ![0, 128 * (u.val / 4), 128 * (u.val % 4)]
theorem offQ_inb (u : Fin 32) : ∀ a, offQ u a + S1x128x128.size a ≤ S1x1024x512.size a := by
  revert u; decide +kernel
/-- Where the sink of unit `u`'s head `a` lies. -/
abbrev offK (u : Fin 32) (a : Nat) : Fin 2 → Nat := ![u.val % 4 + a, 0]
theorem offK_inb (u : Fin 32) (a : Nat) (h : a ≤ 4) : ∀ b, offK u a b + S1x1.size b ≤ S8x128.size b := by
  intro b
  match b with
  | ⟨0, _⟩ => show u.val % 4 + a + 1 ≤ 8; omega
  | ⟨1, _⟩ => show 0 + 1 ≤ 128; omega

/-- The queries of unit `u`. -/
abbrev ldQ (X : Vec Ideal S1x1024x512 .bf16) (u : Fin 32) : FVec Ideal S1x128x128 .bf16 :=
  View.ld X (Rect.unit (s := S1x1024x512) (offQ u) S1x128x128.size (offQ_inb u))
/-- The keys or values of unit `u`'s window. -/
abbrev ldW (i : grid0.Coords) (X : Vec Ideal S1x16384x128 .bf16) (u : Fin 32) : FVec Ideal S1x384x128 .bf16 :=
  View.ld X (Rect.unit (s := S1x16384x128) (k0_off1 i (BitVec.ofNat 32 (u.val / 4))) S1x384x128.size (k0_off1_inb i ⟨u.val / 4, by omega⟩))
/-- The mask of unit `u`. -/
abbrev ldT (i : grid0.Coords) (X : Vec Ideal S3x256x384 .f32) (u : Fin 32) : FVec Ideal S1x256x384 .f32 :=
  View.ld X (Rect.unit (s := S3x256x384) (k0_off2 i (BitVec.ofNat 32 (u.val / 4))) S1x256x384.size (k0_off2_inb i ⟨u.val / 4, by omega⟩))
/-- A sink of unit `u`. -/
abbrev ldK (X : Vec Ideal S8x128 .f32) (u : Fin 32) (a : Nat) (h : a ≤ 4) : FVec Ideal S1x1 .f32 :=
  View.ld X (Rect.unit (s := S8x128) (offK u a) S1x1.size (offK_inb u a h))

/-- What unit `u` stores, from the grid point's blocks. -/
def OUT (i : grid0.Coords) (X0 : Vec Ideal S1x1024x512 .bf16) (X1 X2 : Vec Ideal S1x16384x128 .bf16) (X3 X4 : Vec Ideal S1x256x128 .bf16)
    (X5 : Vec Ideal S8x128 .f32) (X6 : Vec Ideal S3x256x384 .f32) (u : Fin 32) : FVec Ideal S1x128x128 .bf16 :=
  unitO (fun u => unitS (ldQ X0 u) (ldW i X1 u) (ldT i X6 u)) (fun u => unitC (ldQ X0) X3 u)
    (fun u => unitK (ldK X5 u 0 (by omega)) (ldK X5 u 4 (by omega))) (fun u => ldW i X2 u) X4 u

variable (m : (ℓ : Loc nD τ sig) → Buf (Elt Ideal) ℓ)

/-- The pieces a grid point stores, last first. -/
def pieces (i : grid0.Coords) (X0 : Vec Ideal S1x1024x512 .bf16) (X1 X2 : Vec Ideal S1x16384x128 .bf16) (X3 X4 : Vec Ideal S1x256x128 .bf16)
    (X5 : Vec Ideal S8x128 .f32) (X6 : Vec Ideal S3x256x384 .f32) : List (View.Piece (Elt Ideal) S1x1024x512 .bf16) :=
  List.ofFn fun k : Fin 32 => ⟨Rect.unit (s := S1x1024x512) (offQ k.rev) S1x128x128.size (offQ_inb k.rev), OUT i X0 X1 X2 X3 X4 X5 X6 k.rev⟩

/-- What a grid point stores are the 32 units. -/
theorem outsAt0_eq (c : Dev nD) (t : Fin cfg0.N) :
    outsAt0 m c t = View.canon (pieces (grid0.coords t) (iblk m c 0 t) (iblk m c 1 t) (iblk m c 2 t) (iblk m c 3 t) (iblk m c 4 t)
      (iblk m c 5 t) (iblk m c 6 t)) := by
  unfold outsAt0
  frame_open
  rw [View.read_writes_junk_eq_canon]
  refine Eq.trans (b := View.canon (pieces (grid0.coords t) (View.read (Elt Ideal) (ms0_0 t).view ((hs0_0 t).unread (iblk m c 0 t)))
    (View.read (Elt Ideal) (ms0_1 t).view ((hs0_1 t).unread (iblk m c 1 t)))
    (View.read (Elt Ideal) (ms0_2 t).view ((hs0_2 t).unread (iblk m c 2 t)))
    (View.ld (View.read (Elt Ideal) (ms0_3 t).view ((hs0_3 t).unread (iblk m c 3 t))) (Rect.unit (s := S1x256x128) ![0, 0, 0] ![1, 256, 128] inb_S1x256x128_S1x256x128_0_0_0))
    (View.ld (View.read (Elt Ideal) (ms0_4 t).view ((hs0_4 t).unread (iblk m c 4 t))) (Rect.unit (s := S1x256x128) ![0, 0, 0] ![1, 256, 128] inb_S1x256x128_S1x256x128_0_0_0))
    (View.read (Elt Ideal) (ms0_5 t).view ((hs0_5 t).unread (iblk m c 5 t)))
    (View.read (Elt Ideal) (ms0_6 t).view ((hs0_6 t).unread (iblk m c 6 t))))) ?_ ?_
  · sl_kernel_rfl
  · simp (disch := decide) only [View.ld_unit_lit', Memref.IsWhole.read_unread]

end Cert.SwaIdeal.Val
end
-- ==== Proof.SwaRead.lean ====
module
public import proofs.«01_k».proof.Proof.SwaRow
public import proofs.«01_k».proof.Proof.NattenRead
public import Idealize.ShloMosaic.Lib.Pointwise

/-!
# The units of the sliding-window attention, element by element
-/
@[expose] public section
set_option maxRecDepth 16384
noncomputable section
open Idealize.ShloMosaic Idealize.ShloMosaic.TcCoe Idealize.SL.Sem
namespace Cert.SwaIdeal.Val
open Cert.SwaIdeal Cert.SwaIdeal.Gen
open Cert.NattenIdeal.Val (glue sel_lo sel_hi negInf)

/-- Row `c` of head `a` of a unit. -/
abbrev row (a : Fin 2) (c : Fin 128) : Fin 256 := ⟨128 * a.val + c.val, by omega⟩
/-- Where dimension `p` of head `a` lies among the lanes of queries and keys. -/
abbrev qlane (a : Fin 2) (p : Fin 64) : Fin 128 := ⟨64 * (p.val / 32) + (32 * a.val + p.val % 32), by omega⟩
/-- Lane `d` of head `a` among the values. -/
abbrev lane (a : Fin 2) (d : Fin 64) : Fin 128 := ⟨64 * a.val + d.val, by omega⟩

theorem glue_apply {α : Type} {n : Nat} (h) (f : Fin 32 → (⟨2, ![256, n]⟩ : Shape).Idx → α) (u : Fin 32) (x : Fin 256) (l : Fin n) :
    glue ⟨2, ![8192, n]⟩ ⟨2, ![256, n]⟩ 0 h f (ix2 ⟨256 * u.val + x.val, by omega⟩ l) = f u (ix2 x l) := by
  unfold glue
  refine concatenate_ofFn_apply (t := ⟨2, ![8192, n]⟩) (s₁ := ⟨2, ![256, n]⟩) 0 f _ rfl 256 rfl _ u ?_ _ ?_ ?_
  · show (256 * u.val + x.val) / 256 = u.val
    omega
  · show x.val = (256 * u.val + x.val) % 256
    omega
  · intro b hb
    match b with
    | ⟨0, _⟩ => exact absurd rfl hb
    | ⟨1, _⟩ => rfl

theorem headLanes_at (i l : Fin 128) : headLanes (ix2 i l) = if l.val / 32 % 2 = 0 then 1#1 else 0#1 := by
  pointwise [headLanes, k0_pay8, k0_pay4, k0_pay5, k0_pay6, k0_pay7]
  revert l; decide +kernel

theorem stack_at (q : FVec Ideal S1x128x128 .bf16) (a : Fin 2) (c l : Fin 128) :
    stack q (ix2 (row a c) l) = if l.val / 32 % 2 = a.val then (q (ix3 0 c l) : EReal) else 0 := by
  generalize hcc : row a c = cc
  pointwise [stack, k0_pay15, headLanes_at]
  match a with
  | 0 =>
    have hv : cc.val = 128 * 0 + c.val := by rw [← hcc]; rfl
    rw [dif_pos (by omega), show (⟨cc.val, _⟩ : Fin 128) = c from Fin.ext (by dsimp only; omega)]
    by_cases h : l.val / 32 % 2 = 0
    · rw [if_pos h, if_pos (show l.val / 32 % 2 = (0 : Fin 2).val from h)]; rfl
    · rw [if_neg h, if_neg (show ¬ l.val / 32 % 2 = (0 : Fin 2).val from h)]; rfl
  | 1 =>
    have hv : cc.val = 128 * 1 + c.val := by rw [← hcc]; rfl
    rw [dif_neg (by omega), show (⟨cc.val - 128, _⟩ : Fin 128) = c from Fin.ext (by dsimp only; omega)]
    by_cases h : l.val / 32 % 2 = 0
    · rw [if_pos h, if_neg (show ¬ l.val / 32 % 2 = (1 : Fin 2).val from fun e => by rw [h] at e; exact absurd e (by decide))]; rfl
    · rw [if_neg h, if_pos (show l.val / 32 % 2 = (1 : Fin 2).val from by show _ = 1; omega)]; rfl

theorem qlane_inj (a : Fin 2) : Function.Injective (qlane a) := by
  revert a; decide +kernel

/-- A dot product over all lanes, one head's queries alone being nonzero, is one over that head's dimensions. -/
theorem sum_lanes (a : Fin 2) (f g : Fin 128 → EReal) :
    ∑ l, (if l.val / 32 % 2 = a.val then f l else 0) * g l = ∑ p, f (qlane a p) * g (qlane a p) := by
  symm
  refine Fintype.sum_of_injective (qlane a) (qlane_inj a) _ _ (fun l hl => ?_) fun p => ?_
  · have hn : ¬ l.val / 32 % 2 = a.val := fun h => hl ⟨⟨32 * (l.val / 64) + l.val % 32, by omega⟩, Fin.ext (by dsimp only; omega)⟩
    rw [if_neg hn, zero_mul]
  · have hp : (qlane a p).val / 32 % 2 = a.val := by dsimp only; omega
    rw [if_pos hp]

/-- The named constants of the kernel. -/
abbrev LE : EReal := Named.named (F := Ideal) κ "log2e" (φ := .f32) 0x3FB8AA3B#32
abbrev MK : EReal := Named.named (F := Ideal) κ "mask" (φ := .f32) 0xF149F2CA#32

/-- The score of query `c`, head `a`, against key `k` of its window. -/
def scoreS (q : FVec Ideal S1x128x128 .bf16) (K : FVec Ideal S1x384x128 .bf16) (T : FVec Ideal S1x256x384 .f32)
    (a : Fin 2) (c : Fin 128) (k : Fin 384) : EReal :=
  ∑ p, (q (ix3 0 c (qlane a p)) : EReal) * (K (ix3 0 k (qlane a p)) : EReal) + (T (ix3 0 (row a c) k) : EReal) * MK
/-- Its score against a context key. -/
def scoreC (q : FVec Ideal S1x128x128 .bf16) (kc : FVec Ideal S1x256x128 .bf16) (a : Fin 2) (c : Fin 128) (k : Fin 256) : EReal :=
  ∑ p, (q (ix3 0 c (qlane a p)) : EReal) * (kc (ix3 0 k (qlane a p)) : EReal)
/-- The sink of head `a`. -/
def scoreK (s1 s2 : FVec Ideal S1x1 .f32) (a : Fin 2) : EReal := (if a = 0 then (s1 (ix2 0 0) : EReal) else s2 (ix2 0 0)) * LE

theorem unitS_at (q : FVec Ideal S1x128x128 .bf16) (K : FVec Ideal S1x384x128 .bf16) (T : FVec Ideal S1x256x384 .f32)
    (a : Fin 2) (c : Fin 128) (k : Fin 384) : unitS q K T (ix2 (row a c) k) = scoreS q K T a c k := by
  have e : unitS q K T = addf (matmul dot_S256x128_S384x128_S256x384_1_1_0_0_n_n none (stack q)
    (shapeCast S384x128 K shapeCasts_S1x384x128_S384x128) (constant (F := Ideal) S256x384 .f32 0x00000000#32))
    (mulf (shapeCast S256x384 T shapeCasts_S1x256x384_S256x384) (broadcast S256x384 (Named.named (F := Ideal) κ "mask" 0xF149F2CA#32))) := rfl
  have hs := fun l => stack_at q a c l
  rw [e]
  unfold scoreS
  rw [← sum_lanes a (fun l => q (ix3 0 c l)) fun l => K (ix3 0 k l)]
  generalize hx : row a c = x at hs ⊢
  pointwise [hs]

theorem unitC_at (Q : Fin 32 → FVec Ideal S1x128x128 .bf16) (kc : FVec Ideal S1x256x128 .bf16) (u : Fin 32)
    (a : Fin 2) (c : Fin 128) (k : Fin 256) : unitC Q kc u (ix2 (row a c) k) = scoreC (Q u) kc a c k := by
  have hs := fun l => stack_at (Q u) a c l
  unfold scoreC
  rw [← sum_lanes a (fun l => (Q u) (ix3 0 c l)) fun l => kc (ix3 0 k l)]
  generalize hx : row a c = x at hs ⊢
  pointwise [unitC, ctxS, glue_apply, hs]

theorem top_rows : ∀ x : Fin 256, IntOp.cmpi CmpIPredicate.slt (BitVec.ofNat 32 x.val) 128#32 = if x.val < 128 then 1#1 else 0#1 := by
  decide +kernel

theorem unitK_at (s1 s2 : FVec Ideal S1x1 .f32) (a : Fin 2) (c : Fin 128) (z : Fin 1) : unitK s1 s2 (ix2 (row a c) z) = scoreK s1 s2 a := by
  unfold scoreK
  generalize hx : row a c = x
  pointwise [unitK, k0_pay42, k0_pay10]
  rw [top_rows x]
  match a with
  | 0 =>
    have hv : x.val = 128 * 0 + c.val := by rw [← hx]; rfl
    rw [if_pos (by omega), if_pos rfl]; rfl
  | 1 =>
    have hv : x.val = 128 * 1 + c.val := by rw [← hx]; rfl
    rw [if_neg (by omega), if_neg (by decide)]; rfl

/-- The greatest of a query's scores. -/
def top (s : Fin 384 → EReal) (sc : Fin 256 → EReal) (sk : EReal) : EReal :=
  max (max (Finset.univ.fold max ⊥ s) (Finset.univ.fold max ⊥ sc)) sk

/-- That of row `x`. -/
abbrev topR (s : FVec Ideal S256x384 .f32) (sc : FVec Ideal S256x256 .f32) (sk : FVec Ideal S256x1 .f32) (x : Fin 256) : EReal :=
  top (fun k => s (ix2 x k)) (fun k => sc (ix2 x k)) (sk (ix2 x 0))

theorem unitP_at (s : FVec Ideal S256x384 .f32) (sc : FVec Ideal S256x256 .f32) (sk : FVec Ideal S256x1 .f32) (x : Fin 256) (k : Fin 384) :
    unitP s sc sk (ix2 x k) = Ideal.exp2 ((s (ix2 x k) : EReal) - topR s sc sk x) := by
  pointwise [unitP, unitM, negInf, top]
  rfl
theorem unitPC_at (s : FVec Ideal S256x384 .f32) (sc : FVec Ideal S256x256 .f32) (sk : FVec Ideal S256x1 .f32) (x : Fin 256) (k : Fin 256) :
    unitPC s sc sk (ix2 x k) = Ideal.exp2 ((sc (ix2 x k) : EReal) - topR s sc sk x) := by
  pointwise [unitPC, unitM, negInf, top]
  rfl
theorem unitD_at (s : FVec Ideal S256x384 .f32) (sc : FVec Ideal S256x256 .f32) (sk : FVec Ideal S256x1 .f32) (x : Fin 256) (z : Fin 1) :
    unitD s sc sk (ix2 x z) = Ideal.div 1
      (∑ k, Ideal.exp2 ((s (ix2 x k) : EReal) - topR s sc sk x) + ∑ k, Ideal.exp2 ((sc (ix2 x k) : EReal) - topR s sc sk x)
        + Ideal.exp2 ((sk (ix2 x 0) : EReal) - topR s sc sk x)) := by
  obtain rfl : z = 0 := Subsingleton.elim _ _
  pointwise [unitD, unitP_at, unitPC_at, unitM, negInf, top]
  rfl
theorem unitV_at (s : FVec Ideal S256x384 .f32) (sc : FVec Ideal S256x256 .f32) (sk : FVec Ideal S256x1 .f32) (W : FVec Ideal S1x384x128 .bf16)
    (x : Fin 256) (l : Fin 128) : unitV s sc sk W (ix2 x l)
      = ∑ k, Ideal.exp2 ((s (ix2 x k) : EReal) - topR s sc sk x) * (W (ix3 0 k l) : EReal) := by
  pointwise [unitV, unitP_at]
theorem ctxO_at (S : Fin 32 → FVec Ideal S256x384 .f32) (SC : Fin 32 → FVec Ideal S256x256 .f32) (SK : Fin 32 → FVec Ideal S256x1 .f32)
    (vc : FVec Ideal S1x256x128 .bf16) (u : Fin 32) (x : Fin 256) (l : Fin 128) (h1) :
    ctxO S SC SK vc (ix2 ⟨256 * u.val + x.val, h1⟩ l)
      = ∑ k, Ideal.exp2 ((SC u (ix2 x k) : EReal) - topR (S u) (SC u) (SK u) x) * (vc (ix3 0 k l) : EReal) := by
  pointwise [ctxO, glue_apply, unitPC_at]

/-- What a row comes to, from its scores and values. -/
def mix (s : Fin 384 → EReal) (sc : Fin 256 → EReal) (sk : EReal) (v : Fin 384 → EReal) (w : Fin 256 → EReal) : EReal :=
  (∑ k, Ideal.exp2 (s k - top s sc sk) * v k + ∑ k, Ideal.exp2 (sc k - top s sc sk) * w k)
    * Ideal.div 1 (∑ k, Ideal.exp2 (s k - top s sc sk) + ∑ k, Ideal.exp2 (sc k - top s sc sk) + Ideal.exp2 (sk - top s sc sk))

theorem unitN_at (S : Fin 32 → FVec Ideal S256x384 .f32) (SC : Fin 32 → FVec Ideal S256x256 .f32) (SK : Fin 32 → FVec Ideal S256x1 .f32)
    (W : Fin 32 → FVec Ideal S1x384x128 .bf16) (vc : FVec Ideal S1x256x128 .bf16) (u : Fin 32) (x : Fin 256) (l : Fin 128) :
    unitN S SC SK W vc u (ix2 x l) = mix (fun k => S u (ix2 x k)) (fun k => SC u (ix2 x k)) (SK u (ix2 x 0))
      (fun k => W u (ix3 0 k l)) fun k => vc (ix3 0 k l) := by
  pointwise [unitN, unitV_at, ctxO_at, unitD_at, mix]

theorem unitO_at (S : Fin 32 → FVec Ideal S256x384 .f32) (SC : Fin 32 → FVec Ideal S256x256 .f32) (SK : Fin 32 → FVec Ideal S256x1 .f32)
    (W : Fin 32 → FVec Ideal S1x384x128 .bf16) (vc : FVec Ideal S1x256x128 .bf16) (u : Fin 32) (a : Fin 2) (c : Fin 128) (d : Fin 64) :
    unitO S SC SK W vc u (ix3 0 c (lane a d)) = unitN S SC SK W vc u (ix2 (row a c) (lane a d)) := by
  pointwise [unitO, lowLanes, k0_pay9]
  match a with
  | 0 =>
    rw [sel_lo d]
    rw [show (⟨c.val, by omega⟩ : Fin 256) = row 0 c from Fin.ext (by show c.val = 128 * 0 + c.val; omega)]
  | 1 =>
    rw [sel_hi d]
    rfl

/-- What a unit stores at query `c`, lane `d` of head `a`. -/
theorem OUT_at (i : grid0.Coords) (X0 : Vec Ideal S1x1024x512 .bf16) (X1 X2 : Vec Ideal S1x16384x128 .bf16) (X3 X4 : Vec Ideal S1x256x128 .bf16)
    (X5 : Vec Ideal S8x128 .f32) (X6 : Vec Ideal S3x256x384 .f32) (u : Fin 32) (a : Fin 2) (c : Fin 128) (d : Fin 64) :
    OUT i X0 X1 X2 X3 X4 X5 X6 u (ix3 0 c (lane a d))
      = mix (scoreS (ldQ X0 u) (ldW i X1 u) (ldT i X6 u) a c) (scoreC (ldQ X0 u) X3 a c)
          (scoreK (ldK X5 u 0 (by omega)) (ldK X5 u 4 (by omega)) a)
          (fun k => ldW i X2 u (ix3 0 k (lane a d))) fun k => X4 (ix3 0 k (lane a d)) := by
  unfold OUT
  rw [unitO_at, unitN_at]
  simp only [unitS_at, unitC_at, unitK_at]

end Cert.SwaIdeal.Val
end
-- ==== Proof.SwaSpec.lean ====
module
public import proofs.«01_k».proof.Proof.Softmax
public import Idealize.ShloMosaic.Lib.Pointwise

/-!
# Sliding-window attention, element by element

A query attends the keys at most 128 positions away, the 256 context keys, and a sink: a score of its head's own that
takes weight and adds no value.  The two halves of a head's query and key dimensions lie 64 columns apart.
-/
@[expose] public section
noncomputable section
open Idealize.ShloMosaic
namespace Swa

/-- The queries. -/
abbrev SQ : Shape := ⟨3, ![2, 16384, 512]⟩
/-- The keys. -/
abbrev SK : Shape := ⟨3, ![2, 16384, 128]⟩
/-- The projections, the values among them. -/
abbrev SP : Shape := ⟨3, ![2, 16384, 11264]⟩
/-- The same of the context, its keys among them. -/
abbrev SC : Shape := ⟨3, ![2, 256, 11264]⟩
/-- The sinks. -/
abbrev SS : Shape := ⟨1, ![8]⟩

/-- Column of dimension `l` of the queries of key head `u`, query head `t` of its four. -/
abbrev qcol (t : Fin 4) (u : Fin 2) (l : Fin 64) : Fin 512 := ⟨128 * t.val + (64 * (l.val / 32) + (32 * u.val + l.val % 32)), by omega⟩
/-- Column of dimension `l` of the keys of head `u`. -/
abbrev kcol (u : Fin 2) (l : Fin 64) : Fin 128 := ⟨64 * (l.val / 32) + (32 * u.val + l.val % 32), by omega⟩
/-- That of the context's keys. -/
abbrev ccol (u : Fin 2) (l : Fin 64) : Fin 11264 := ⟨10752 + (64 * (l.val / 32) + (32 * u.val + l.val % 32)), by omega⟩
/-- Column of dimension `d` of the values of head `u`. -/
abbrev vcol (u : Fin 2) (d : Fin 64) : Fin 11264 := ⟨10880 + (64 * u.val + d.val), by omega⟩
/-- The query head's place among the eight. -/
abbrev head (t : Fin 4) (u : Fin 2) : Fin 8 := ⟨4 * u.val + t.val, by omega⟩

/-- Positions at most 128 from `p`. -/
abbrev Near (p : Fin 16384) : Type := {k : Fin 16384 // p.val ≤ k.val + 128 ∧ k.val ≤ p.val + 128}
instance (p : Fin 16384) : Nonempty (Near p) := ⟨⟨p, by omega, by omega⟩⟩

/-- The arguments the scores are made of are finite. -/
structure Finite (Q : SQ.Idx → EReal) (K : SK.Idx → EReal) (C : SC.Idx → EReal) (S : SS.Idx → EReal) : Prop where
  q : ∀ b p l, ∃ r : ℝ, Q (ix3 b p l) = r
  k : ∀ b p l, ∃ r : ℝ, K (ix3 b p l) = r
  c : ∀ b j u l, ∃ r : ℝ, C (ix3 b j (ccol u l)) = r
  s : ∀ h, ∃ r : ℝ, S (ix1 h) = r

/-- The score of the key at `k`: the queries come divided by the logarithm of two. -/
def score (Q : SQ.Idx → EReal) (K : SK.Idx → EReal) (b : Fin 2) (p : Fin 16384) (t : Fin 4) (u : Fin 2) (k : Near p) : ℝ :=
  (∑ l : Fin 64, (Q (ix3 b p (qcol t u l))).toReal * (K (ix3 b k.1 (kcol u l))).toReal) * Real.log 2
/-- The scores of the sink and of the context keys. -/
def cscore (Q : SQ.Idx → EReal) (C : SC.Idx → EReal) (S : SS.Idx → EReal) (b : Fin 2) (p : Fin 16384) (t : Fin 4) (u : Fin 2) :
    Option (Fin 256) → ℝ
  | none => (S (ix1 (head t u))).toReal
  | some j => (∑ l : Fin 64, (Q (ix3 b p (qcol t u l))).toReal * (C (ix3 b j (ccol u l))).toReal) * Real.log 2
/-- The values of the sink and of the context keys. -/
def cval (C : SC.Idx → EReal) (b : Fin 2) (u : Fin 2) (d : Fin 64) : Option (Fin 256) → EReal
  | none => 0
  | some j => C (ix3 b j (vcol u d))

/-- The attention of one query, at one dimension of its head. -/
def out (Q : SQ.Idx → EReal) (K : SK.Idx → EReal) (P : SP.Idx → EReal) (C : SC.Idx → EReal) (S : SS.Idx → EReal)
    (b : Fin 2) (p : Fin 16384) (t : Fin 4) (u : Fin 2) (d : Fin 64) : EReal :=
  Attn.attn (score Q K b p t u) (cscore Q C S b p t u) (fun k => P (ix3 b k.1 (vcol u d))) (cval C b u d)

/-- The greatest over a sink and the rest. -/
theorem fold_max_option {ι : Type*} [Fintype ι] (f : Option ι → EReal) :
    Finset.univ.fold max ⊥ f = max (f none) (Finset.univ.fold max ⊥ fun i => f (some i)) := by
  show Finset.univ.sup f = max (f none) (Finset.univ.sup fun i => f (some i))
  refine le_antisymm (Finset.sup_le fun i _ => ?_) (max_le (Finset.le_sup (f := f) (Finset.mem_univ _))
    (Finset.sup_le fun i _ => Finset.le_sup (f := f) (Finset.mem_univ (some i))))
  match i with
  | none => exact le_max_left _ _
  | some i => exact le_max_of_le_right (Finset.le_sup (f := fun i => f (some i)) (Finset.mem_univ i))

/-- A dot product of finite rows. -/
theorem dot (x y : Fin 64 → EReal) (hx : ∀ l, ∃ r : ℝ, x l = r) (hy : ∀ l, ∃ r : ℝ, y l = r) :
    ∑ l, x l * y l = ((∑ l, (x l).toReal * (y l).toReal : ℝ) : EReal) := by
  rw [Attn.coe_sum]
  refine Finset.sum_congr rfl fun l _ => ?_
  obtain ⟨a, ha⟩ := hx l
  obtain ⟨b, hb⟩ := hy l
  rw [ha, hb, EReal.toReal_coe, EReal.toReal_coe, ← EReal.coe_mul]

/-- Whether a difference is at most 128 either way, from the difference with 512 added. -/
theorem within : ∀ D : Fin 1024, IntOp.cmpi CmpIPredicate.sle (IntOp.absi (IntOp.subi (BitVec.ofNat 32 D.val) 512#32)) 128#32
    = if 384 ≤ D.val ∧ D.val ≤ 640 then 1#1 else 0#1 := by
  decide +kernel
/-- The same of the difference itself. -/
theorem within_sub (n k D : Nat) (h : D + k = n + 512) (hD : D < 1024) :
    IntOp.cmpi CmpIPredicate.sle (IntOp.absi (IntOp.subi (BitVec.ofNat 32 n) (BitVec.ofNat 32 k))) 128#32
      = if n ≤ k + 128 ∧ k ≤ n + 128 then 1#1 else 0#1 := by
  have e : IntOp.subi (BitVec.ofNat 32 n) (BitVec.ofNat 32 k) = IntOp.subi (BitVec.ofNat 32 D) 512#32 := by
    show BitVec.ofNat 32 n - BitVec.ofNat 32 k = BitVec.ofNat 32 D - 512#32
    have e1 : BitVec.ofNat 32 n + 512#32 = BitVec.ofNat 32 D + BitVec.ofNat 32 k := by
      rw [← BitVec.ofNat_add, ← BitVec.ofNat_add, h]
    rw [BitVec.sub_eq_iff_eq_add, BitVec.sub_add_comm, ← e1, BitVec.add_sub_cancel]
  rw [e]
  refine (within ⟨D, hD⟩).trans ?_
  by_cases hc : n ≤ k + 128 ∧ k ≤ n + 128
  · rw [if_pos hc, if_pos (by dsimp only; omega)]
  · rw [if_neg hc, if_neg (by dsimp only; omega)]
end Swa
end
-- ==== Proof.SwaArray.lean ====
module
public import proofs.«01_k».proof.Proof.SwaRead
public import proofs.«01_k».proof.Proof.SwaSpec
public import Idealize.ShloMosaic.Lib.Pointwise

/-!
# The blocks of the sliding-window attention, from the arguments
-/
@[expose] public section
set_option maxRecDepth 16384
noncomputable section
open Idealize.ShloMosaic Idealize.ShloMosaic.TcCoe Idealize.SL.Sem
open Idealize.ShloMosaic.Pipeline (Dat)
namespace Cert.SwaIdeal.Val
open Cert.SwaIdeal Cert.SwaIdeal.Gen
variable (m : (ℓ : Loc nD τ sig) → Buf (Elt Ideal) ℓ)

theorem idx0 : ∀ t : Fin grid0.N, win0_0.index t = ![t.val / 16, t.val % 16, 0] := by decide +kernel
theorem idx1 : ∀ t : Fin grid0.N, win0_1.index t = ![t.val / 16, 0, 0] := by decide +kernel
theorem idx2 : ∀ t : Fin grid0.N, win0_2.index t = ![t.val / 16, 0, 85] := by decide +kernel
theorem idx3 : ∀ t : Fin grid0.N, win0_3.index t = ![t.val / 16, 0, 84] := by decide +kernel
theorem idx4 : ∀ t : Fin grid0.N, win0_4.index t = ![t.val / 16, 0, 85] := by decide +kernel
theorem idx5 : ∀ t : Fin grid0.N, win0_5.index t = ![0, 0] := by decide +kernel
theorem idx6 : ∀ t : Fin grid0.N, win0_6.index t = ![0, 0, 0] := by decide +kernel
theorem idx7 : ∀ t : Fin grid0.N, win0_7.index t = ![t.val / 16, t.val % 16, 0] := by decide +kernel

theorem emb7 (t : Fin cfg0.N) (i : Fin 1024) (l : Fin 512) (h1 h2) :
    (ix3 ⟨t.val / 16, h1⟩ ⟨1024 * (t.val % 16) + i.val, h2⟩ l : S2x16384x512.Idx)
      = (win0_7.blk t).view.emb (ix3 0 i l) := by
  blk_ext [idx7 t]
/-- An element of the result is an element of the block its grid point stores. -/
theorem cell (c0 : Dev nD) (t : Fin cfg0.N) (i : Fin 1024) (l : Fin 512) (h1 h2) :
    (dats m 0 c0).arrAt 7 cfg0.N (ix3 ⟨t.val / 16, h1⟩ ⟨1024 * (t.val % 16) + i.val, h2⟩ l) = outsAt0 m c0 t (ix3 0 i l) := by
  have h := congrFun (Value.blocks7 m c0 t (by clear h1 h2; revert t; decide +kernel)) (ix3 0 i l)
  rw [Value.flushed7] at h
  have e : ((cfg0.win 7).cut (grid0.coords t) (outsAt0 m c0 t)) (ix3 0 i l) = outsAt0 m c0 t (ix3 0 i l) := rfl
  rw [e] at h
  refine Eq.trans ?_ h
  exact congrArg ((dats m 0 c0).arrAt 7 cfg0.N) (emb7 t i l _ _)

/-- The block a grid point stores, read at unit `u`. -/
theorem canon_at (i : grid0.Coords) (X0 : Vec Ideal S1x1024x512 .bf16) (X1 X2 : Vec Ideal S1x16384x128 .bf16) (X3 X4 : Vec Ideal S1x256x128 .bf16)
    (X5 : Vec Ideal S8x128 .f32) (X6 : Vec Ideal S3x256x384 .f32) (u : Fin 32) (c l : Fin 128) (h1 h2) :
    View.canon (pieces i X0 X1 X2 X3 X4 X5 X6) (ix3 0 ⟨128 * (u.val / 4) + c.val, h1⟩ ⟨128 * (u.val % 4) + l.val, h2⟩)
      = OUT i X0 X1 X2 X3 X4 X5 X6 u (ix3 0 c l) := by
  refine View.canon_ofFn_unit_eq_of_forall (Val := Elt Ideal) (e := .bf16) (S := S1x1024x512) (fun k : Fin 32 => offQ k.rev) S1x128x128.size
    (fun k => offQ_inb k.rev) (fun k => OUT i X0 X1 X2 X3 X4 X5 X6 k.rev) _ _ ⟨u.rev, fun a => ?_⟩ fun k x hx => ?_
  · rw [Fin.rev_rev]
    match a with
    | ⟨0, _⟩ => exact ⟨Nat.le_refl _, Nat.zero_lt_one⟩
    | ⟨1, _⟩ => exact ⟨Nat.le_add_right _ _, by show 128 * (u.val / 4) + c.val < 128 * (u.val / 4) + 128; omega⟩
    | ⟨2, _⟩ => exact ⟨Nat.le_add_right _ _, by show 128 * (u.val % 4) + l.val < 128 * (u.val % 4) + 128; omega⟩
  · have e1 : 128 * (u.val / 4) + c.val = 128 * (k.rev.val / 4) + (x 1).val := hx 1
    have e2 : 128 * (u.val % 4) + l.val = 128 * (k.rev.val % 4) + (x 2).val := hx 2
    have l1 : (x 1).val < 128 := (x 1).isLt
    have l2 : (x 2).val < 128 := (x 2).isLt
    have hk : k.rev = u := Fin.ext (by omega)
    rw [hk] at e1 e2 ⊢
    refine congrArg _ (funext fun a => Fin.ext ?_)
    match a with
    | ⟨0, _⟩ => exact Nat.lt_one_iff.mp (x 0).isLt
    | ⟨1, _⟩ => show (x 1).val = c.val; omega
    | ⟨2, _⟩ => show (x 2).val = l.val; omega

theorem off1 : ∀ (t : Fin grid0.N) (s : Fin 8), k0_off1 (grid0.coords t) (BitVec.ofNat 32 s.val) = ![0, 128 * min 125 (8 * (t.val % 16) + s.val - 1), 0] := by
  decide +kernel
theorem off2 : ∀ (t : Fin grid0.N) (s : Fin 8), k0_off2 (grid0.coords t) (BitVec.ofNat 32 s.val)
    = ![8 * (t.val % 16) + s.val - min 125 (8 * (t.val % 16) + s.val - 1), 0, 0] := by
  decide +kernel

theorem q_at (c0 : Dev nD) (t : Fin cfg0.N) (i : Fin 1024) (l : Fin 512) (h1 h2) :
    iblk m c0 0 t (ix3 0 i l) = m ((c0.tc : Thread nD τ).loc main_arg0) (ix3 ⟨t.val / 16, h1⟩ ⟨1024 * (t.val % 16) + i.val, h2⟩ l) := by
  blk_ext [iblk, V, idx0 t]
theorem keys_at (c0 : Dev nD) (t : Fin cfg0.N) (i : Fin 16384) (l : Fin 128) (h1) :
    iblk m c0 1 t (ix3 0 i l) = m ((c0.tc : Thread nD τ).loc main_arg1) (ix3 ⟨t.val / 16, h1⟩ i l) := by
  blk_ext [iblk, V, idx1 t]
theorem vals_at (c0 : Dev nD) (t : Fin cfg0.N) (i : Fin 16384) (l : Fin 128) (h1 h3) :
    iblk m c0 2 t (ix3 0 i l) = m ((c0.tc : Thread nD τ).loc main_arg2) (ix3 ⟨t.val / 16, h1⟩ i ⟨10880 + l.val, h3⟩) := by
  blk_ext [iblk, V, idx2 t]
theorem ckeys_at (c0 : Dev nD) (t : Fin cfg0.N) (i : Fin 256) (l : Fin 128) (h1 h3) :
    iblk m c0 3 t (ix3 0 i l) = m ((c0.tc : Thread nD τ).loc main_arg3) (ix3 ⟨t.val / 16, h1⟩ i ⟨10752 + l.val, h3⟩) := by
  blk_ext [iblk, V, idx3 t]
theorem cvals_at (c0 : Dev nD) (t : Fin cfg0.N) (i : Fin 256) (l : Fin 128) (h1 h3) :
    iblk m c0 4 t (ix3 0 i l) = m ((c0.tc : Thread nD τ).loc main_arg3) (ix3 ⟨t.val / 16, h1⟩ i ⟨10880 + l.val, h3⟩) := by
  blk_ext [iblk, V, idx4 t]

theorem V_parts (c0 : Dev nD) (b) : V m c0 b = StableHlo.after hostOps0_1 (StableHlo.after hostOps0 fun b => m (c0, b)) (Proc.tc.devRef b) := by
  rfl

/-- The sinks as the kernel reads them. -/
theorem sink_at (c0 : Dev nD) (t : Fin cfg0.N) (h : Fin 8) (l : Fin 128) :
    iblk m c0 5 t (ix2 h l) = (m ((c0.tc : Thread nD τ).loc main_arg4) : S8.Idx → EReal) (ix1 h) := by
  have e : V m c0 main_v1 = broadcastInDim S8x128 ![0, 1] bcast_S8x1_S8x128_0_1 (broadcastInDim S8x1 ![0] bcast_S8_S8x1_0
      (m ((c0.tc : Thread nD τ).loc main_arg4) : S8.Idx → EReal)) := by
    rw [V_parts]
    entry_read
    rfl
  have e2 : iblk m c0 5 t (ix2 h l) = (V m c0 main_v1 : S8x128.Idx → EReal) (ix2 h l) := by
    unfold iblk
    blk_simp
    show (V m c0 main_v1 : S8x128.Idx → EReal) _ = _
    blk_ext [idx5 t]
  rw [e2, e]
  pointwise

theorem and127 (n : Nat) : IntOp.andi (BitVec.ofNat 32 n) 127#32 = BitVec.ofNat 32 (n % 128) := by
  apply BitVec.eq_of_toNat_eq
  show (BitVec.ofNat 32 n &&& 127#32).toNat = _
  rw [BitVec.toNat_and, BitVec.toNat_ofNat, BitVec.toNat_ofNat]
  rw [show 127 % 2 ^ 32 = 2 ^ 7 - 1 from rfl, Nat.and_two_pow_sub_one_eq_mod, BitVec.toNat_ofNat]
  omega

/-- The mask as the kernel reads it: one where query and key are more than 128 apart. -/
theorem mask_at (c0 : Dev nD) (t : Fin cfg0.N) (v : Fin 3) (a : Fin 2) (c : Fin 128) (k : Fin 384) :
    iblk m c0 6 t (ix3 v (row a c) k) = if 128 * v.val + c.val ≤ k.val + 128 ∧ k.val ≤ 128 * v.val + c.val + 128 then (0 : EReal) else 1 := by
  have e2 : iblk m c0 6 t (ix3 v (row a c) k) = (V m c0 main_v14 : S3x256x384.Idx → EReal) (ix3 v (row a c) k) := by
    unfold iblk
    blk_simp
    show (V m c0 main_v14 : S3x256x384.Idx → EReal) _ = _
    blk_ext [idx6 t]
  have e : V m c0 main_v14 = select (cmpi .sle (absi (subi (addi
      (muli (iotaInDim S3x256x384 32 0) (broadcastInDim S3x256x384 ![] bcast_S_S3x256x384 (constantI S_ 32 128#32)))
      (andi (iotaInDim S3x256x384 32 1) (broadcastInDim S3x256x384 ![] bcast_S_S3x256x384 (constantI S_ 32 127#32))))
      (iotaInDim S3x256x384 32 2))) (broadcastInDim S3x256x384 ![] bcast_S_S3x256x384 (constantI S_ 32 128#32)))
      (broadcastInDim S3x256x384 ![] bcast_S_S3x256x384 (constant (F := Ideal) S_ FTy.f32 0x00000000#32))
      (broadcastInDim S3x256x384 ![] bcast_S_S3x256x384 (constant (F := Ideal) S_ FTy.f32 0x3F800000#32)) := by
    rw [V_parts]
    entry_read
    rfl
  rw [e2, e]
  have hr : (row a c).val % 128 = c.val := by show (128 * a.val + c.val) % 128 = _; omega
  generalize row a c = x at hr ⊢
  pointwise [and127]
  rw [hr]
  have hn : IntOp.addi (IntOp.muli (BitVec.ofNat 32 v.val) 128#32) (BitVec.ofNat 32 c.val) = BitVec.ofNat 32 (128 * v.val + c.val) := by
    show BitVec.ofNat 32 v.val * BitVec.ofNat 32 128 + BitVec.ofNat 32 c.val = _
    rw [← BitVec.ofNat_mul, ← BitVec.ofNat_add, Nat.mul_comm]
  rw [hn, Swa.within_sub _ _ (128 * v.val + c.val + 512 - k.val) (by omega) (by omega)]
  split <;> rfl

theorem ld_rows (X : Vec Ideal S1x16384x128 .bf16) (off : Fin 3 → Nat) (o : Nat) (h : off = ![0, o, 0]) (hin) (i : Fin 384) (l : Fin 128) (h1) :
    View.ld X (Rect.unit (s := S1x16384x128) off ![1, 384, 128] hin) (ix3 0 i l) = X (ix3 0 ⟨o + i.val, h1⟩ l) := by
  subst h
  exact View.ld_unit_apply_of X _ _ _ _ _ fun a => by
    match a with
    | ⟨0, _⟩ => rfl
    | ⟨1, _⟩ => rfl
    | ⟨2, _⟩ => exact (Nat.zero_add _).symm
theorem ld_mask (X : Vec Ideal S3x256x384 .f32) (off : Fin 3 → Nat) (o : Nat) (h : off = ![o, 0, 0]) (hin) (i : Fin 256) (l : Fin 384) (h1) :
    View.ld X (Rect.unit (s := S3x256x384) off ![1, 256, 384] hin) (ix3 0 i l) = X (ix3 ⟨o, h1⟩ i l) := by
  subst h
  exact View.ld_unit_apply_of X _ _ _ _ _ fun a => by
    match a with
    | ⟨0, _⟩ => rfl
    | ⟨1, _⟩ => exact (Nat.zero_add _).symm
    | ⟨2, _⟩ => exact (Nat.zero_add _).symm
theorem ldQ_at (X : Vec Ideal S1x1024x512 .bf16) (u : Fin 32) (c l : Fin 128) (h1 h2) :
    ldQ X u (ix3 0 c l) = X (ix3 0 ⟨128 * (u.val / 4) + c.val, h1⟩ ⟨128 * (u.val % 4) + l.val, h2⟩) :=
  View.ld_unit_apply_of X _ _ _ _ _ fun a => by
    match a with
    | ⟨0, _⟩ => rfl
    | ⟨1, _⟩ => rfl
    | ⟨2, _⟩ => rfl
theorem ldK_at (X : Vec Ideal S8x128 .f32) (u : Fin 32) (a : Nat) (h : a ≤ 4) (h1) :
    ldK X u a h (ix2 0 0) = X (ix2 ⟨u.val % 4 + a, h1⟩ 0) :=
  View.ld_unit_apply_of X _ _ _ _ _ fun b => by
    match b with
    | ⟨0, _⟩ => rfl
    | ⟨1, _⟩ => rfl
end Cert.SwaIdeal.Val
end
-- ==== Proof.SwaKernel.lean ====
module
public import proofs.«01_k».proof.Proof.SwaArray

/-!
# The kernel's result is the sliding-window attention
-/
@[expose] public section
set_option maxRecDepth 16384
noncomputable section
open Idealize.ShloMosaic Idealize.ShloMosaic.TcCoe Idealize.SL.Sem
namespace Cert.SwaIdeal.Val
open Cert.SwaIdeal Cert.SwaIdeal.Gen
variable (m : (ℓ : Loc nD τ sig) → Buf (Elt Ideal) ℓ)

theorem LE_eq : LE = (((Real.log 2)⁻¹ : ℝ) : EReal) := rfl
theorem MK_eq : MK = (⊥ : EReal) := rfl

/-- A sink's score and the context's scores, together. -/
def withSink (sk : EReal) (sc : Fin 256 → EReal) : Option (Fin 256) → EReal
  | none => sk
  | some j => sc j

/-- The arithmetic of one element: from scores in base two to the attention. -/
theorem mix_eq {κ : Type*} [Fintype κ] [Nonempty κ] (φ : κ → Fin 384) (hφ : Function.Injective φ) (x : κ → ℝ) (y : Option (Fin 256) → ℝ)
    (s : Fin 384 → EReal) (sc : Fin 256 → EReal) (sk : EReal)
    (hs : ∀ a, s (φ a) = (((Real.log 2)⁻¹ * x a : ℝ) : EReal)) (hb : ∀ i, (∀ a, φ a ≠ i) → s i = ⊥)
    (hc : ∀ b, withSink sk sc b = (((Real.log 2)⁻¹ * y b : ℝ) : EReal)) (v : Fin 384 → EReal) (w : Fin 256 → EReal) :
    mix s sc sk v w = Attn.attn x y (fun a => v (φ a)) (withSink 0 w) := by
  have hM : top s sc sk = max (Finset.univ.fold max ⊥ s) (Finset.univ.fold max ⊥ (withSink sk sc)) := by
    rw [Swa.fold_max_option]
    show max (max _ _) sk = max _ (max sk _)
    rw [max_assoc, max_comm sk]
    rfl
  have e := Attn.attn_base_two φ hφ x y s (withSink sk sc) hs hb hc v (withSink 0 w) _ hM
  refine Eq.trans ?_ e
  rw [Fintype.sum_option, Fintype.sum_option]
  show _ = (_ + (Ideal.exp2 (sk - top s sc sk) * 0 + ∑ j, Ideal.exp2 (sc j - top s sc sk) * w j))
    * Ideal.div 1 (_ + (Ideal.exp2 (sk - top s sc sk) + ∑ j, Ideal.exp2 (sc j - top s sc sk)))
  rw [mul_zero, zero_add, add_comm (Ideal.exp2 (sk - top s sc sk)), ← add_assoc]
  rfl

/-- The first position the window of block `i` holds. -/
abbrev start (i : Nat) : Nat := 128 * min 125 (i - 1)

/-- The place of position `k` in the window of the query at `p`. -/
def place (p : Fin 16384) (k : Swa.Near p) : Fin 384 :=
  ⟨k.1.val - start (p.val / 128), by have := k.2; have := k.1.isLt; simp only [start]; omega⟩
theorem place_val (p : Fin 16384) (k : Swa.Near p) : start (p.val / 128) + (place p k).val = k.1.val := by
  have := k.2; have := k.1.isLt
  show start (p.val / 128) + (k.1.val - start (p.val / 128)) = k.1.val
  simp only [start]; omega
theorem place_inj (p : Fin 16384) : Function.Injective (place p) := fun k k' h => by
  refine Subtype.ext (Fin.ext ?_)
  rw [← place_val p k, ← place_val p k', h]

/-- From what the blocks hold to the attention. -/
theorem outAt_eq (Q : Swa.SQ.Idx → EReal) (Ks : Swa.SK.Idx → EReal) (P : Swa.SP.Idx → EReal) (C : Swa.SC.Idx → EReal) (S : Swa.SS.Idx → EReal)
    (hF : Swa.Finite Q Ks C S)
    (q : FVec Ideal S1x128x128 .bf16) (K W : FVec Ideal S1x384x128 .bf16) (T : FVec Ideal S1x256x384 .f32) (kc vc : FVec Ideal S1x256x128 .bf16)
    (s1 s2 : FVec Ideal S1x1 .f32) (b : Fin 2) (p : Fin 16384) (t : Fin 4) (a : Fin 2) (c : Fin 128) (d : Fin 64)
    (hc : c.val = p.val % 128)
    (hq : ∀ l, q (ix3 0 c (qlane a l)) = Q (ix3 b p (Swa.qcol t a l)))
    (hK : ∀ (k : Fin 384) (l : Fin 64) (h), K (ix3 0 k (qlane a l)) = Ks (ix3 b ⟨start (p.val / 128) + k.val, h⟩ (Swa.kcol a l)))
    (hW : ∀ (k : Fin 384) (h), W (ix3 0 k (lane a d)) = P (ix3 b ⟨start (p.val / 128) + k.val, h⟩ (Swa.vcol a d)))
    (hT : ∀ k : Fin 384, T (ix3 0 (row a c) k) = if p.val ≤ start (p.val / 128) + k.val + 128 ∧ start (p.val / 128) + k.val ≤ p.val + 128 then (0 : EReal) else 1)
    (hkc : ∀ j l, kc (ix3 0 j (qlane a l)) = C (ix3 b j (Swa.ccol a l)))
    (hvc : ∀ j, vc (ix3 0 j (lane a d)) = C (ix3 b j (Swa.vcol a d)))
    (hs : (if a = 0 then (s1 (ix2 0 0) : EReal) else s2 (ix2 0 0)) = S (ix1 (Swa.head t a))) :
    mix (scoreS q K T a c) (scoreC q kc a c) (scoreK s1 s2 a) (fun k => W (ix3 0 k (lane a d))) (fun k => vc (ix3 0 k (lane a d)))
      = Swa.out Q Ks P C S b p t a d := by
  have hlog : Real.log 2 ≠ 0 := (Real.log_pos (by norm_num)).ne'
  have hst : ∀ k : Fin 384, start (p.val / 128) + k.val < 16384 := fun k => by simp only [start]; omega
  have hpl : ∀ k, (⟨start (p.val / 128) + (place p k).val, hst _⟩ : Fin 16384) = k.1 := fun k => Fin.ext (place_val p k)
  refine (mix_eq (place p) (place_inj p) (Swa.score Q Ks b p t a) (Swa.cscore Q C S b p t a) _ _ _ (fun k => ?_) (fun i hi => ?_) (fun j => ?_) _ _).trans ?_
  · unfold scoreS
    rw [hT, if_pos (by rw [place_val]; exact k.2), zero_mul, add_zero,
      Swa.dot _ _ (fun l => by rw [hq]; exact hF.q ..) (fun l => by rw [hK _ _ (hst _)]; exact hF.k ..)]
    unfold Swa.score
    congr 1
    rw [mul_comm _ (Real.log 2), inv_mul_cancel_left₀ hlog]
    refine Finset.sum_congr rfl fun l _ => ?_
    rw [hq, hK _ _ (hst _), hpl]
  · unfold scoreS
    rw [hT, if_neg, one_mul, MK_eq, EReal.add_bot]
    intro hm
    exact hi ⟨⟨_, hst i⟩, hm⟩ (Fin.ext (by show start (p.val / 128) + i.val - start (p.val / 128) = i.val; omega))
  · match j with
    | none =>
      show scoreK s1 s2 a = _
      unfold scoreK
      obtain ⟨r, hr⟩ := hF.s (Swa.head t a)
      rw [hs, hr, LE_eq, ← EReal.coe_mul]
      unfold Swa.cscore
      rw [hr, EReal.toReal_coe, mul_comm]
    | some j =>
      show scoreC q kc a c j = _
      unfold scoreC
      rw [Swa.dot _ _ (fun l => by rw [hq]; exact hF.q ..) (fun l => by rw [hkc]; exact hF.c ..)]
      refine congrArg _ ?_
      show _ = (Real.log 2)⁻¹ * (_ * Real.log 2)
      rw [mul_comm _ (Real.log 2), inv_mul_cancel_left₀ hlog]
      refine Finset.sum_congr rfl fun l _ => ?_
      rw [hq, hkc]
  · unfold Swa.out
    have e1 : (fun k => W (ix3 0 (place p k) (lane a d))) = fun k : Swa.Near p => P (ix3 b k.1 (Swa.vcol a d)) := funext fun k => by
      rw [hW _ (hst _), hpl]
    have e2 : withSink 0 (fun k => vc (ix3 0 k (lane a d))) = Swa.cval C b a d := funext fun j => by
      match j with
      | none => rfl
      | some j => exact hvc j
    rw [e1, e2]

theorem result_at (c0 : Dev nD)
    (hF : Swa.Finite (m ((c0.tc : Thread nD τ).loc main_arg0)) (m ((c0.tc : Thread nD τ).loc main_arg1)) (m ((c0.tc : Thread nD τ).loc main_arg3))
      (m ((c0.tc : Thread nD τ).loc main_arg4)))
    (b : Fin 2) (p : Fin 16384) (t : Fin 4) (a : Fin 2) (d : Fin 64) (h1) :
    (dats m 0 c0).arrAt 7 cfg0.N (ix3 b p ⟨128 * t.val + (64 * a.val + d.val), h1⟩)
      = Swa.out (m ((c0.tc : Thread nD τ).loc main_arg0)) (m ((c0.tc : Thread nD τ).loc main_arg1)) (m ((c0.tc : Thread nD τ).loc main_arg2))
          (m ((c0.tc : Thread nD τ).loc main_arg3)) (m ((c0.tc : Thread nD τ).loc main_arg4)) b p t a d := by
  have hN : cfg0.N = 32 := rfl
  obtain ⟨g, hg⟩ : ∃ g : Fin cfg0.N, g.val = 16 * b.val + p.val / 1024 := ⟨⟨16 * b.val + p.val / 1024, by rw [hN]; omega⟩, rfl⟩
  obtain ⟨u, hu⟩ : ∃ u : Fin 32, u.val = 4 * (p.val / 128 % 8) + t.val := ⟨⟨4 * (p.val / 128 % 8) + t.val, by omega⟩, rfl⟩
  obtain ⟨c, hc⟩ : ∃ c : Fin 128, c.val = p.val % 128 := ⟨⟨p.val % 128, by omega⟩, rfl⟩
  have g1 : g.val / 16 = b.val := by omega
  have g2 : g.val % 16 = p.val / 1024 := by omega
  have u1 : u.val / 4 = p.val / 128 % 8 := by omega
  have u2 : u.val % 4 = t.val := by omega
  have g3 : 8 * (g.val % 16) + u.val / 4 = p.val / 128 := by omega
  have hcell := cell m c0 g ⟨128 * (u.val / 4) + c.val, by omega⟩ ⟨128 * (u.val % 4) + (lane a d).val, by have := (lane a d).isLt; omega⟩
    (by omega) (by dsimp only; omega)
  rw [outsAt0_eq, canon_at, OUT_at] at hcell
  have ei : (ix3 b p ⟨128 * t.val + (64 * a.val + d.val), h1⟩ : S2x16384x512.Idx) = ix3 ⟨g.val / 16, by omega⟩
      ⟨1024 * (g.val % 16) + (⟨128 * (u.val / 4) + c.val, by omega⟩ : Fin 1024).val, by dsimp only; omega⟩
      ⟨128 * (u.val % 4) + (lane a d).val, by have := (lane a d).isLt; omega⟩ := by
    congr 1 <;> refine Fin.ext ?_ <;> dsimp only <;> omega
  rw [ei]
  refine hcell.trans ?_
  have keyQ : ∀ {x y z x' y' z'} (h1 : x.val = x'.val) (h2 : y.val = y'.val) (h3 : z.val = z'.val),
      (ix3 x y z : Swa.SQ.Idx) = ix3 x' y' z' := fun h1 h2 h3 => by rw [Fin.ext h1, Fin.ext h2, Fin.ext h3]
  have keyK : ∀ {x y z x' y' z'} (h1 : x.val = x'.val) (h2 : y.val = y'.val) (h3 : z.val = z'.val),
      (ix3 x y z : Swa.SK.Idx) = ix3 x' y' z' := fun h1 h2 h3 => by rw [Fin.ext h1, Fin.ext h2, Fin.ext h3]
  have keyP : ∀ {x y z x' y' z'} (h1 : x.val = x'.val) (h2 : y.val = y'.val) (h3 : z.val = z'.val),
      (ix3 x y z : Swa.SP.Idx) = ix3 x' y' z' := fun h1 h2 h3 => by rw [Fin.ext h1, Fin.ext h2, Fin.ext h3]
  have keyC : ∀ {x y z x' y' z'} (h1 : x.val = x'.val) (h2 : y.val = y'.val) (h3 : z.val = z'.val),
      (ix3 x y z : Swa.SC.Idx) = ix3 x' y' z' := fun h1 h2 h3 => by rw [Fin.ext h1, Fin.ext h2, Fin.ext h3]
  have hst : 128 * min 125 (8 * (g.val % 16) + u.val / 4 - 1) = start (p.val / 128) := by rw [g3]
  refine outAt_eq _ _ _ _ _ hF _ _ _ _ _ _ _ _ b p t a c d hc (fun l => ?_) (fun k l h => ?_) (fun k h => ?_) (fun k => ?_) (fun j l => ?_) (fun j => ?_) ?_
  · refine (ldQ_at _ u c (qlane a l) (by omega) (by have := (qlane a l).isLt; omega)).trans
      ((q_at m c0 g _ _ (by omega) (by dsimp only; omega)).trans (congrArg (m ((c0.tc : Thread nD τ).loc main_arg0)) (keyQ g1 ?_ ?_)))
    · dsimp only; omega
    · dsimp only; omega
  · refine (ld_rows _ _ _ (off1 g ⟨u.val / 4, by omega⟩) _ _ _ (by dsimp only; rw [hst]; exact h)).trans
      ((keys_at m c0 g _ _ (by omega)).trans (congrArg (m ((c0.tc : Thread nD τ).loc main_arg1)) (keyK g1 ?_ ?_)))
    · dsimp only; rw [hst]
    · dsimp only
  · refine (ld_rows _ _ _ (off1 g ⟨u.val / 4, by omega⟩) _ _ _ (by dsimp only; rw [hst]; exact h)).trans
      ((vals_at m c0 g _ _ (by omega) (by dsimp only; omega)).trans (congrArg (m ((c0.tc : Thread nD τ).loc main_arg2)) (keyP g1 ?_ rfl)))
    · dsimp only; rw [hst]
  · refine (ld_mask _ _ _ (off2 g ⟨u.val / 4, by omega⟩) _ _ _ (by dsimp only; omega)).trans ((mask_at m c0 g _ a c k).trans (if_congr ?_ rfl rfl))
    dsimp only
    rw [g3]
    simp only [start]
    omega
  · exact (ckeys_at m c0 g _ _ (by omega) (by dsimp only; omega)).trans (congrArg (m ((c0.tc : Thread nD τ).loc main_arg3)) (keyC g1 rfl (by dsimp only)))
  · exact (cvals_at m c0 g _ _ (by omega) (by dsimp only; omega)).trans (congrArg (m ((c0.tc : Thread nD τ).loc main_arg3)) (keyC g1 rfl (by dsimp only)))
  · match a with
    | 0 =>
      rw [if_pos rfl]
      refine (ldK_at _ u 0 (by omega) (by omega)).trans ((sink_at m c0 g _ _).trans
        (congrArg (m ((c0.tc : Thread nD τ).loc main_arg4) : S8.Idx → EReal) (congrArg ix1 (Fin.ext ?_))))
      show u.val % 4 + 0 = 4 * 0 + t.val; omega
    | 1 =>
      rw [if_neg (by decide)]
      refine (ldK_at _ u 4 (by omega) (by omega)).trans ((sink_at m c0 g _ _).trans
        (congrArg (m ((c0.tc : Thread nD τ).loc main_arg4) : S8.Idx → EReal) (congrArg ix1 (Fin.ext ?_))))
      show u.val % 4 + 4 = 4 * 1 + t.val; omega
end Cert.SwaIdeal.Val
end
-- ==== Proof.SwaRefRow.lean ====
module
public import proofs.«01_k».proof.Proof.SwaSpec
public import proofs.«01_k».proof.Proof.Gen.SwaRefIdeal.Run
public import Idealize.ShloMosaic.Lib.Pointwise
public import Idealize.ShloMosaic.Lib.Tactic

/-!
# The reference of the sliding-window attention, part by part
-/
@[expose] public section
set_option maxRecDepth 16384
noncomputable section
open Idealize.ShloMosaic Idealize.ShloMosaic.TcCoe Idealize.SL.Sem
namespace Cert.SwaRefIdeal.Val
open Cert.SwaRefIdeal Cert.SwaRefIdeal.Gen Cert.SwaRefIdeal.Value

/-- The queries by key head, query head, block and row. -/
def queries (Q : FVec Ideal S2x16384x512 .bf16) : FVec Ideal S2x2x4x128x128x64 .f32 :=
  shapeCast S2x2x4x128x128x64 (shapeCast S2x8x16384x64 (transpose S2x2x4x16384x2x32 [0, 4, 2, 1, 3, 5]
    (shapeCast S2x16384x4x2x2x32 (extf .f32 Q bitsLt_bf16_f32) shapeCasts_S2x16384x512_S2x16384x4x2x2x32)
    transposes_S2x16384x4x2x2x32_S2x2x4x16384x2x32_0_4_2_1_3_5) shapeCasts_S2x2x4x16384x2x32_S2x8x16384x64) shapeCasts_S2x8x16384x64_S2x2x4x128x128x64
/-- The keys by head. -/
def keys (K : FVec Ideal S2x16384x128 .bf16) : FVec Ideal S2x2x16384x64 .f32 :=
  shapeCast S2x2x16384x64 (transpose S2x2x16384x2x32 [0, 3, 1, 2, 4] (shapeCast S2x16384x2x2x32 (extf .f32 K bitsLt_bf16_f32)
    shapeCasts_S2x16384x128_S2x16384x2x2x32) transposes_S2x16384x2x2x32_S2x2x16384x2x32_0_3_1_2_4) shapeCasts_S2x2x16384x2x32_S2x2x16384x64
/-- The values by head. -/
def vals (P : FVec Ideal S2x16384x11264 .bf16) : FVec Ideal S2x2x16384x64 .f32 :=
  transpose S2x2x16384x64 [0, 2, 1, 3] (shapeCast S2x16384x2x64 (extf .f32 (extractStridedSlice S2x16384x128 ![0, 0, 10880] P
    slices_S2x16384x11264_S2x16384x128_0_0_10880) bitsLt_bf16_f32) shapeCasts_S2x16384x128_S2x16384x2x64) transposes_S2x16384x2x64_S2x2x16384x64_0_2_1_3
/-- The context's keys by head. -/
def ckeys (C : FVec Ideal S2x256x11264 .bf16) : FVec Ideal S2x2x256x64 .f32 :=
  shapeCast S2x2x256x64 (transpose S2x2x256x2x32 [0, 3, 1, 2, 4] (shapeCast S2x256x2x2x32 (extf .f32 (extractStridedSlice S2x256x128 ![0, 0, 10752] C
    slices_S2x256x11264_S2x256x128_0_0_10752) bitsLt_bf16_f32) shapeCasts_S2x256x128_S2x256x2x2x32)
    transposes_S2x256x2x2x32_S2x2x256x2x32_0_3_1_2_4) shapeCasts_S2x2x256x2x32_S2x2x256x64
/-- The context's values by head. -/
def cvals (C : FVec Ideal S2x256x11264 .bf16) : FVec Ideal S2x2x256x64 .f32 :=
  transpose S2x2x256x64 [0, 2, 1, 3] (shapeCast S2x256x2x64 (extf .f32 (extractStridedSlice S2x256x128 ![0, 0, 10880] C
    slices_S2x256x11264_S2x256x128_0_0_10880) bitsLt_bf16_f32) shapeCasts_S2x256x128_S2x256x2x64) transposes_S2x256x2x64_S2x2x256x64_0_2_1_3

/-- Rows of zeros before and after, in blocks. -/
def padded (X : FVec Ideal S2x2x16384x64 .f32) : FVec Ideal S2x2x130x128x64 .f32 :=
  shapeCast S2x2x130x128x64 (pad S2x2x16640x64 ![0, 0, 128, 0] ![0, 0, 128, 0] ![0, 0, 0, 0] X (sitofp (F := Ideal) .f32 (constantI S_ 32 0#32))
    pads_S2x2x16384x64_S2x2x16640x64_000_000_1281280_000 h_S_) shapeCasts_S2x2x16640x64_S2x2x130x128x64
/-- Each block with the block before it and the block after it. -/
def band (X : FVec Ideal S2x2x16384x64 .f32) : FVec Ideal S2x2x128x384x64 .f32 :=
  fn_main_v28 (F := Ideal) (extractStridedSlice S2x2x128x128x64 ![0, 0, 0, 0, 0] (padded X) slices_S2x2x130x128x64_S2x2x128x128x64_0_0_0_0_0)
    (extractStridedSlice S2x2x128x128x64 ![0, 0, 1, 0, 0] (padded X) slices_S2x2x130x128x64_S2x2x128x128x64_0_0_1_0_0)
    (extractStridedSlice S2x2x128x128x64 ![0, 0, 2, 0, 0] (padded X) slices_S2x2x130x128x64_S2x2x128x128x64_0_0_2_0_0)

/-- The positions of a block's band. -/
def kpos : IVec S128x384 32 :=
  addi (broadcastInDim S128x384 ![0, 1] bcast_S128x1_S128x384_0_1 (muli (subi (broadcastInDim S128x1 ![0] bcast_S128_S128x1_0 (iotaInDim S128 32 0))
      (broadcastInDim S128x1 ![] bcast_S_S128x1 (constantI S_ 32 1#32))) (broadcastInDim S128x1 ![] bcast_S_S128x1 (constantI S_ 32 128#32))))
    (broadcastInDim S128x384 ![0, 1] bcast_S1x384_S128x384_0_1 (broadcastInDim S1x384 ![1] bcast_S384_S1x384_1 (iotaInDim S384 32 0)))
/-- The positions of a block's queries. -/
def qpos : IVec S128x128 32 := shapeCast S128x128 (iotaInDim S16384 32 0) shapeCasts_S16384_S128x128
/-- Which keys of its band a query attends. -/
def mask : IVec S128x128x384 1 :=
  andi (andi
    (cmpi .sle (absi (subi
        (broadcastInDim S128x128x384 ![0, 1, 2] bcast_S128x128x1_S128x128x384_0_1_2 (broadcastInDim S128x128x1 ![0, 1] bcast_S128x128_S128x128x1_0_1 qpos))
        (broadcastInDim S128x128x384 ![0, 1, 2] bcast_S128x1x384_S128x128x384_0_1_2 (broadcastInDim S128x1x384 ![0, 2] bcast_S128x384_S128x1x384_0_2 kpos))))
      (broadcastInDim S128x128x384 ![] bcast_S_S128x128x384 (constantI S_ 32 128#32)))
    (broadcastInDim S128x128x384 ![0, 1, 2] bcast_S128x1x384_S128x128x384_0_1_2 (cmpi .sge (broadcastInDim S128x1x384 ![0, 2] bcast_S128x384_S128x1x384_0_2 kpos)
      (broadcastInDim S128x1x384 ![] bcast_S_S128x1x384 (constantI S_ 32 0#32)))))
    (broadcastInDim S128x128x384 ![0, 1, 2] bcast_S128x1x384_S128x128x384_0_1_2 (cmpi .slt (broadcastInDim S128x1x384 ![0, 2] bcast_S128x384_S128x1x384_0_2 kpos)
      (broadcastInDim S128x1x384 ![] bcast_S_S128x1x384 (constantI S_ 32 16384#32))))

/-- The logarithm of two. -/
def scale : FVec Ideal S_ .f32 := Host.log (constant (F := Ideal) S_ .f32 0x40000000#32)

/-- The scores against the band. -/
def scores (Q : FVec Ideal S2x2x4x128x128x64 .f32) (K : FVec Ideal S2x2x128x384x64 .f32) : FVec Ideal S2x2x4x128x128x384 .f32 :=
  select (broadcastInDim S2x2x4x128x128x384 ![3, 4, 5] bcast_S128x128x384_S2x2x4x128x128x384_3_4_5 mask)
    (mulf (transpose S2x2x4x128x128x384 [0, 1, 4, 2, 5, 3] (Host.dotGeneral dot_S2x2x128x384x64_S2x2x4x128x128x64_S2x2x128x384x4x128_4_5_3_24_012_013 none K Q)
        transposes_S2x2x128x384x4x128_S2x2x4x128x128x384_0_1_4_2_5_3)
      (broadcastInDim S2x2x4x128x128x384 ![] bcast_S_S2x2x4x128x128x384 (id scale)))
    (broadcastInDim S2x2x4x128x128x384 ![] bcast_S_S2x2x4x128x128x384 (id (constant (F := Ideal) S_ .f32 0xFF800000#32)))
/-- The scores against the context. -/
def cscores (Q : FVec Ideal S2x2x4x128x128x64 .f32) (K : FVec Ideal S2x2x256x64 .f32) : FVec Ideal S2x2x4x128x128x256 .f32 :=
  mulf (Host.dotGeneral dot_S2x2x4x128x128x64_S2x2x256x64_S2x2x4x128x128x256_5_3_234_2_01_01 none Q K)
    (broadcastInDim S2x2x4x128x128x256 ![] bcast_S_S2x2x4x128x128x256 (id scale))
/-- The sinks. -/
def sinks (S : FVec Ideal S8 .f32) : FVec Ideal S2x2x4x128x128x1 .f32 :=
  broadcastInDim S2x2x4x128x128x1 ![0, 1, 2, 3, 4, 5] bcast_S1x2x4x1x1x1_S2x2x4x128x128x1_0_1_2_3_4_5 (shapeCast S1x2x4x1x1x1 S shapeCasts_S8_S1x2x4x1x1x1)

/-- The greatest score. -/
def rowMax (X : FVec Ideal S2x2x4x128x128x641 .f32) : FVec Ideal S2x2x4x128x128 .f32 :=
  Host.reduce FloatOps.maximumf X (constant (F := Ideal) S_ .f32 0xFF800000#32) reducesTo_S2x2x4x128x128x641_S2x2x4x128x128_d5 h_S_
/-- The sum of a row. -/
def rowSum (X : FVec Ideal S2x2x4x128x128x641 .f32) : FVec Ideal S2x2x4x128x128 .f32 :=
  Host.reduceAdd X (constant (F := Ideal) S_ .f32 0x00000000#32) reducesTo_S2x2x4x128x128x641_S2x2x4x128x128_d5 h_S_
/-- The number a row's exponentials are taken against. -/
def rowTop (X : FVec Ideal S2x2x4x128x128x641 .f32) : FVec Ideal S2x2x4x128x128 .f32 :=
  maximumf (broadcastInDim S2x2x4x128x128 ![] bcast_S_S2x2x4x128x128 (constant (F := Ideal) S_ .f32 0xFF800000#32)) (rowMax X)
/-- The exponentials of the scores, the greatest subtracted. -/
def expos (X : FVec Ideal S2x2x4x128x128x641 .f32) : FVec Ideal S2x2x4x128x128x641 .f32 :=
  Host.exp (subf X (broadcastInDim S2x2x4x128x128x641 ![0, 1, 2, 3, 4, 5] bcast_S2x2x4x128x128x1_S2x2x4x128x128x641_0_1_2_3_4_5
    (broadcastInDim S2x2x4x128x128x1 ![0, 1, 2, 3, 4] bcast_S2x2x4x128x128_S2x2x4x128x128x1_0_1_2_3_4 (rowTop X))))
/-- The weights. -/
def weights (X : FVec Ideal S2x2x4x128x128x641 .f32) : FVec Ideal S2x2x4x128x128x641 .f32 :=
  Host.divf (expos X) (broadcastInDim S2x2x4x128x128x641 ![0, 1, 2, 3, 4, 5] bcast_S2x2x4x128x128x1_S2x2x4x128x128x641_0_1_2_3_4_5
    (broadcastInDim S2x2x4x128x128x1 ![0, 1, 2, 3, 4] bcast_S2x2x4x128x128_S2x2x4x128x128x1_0_1_2_3_4
      (rowSum (expos X))))
/-- The weighted sums. -/
def sums (W : FVec Ideal S2x2x4x128x128x641 .f32) (V : FVec Ideal S2x2x128x384x64 .f32) (VC : FVec Ideal S2x2x256x64 .f32) : FVec Ideal S2x2x4x128x128x64 .f32 :=
  addf (transpose S2x2x4x128x128x64 [0, 1, 4, 2, 5, 3] (Host.dotGeneral dot_S2x2x128x384x64_S2x2x4x128x128x384_S2x2x128x64x4x128_3_5_4_24_012_013 none V
      (extractStridedSlice S2x2x4x128x128x384 ![0, 0, 0, 0, 0, 0] W slices_S2x2x4x128x128x641_S2x2x4x128x128x384_0_0_0_0_0_0))
      transposes_S2x2x128x64x4x128_S2x2x4x128x128x64_0_1_4_2_5_3)
    (Host.dotGeneral dot_S2x2x4x128x128x256_S2x2x256x64_S2x2x4x128x128x64_5_2_234_3_01_01 none
      (extractStridedSlice S2x2x4x128x128x256 ![0, 0, 0, 0, 0, 384] W slices_S2x2x4x128x128x641_S2x2x4x128x128x256_0_0_0_0_0_384) VC)
/-- The columns in the result's order. -/
def ordered (X : FVec Ideal S2x2x4x128x128x64 .f32) : FVec Ideal S2x16384x512 .bf16 :=
  truncf .bf16 (shapeCast S2x16384x512 (transpose S2x16384x4x2x64 [0, 3, 2, 1, 4] (shapeCast S2x2x4x16384x64 (shapeCast S2x8x16384x64 X
    shapeCasts_S2x2x4x128x128x64_S2x8x16384x64) shapeCasts_S2x8x16384x64_S2x2x4x16384x64) transposes_S2x2x4x16384x64_S2x16384x4x2x64_0_3_2_1_4)
    shapeCasts_S2x16384x4x2x64_S2x16384x512) bitsLt_bf16_f32

/-- All scores of a query. -/
def allScores (Q : FVec Ideal S2x16384x512 .bf16) (K : FVec Ideal S2x16384x128 .bf16) (C : FVec Ideal S2x256x11264 .bf16) (S : FVec Ideal S8 .f32) :
    FVec Ideal S2x2x4x128x128x641 .f32 :=
  fn_main_v78 (F := Ideal) (scores (queries Q) (band (keys K))) (cscores (queries Q) (ckeys C)) (sinks S)

variable (m : (ℓ : Loc nD τ sig) → Buf (Elt Ideal) ℓ)

/-- The reference's result in those terms. -/
theorem res_eq (c : Dev nD) : res_main_v100 m c = ordered (sums
    (weights (allScores (m ((c.tc : Thread nD τ).loc main_arg0)) (m ((c.tc : Thread nD τ).loc main_arg1)) (m ((c.tc : Thread nD τ).loc main_arg3)) (m ((c.tc : Thread nD τ).loc main_arg4))))
    (band (vals (m ((c.tc : Thread nD τ).loc main_arg2)))) (cvals (m ((c.tc : Thread nD τ).loc main_arg3)))) := by
  sl_kernel_rfl

end Cert.SwaRefIdeal.Val
end
-- ==== Proof.SwaRefRead.lean ====
module
public import proofs.«01_k».proof.Proof.SwaRefRow
public import Idealize.ShloMosaic.Lib.Pointwise

/-!
# The parts of the reference, element by element
-/
@[expose] public section
set_option maxRecDepth 16384
noncomputable section
open Idealize.ShloMosaic Idealize.ShloMosaic.TcCoe Idealize.SL.Sem
namespace Cert.SwaRefIdeal.Val
open Cert.SwaRefIdeal Cert.SwaRefIdeal.Gen Cert.SwaRefIdeal.Value

theorem queries_at (Q : FVec Ideal S2x16384x512 .bf16) (b u : Fin 2) (t : Fin 4) (n c : Fin 128) (l : Fin 64) (h) :
    queries Q (ix6 b u t n c l) = Q (ix3 b ⟨128 * n.val + c.val, h⟩ (Swa.qcol t u l)) := by
  pointwise [queries]
  refine congrArg₂ (fun x y => Q (ix3 b x y)) (Fin.ext ?_) (Fin.ext ?_) <;> dsimp only <;> omega
theorem keys_at (K : FVec Ideal S2x16384x128 .bf16) (b u : Fin 2) (k : Fin 16384) (l : Fin 64) :
    keys K (ix4 b u k l) = K (ix3 b k (Swa.kcol u l)) := by
  pointwise [keys]
  refine congrArg (fun y => K (ix3 b k y)) (Fin.ext ?_)
  dsimp only; omega
theorem vals_at (P : FVec Ideal S2x16384x11264 .bf16) (b u : Fin 2) (k : Fin 16384) (l : Fin 64) :
    vals P (ix4 b u k l) = P (ix3 b k (Swa.vcol u l)) := by
  pointwise [vals]
  refine congrArg (fun y => P (ix3 b k y)) (Fin.ext ?_)
  dsimp only; omega
theorem ckeys_at (C : FVec Ideal S2x256x11264 .bf16) (b u : Fin 2) (k : Fin 256) (l : Fin 64) :
    ckeys C (ix4 b u k l) = C (ix3 b k (Swa.ccol u l)) := by
  pointwise [ckeys]
  refine congrArg (fun y => C (ix3 b k y)) (Fin.ext ?_)
  dsimp only; omega
theorem cvals_at (C : FVec Ideal S2x256x11264 .bf16) (b u : Fin 2) (k : Fin 256) (l : Fin 64) :
    cvals C (ix4 b u k l) = C (ix3 b k (Swa.vcol u l)) := by
  pointwise [cvals]
  refine congrArg (fun y => C (ix3 b k y)) (Fin.ext ?_)
  dsimp only; omega
theorem padded_at (X : FVec Ideal S2x2x16384x64 .f32) (b u : Fin 2) (n : Fin 130) (c : Fin 128) (l : Fin 64) (h : 128 ≤ 128 * n.val + c.val)
    (h2 : 128 * n.val + c.val - 128 < 16384) :
    padded X (ix5 b u n c l) = X (ix4 b u ⟨128 * n.val + c.val - 128, h2⟩ l) := by
  pointwise [padded]
  rw [dif_pos (by omega)]
  refine congrArg (fun x => X (ix4 b u x l)) (Fin.ext ?_)
  dsimp only; omega
/-- Key `w` of block `n`'s band, where there is one. -/
theorem band_at (X : FVec Ideal S2x2x16384x64 .f32) (b u : Fin 2) (n : Fin 128) (w : Fin 384) (l : Fin 64) (k : Fin 16384)
    (hk : k.val + 128 = 128 * n.val + w.val) : band X (ix5 b u n w l) = X (ix4 b u k l) := by
  pointwise [band, fn_main_v28]
  repeat' split
  all_goals
    refine (padded_at X b u _ _ l (by dsimp only; omega) (by dsimp only; omega)).trans (congrArg (fun x => X (ix4 b u x l)) (Fin.ext ?_))
    dsimp only; omega

theorem kpos_word (n w : Nat) (hn : n < 128) (hw : w < 384) : IntOp.addi (IntOp.muli (IntOp.subi (BitVec.ofNat 32 n) 1#32) 128#32) (BitVec.ofNat 32 w)
    = IntOp.subi (BitVec.ofNat 32 (128 * n + w)) 128#32 := by
  apply BitVec.eq_of_toNat_eq
  show ((BitVec.ofNat 32 n - 1#32) * 128#32 + BitVec.ofNat 32 w).toNat = (BitVec.ofNat 32 (128 * n + w) - 128#32).toNat
  simp only [BitVec.toNat_add, BitVec.toNat_mul, BitVec.toNat_sub, BitVec.toNat_ofNat]
  omega
/-- A position, 128 added, as a word less 128. -/
theorem pos_word (N : Nat) (h : 128 ≤ N) : IntOp.subi (BitVec.ofNat 32 N) 128#32 = BitVec.ofNat 32 (N - 128) := by
  show BitVec.ofNat 32 N - BitVec.ofNat 32 128 = _
  rw [BitVec.sub_eq_iff_eq_add, ← BitVec.ofNat_add, Nat.sub_add_cancel h]
theorem diff_word (q N : Nat) : IntOp.subi (BitVec.ofNat 32 q) (IntOp.subi (BitVec.ofNat 32 N) 128#32)
    = IntOp.subi (BitVec.ofNat 32 (q + 128)) (BitVec.ofNat 32 N) := by
  apply BitVec.eq_of_toNat_eq
  show (BitVec.ofNat 32 q - (BitVec.ofNat 32 N - 128#32)).toNat = (BitVec.ofNat 32 (q + 128) - BitVec.ofNat 32 N).toNat
  simp only [BitVec.toNat_sub, BitVec.toNat_ofNat]
  omega
theorem word_toInt (n : Nat) (h : n < 65536) : (BitVec.ofNat 32 n).toInt = n := by
  rw [BitVec.toInt_eq_toNat_of_lt (by rw [BitVec.toNat_ofNat]; omega), BitVec.toNat_ofNat]
  omega
/-- A position lies in the sequence. -/
theorem inside (N : Nat) (h : N < 65536) :
    IntOp.cmpi .sge (IntOp.subi (BitVec.ofNat 32 N) 128#32) 0#32 = (if 128 ≤ N then 1#1 else 0#1)
    ∧ (128 ≤ N → IntOp.cmpi .slt (IntOp.subi (BitVec.ofNat 32 N) 128#32) 16384#32 = if N < 16512 then 1#1 else 0#1) := by
  by_cases h1 : 128 ≤ N
  · rw [pos_word N h1, if_pos h1]
    constructor
    · show BitVec.ofBool (decide ((0 : Int) ≤ (BitVec.ofNat 32 (N - 128)).toInt)) = 1#1
      rw [word_toInt _ (by omega), decide_eq_true (by omega)]; rfl
    · intro _
      show BitVec.ofBool (decide ((BitVec.ofNat 32 (N - 128)).toInt < (16384 : Int))) = _
      rw [word_toInt _ (by omega)]
      by_cases h2 : N < 16512
      · rw [if_pos h2, decide_eq_true (by omega)]; rfl
      · rw [if_neg h2, decide_eq_false (by omega)]; rfl
  · refine ⟨?_, fun h => absurd h h1⟩
    rw [if_neg h1]
    have h3 : ∀ N : Fin 128, IntOp.cmpi .sge (IntOp.subi (BitVec.ofNat 32 N.val) 128#32) 0#32 = 0#1 := by decide +kernel
    exact h3 ⟨N, by omega⟩

theorem mask_at (n c : Fin 128) (w : Fin 384) : mask (ix3 n c w)
    = if (c.val ≤ w.val ∧ w.val ≤ c.val + 256) ∧ 128 ≤ 128 * n.val + w.val ∧ 128 * n.val + w.val < 16512 then 1#1 else 0#1 := by
  pointwise [mask, qpos, kpos]
  rw [kpos_word _ _ n.isLt w.isLt, diff_word, Swa.within_sub _ _ (c.val + 640 - w.val) (by omega) (by omega)]
  obtain ⟨e1, e2⟩ := inside (128 * n.val + w.val) (by omega)
  rw [e1]
  by_cases h1 : 128 ≤ 128 * n.val + w.val
  · rw [e2 h1, if_pos h1]
    by_cases h2 : 128 * n.val + w.val < 16512 <;> by_cases h3 : c.val ≤ w.val ∧ w.val ≤ c.val + 256
    · rw [if_pos h2, if_pos (by omega), if_pos (by omega)]; rfl
    · rw [if_pos h2, if_neg (by omega), if_neg (by omega)]; rfl
    · rw [if_neg h2, if_pos (by omega), if_neg (by omega)]; rfl
    · rw [if_neg h2, if_neg (by omega), if_neg (by omega)]; rfl
  · have h4 : ∀ x y : BitVec 1, IntOp.andi (IntOp.andi x 0#1) y = 0#1 := by decide
    rw [if_neg h1, h4, if_neg (by omega)]

theorem scale_at : (id scale : FVec Ideal S_ .f32) ix0 = ((Real.log 2 : ℝ) : EReal) := by
  show Ideal.log (Ideal.ofBits .f32 0x40000000#32) = _
  have e : Ideal.ofBits FTy.f32 0x40000000#32 = ((2 : ℝ) : EReal) := by
    simp [Ideal.ofBits, Ideal.ieee, -EReal.coe_mul]; norm_num
  rw [e]
  show (if (2 : ℝ) ≤ 0 then (⊥ : EReal) else ((Real.log 2 : ℝ) : EReal)) = _
  rw [if_neg (by norm_num)]

theorem scores_at (Q : FVec Ideal S2x2x4x128x128x64 .f32) (K : FVec Ideal S2x2x128x384x64 .f32) (b u : Fin 2) (t : Fin 4) (n c : Fin 128) (w : Fin 384) :
    scores Q K (ix6 b u t n c w) = Scalar.select (mask (ix3 n c w))
      ((∑ x, (K (ix5 b u n w x) : EReal) * (Q (ix6 b u t n c x) : EReal)) * ((Real.log 2 : ℝ) : EReal)) (⊥ : EReal) := by
  have hs := scale_at
  unfold scores
  generalize (id scale : FVec Ideal S_ .f32) = z at hs ⊢
  pointwise [hs]
  rfl
theorem cscores_at (Q : FVec Ideal S2x2x4x128x128x64 .f32) (K : FVec Ideal S2x2x256x64 .f32) (b u : Fin 2) (t : Fin 4) (n c : Fin 128) (w : Fin 256) :
    cscores Q K (ix6 b u t n c w) = (∑ x, (Q (ix6 b u t n c x) : EReal) * (K (ix4 b u w x) : EReal)) * ((Real.log 2 : ℝ) : EReal) := by
  have hs := scale_at
  unfold cscores
  generalize (id scale : FVec Ideal S_ .f32) = z at hs ⊢
  pointwise [hs]
theorem sinks_at (S : FVec Ideal S8 .f32) (b u : Fin 2) (t : Fin 4) (n c : Fin 128) (z : Fin 1) : sinks S (ix6 b u t n c z) = S (ix1 (Swa.head t u)) := by
  pointwise [sinks]
  refine congrArg (fun x => S (ix1 x)) (Fin.ext ?_)
  dsimp only; omega

theorem fiber_at (j : S2x2x4x128x128.Idx) (i : S2x2x4x128x128x641.Idx) :
    reducesTo_S2x2x4x128x128x641_S2x2x4x128x128_d5.drop i = j ↔ ∃ k : Fin 641, ix6 (j 0) (j 1) (j 2) (j 3) (j 4) k = i := by
  constructor
  · intro e
    refine ⟨i 5, ?_⟩
    funext b
    apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem rowMax_at (X : FVec Ideal S2x2x4x128x128x641 .f32) (b u : Fin 2) (t : Fin 4) (n c : Fin 128) :
    rowMax X (ix5 b u t n c) = Finset.univ.fold max (⊥ : EReal) fun k : Fin 641 => X (ix6 b u t n c k) := by
  have e : rowMax X (ix5 b u t n c) = (Finset.univ.filter fun i => reducesTo_S2x2x4x128x128x641_S2x2x4x128x128_d5.drop i = ix5 b u t n c).fold max (⊥ : EReal) X := by
    unfold rowMax
    pointwise []
    rfl
  rw [e]
  exact Finset.fold_filter_eq_fold_of_fiber max _ (fun k : Fin 641 => (ix6 b u t n c k : S2x2x4x128x128x641.Idx)) (fun _ _ e => congrFun e 5)
    (fiber_at (ix5 b u t n c)) ⊥ X
theorem rowSum_at (X : FVec Ideal S2x2x4x128x128x641 .f32) (b u : Fin 2) (t : Fin 4) (n c : Fin 128) :
    rowSum X (ix5 b u t n c) = ∑ k : Fin 641, (X (ix6 b u t n c k) : EReal) := by
  have e : rowSum X (ix5 b u t n c) = Ideal.hostReduceAdd reducesTo_S2x2x4x128x128x641_S2x2x4x128x128_d5 X 0 (ix5 b u t n c) := by
    unfold rowSum
    pointwise []
  rw [e]
  show (0 : EReal) + ∑ i ∈ Finset.univ.filter (fun i => reducesTo_S2x2x4x128x128x641_S2x2x4x128x128_d5.drop i = ix5 b u t n c), (X i : EReal) = _
  rw [zero_add]
  have hf : (Finset.univ.filter fun i => reducesTo_S2x2x4x128x128x641_S2x2x4x128x128_d5.drop i = ix5 b u t n c)
      = Finset.univ.map ⟨fun k : Fin 641 => (ix6 b u t n c k : S2x2x4x128x128x641.Idx), fun _ _ e => congrFun e 5⟩ := by
    ext i
    rw [Finset.mem_filter, Finset.mem_map]
    exact ⟨fun h => let ⟨k, hk⟩ := (fiber_at _ _).mp h.2; ⟨k, Finset.mem_univ _, hk⟩,
      fun ⟨k, _, hk⟩ => ⟨Finset.mem_univ _, (fiber_at _ _).mpr ⟨k, hk⟩⟩⟩
  rw [hf, Finset.sum_map]
  rfl

theorem top_of (M : FVec Ideal S2x2x4x128x128 .f32) (b u : Fin 2) (t : Fin 4) (n c : Fin 128) :
    maximumf (broadcastInDim S2x2x4x128x128 ![] bcast_S_S2x2x4x128x128 (constant (F := Ideal) S_ .f32 0xFF800000#32)) M (ix5 b u t n c) = M (ix5 b u t n c) := by
  show max (Ideal.ofBits FTy.f32 0xFF800000#32) (M (ix5 b u t n c) : EReal) = _
  exact max_eq_right (bot_le : (⊥ : EReal) ≤ _)
theorem rowTop_at (X : FVec Ideal S2x2x4x128x128x641 .f32) (b u : Fin 2) (t : Fin 4) (n c : Fin 128) :
    rowTop X (ix5 b u t n c) = Finset.univ.fold max (⊥ : EReal) fun k : Fin 641 => X (ix6 b u t n c k) := by
  unfold rowTop
  exact (top_of (rowMax X) b u t n c).trans (rowMax_at X b u t n c)
theorem expos_at (X : FVec Ideal S2x2x4x128x128x641 .f32) (b u : Fin 2) (t : Fin 4) (n c : Fin 128) (z : Fin 641) :
    expos X (ix6 b u t n c z) = Ideal.exp ((X (ix6 b u t n c z) : EReal) - Finset.univ.fold max (⊥ : EReal) fun k : Fin 641 => X (ix6 b u t n c k)) := by
  have hm := rowTop_at X b u t n c
  unfold expos
  generalize rowTop X = M at hm ⊢
  rw [← hm]
  pointwise []
theorem weights_at (X : FVec Ideal S2x2x4x128x128x641 .f32) (b u : Fin 2) (t : Fin 4) (n c : Fin 128) (z : Fin 641) :
    weights X (ix6 b u t n c z) = Ideal.div (expos X (ix6 b u t n c z)) (∑ k : Fin 641, (expos X (ix6 b u t n c k) : EReal)) := by
  have hm := rowSum_at (expos X) b u t n c
  unfold weights
  generalize rowSum (expos X) = M at hm ⊢
  rw [← hm]
  pointwise []
theorem sums_at (W : FVec Ideal S2x2x4x128x128x641 .f32) (V : FVec Ideal S2x2x128x384x64 .f32) (VC : FVec Ideal S2x2x256x64 .f32)
    (b u : Fin 2) (t : Fin 4) (n c : Fin 128) (d : Fin 64) : sums W V VC (ix6 b u t n c d)
      = (∑ x : Fin 384, (V (ix5 b u n x d) : EReal) * (W (ix6 b u t n c ⟨x.val, by omega⟩) : EReal))
        + ∑ x : Fin 256, (W (ix6 b u t n c ⟨384 + x.val, by omega⟩) : EReal) * (VC (ix4 b u x d) : EReal) := by
  pointwise [sums]
theorem ordered_at (X : FVec Ideal S2x2x4x128x128x64 .f32) (b u : Fin 2) (t : Fin 4) (p : Fin 16384) (d : Fin 64) (h) :
    ordered X (ix3 b p ⟨128 * t.val + (64 * u.val + d.val), h⟩) = X (ix6 b u t ⟨p.val / 128, by omega⟩ ⟨p.val % 128, by omega⟩ d) := by
  pointwise [ordered]
theorem all_lo (A : FVec Ideal S2x2x4x128x128x384 .f32) (B : FVec Ideal S2x2x4x128x128x256 .f32) (D : FVec Ideal S2x2x4x128x128x1 .f32)
    (b u : Fin 2) (t : Fin 4) (n c : Fin 128) (w : Fin 384) (h) : fn_main_v78 (F := Ideal) A B D (ix6 b u t n c ⟨w.val, h⟩) = A (ix6 b u t n c w) := by
  pointwise [fn_main_v78]
theorem all_mid (A : FVec Ideal S2x2x4x128x128x384 .f32) (B : FVec Ideal S2x2x4x128x128x256 .f32) (D : FVec Ideal S2x2x4x128x128x1 .f32)
    (b u : Fin 2) (t : Fin 4) (n c : Fin 128) (j : Fin 256) (h) : fn_main_v78 (F := Ideal) A B D (ix6 b u t n c ⟨384 + j.val, h⟩) = B (ix6 b u t n c j) := by
  pointwise [fn_main_v78]
theorem all_hi (A : FVec Ideal S2x2x4x128x128x384 .f32) (B : FVec Ideal S2x2x4x128x128x256 .f32) (D : FVec Ideal S2x2x4x128x128x1 .f32)
    (b u : Fin 2) (t : Fin 4) (n c : Fin 128) : fn_main_v78 (F := Ideal) A B D (ix6 b u t n c ⟨640, by omega⟩) = D (ix6 b u t n c 0) := by
  pointwise [fn_main_v78]
end Cert.SwaRefIdeal.Val
end
-- ==== Proof.SwaRefKernel.lean ====
module
public import proofs.«01_k».proof.Proof.SwaRefRead
public import proofs.«01_k».proof.Proof.Softmax

/-!
# What the reference of the sliding-window attention computes

A query's 641 scores are those of its band of 384 keys, of the 256 context keys, and its sink.  Of the band only the
keys at most 128 away count: the others' scores are -infinity.
-/
@[expose] public section
set_option maxRecDepth 16384
noncomputable section
open Idealize.ShloMosaic Idealize.ShloMosaic.TcCoe Idealize.SL.Sem
namespace Cert.SwaRefIdeal.Val
open Cert.SwaRefIdeal Cert.SwaRefIdeal.Gen Cert.SwaRefIdeal.Value

/-- Where a score lies: a key of the band. -/
abbrev near (w : Fin 384) : Fin 641 := ⟨w.val, by omega⟩
/-- Where a score lies: the sink, or a context key. -/
def far : Option (Fin 256) → Fin 641
  | none => ⟨640, by omega⟩
  | some j => ⟨384 + j.val, by omega⟩

theorem max_parts (f : Fin 641 → EReal) :
    Finset.univ.fold max ⊥ f = max (Finset.univ.fold max ⊥ fun w => f (near w)) (Finset.univ.fold max ⊥ fun o => f (far o)) := by
  show Finset.univ.sup f = max (Finset.univ.sup fun w => f (near w)) (Finset.univ.sup fun o => f (far o))
  refine le_antisymm (Finset.sup_le fun z _ => ?_) (max_le (Finset.sup_le fun w _ => Finset.le_sup (f := f) (Finset.mem_univ (near w)))
    (Finset.sup_le fun o _ => Finset.le_sup (f := f) (Finset.mem_univ (far o))))
  by_cases h1 : z.val < 384
  · exact le_max_of_le_left (Finset.le_sup (f := fun w => f (near w)) (Finset.mem_univ (⟨z.val, h1⟩ : Fin 384)))
  · have h3 : ∃ o, far o = z := by
      by_cases h2 : z.val = 640
      · exact ⟨none, Fin.ext h2.symm⟩
      · exact ⟨some ⟨z.val - 384, by omega⟩, Fin.ext (by show 384 + (z.val - 384) = z.val; omega)⟩
    obtain ⟨o, rfl⟩ := h3
    exact le_max_of_le_right (Finset.le_sup (f := fun o => f (far o)) (Finset.mem_univ o))

theorem sum_parts (f : Fin 641 → EReal) : ∑ z, f z = ∑ w, f (near w) + ∑ o, f (far o) := by
  rw [Fintype.sum_option]
  refine (Fin.sum_univ_add (a := 384) (b := 257) f).trans (congrArg₂ (· + ·) rfl ?_)
  exact (Fin.sum_univ_castSucc (n := 256) fun x => f (Fin.natAdd 384 x)).trans (add_comm _ _)

/-- The weighted sums, with the sink among the context keys. -/
theorem sum_sink (E : Fin 641 → EReal) (V : Fin 384 → EReal) (W : Option (Fin 256) → EReal) (h : W none = 0) :
    ∑ x, V x * E (near x) + ∑ x : Fin 256, E ⟨384 + x.val, by omega⟩ * W (some x) = ∑ x, E (near x) * V x + ∑ o, E (far o) * W o := by
  rw [Fintype.sum_option, h, mul_zero, zero_add]
  exact congrArg₂ (· + ·) (Finset.sum_congr rfl fun x _ => mul_comm _ _) rfl

/-- A key's place in the band of the block of the query at `p`. -/
def place (p : Fin 16384) (k : Swa.Near p) : Fin 384 := ⟨k.1.val + 128 - 128 * (p.val / 128), by have := k.2; omega⟩
theorem place_eq (p : Fin 16384) (k : Swa.Near p) : k.1.val + 128 = 128 * (p.val / 128) + (place p k).val := by
  have := k.2
  show _ = 128 * (p.val / 128) + (k.1.val + 128 - 128 * (p.val / 128))
  omega
theorem place_inj (p : Fin 16384) : Function.Injective (place p) := fun a b h => by
  have e1 := place_eq p a
  have e2 := place_eq p b
  rw [h] at e1
  exact Subtype.ext (Fin.ext (by omega))

section rows
variable (Q : FVec Ideal S2x16384x512 .bf16) (K : FVec Ideal S2x16384x128 .bf16) (C : FVec Ideal S2x256x11264 .bf16) (S : FVec Ideal S8 .f32)
  (hF : Swa.Finite Q K C S) (b u : Fin 2) (t : Fin 4) (p : Fin 16384)
include hF

/-- The scores of the keys near a query. -/
theorem near_score (k : Swa.Near p) : allScores Q K C S (ix6 b u t ⟨p.val / 128, by omega⟩ ⟨p.val % 128, by omega⟩ (near (place p k)))
    = ((Swa.score Q K b p t u k : ℝ) : EReal) := by
  have hk := place_eq p k
  have h2 := k.2
  refine (all_lo _ _ _ _ _ _ _ _ _ _).trans ((scores_at _ _ _ _ _ _ _ _).trans ?_)
  rw [mask_at, if_pos ⟨⟨by dsimp only; omega, by dsimp only; omega⟩, by dsimp only; omega, by dsimp only; omega⟩]
  refine Eq.trans (b := (∑ l, (Q (ix3 b p (Swa.qcol t u l)) : EReal) * (K (ix3 b k.1 (Swa.kcol u l)) : EReal)) * ((Real.log 2 : ℝ) : EReal)) ?_ ?_
  · refine congrArg (· * ((Real.log 2 : ℝ) : EReal)) (Finset.sum_congr rfl fun l _ => ?_)
    rw [band_at _ _ _ _ _ _ k.1 hk, keys_at, queries_at _ _ _ _ _ _ _ (by dsimp only; omega), mul_comm]
    refine congrArg (fun x => (Q (ix3 b x (Swa.qcol t u l)) : EReal) * (K (ix3 b k.1 (Swa.kcol u l)) : EReal)) (Fin.ext ?_)
    dsimp only; omega
  · rw [Swa.dot (fun l => Q (ix3 b p (Swa.qcol t u l))) (fun l => K (ix3 b k.1 (Swa.kcol u l))) (fun l => hF.q _ _ _) (fun l => hF.k _ _ _), ← EReal.coe_mul]
    rfl
omit hF in
/-- The rest of the band does not count. -/
theorem off_score (w : Fin 384) (h : ∀ k, place p k ≠ w) :
    allScores Q K C S (ix6 b u t ⟨p.val / 128, by omega⟩ ⟨p.val % 128, by omega⟩ (near w)) = (⊥ : EReal) := by
  refine (all_lo _ _ _ _ _ _ _ _ _ _).trans ((scores_at _ _ _ _ _ _ _ _).trans ?_)
  rw [mask_at, if_neg ?_]
  · rfl
  · rintro ⟨⟨h1, h2⟩, h3, h4⟩
    dsimp only at h1 h2 h3 h4
    refine h ⟨⟨128 * (p.val / 128) + w.val - 128, by omega⟩, by dsimp only; omega, by dsimp only; omega⟩ (Fin.ext ?_)
    show 128 * (p.val / 128) + w.val - 128 + 128 - 128 * (p.val / 128) = w.val
    omega
/-- The scores of the sink and of the context keys. -/
theorem far_score (o : Option (Fin 256)) : allScores Q K C S (ix6 b u t ⟨p.val / 128, by omega⟩ ⟨p.val % 128, by omega⟩ (far o))
    = ((Swa.cscore Q C S b p t u o : ℝ) : EReal) := by
  match o with
  | none =>
    refine (all_hi _ _ _ _ _ _ _ _).trans ((sinks_at _ _ _ _ _ _ _).trans ?_)
    obtain ⟨r, hr⟩ := hF.s (Swa.head t u)
    show S (ix1 (Swa.head t u)) = (((S (ix1 (Swa.head t u)) : EReal).toReal : ℝ) : EReal)
    rw [hr, EReal.toReal_coe]
  | some j =>
    refine (all_mid _ _ _ _ _ _ _ _ _ _).trans ((cscores_at _ _ _ _ _ _ _ _).trans ?_)
    refine Eq.trans (b := (∑ l, (Q (ix3 b p (Swa.qcol t u l)) : EReal) * (C (ix3 b j (Swa.ccol u l)) : EReal)) * ((Real.log 2 : ℝ) : EReal)) ?_ ?_
    · refine congrArg (· * ((Real.log 2 : ℝ) : EReal)) (Finset.sum_congr rfl fun l _ => ?_)
      rw [ckeys_at, queries_at _ _ _ _ _ _ _ (by dsimp only; omega)]
      refine congrArg (fun x => (Q (ix3 b x (Swa.qcol t u l)) : EReal) * (C (ix3 b j (Swa.ccol u l)) : EReal)) (Fin.ext ?_)
      dsimp only; omega
    · rw [Swa.dot (fun l => Q (ix3 b p (Swa.qcol t u l))) (fun l => C (ix3 b j (Swa.ccol u l))) (fun l => hF.q _ _ _) (fun l => hF.c _ _ _ _), ← EReal.coe_mul]
      rfl

theorem ref_at (P : FVec Ideal S2x16384x11264 .bf16) (d : Fin 64) (h) :
    ordered (sums (weights (allScores Q K C S)) (band (vals P)) (cvals C)) (ix3 b p ⟨128 * t.val + (64 * u.val + d.val), h⟩)
      = Swa.out Q K P C S b p t u d := by
  have hv : ∀ k : Swa.Near p, band (vals P) (ix5 b u ⟨p.val / 128, by omega⟩ (place p k) d) = P (ix3 b k.1 (Swa.vcol u d)) := fun k =>
    (band_at _ _ _ _ _ _ k.1 (place_eq p k)).trans (vals_at _ _ _ _ _)
  have hn := near_score Q K C S hF b u t p
  have ho := off_score Q K C S b u t p
  have hf := far_score Q K C S hF b u t p
  refine (ordered_at _ _ _ _ _ _ _).trans ((sums_at _ _ _ _ _ _ _ _ _).trans ?_)
  generalize band (vals P) = V at hv ⊢
  generalize allScores Q K C S = X at hn ho hf ⊢
  simp only [weights_at, expos_at, cvals_at]
  generalize hX : (fun z : Fin 641 => (X (ix6 b u t ⟨p.val / 128, by omega⟩ ⟨p.val % 128, by omega⟩ z) : EReal)) = f
  have hx : ∀ z, X (ix6 b u t ⟨p.val / 128, by omega⟩ ⟨p.val % 128, by omega⟩ z) = f z := congrFun hX
  simp only [hx] at hn ho hf ⊢
  refine (sum_sink (fun z => Ideal.div (Ideal.exp (f z - Finset.univ.fold max ⊥ f)) (∑ k, Ideal.exp (f k - Finset.univ.fold max ⊥ f)))
    (fun x => V (ix5 b u ⟨p.val / 128, by omega⟩ x d)) (Swa.cval C b u d) rfl).trans ?_
  refine (Attn.attn_divided (place p) (place_inj p) (Swa.score Q K b p t u) (Swa.cscore Q C S b p t u) (fun w => f (near w)) (fun o => f (far o))
    hn ho hf _ _ _ _ (max_parts f) (sum_parts _)).trans ?_
  unfold Swa.out
  exact congrArg (fun v => Attn.attn _ _ v _) (funext hv)
end rows

variable (m : (ℓ : Loc nD τ sig) → Buf (Elt Ideal) ℓ)
/-- The reference's result, column by column. -/
theorem result_at (c : Dev nD) (hF : Swa.Finite (m ((c.tc : Thread nD τ).loc main_arg0)) (m ((c.tc : Thread nD τ).loc main_arg1)) (m ((c.tc : Thread nD τ).loc main_arg3))
    (m ((c.tc : Thread nD τ).loc main_arg4))) (b : Fin 2) (p : Fin 16384) (t : Fin 4) (u : Fin 2) (d : Fin 64) (h) :
    res_main_v100 m c (ix3 b p ⟨128 * t.val + (64 * u.val + d.val), h⟩)
      = Swa.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b p t u d := by
  rw [res_eq]
  exact ref_at _ _ _ _ hF b u t p _ d h
end Cert.SwaRefIdeal.Val
end
-- ==== Proof.SwaClaims.lean ====
module
public import proofs.«01_k».proof.Defs
public import proofs.«01_k».proof.Proof.SwaKernel
public import proofs.«01_k».proof.Proof.SwaRefKernel
public import proofs.«01_k».proof.Proof.NattenClaims
public import proofs.«01_k».proof.Proof.Gen.Swa.Frame
public import proofs.«01_k».proof.Proof.Gen.SwaIdeal.Frame
public import proofs.«01_k».proof.Proof.Gen.SwaRefIdeal.Run
public import Idealize.ShloMosaic.Lib.Quiescent

/-!
# The claims about the sliding-window attention

Where the queries, the keys and the sinks are finite, the kernel and the reference both compute the weighted means
`Swa.out`.
-/
@[expose] public section
set_option maxRecDepth 16384
noncomputable section
open Idealize.ShloMosaic Idealize.ShloMosaic.TcCoe Idealize.SL.Sem

namespace Cert.Proof.SwaClaims

/-- The shape relations of the precondition. -/
theorem preFacts : Cert.Pre_finite_scores.Facts where
  slices_S2x256x11264_S2x256x128_0_0_10752 := by decide
  bitsLt_bf16_f32 := by decide
  bcast_S_S2x16384x512 := by decide
  bcast_S_S2x16384x128 := by decide
  bcast_S_S2x256x128 := by decide
  bcast_S_S8 := by decide

/-- The precondition makes the scores' arguments finite. -/
theorem finite [Cert.Pre_finite_scores.Facts] (Q : Vec Ideal Swa.SQ .bf16) (K : Vec Ideal Swa.SK .bf16) (P : Vec Ideal Swa.SP .bf16)
    (C : Vec Ideal Swa.SC .bf16) (S : Vec Ideal Swa.SS .f32) (h1 : (Cert.Pre_finite_scores.fn (F := Ideal) Q K P C S).1 = fun _ => 1#1)
    (h2 : (Cert.Pre_finite_scores.fn (F := Ideal) Q K P C S).2.1 = fun _ => 1#1)
    (h3 : (Cert.Pre_finite_scores.fn (F := Ideal) Q K P C S).2.2.1 = fun _ => 1#1)
    (h4 : (Cert.Pre_finite_scores.fn (F := Ideal) Q K P C S).2.2.2 = fun _ => 1#1) : Swa.Finite Q K C S where
  q b p l := NattenClaims.real_of_abs_lt _ (congrFun h1 (ix3 b p l))
  k b p l := NattenClaims.real_of_abs_lt _ (congrFun h2 (ix3 b p l))
  c b j u l := by
    have e := congrFun h3 (ix3 b j (Swa.kcol u l))
    refine NattenClaims.real_of_abs_lt _ (Eq.trans (congrArg (fun z : EReal => Ideal.cmp .olt (max z (-z)) (Ideal.ofBits FTy.f32 0x7F800000#32)) ?_) e)
    refine congrArg C (funext fun a => Fin.ext ?_)
    fin_cases a
    · exact (Nat.zero_add _).symm
    · exact (Nat.zero_add _).symm
    · rfl
  s h := NattenClaims.real_of_abs_lt _ (congrFun h4 (ix1 h))

/-- Every index of the result is some column of some head at some position. -/
theorem ix_split (i : (⟨3, ![2, 16384, 512]⟩ : Shape).Idx) :
    ∃ (b : Fin 2) (p : Fin 16384) (t : Fin 4) (u : Fin 2) (d : Fin 64) (h1 : 128 * t.val + (64 * u.val + d.val) < 512),
      i = ix3 b p ⟨128 * t.val + (64 * u.val + d.val), h1⟩ := by
  have l2 : (i 2).val < 512 := (i 2).isLt
  refine ⟨i 0, i 1, ⟨(i 2).val / 128, by omega⟩, ⟨(i 2).val / 64 % 2, by omega⟩, ⟨(i 2).val % 64, by omega⟩, ?_, ?_⟩
  · dsimp only; omega
  · refine funext fun a => Fin.ext ?_
    fin_cases a
    · rfl
    · rfl
    · show (i 2).val = 128 * ((i 2).val / 128) + (64 * ((i 2).val / 64 % 2) + (i 2).val % 64); omega

theorem frame_p : Cert.quiescent_Swa := fun m ρ _ => Cert.Swa.Gen.frame m ρ
theorem frame_pi : Cert.quiescent_SwaIdeal := fun m ρ _ => Cert.SwaIdeal.Gen.frame m ρ
theorem frame_pi_finite [Cert.Pre_finite_scores.Facts] : Cert.quiescent_SwaIdeal_pre_finite_scores := fun m ρ _ => Cert.SwaIdeal.Gen.frame m ρ
theorem frame_ri : Cert.quiescent_SwaRefIdeal := fun m ρ _ =>
  (θ_run Cert.SwaRefIdeal.defs _ _).mono (fun r h => ⟨fun c => (h c).2, Idealize.ShloMosaic.sem_eq_zero_of_no_sems (by decide) r.2⟩)
    (Cert.SwaRefIdeal.Value.run (F := Ideal) m ρ)
theorem frame_ri_finite [Cert.Pre_finite_scores.Facts] : Cert.quiescent_SwaRefIdeal_pre_finite_scores := fun m ρ _ =>
  (θ_run Cert.SwaRefIdeal.defs _ _).mono (fun r h => ⟨fun c => (h c).2, Idealize.ShloMosaic.sem_eq_zero_of_no_sems (by decide) r.2⟩)
    (Cert.SwaRefIdeal.Value.run (F := Ideal) m ρ)

theorem preserves : Cert.preserves_Swa_SwaIdeal :=
  ⟨IdealRules.named_const.statement Cert.SwaIdeal.κ "mask" .f32 0xF149F2CA#32 ⊥ rfl,
   IdealRules.named_const.statement Cert.SwaIdeal.κ "log2e" .f32 0x3FB8AA3B#32 (((Real.log 2)⁻¹ : ℝ) : EReal) rfl⟩

theorem algebraic [Cert.Pre_finite_scores.Facts] : Cert.algebraic_SwaIdeal_SwaRefIdeal_pre_finite_scores := by
  intro m ρ m' ρ' hpre hagree
  refine ⟨_, Cert.SwaIdeal.Value.run_blocks m ρ, ?_⟩
  refine (θ_run Cert.SwaRefIdeal.defs _ _).mono (fun _ h c => ⟨(h c).1.trans ?_, (h c).2⟩) (Cert.SwaRefIdeal.Value.run (F := Ideal) m' ρ')
  obtain ⟨a0, a1, a2, a3, a4⟩ := hagree c
  obtain ⟨h1, h2, h3, h4⟩ := hpre c
  have hF := finite _ _ _ _ _ h1 h2 h3 h4
  funext i
  obtain ⟨b, p, t, u, d, h1, rfl⟩ := ix_split i
  refine (Cert.SwaRefIdeal.Val.result_at m' c (by rw [a0, a1, a3, a4]; exact hF) b p t u d h1).trans
    (Eq.trans ?_ (Cert.SwaIdeal.Val.result_at m c hF b p t u d h1).symm)
  rw [a0, a1, a2, a3, a4]
end Cert.Proof.SwaClaims
end
-- ==== Proof.RopeRef.lean ====
module
public import proofs.«01_k».proof.Proof.Gen.RopeRefIdeal.Run
public import Idealize.ShloMosaic.Lib.Tactic
public import Idealize.ShloMosaic.Lib.Pointwise

/-!
# The rotary embedding as the reference computes it

The reference's results from its parts, and what they hold element by element. The angles are never opened.
-/
@[expose] public section
set_option maxRecDepth 16384
noncomputable section
open Idealize.ShloMosaic Idealize.ShloMosaic.TcCoe Idealize.SL.Sem

/-- Half `h` of the pair `(x, y)` turned by the angle whose cosine is `c` and whose sine is `s`. -/
def Rope.turn (c s x y : EReal) (h : Fin 2) : EReal := if h = 0 then x * c - y * s else x * s + y * c

namespace Cert.RopeRefIdeal.Val
open Cert.RopeRefIdeal Cert.RopeRefIdeal.Gen Cert.RopeRefIdeal.Value

/-- The side of the square of positions, and the same where it is not zero. -/
def side : IVec S_ 32 := id (constantI S_ 32 64#32)
def side1 : IVec S_ 32 := select (cmpi .eq side (constantI S_ 32 0#32)) (constantI S_ 32 1#32) side
/-- A position's row and column. -/
def rowOf : FVec Ideal S16384 .f32 := sitofp .f32 (select (andi (cmpi .ne (signi (iotaInDim S16384 32 0)) (broadcastInDim S16384 ![] bcast_S_S16384 (signi side))) (cmpi .ne (Host.remsi (iotaInDim S16384 32 0) (broadcastInDim S16384 ![] bcast_S_S16384 side)) (broadcastInDim S16384 ![] bcast_S_S16384 (constantI S_ 32 0#32)))) (subi (Host.divsi (iotaInDim S16384 32 0) (broadcastInDim S16384 ![] bcast_S_S16384 side)) (broadcastInDim S16384 ![] bcast_S_S16384 (constantI S_ 32 1#32))) (Host.divsi (iotaInDim S16384 32 0) (broadcastInDim S16384 ![] bcast_S_S16384 side)))
def colRem : IVec S16384 32 := Host.remsi (iotaInDim S16384 32 0) (broadcastInDim S16384 ![] bcast_S_S16384 side1)
def colOf : FVec Ideal S16384 .f32 := sitofp .f32 (select (andi (cmpi .ne (cmpi .slt colRem (broadcastInDim S16384 ![] bcast_S_S16384 (constantI S_ 32 0#32))) (broadcastInDim S16384 ![] bcast_S_S16384 (cmpi .slt side1 (constantI S_ 32 0#32)))) (cmpi .ne colRem (broadcastInDim S16384 ![] bcast_S_S16384 (constantI S_ 32 0#32)))) (addi colRem (broadcastInDim S16384 ![] bcast_S_S16384 side1)) colRem)
/-- The frequencies. -/
def freq : FVec Ideal S16 .f32 := Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))
/-- The angles: by row, then by column. -/
def ang : FVec Ideal S16384x32 .f32 := concatenate S16384x32 1 [⟨S16384x16, (mulf (broadcastInDim S16384x16 ![0, 1] bcast_S16384x1_S16384x16_0_1 (broadcastInDim S16384x1 ![0] bcast_S16384_S16384x1_0 rowOf)) (broadcastInDim S16384x16 ![0, 1] bcast_S1x16_S16384x16_0_1 (broadcastInDim S1x16 ![1] bcast_S16_S1x16_1 freq)))⟩, ⟨S16384x16, (mulf (broadcastInDim S16384x16 ![0, 1] bcast_S16384x1_S16384x16_0_1 (broadcastInDim S16384x1 ![0] bcast_S16384_S16384x1_0 colOf)) (broadcastInDim S16384x16 ![0, 1] bcast_S1x16_S16384x16_0_1 (broadcastInDim S1x16 ![1] bcast_S16_S1x16_1 freq)))⟩] concatenates_S16384x16_S16384x16_S16384x32_d1

/-- The heads, one after another. -/
def headsQ (P : FVec Ideal S2x16384x11264 .bf16) : FVec Ideal S2x4x2x16384x64 .f32 := shapeCast S2x4x2x16384x64 (transpose S2x4x2x16384x2x32 [0, 2, 4, 1, 3, 5] (shapeCast S2x16384x4x2x2x32 (extf .f32 (extractStridedSlice S2x16384x512 ![0, 0, 2048] P slices_S2x16384x11264_S2x16384x512_0_0_2048) bitsLt_bf16_f32) shapeCasts_S2x16384x512_S2x16384x4x2x2x32) transposes_S2x16384x4x2x2x32_S2x4x2x16384x2x32_0_2_4_1_3_5) shapeCasts_S2x4x2x16384x2x32_S2x4x2x16384x64
/-- A table for every head. -/
def wideQ (C : FVec Ideal S16384x32 .f32) : FVec Ideal S2x4x2x16384x32 .f32 := broadcastInDim S2x4x2x16384x32 ![0, 1, 2, 3, 4] bcast_S1x1x1x16384x32_S2x4x2x16384x32_0_1_2_3_4 (broadcastInDim S1x1x1x16384x32 ![3, 4] bcast_S16384x32_S1x1x1x16384x32_3_4 C)
/-- The heads turned. -/
def turnedQ (X : FVec Ideal S2x4x2x16384x64 .f32) (C S : FVec Ideal S16384x32 .f32) : FVec Ideal S2x4x2x16384x64 .f32 := concatenate S2x4x2x16384x64 4 [⟨S2x4x2x16384x32, (subf (mulf (extractStridedSlice S2x4x2x16384x32 ![0, 0, 0, 0, 0] X slices_S2x4x2x16384x64_S2x4x2x16384x32_0_0_0_0_0) (wideQ C)) (mulf (extractStridedSlice S2x4x2x16384x32 ![0, 0, 0, 0, 32] X slices_S2x4x2x16384x64_S2x4x2x16384x32_0_0_0_0_32) (wideQ S)))⟩, ⟨S2x4x2x16384x32, (addf (mulf (extractStridedSlice S2x4x2x16384x32 ![0, 0, 0, 0, 0] X slices_S2x4x2x16384x64_S2x4x2x16384x32_0_0_0_0_0) (wideQ S)) (mulf (extractStridedSlice S2x4x2x16384x32 ![0, 0, 0, 0, 32] X slices_S2x4x2x16384x64_S2x4x2x16384x32_0_0_0_0_32) (wideQ C)))⟩] concatenates_S2x4x2x16384x32_S2x4x2x16384x32_S2x4x2x16384x64_d4
/-- The heads side by side. -/
def flatQ (X : FVec Ideal S2x4x2x16384x64 .f32) : FVec Ideal S2x16384x512 .f32 := shapeCast S2x16384x512 (transpose S2x16384x4x2x2x32 [0, 3, 1, 4, 2, 5] (shapeCast S2x4x2x16384x2x32 X shapeCasts_S2x4x2x16384x64_S2x4x2x16384x2x32) transposes_S2x4x2x16384x2x32_S2x16384x4x2x2x32_0_3_1_4_2_5) shapeCasts_S2x16384x4x2x2x32_S2x16384x512

/-- The heads, one after another. -/
def headsK (P : FVec Ideal S2x16384x11264 .bf16) : FVec Ideal S2x1x2x16384x64 .f32 := shapeCast S2x1x2x16384x64 (transpose S2x1x2x16384x2x32 [0, 2, 4, 1, 3, 5] (shapeCast S2x16384x1x2x2x32 (extf .f32 (extractStridedSlice S2x16384x128 ![0, 0, 10752] P slices_S2x16384x11264_S2x16384x128_0_0_10752) bitsLt_bf16_f32) shapeCasts_S2x16384x128_S2x16384x1x2x2x32) transposes_S2x16384x1x2x2x32_S2x1x2x16384x2x32_0_2_4_1_3_5) shapeCasts_S2x1x2x16384x2x32_S2x1x2x16384x64
/-- A table for every head. -/
def wideK (C : FVec Ideal S16384x32 .f32) : FVec Ideal S2x1x2x16384x32 .f32 := broadcastInDim S2x1x2x16384x32 ![0, 1, 2, 3, 4] bcast_S1x1x1x16384x32_S2x1x2x16384x32_0_1_2_3_4 (broadcastInDim S1x1x1x16384x32 ![3, 4] bcast_S16384x32_S1x1x1x16384x32_3_4 C)
/-- The heads turned. -/
def turnedK (X : FVec Ideal S2x1x2x16384x64 .f32) (C S : FVec Ideal S16384x32 .f32) : FVec Ideal S2x1x2x16384x64 .f32 := concatenate S2x1x2x16384x64 4 [⟨S2x1x2x16384x32, (subf (mulf (extractStridedSlice S2x1x2x16384x32 ![0, 0, 0, 0, 0] X slices_S2x1x2x16384x64_S2x1x2x16384x32_0_0_0_0_0) (wideK C)) (mulf (extractStridedSlice S2x1x2x16384x32 ![0, 0, 0, 0, 32] X slices_S2x1x2x16384x64_S2x1x2x16384x32_0_0_0_0_32) (wideK S)))⟩, ⟨S2x1x2x16384x32, (addf (mulf (extractStridedSlice S2x1x2x16384x32 ![0, 0, 0, 0, 0] X slices_S2x1x2x16384x64_S2x1x2x16384x32_0_0_0_0_0) (wideK S)) (mulf (extractStridedSlice S2x1x2x16384x32 ![0, 0, 0, 0, 32] X slices_S2x1x2x16384x64_S2x1x2x16384x32_0_0_0_0_32) (wideK C)))⟩] concatenates_S2x1x2x16384x32_S2x1x2x16384x32_S2x1x2x16384x64_d4
/-- The heads side by side. -/
def flatK (X : FVec Ideal S2x1x2x16384x64 .f32) : FVec Ideal S2x16384x128 .f32 := shapeCast S2x16384x128 (transpose S2x16384x1x2x2x32 [0, 3, 1, 4, 2, 5] (shapeCast S2x1x2x16384x2x32 X shapeCasts_S2x1x2x16384x64_S2x1x2x16384x2x32) transposes_S2x1x2x16384x2x32_S2x16384x1x2x2x32_0_3_1_4_2_5) shapeCasts_S2x16384x1x2x2x32_S2x16384x128

/-- The queries' scale. -/
def scale : FVec Ideal S_ .f32 := Host.divf (constant S_ .f32 0x3E000000#32) (Host.log (constant S_ .f32 0x40000000#32))
def queries (P : FVec Ideal S2x16384x11264 .bf16) (C S : FVec Ideal S16384x32 .f32) : FVec Ideal S2x16384x512 .bf16 := truncf .bf16 (mulf (flatQ (turnedQ (headsQ P) C S)) (broadcastInDim S2x16384x512 ![] bcast_S_S2x16384x512 (id scale))) bitsLt_bf16_f32
def keys (P : FVec Ideal S2x16384x11264 .bf16) (C S : FVec Ideal S16384x32 .f32) : FVec Ideal S2x16384x128 .bf16 := truncf .bf16 (flatK (turnedK (headsK P) C S)) bitsLt_bf16_f32

variable (m : (ℓ : Loc nD τ sig) → Buf (Elt Ideal) ℓ)
theorem queries_eq (c : Dev nD) : res_main_v79 m c = queries (m ((c.tc : Thread nD τ).loc main_arg0)) (Host.cos ang) (Host.sin ang) := by sl_kernel_rfl
theorem keys_eq (c : Dev nD) : res_main_v80 m c = keys (m ((c.tc : Thread nD τ).loc main_arg0)) (Host.cos ang) (Host.sin ang) := by sl_kernel_rfl

theorem headsQ_at (P : FVec Ideal S2x16384x11264 .bf16) (b u : Fin 2) (t : Fin 4) (p : Fin 16384) (d : Fin 64) (h1) :
    headsQ P (ix5 b t u p d) = P (ix3 b p ⟨2048 + (128 * t.val + (64 * (d.val / 32) + (32 * u.val + d.val % 32))), h1⟩) := by
  pointwise [headsQ]
  refine congrArg (fun y => P (ix3 b p y)) (Fin.ext ?_)
  dsimp only; omega
theorem headsK_at (P : FVec Ideal S2x16384x11264 .bf16) (b u : Fin 2) (t : Fin 1) (p : Fin 16384) (d : Fin 64) (h1) :
    headsK P (ix5 b t u p d) = P (ix3 b p ⟨10752 + (64 * (d.val / 32) + (32 * u.val + d.val % 32)), h1⟩) := by
  pointwise [headsK]
  refine congrArg (fun y => P (ix3 b p y)) (Fin.ext ?_)
  dsimp only; omega
theorem turnedQ_at (X : FVec Ideal S2x4x2x16384x64 .f32) (C S : FVec Ideal S16384x32 .f32) (b u : Fin 2) (t : Fin 4) (p : Fin 16384)
    (h : Fin 2) (l : Fin 32) (h1 h2 h3) :
    turnedQ X C S (ix5 b t u p ⟨32 * h.val + l.val, h1⟩)
      = Rope.turn (C (ix2 p l)) (S (ix2 p l)) (X (ix5 b t u p ⟨l.val, h2⟩)) (X (ix5 b t u p ⟨32 + l.val, h3⟩)) h := by
  unfold Rope.turn
  match h with
  | 0 =>
    pointwise [turnedQ, wideQ]
  | 1 =>
    pointwise [turnedQ, wideQ]
theorem turnedK_at (X : FVec Ideal S2x1x2x16384x64 .f32) (C S : FVec Ideal S16384x32 .f32) (b u : Fin 2) (t : Fin 1) (p : Fin 16384)
    (h : Fin 2) (l : Fin 32) (h1 h2 h3) :
    turnedK X C S (ix5 b t u p ⟨32 * h.val + l.val, h1⟩)
      = Rope.turn (C (ix2 p l)) (S (ix2 p l)) (X (ix5 b t u p ⟨l.val, h2⟩)) (X (ix5 b t u p ⟨32 + l.val, h3⟩)) h := by
  obtain rfl : t = 0 := Subsingleton.elim _ _
  unfold Rope.turn
  match h with
  | 0 =>
    pointwise [turnedK, wideK]
  | 1 =>
    pointwise [turnedK, wideK]
theorem flatQ_at (X : FVec Ideal S2x4x2x16384x64 .f32) (b : Fin 2) (t : Fin 4) (p : Fin 16384) (h : Fin 2) (j : Fin 64) (h1 h2 h3) :
    flatQ X (ix3 b p ⟨128 * t.val + (64 * h.val + j.val), h1⟩) = X (ix5 b t ⟨j.val / 32, h2⟩ p ⟨32 * h.val + j.val % 32, h3⟩) := by
  have e : ∀ (u u' : Fin 2) (d d' : Fin 64), u = u' → d = d' → X (ix5 b t u p d) = X (ix5 b t u' p d') := by rintro _ _ _ _ rfl rfl; rfl
  pointwise [flatQ]
  refine e _ _ _ _ (Fin.ext ?_) (Fin.ext ?_) <;> dsimp only <;> omega
theorem flatK_at (X : FVec Ideal S2x1x2x16384x64 .f32) (b : Fin 2) (p : Fin 16384) (h : Fin 2) (j : Fin 64) (h1 h2 h3) :
    flatK X (ix3 b p ⟨64 * h.val + j.val, h1⟩) = X (ix5 b 0 ⟨j.val / 32, h2⟩ p ⟨32 * h.val + j.val % 32, h3⟩) := by
  have e : ∀ (u u' : Fin 2) (d d' : Fin 64), u = u' → d = d' → X (ix5 b 0 u p d) = X (ix5 b 0 u' p d') := by rintro _ _ _ _ rfl rfl; rfl
  pointwise [flatK]
  refine e _ _ _ _ (Fin.ext ?_) (Fin.ext ?_) <;> dsimp only <;> omega

/-- The queries' scale, as a number. -/
theorem scale_val (i : S_.Idx) : (scale i : EReal) = (((1 / 8) * (Real.log 2)⁻¹ : ℝ) : EReal) := by
  have e8 : Ideal.ofBits FTy.f32 0x3E000000#32 = ((1 / 8 : ℝ) : EReal) := by
    simp [Ideal.ofBits, Ideal.ieee, -EReal.coe_mul]; norm_num
  have e2 : Ideal.ofBits FTy.f32 0x40000000#32 = ((2 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then ⊥ else ((Real.log 2 : ℝ) : EReal)) = _
    rw [if_neg (by norm_num)]
  show Ideal.div (Ideal.ofBits FTy.f32 0x3E000000#32) (Ideal.log (Ideal.ofBits FTy.f32 0x40000000#32)) = _
  rw [e8, e2, hl]
  have h0 : Real.log 2 ≠ 0 := (Real.log_pos (by norm_num)).ne'
  unfold Ideal.div
  rw [if_neg (by exact_mod_cast h0), ← EReal.coe_inv, ← EReal.coe_mul]

theorem headsQ_col (P : FVec Ideal S2x16384x11264 .bf16) (b u : Fin 2) (t : Fin 4) (p : Fin 16384) (d : Fin 64) (y : Fin 11264)
    (hy : y.val = 2048 + (128 * t.val + (64 * (d.val / 32) + (32 * u.val + d.val % 32)))) : headsQ P (ix5 b t u p d) = P (ix3 b p y) :=
  (headsQ_at P b u t p d (hy ▸ y.isLt)).trans (congrArg (fun y => P (ix3 b p y)) (Fin.ext hy.symm))
theorem headsK_col (P : FVec Ideal S2x16384x11264 .bf16) (b u : Fin 2) (t : Fin 1) (p : Fin 16384) (d : Fin 64) (y : Fin 11264)
    (hy : y.val = 10752 + (64 * (d.val / 32) + (32 * u.val + d.val % 32))) : headsK P (ix5 b t u p d) = P (ix3 b p y) :=
  (headsK_at P b u t p d (hy ▸ y.isLt)).trans (congrArg (fun y => P (ix3 b p y)) (Fin.ext hy.symm))

theorem scaled (Y : FVec Ideal S2x16384x512 .f32) (i : S2x16384x512.Idx) :
    (truncf .bf16 (mulf Y (broadcastInDim S2x16384x512 ![] bcast_S_S2x16384x512 (id scale))) bitsLt_bf16_f32 : FVec Ideal S2x16384x512 .bf16) i
      = (Y i : EReal) * (((1 / 8) * (Real.log 2)⁻¹ : ℝ) : EReal) :=
  congrArg (fun z : EReal => (Y i : EReal) * z) (scale_val _)
theorem same (Y : FVec Ideal S2x16384x128 .f32) (i : S2x16384x128.Idx) :
    (truncf .bf16 Y bitsLt_bf16_f32 : FVec Ideal S2x16384x128 .bf16) i = (Y i : EReal) := rfl

theorem queries_at (P : FVec Ideal S2x16384x11264 .bf16) (C S : FVec Ideal S16384x32 .f32) (b : Fin 2) (p : Fin 16384) (t : Fin 4) (h : Fin 2)
    (j : Fin 64) (l : Fin 32) (hl : l.val = j.val % 32) (x y : Fin 11264) (hx : x.val = 2048 + (128 * t.val + j.val))
    (hy : y.val = 2048 + (128 * t.val + (64 + j.val))) (h1) :
    queries P C S (ix3 b p ⟨128 * t.val + (64 * h.val + j.val), h1⟩)
      = Rope.turn (C (ix2 p l)) (S (ix2 p l)) (P (ix3 b p x)) (P (ix3 b p y)) h * (((1 / 8) * (Real.log 2)⁻¹ : ℝ) : EReal) := by
  have hj := j.isLt
  obtain ⟨u, hu⟩ : ∃ u : Fin 2, u.val = j.val / 32 := ⟨⟨j.val / 32, by omega⟩, rfl⟩
  have e1 := flatQ_at (turnedQ (headsQ P) C S) b t p h j h1 (by omega) (by omega)
  have e2 := turnedQ_at (headsQ P) C S b u t p h l (by omega) (by omega) (by omega)
  have e3 := headsQ_col P b u t p ⟨l.val, by omega⟩ x (by dsimp only; omega)
  have e4 := headsQ_col P b u t p ⟨32 + l.val, by omega⟩ y (by dsimp only; omega)
  rw [e3, e4] at e2
  refine (scaled _ _).trans (congrArg (fun z : EReal => z * _) (e1.trans (Eq.trans ?_ e2)))
  refine congrArg₂ (fun (u : Fin 2) (d : Fin 64) => turnedQ (headsQ P) C S (ix5 b t u p d)) (Fin.ext hu.symm) (Fin.ext ?_)
  dsimp only
  rw [hl]
theorem keys_at (P : FVec Ideal S2x16384x11264 .bf16) (C S : FVec Ideal S16384x32 .f32) (b : Fin 2) (p : Fin 16384) (h : Fin 2)
    (j : Fin 64) (l : Fin 32) (hl : l.val = j.val % 32) (x y : Fin 11264) (hx : x.val = 10752 + j.val)
    (hy : y.val = 10752 + (64 + j.val)) (h1) :
    keys P C S (ix3 b p ⟨64 * h.val + j.val, h1⟩)
      = Rope.turn (C (ix2 p l)) (S (ix2 p l)) (P (ix3 b p x)) (P (ix3 b p y)) h := by
  have hj := j.isLt
  obtain ⟨u, hu⟩ : ∃ u : Fin 2, u.val = j.val / 32 := ⟨⟨j.val / 32, by omega⟩, rfl⟩
  have e1 := flatK_at (turnedK (headsK P) C S) b p h j h1 (by omega) (by omega)
  have e2 := turnedK_at (headsK P) C S b u 0 p h l (by omega) (by omega) (by omega)
  have e3 := headsK_col P b u 0 p ⟨l.val, by omega⟩ x (by dsimp only; omega)
  have e4 := headsK_col P b u 0 p ⟨32 + l.val, by omega⟩ y (by dsimp only; omega)
  rw [e3, e4] at e2
  refine (same _ _).trans (e1.trans (Eq.trans ?_ e2))
  refine congrArg₂ (fun (u : Fin 2) (d : Fin 64) => turnedK (headsK P) C S (ix5 b 0 u p d)) (Fin.ext hu.symm) (Fin.ext ?_)
  dsimp only
  rw [hl]
end Cert.RopeRefIdeal.Val
end
-- ==== Proof.RopeKernel.lean ====
module
public import proofs.«01_k».proof.Proof.RopeRef
public import proofs.«01_k».proof.Proof.Gen.RopeIdeal.Value
public import Idealize.ShloMosaic.Lib.KernelVsHost
public import Idealize.ShloMosaic.Lib.Pipeline.ValueKit

/-!
# The rotary embedding as the kernel computes it

A tile of 128 lanes holds two heads, their first halves before their second halves. The kernel multiplies it by a table
of cosines and adds its rotation by 64 lanes, multiplied by a table of sines whose first half is negated.
-/
@[expose] public section
set_option maxRecDepth 16384
noncomputable section
open Idealize.ShloMosaic Idealize.ShloMosaic.TcCoe Idealize.SL.Sem
open Idealize.ShloMosaic.Pipeline (Dat)
namespace Cert.RopeIdeal.Val
open Cert.RopeIdeal Cert.RopeIdeal.Gen
open Cert.RopeRefIdeal.Val (ang)
variable (m : (ℓ : Loc nD τ sig) → Buf (Elt Ideal) ℓ)

/-- The cosines, four times over. -/
def cosT (A : FVec Ideal S16384x32 .f32) : FVec Ideal S16384x128 .f32 :=
  shapeCast S16384x128 (broadcastInDim S1x16384x4x32 ![0, 1, 2, 3] bcast_S1x16384x1x32_S1x16384x4x32_0_1_2_3
    (shapeCast S1x16384x1x32 (Host.cos A) shapeCasts_S16384x32_S1x16384x1x32)) shapeCasts_S1x16384x4x32_S16384x128
/-- The sines, twice negated and twice as they are. -/
def sinT (A : FVec Ideal S16384x32 .f32) : FVec Ideal S16384x128 .f32 :=
  concatenate S16384x128 1 [⟨S16384x32, (Host.negf (Host.sin A) : FVec Ideal S16384x32 .f32)⟩, ⟨S16384x32, (Host.negf (Host.sin A) : FVec Ideal S16384x32 .f32)⟩,
    ⟨S16384x32, (Host.sin A : FVec Ideal S16384x32 .f32)⟩, ⟨S16384x32, (Host.sin A : FVec Ideal S16384x32 .f32)⟩]
    concatenates_S16384x32_S16384x32_S16384x32_S16384x32_S16384x128_d1

theorem V_parts (c0 : Dev nD) (b) : V m c0 b = StableHlo.after hostOps0_4 (StableHlo.after hostOps0_3 (StableHlo.after hostOps0_2
    (StableHlo.after hostOps0_1 (StableHlo.after hostOps0 fun b => m (c0, b))))) (Proc.tc.devRef b) := by
  rfl

theorem V_cos (c0 : Dev nD) : (V m c0 main_v26 : FVec Ideal S16384x128 .f32) = cosT ang := by
  rw [V_parts]
  entry_read
  rfl
theorem V_sin0 (c0 : Dev nD) : (V m c0 main_v23 : FVec Ideal S16384x32 .f32) = Host.sin ang := by
  rw [V_parts]
  entry_read
  rfl
theorem V_neg1 (c0 : Dev nD) : (V m c0 main_v27 : FVec Ideal S16384x32 .f32) = Host.negf (Host.sin ang : FVec Ideal S16384x32 .f32) := by
  rw [V_parts]
  entry_read
  rfl
theorem V_neg2 (c0 : Dev nD) : (V m c0 main_v28 : FVec Ideal S16384x32 .f32) = Host.negf (Host.sin ang : FVec Ideal S16384x32 .f32) := by
  rw [V_parts]
  entry_read
  rfl
/-- The operation that joins the sines. -/
abbrev joinSines : HloOp τ sig (Elt Ideal) :=
  StableHlo.nary ![main_v27, main_v28, main_v23, main_v23] main_v29 (fun u => (concatenate S16384x128 1 [⟨S16384x32, (u 0 : (⟨S16384x32, .f32⟩ : BufTy).Contents (Elt Ideal))⟩, ⟨S16384x32, (u 1 : (⟨S16384x32, .f32⟩ : BufTy).Contents (Elt Ideal))⟩, ⟨S16384x32, (u 2 : (⟨S16384x32, .f32⟩ : BufTy).Contents (Elt Ideal))⟩, ⟨S16384x32, (u 3 : (⟨S16384x32, .f32⟩ : BufTy).Contents (Elt Ideal))⟩] concatenates_S16384x32_S16384x32_S16384x32_S16384x32_S16384x128_d1 : (⟨S16384x128, .f32⟩ : BufTy).Contents (Elt Ideal)))
theorem V_sin (c0 : Dev nD) : (V m c0 main_v29 : FVec Ideal S16384x128 .f32) = sinT ang := by
  have e1 := V_neg1 m c0
  have e2 := V_neg2 m c0
  have e3 := V_sin0 m c0
  rw [V_parts] at e1 e2 e3 ⊢
  generalize StableHlo.after hostOps0_3 (StableHlo.after hostOps0_2 (StableHlo.after hostOps0_1 (StableHlo.after hostOps0 fun b => m (c0, b)))) = M at e1 e2 e3 ⊢
  have split : StableHlo.after (hostOps0_4 (F := Ideal)) M = joinSines.result (StableHlo.after (hostOps0_4 (F := Ideal)).dropLast M) := rfl
  rw [split] at e1 e2 e3 ⊢
  generalize StableHlo.after (hostOps0_4 (F := Ideal)).dropLast M = N at e1 e2 e3 ⊢
  have d1 := (StableHlo.nary_result_ne' _ _ _ _ N (r := main_v27) (by decide)).symm.trans e1
  have d2 := (StableHlo.nary_result_ne' _ _ _ _ N (r := main_v28) (by decide)).symm.trans e2
  have d3 := (StableHlo.nary_result_ne' _ _ _ _ N (r := main_v23) (by decide)).symm.trans e3
  refine (StableHlo.nary4_result _ _ _ N).trans ?_
  show (concatenate S16384x128 1 [⟨S16384x32, (N (Proc.tc.devRef main_v27) : FVec Ideal S16384x32 .f32)⟩, ⟨S16384x32, (N (Proc.tc.devRef main_v28) : FVec Ideal S16384x32 .f32)⟩,
    ⟨S16384x32, (N (Proc.tc.devRef main_v23) : FVec Ideal S16384x32 .f32)⟩, ⟨S16384x32, (N (Proc.tc.devRef main_v23) : FVec Ideal S16384x32 .f32)⟩]
    concatenates_S16384x32_S16384x32_S16384x32_S16384x32_S16384x128_d1 : FVec Ideal S16384x128 .f32) = _
  rw [d1, d2, d3]
  rfl

theorem cosT_at (A : FVec Ideal S16384x32 .f32) (p : Fin 16384) (L : Fin 128) (l : Fin 32) (hl : l.val = L.val % 32) :
    cosT A (ix2 p L) = (Host.cos A : FVec Ideal S16384x32 .f32) (ix2 p l) := by
  have e : ∀ l' : Fin 32, l'.val = L.val % 32 → l' = l := fun l' h => Fin.ext (h.trans hl.symm)
  unfold cosT
  generalize (Host.cos A : FVec Ideal S16384x32 .f32) = C
  pointwise []
  refine congrArg (fun x => C (ix2 p x)) (e _ ?_)
  dsimp only
theorem sinT_at (A : FVec Ideal S16384x32 .f32) (p : Fin 16384) (L : Fin 128) (l : Fin 32) (hl : l.val = L.val % 32) :
    sinT A (ix2 p L) = if L.val < 64 then -((Host.sin A : FVec Ideal S16384x32 .f32) (ix2 p l) : EReal) else (Host.sin A : FVec Ideal S16384x32 .f32) (ix2 p l) := by
  unfold sinT
  generalize (Host.sin A : FVec Ideal S16384x32 .f32) = C
  pointwise []
  have e : ∀ l' : Fin 32, l'.val = L.val % 32 → C (ix2 p l') = C (ix2 p l) := fun l' h => congrArg (fun x => C (ix2 p x)) (Fin.ext (h.trans hl.symm))
  have hL := L.isLt
  by_cases h1 : L.val < 32
  · refine (dif_pos h1).trans (Eq.trans ?_ (if_pos (by omega)).symm)
    exact congrArg (fun z : EReal => -z) (e _ (by show L.val = _; omega))
  · refine (dif_neg h1).trans ?_
    by_cases h2 : L.val - 32 < 32
    · refine (dif_pos h2).trans (Eq.trans ?_ (if_pos (by omega)).symm)
      exact congrArg (fun z : EReal => -z) (e _ (by show L.val - 32 = _; omega))
    · refine (dif_neg h2).trans (Eq.trans ?_ (if_neg (by omega)).symm)
      by_cases h3 : L.val - 32 - 32 < 32
      · exact (dif_pos h3).trans (e _ (by show L.val - 32 - 32 = _; omega))
      · exact (dif_neg h3).trans (e _ (by show L.val - 32 - 32 - 32 = _; omega))

/-- A tile rotated by 64 lanes. -/
theorem rotate_at (X : FVec Ideal S1024x128 .f32) (i : Fin 1024) (L L' : Fin 128) (h : L'.val = (L.val + 64) % 128) :
    dynamicRotate 1 64#32 none X rotates_S1024x128_d1 (ix2 i L) = X (ix2 i L') := by
  refine dynamicRotate_apply 1 64#32 X rotates_S1024x128_d1 (ix2 i L) (ix2 i L') fun b => ?_
  match b with
  | ⟨0, _⟩ => rfl
  | ⟨1, _⟩ =>
    show L'.val = (L.val + 128 - 64) % 128
    omega

/-- The queries' scale. -/
abbrev SC : EReal := Named.named (F := Ideal) κ "qscale" (φ := .f32) 0x3E38AA3B#32
theorem SC_eq : SC = (((1 / 8) * (Real.log 2)⁻¹ : ℝ) : EReal) := rfl

theorem tile_at (c s : FVec Ideal S1024x128 .f32) (x : FVec Ideal S1x1024x128 .bf16) (i : Fin 1024) (L L' : Fin 128) (h : L'.val = (L.val + 64) % 128) :
    k0_pay6 (F := Ideal) c s x (ix3 0 i L)
      = ((x (ix3 0 i L) : EReal) * (c (ix2 i L) : EReal) + (x (ix3 0 i L') : EReal) * (s (ix2 i L) : EReal)) * SC := by
  have hr := fun X => rotate_at X i L L' h
  pointwise [k0_pay6, k0_pay4, k0_pay5, hr]
theorem ktile_at (c s : FVec Ideal S1024x128 .f32) (x : FVec Ideal S1x1024x128 .bf16) (i : Fin 1024) (L L' : Fin 128) (h : L'.val = (L.val + 64) % 128) :
    k0_pay3 (F := Ideal) (k0_pay4 c) (k0_pay5 s) x (ix3 0 i L)
      = (x (ix3 0 i L) : EReal) * (c (ix2 i L) : EReal) + (x (ix3 0 i L') : EReal) * (s (ix2 i L) : EReal) := by
  have hr := fun X => rotate_at X i L L' h
  pointwise [k0_pay3, k0_pay4, k0_pay5, hr]

abbrev off (u : Fin 4) : Fin 3 → Nat := ![0, 0, 128 * u.val]
theorem off_inb (u : Fin 4) : ∀ a, off u a + S1x1024x128.size a ≤ S1x1024x512.size a := by revert u; decide +kernel
/-- Tile `u` of a block. -/
abbrev ldq (X : Vec Ideal S1x1024x512 .bf16) (u : Fin 4) : FVec Ideal S1x1024x128 .bf16 :=
  View.ld X (Rect.unit (s := S1x1024x512) (off u) S1x1024x128.size (off_inb u))
/-- A table's block. -/
abbrev ldt (X : Vec Ideal S1024x128 .f32) : FVec Ideal S1024x128 .f32 := View.ld X r0_0
theorem ldq_at (X : Vec Ideal S1x1024x512 .bf16) (u : Fin 4) (i : Fin 1024) (L : Fin 128) (h1) :
    ldq X u (ix3 0 i L) = X (ix3 0 i ⟨128 * u.val + L.val, h1⟩) :=
  View.ld_unit_apply_of X _ _ _ _ _ fun a => by
    match a with
    | ⟨0, _⟩ => rfl
    | ⟨1, _⟩ => exact (Nat.zero_add _).symm
    | ⟨2, _⟩ => rfl
theorem ldt_at (X : Vec Ideal S1024x128 .f32) (i : Fin 1024) (L : Fin 128) : ldt X (ix2 i L) = X (ix2 i L) :=
  View.ld_unit_apply_of X _ _ _ _ _ fun a => by
    match a with
    | ⟨0, _⟩ => exact (Nat.zero_add _).symm
    | ⟨1, _⟩ => exact (Nat.zero_add _).symm
theorem ldk_at (X : Vec Ideal S1x1024x128 .bf16) (i : Fin 1024) (L : Fin 128) : View.ld X r0_5 (ix3 0 i L) = X (ix3 0 i L) :=
  View.ld_unit_apply_of X _ _ _ _ _ fun a => by
    match a with
    | ⟨0, _⟩ => rfl
    | ⟨1, _⟩ => exact (Nat.zero_add _).symm
    | ⟨2, _⟩ => exact (Nat.zero_add _).symm

/-- The pieces a grid point stores of the queries, last first. -/
def pieces (X : Vec Ideal S1x1024x512 .bf16) (C S : Vec Ideal S1024x128 .f32) : List (View.Piece (Elt Ideal) S1x1024x512 .bf16) :=
  List.ofFn fun k : Fin 4 => ⟨Rect.unit (s := S1x1024x512) (off k.rev) S1x1024x128.size (off_inb k.rev), k0_pay6 (F := Ideal) (ldt C) (ldt S) (ldq X k.rev)⟩
theorem out4_eq (X : Vec Ideal S1x1024x512 .bf16) (Y : Vec Ideal S1x1024x128 .bf16) (C S : Vec Ideal S1024x128 .f32) :
    out0_4 (F := Ideal) X Y C S = View.canon (pieces X C S) := by
  sl_kernel_rfl
theorem canon_at (X : Vec Ideal S1x1024x512 .bf16) (C S : Vec Ideal S1024x128 .f32) (u : Fin 4) (i : Fin 1024) (L : Fin 128) (h1) :
    View.canon (pieces X C S) (ix3 0 i ⟨128 * u.val + L.val, h1⟩) = k0_pay6 (F := Ideal) (ldt C) (ldt S) (ldq X u) (ix3 0 i L) := by
  refine View.canon_ofFn_unit_eq_of_forall (Val := Elt Ideal) (e := .bf16) (S := S1x1024x512) (fun k : Fin 4 => off k.rev) S1x1024x128.size
    (fun k => off_inb k.rev) (fun k => k0_pay6 (F := Ideal) (ldt C) (ldt S) (ldq X k.rev)) _ _ ⟨u.rev, fun a => ?_⟩ fun k x hx => ?_
  · rw [Fin.rev_rev]
    match a with
    | ⟨0, _⟩ => exact ⟨Nat.le_refl _, Nat.zero_lt_one⟩
    | ⟨1, _⟩ => exact ⟨Nat.zero_le _, by show i.val < 0 + 1024; omega⟩
    | ⟨2, _⟩ => exact ⟨Nat.le_add_right _ _, by show 128 * u.val + L.val < 128 * u.val + 128; omega⟩
  · have e1 : i.val = 0 + (x 1).val := hx 1
    have e2 : 128 * u.val + L.val = 128 * k.rev.val + (x 2).val := hx 2
    have l2 : (x 2).val < 128 := (x 2).isLt
    have hk : k.rev = u := Fin.ext (by omega)
    rw [hk] at e2 ⊢
    refine congrArg _ (funext fun a => Fin.ext ?_)
    match a with
    | ⟨0, _⟩ => exact Nat.lt_one_iff.mp (x 0).isLt
    | ⟨1, _⟩ => show (x 1).val = i.val; omega
    | ⟨2, _⟩ => show (x 2).val = L.val; omega
theorem out5_at (X : Vec Ideal S1x1024x512 .bf16) (Y : Vec Ideal S1x1024x128 .bf16) (C S : Vec Ideal S1024x128 .f32) (i : Fin 1024) (L : Fin 128) :
    out0_5 (F := Ideal) X Y C S (ix3 0 i L) = k0_pay3 (F := Ideal) (k0_pay4 (ldt C)) (k0_pay5 (ldt S)) (View.ld Y r0_5) (ix3 0 i L) := by
  refine View.canon_ofFn_unit_eq_of_forall (Val := Elt Ideal) (e := .bf16) (S := S1x1024x128) (fun k : Fin 1 => ![0, 0, 0]) S1x1024x128.size
    (fun k => inb_S1x1024x128_S1x1024x128_0_0_0) (fun k => k0_pay3 (F := Ideal) (k0_pay4 (ldt C)) (k0_pay5 (ldt S)) (View.ld Y r0_5)) _ _ ⟨0, fun a => ?_⟩ fun k x hx => ?_
  · match a with
    | ⟨0, _⟩ => exact ⟨Nat.le_refl _, Nat.zero_lt_one⟩
    | ⟨1, _⟩ => exact ⟨Nat.zero_le _, by show i.val < 0 + 1024; omega⟩
    | ⟨2, _⟩ => exact ⟨Nat.zero_le _, by show L.val < 0 + 128; omega⟩
  · have e1 : i.val = 0 + (x 1).val := hx 1
    have e2 : L.val = 0 + (x 2).val := hx 2
    refine congrArg _ (funext fun a => Fin.ext ?_)
    match a with
    | ⟨0, _⟩ => exact Nat.lt_one_iff.mp (x 0).isLt
    | ⟨1, _⟩ => show (x 1).val = i.val; omega
    | ⟨2, _⟩ => show (x 2).val = L.val; omega

theorem idx0 : ∀ t : Fin grid0.N, win0_0.index t = ![t.val / 16, t.val % 16, 4] := by decide +kernel
theorem idx1 : ∀ t : Fin grid0.N, win0_1.index t = ![t.val / 16, t.val % 16, 84] := by decide +kernel
theorem idx2 : ∀ t : Fin grid0.N, win0_2.index t = ![t.val % 16, 0] := by decide +kernel
theorem idx3 : ∀ t : Fin grid0.N, win0_3.index t = ![t.val % 16, 0] := by decide +kernel
theorem idx4 : ∀ t : Fin grid0.N, win0_4.index t = ![t.val / 16, t.val % 16, 0] := by decide +kernel
theorem idx5 : ∀ t : Fin grid0.N, win0_5.index t = ![t.val / 16, t.val % 16, 0] := by decide +kernel

theorem q_blk (c0 : Dev nD) (t : Fin cfg0.N) (i : Fin 1024) (l : Fin 512) (h1 h2 h3) :
    iblk m c0 0 t (ix3 0 i l) = m ((c0.tc : Thread nD τ).loc main_arg0) (ix3 ⟨t.val / 16, h1⟩ ⟨1024 * (t.val % 16) + i.val, h2⟩ ⟨2048 + l.val, h3⟩) := by
  have e : iblk m c0 0 t (ix3 0 i l) = (V m c0 main_arg0 : S2x16384x11264.Idx → EReal) (ix3 ⟨t.val / 16, h1⟩ ⟨1024 * (t.val % 16) + i.val, h2⟩ ⟨2048 + l.val, h3⟩) := by
    unfold iblk
    blk_simp
    show (V m c0 main_arg0 : S2x16384x11264.Idx → EReal) _ = _
    blk_ext [idx0 t]
  rw [e, V_main_arg0]
theorem k_blk (c0 : Dev nD) (t : Fin cfg0.N) (i : Fin 1024) (l : Fin 128) (h1 h2 h3) :
    iblk m c0 1 t (ix3 0 i l) = m ((c0.tc : Thread nD τ).loc main_arg0) (ix3 ⟨t.val / 16, h1⟩ ⟨1024 * (t.val % 16) + i.val, h2⟩ ⟨10752 + l.val, h3⟩) := by
  have e : iblk m c0 1 t (ix3 0 i l) = (V m c0 main_arg0 : S2x16384x11264.Idx → EReal) (ix3 ⟨t.val / 16, h1⟩ ⟨1024 * (t.val % 16) + i.val, h2⟩ ⟨10752 + l.val, h3⟩) := by
    unfold iblk
    blk_simp
    show (V m c0 main_arg0 : S2x16384x11264.Idx → EReal) _ = _
    blk_ext [idx1 t]
  rw [e, V_main_arg0]
theorem c_blk (c0 : Dev nD) (t : Fin cfg0.N) (i : Fin 1024) (l : Fin 128) (h2) :
    iblk m c0 2 t (ix2 i l) = cosT ang (ix2 ⟨1024 * (t.val % 16) + i.val, h2⟩ l) := by
  have e : iblk m c0 2 t (ix2 i l) = (V m c0 main_v26 : S16384x128.Idx → EReal) (ix2 ⟨1024 * (t.val % 16) + i.val, h2⟩ l) := by
    unfold iblk
    blk_simp
    show (V m c0 main_v26 : S16384x128.Idx → EReal) _ = _
    blk_ext [idx2 t]
  exact e.trans (congrFun (V_cos m c0) _)
theorem s_blk (c0 : Dev nD) (t : Fin cfg0.N) (i : Fin 1024) (l : Fin 128) (h2) :
    iblk m c0 3 t (ix2 i l) = sinT ang (ix2 ⟨1024 * (t.val % 16) + i.val, h2⟩ l) := by
  have e : iblk m c0 3 t (ix2 i l) = (V m c0 main_v29 : S16384x128.Idx → EReal) (ix2 ⟨1024 * (t.val % 16) + i.val, h2⟩ l) := by
    unfold iblk
    blk_simp
    show (V m c0 main_v29 : S16384x128.Idx → EReal) _ = _
    blk_ext [idx3 t]
  exact e.trans (congrFun (V_sin m c0) _)

theorem emb4 (t : Fin cfg0.N) (i : Fin 1024) (l : Fin 512) (h1 h2) :
    (ix3 ⟨t.val / 16, h1⟩ ⟨1024 * (t.val % 16) + i.val, h2⟩ l : S2x16384x512.Idx) = (win0_4.blk t).view.emb (ix3 0 i l) := by
  blk_ext [idx4 t]
theorem emb5 (t : Fin cfg0.N) (i : Fin 1024) (l : Fin 128) (h1 h2) :
    (ix3 ⟨t.val / 16, h1⟩ ⟨1024 * (t.val % 16) + i.val, h2⟩ l : S2x16384x128.Idx) = (win0_5.blk t).view.emb (ix3 0 i l) := by
  blk_ext [idx5 t]
theorem cell4 (c0 : Dev nD) (t : Fin cfg0.N) (i : Fin 1024) (l : Fin 512) (h1 h2) :
    (dats m 0 c0).arrAt 4 cfg0.N (ix3 ⟨t.val / 16, h1⟩ ⟨1024 * (t.val % 16) + i.val, h2⟩ l)
      = out0_4 (iblk m c0 0 t) (iblk m c0 1 t) (iblk m c0 2 t) (iblk m c0 3 t) (ix3 0 i l) := by
  have h := congrFun (Value.blocks4 m c0 t (by clear h1 h2; revert t; decide +kernel)) (ix3 0 i l)
  rw [Value.flushed4] at h
  exact (congrArg ((dats m 0 c0).arrAt 4 cfg0.N) (emb4 t i l _ _)).trans h
theorem cell5 (c0 : Dev nD) (t : Fin cfg0.N) (i : Fin 1024) (l : Fin 128) (h1 h2) :
    (dats m 0 c0).arrAt 5 cfg0.N (ix3 ⟨t.val / 16, h1⟩ ⟨1024 * (t.val % 16) + i.val, h2⟩ l)
      = out0_5 (iblk m c0 0 t) (iblk m c0 1 t) (iblk m c0 2 t) (iblk m c0 3 t) (ix3 0 i l) := by
  have h := congrFun (Value.blocks5 m c0 t (by clear h1 h2; revert t; decide +kernel)) (ix3 0 i l)
  rw [Value.flushed5] at h
  exact (congrArg ((dats m 0 c0).arrAt 5 cfg0.N) (emb5 t i l _ _)).trans h
end Cert.RopeIdeal.Val
end
-- ==== Proof.RopeClaims.lean ====
module
public import proofs.«01_k».proof.Defs
public import proofs.«01_k».proof.Proof.RopeKernel
public import proofs.«01_k».proof.Proof.Gen.Rope.Frame
public import proofs.«01_k».proof.Proof.Gen.RopeIdeal.Frame
public import Idealize.ShloMosaic.Lib.Quiescent

/-!
# The claims about the rotary embedding

The kernel and the reference both turn every pair of a head's dimensions by its position's angle, for any input.
-/
@[expose] public section
set_option maxRecDepth 16384
noncomputable section
open Idealize.ShloMosaic Idealize.ShloMosaic.TcCoe Idealize.SL.Sem

namespace Cert.RopeIdeal.Val
open Cert.RopeIdeal Cert.RopeIdeal.Gen
open Cert.RopeRefIdeal.Val (ang)
variable (m : (ℓ : Loc nD τ sig) → Buf (Elt Ideal) ℓ)

/-- A lane times its cosine and the lane 64 away times its signed sine: the turned pair. -/
theorem turned_pair (c s x y : EReal) (h : Fin 2) (n : Nat) (hn : n < 64 ↔ h = 0) :
    (if h = 0 then x else y) * c + (if h = 0 then y else x) * (if n < 64 then -s else s) = Rope.turn c s x y h := by
  unfold Rope.turn
  by_cases h0 : h = 0
  · rw [if_pos h0, if_pos h0, if_pos h0, if_pos (hn.mpr h0), mul_neg, sub_eq_add_neg]
  · rw [if_neg h0, if_neg h0, if_neg h0, if_neg fun hc => h0 (hn.mp hc), add_comm]

theorem pair_turned (P : Fin 11264 → EReal) (c s : EReal) (h : Fin 2) (n : Nat) (hn : n < 64 ↔ h = 0) (a a' x y : Fin 11264)
    (e0 : h = 0 → a = x ∧ a' = y) (e1 : h ≠ 0 → a = y ∧ a' = x) :
    P a * c + P a' * (if n < 64 then -s else s) = Rope.turn c s (P x) (P y) h := by
  rw [← turned_pair c s _ _ h n hn]
  by_cases h0 : h = 0
  · rw [if_pos h0, if_pos h0, (e0 h0).1, (e0 h0).2]
  · rw [if_neg h0, if_neg h0, (e1 h0).1, (e1 h0).2]

theorem half_iff (h : Fin 2) (j : Nat) (hj : j < 64) : 64 * h.val + j < 64 ↔ h = 0 := by
  constructor
  · intro e; exact Fin.ext (by show h.val = 0; omega)
  · rintro rfl; show 64 * 0 + j < 64; omega
theorem half_cases (h : Fin 2) : (h = 0 ∧ h.val = 0) ∨ (h ≠ 0 ∧ h.val = 1) := by revert h; decide

theorem q_at (c0 : Dev nD) (b : Fin 2) (p : Fin 16384) (t : Fin 4) (h : Fin 2) (j : Fin 64) (l : Fin 32) (hl : l.val = j.val % 32)
    (x y : Fin 11264) (hx : x.val = 2048 + (128 * t.val + j.val)) (hy : y.val = 2048 + (128 * t.val + (64 + j.val))) (h1) :
    (dats m 0 c0).arrAt 4 cfg0.N (ix3 b p ⟨128 * t.val + (64 * h.val + j.val), h1⟩)
      = Rope.turn ((Host.cos ang : FVec Ideal S16384x32 .f32) (ix2 p l)) ((Host.sin ang : FVec Ideal S16384x32 .f32) (ix2 p l))
          (m ((c0.tc : Thread nD τ).loc main_arg0) (ix3 b p x)) (m ((c0.tc : Thread nD τ).loc main_arg0) (ix3 b p y)) h
        * (((1 / 8) * (Real.log 2)⁻¹ : ℝ) : EReal) := by
  have hN : cfg0.N = 32 := rfl
  have hj := j.isLt
  obtain ⟨g, hg⟩ : ∃ g : Fin cfg0.N, g.val = 16 * b.val + p.val / 1024 := ⟨⟨16 * b.val + p.val / 1024, by rw [hN]; omega⟩, rfl⟩
  obtain ⟨i, hi⟩ : ∃ i : Fin 1024, i.val = p.val % 1024 := ⟨⟨p.val % 1024, by omega⟩, rfl⟩
  obtain ⟨L, hL⟩ : ∃ L : Fin 128, L.val = 64 * h.val + j.val := ⟨⟨64 * h.val + j.val, by omega⟩, rfl⟩
  obtain ⟨L', hL'⟩ : ∃ L' : Fin 128, L'.val = (L.val + 64) % 128 := ⟨⟨(L.val + 64) % 128, by omega⟩, rfl⟩
  have hc := cell4 m c0 g i ⟨128 * t.val + L.val, by omega⟩ (by omega) (by omega)
  rw [out4_eq, canon_at _ _ _ t i L, tile_at _ _ _ i L L' hL', ldq_at _ t i L (by omega), ldq_at _ t i L' (by omega), ldt_at, ldt_at,
    q_blk m c0 g i _ (by omega) (by omega) (by dsimp only; omega), q_blk m c0 g i _ (by omega) (by omega) (by dsimp only; omega),
    c_blk m c0 g i L (by omega), s_blk m c0 g i L (by omega), cosT_at ang _ L l (by omega), sinT_at ang _ L l (by omega), SC_eq] at hc
  have eb : (⟨g.val / 16, by omega⟩ : Fin 2) = b := Fin.ext (by dsimp only; omega)
  have ep : (⟨1024 * (g.val % 16) + i.val, by omega⟩ : Fin 16384) = p := Fin.ext (by dsimp only; omega)
  have el : (⟨128 * t.val + L.val, by omega⟩ : Fin 512) = ⟨128 * t.val + (64 * h.val + j.val), h1⟩ := Fin.ext (by dsimp only; omega)
  rw [eb, ep] at hc
  rw [← el]
  refine hc.trans (congrArg (fun z : EReal => z * _) ?_)
  refine pair_turned (fun u => m ((c0.tc : Thread nD τ).loc main_arg0) (ix3 b p u)) _ _ h L.val (by rw [hL]; exact half_iff h j.val hj)
    _ _ x y (fun e => ?_) (fun e => ?_) <;> rcases half_cases h with ⟨e', v⟩ | ⟨e', v⟩ <;>
    first | exact absurd e e' | exact absurd e' e | exact ⟨Fin.ext (by dsimp only; omega), Fin.ext (by dsimp only; omega)⟩

theorem k_at (c0 : Dev nD) (b : Fin 2) (p : Fin 16384) (h : Fin 2) (j : Fin 64) (l : Fin 32) (hl : l.val = j.val % 32)
    (x y : Fin 11264) (hx : x.val = 10752 + j.val) (hy : y.val = 10752 + (64 + j.val)) (h1) :
    (dats m 0 c0).arrAt 5 cfg0.N (ix3 b p ⟨64 * h.val + j.val, h1⟩)
      = Rope.turn ((Host.cos ang : FVec Ideal S16384x32 .f32) (ix2 p l)) ((Host.sin ang : FVec Ideal S16384x32 .f32) (ix2 p l))
          (m ((c0.tc : Thread nD τ).loc main_arg0) (ix3 b p x)) (m ((c0.tc : Thread nD τ).loc main_arg0) (ix3 b p y)) h := by
  have hN : cfg0.N = 32 := rfl
  have hj := j.isLt
  obtain ⟨g, hg⟩ : ∃ g : Fin cfg0.N, g.val = 16 * b.val + p.val / 1024 := ⟨⟨16 * b.val + p.val / 1024, by rw [hN]; omega⟩, rfl⟩
  obtain ⟨i, hi⟩ : ∃ i : Fin 1024, i.val = p.val % 1024 := ⟨⟨p.val % 1024, by omega⟩, rfl⟩
  obtain ⟨L, hL⟩ : ∃ L : Fin 128, L.val = 64 * h.val + j.val := ⟨⟨64 * h.val + j.val, by omega⟩, rfl⟩
  obtain ⟨L', hL'⟩ : ∃ L' : Fin 128, L'.val = (L.val + 64) % 128 := ⟨⟨(L.val + 64) % 128, by omega⟩, rfl⟩
  have hc := cell5 m c0 g i L (by omega) (by omega)
  rw [out5_at, ktile_at _ _ _ i L L' hL', ldk_at, ldk_at, ldt_at, ldt_at,
    k_blk m c0 g i _ (by omega) (by omega) (by omega), k_blk m c0 g i _ (by omega) (by omega) (by omega),
    c_blk m c0 g i L (by omega), s_blk m c0 g i L (by omega), cosT_at ang _ L l (by omega), sinT_at ang _ L l (by omega)] at hc
  have eb : (⟨g.val / 16, by omega⟩ : Fin 2) = b := Fin.ext (by dsimp only; omega)
  have ep : (⟨1024 * (g.val % 16) + i.val, by omega⟩ : Fin 16384) = p := Fin.ext (by dsimp only; omega)
  have el : L = ⟨64 * h.val + j.val, h1⟩ := Fin.ext hL
  rw [eb, ep] at hc
  rw [← el]
  refine hc.trans ?_
  refine pair_turned (fun u => m ((c0.tc : Thread nD τ).loc main_arg0) (ix3 b p u)) _ _ h L.val (by rw [hL]; exact half_iff h j.val hj)
    _ _ x y (fun e => ?_) (fun e => ?_) <;> rcases half_cases h with ⟨e', v⟩ | ⟨e', v⟩ <;>
    first | exact absurd e e' | exact absurd e' e | exact ⟨Fin.ext (by dsimp only; omega), Fin.ext (by dsimp only; omega)⟩
end Cert.RopeIdeal.Val

namespace Cert.Proof.RopeClaims

/-- Every index of the queries is some half of some pair of some group. -/
theorem q_split (i : (⟨3, ![2, 16384, 512]⟩ : Shape).Idx) :
    ∃ (b : Fin 2) (p : Fin 16384) (t : Fin 4) (h : Fin 2) (j : Fin 64) (h1 : 128 * t.val + (64 * h.val + j.val) < 512),
      i = ix3 b p ⟨128 * t.val + (64 * h.val + j.val), h1⟩ := by
  have l2 : (i 2).val < 512 := (i 2).isLt
  refine ⟨i 0, i 1, ⟨(i 2).val / 128, by omega⟩, ⟨(i 2).val / 64 % 2, by omega⟩, ⟨(i 2).val % 64, by omega⟩, ?_, ?_⟩
  · dsimp only; omega
  · refine funext fun a => Fin.ext ?_
    fin_cases a
    · rfl
    · rfl
    · show (i 2).val = 128 * ((i 2).val / 128) + (64 * ((i 2).val / 64 % 2) + (i 2).val % 64); omega
/-- The same of the keys. -/
theorem k_split (i : (⟨3, ![2, 16384, 128]⟩ : Shape).Idx) :
    ∃ (b : Fin 2) (p : Fin 16384) (h : Fin 2) (j : Fin 64) (h1 : 64 * h.val + j.val < 128), i = ix3 b p ⟨64 * h.val + j.val, h1⟩ := by
  have l2 : (i 2).val < 128 := (i 2).isLt
  refine ⟨i 0, i 1, ⟨(i 2).val / 64, by omega⟩, ⟨(i 2).val % 64, by omega⟩, ?_, ?_⟩
  · dsimp only; omega
  · refine funext fun a => Fin.ext ?_
    fin_cases a
    · rfl
    · rfl
    · show (i 2).val = 64 * ((i 2).val / 64) + (i 2).val % 64; omega

theorem frame_p : Cert.quiescent_Rope := fun m ρ _ => Cert.Rope.Gen.frame m ρ
theorem frame_pi : Cert.quiescent_RopeIdeal := fun m ρ _ => Cert.RopeIdeal.Gen.frame m ρ
theorem frame_ri : Cert.quiescent_RopeRefIdeal := fun m ρ _ =>
  (θ_run Cert.RopeRefIdeal.defs _ _).mono (fun r h => ⟨fun c => (h c).2.2, Idealize.ShloMosaic.sem_eq_zero_of_no_sems (by decide) r.2⟩)
    (Cert.RopeRefIdeal.Value.run (F := Ideal) m ρ)

theorem preserves : Cert.preserves_Rope_RopeIdeal :=
  IdealRules.named_const.statement Cert.RopeIdeal.κ "qscale" .f32 0x3E38AA3B#32 (((1 / 8) * (Real.log 2)⁻¹ : ℝ) : EReal) rfl

theorem algebraic : Cert.algebraic_RopeIdeal_RopeRefIdeal := by
  intro m ρ m' ρ' hpre hagree
  refine ⟨_, _, Cert.RopeIdeal.Value.run_blocks m ρ, ?_⟩
  refine (θ_run Cert.RopeRefIdeal.defs _ _).mono (fun _ h c => ⟨(h c).1.trans ?_, (h c).2.1.trans ?_, (h c).2.2⟩) (Cert.RopeRefIdeal.Value.run (F := Ideal) m' ρ')
  · have a0 := hagree c
    refine (Cert.RopeRefIdeal.Val.queries_eq m' c).trans ?_
    rw [a0]
    funext i
    obtain ⟨b, p, t, h, j, h1, rfl⟩ := q_split i
    obtain ⟨l, hl⟩ : ∃ l : Fin 32, l.val = j.val % 32 := ⟨⟨j.val % 32, by omega⟩, rfl⟩
    obtain ⟨x, hx⟩ : ∃ x : Fin 11264, x.val = 2048 + (128 * t.val + j.val) := ⟨⟨2048 + (128 * t.val + j.val), by omega⟩, rfl⟩
    obtain ⟨y, hy⟩ : ∃ y : Fin 11264, y.val = 2048 + (128 * t.val + (64 + j.val)) := ⟨⟨2048 + (128 * t.val + (64 + j.val)), by omega⟩, rfl⟩
    exact (Cert.RopeRefIdeal.Val.queries_at _ _ _ b p t h j l hl x y hx hy h1).trans (Cert.RopeIdeal.Val.q_at m c b p t h j l hl x y hx hy h1).symm
  · have a0 := hagree c
    refine (Cert.RopeRefIdeal.Val.keys_eq m' c).trans ?_
    rw [a0]
    funext i
    obtain ⟨b, p, h, j, h1, rfl⟩ := k_split i
    obtain ⟨l, hl⟩ : ∃ l : Fin 32, l.val = j.val % 32 := ⟨⟨j.val % 32, by omega⟩, rfl⟩
    obtain ⟨x, hx⟩ : ∃ x : Fin 11264, x.val = 10752 + j.val := ⟨⟨10752 + j.val, by omega⟩, rfl⟩
    obtain ⟨y, hy⟩ : ∃ y : Fin 11264, y.val = 10752 + (64 + j.val) := ⟨⟨10752 + (64 + j.val), by omega⟩, rfl⟩
    exact (Cert.RopeRefIdeal.Val.keys_at _ _ _ b p h j l hl x y hx hy h1).trans (Cert.RopeIdeal.Val.k_at m c b p h j l hl x y hx hy h1).symm
end Cert.Proof.RopeClaims
end
-- ==== Proof.lean ====
module

public import proofs.«01_k».proof.Defs
public import proofs.«01_k».proof.Proof.Gen.Natten
public import proofs.«01_k».proof.Proof.Gen.NattenIdeal
public import proofs.«01_k».proof.Proof.Gen.NattenIdeal.Value
public import proofs.«01_k».proof.Proof.Gen.NattenRefIdeal
public import proofs.«01_k».proof.Proof.Gen.NattenRefIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Swa
public import proofs.«01_k».proof.Proof.Gen.Swa.Frame
public import proofs.«01_k».proof.Proof.Gen.SwaIdeal
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.NattenClaims
public import proofs.«01_k».proof.Proof.InprojClaims
public import proofs.«01_k».proof.Proof.MergeClaims
public import proofs.«01_k».proof.Proof.SwaClaims
public import proofs.«01_k».proof.Proof.RopeClaims

@[expose] public section

noncomputable section

namespace Cert.Proof

attribute [local instance] NattenClaims.preFacts MergeClaims.preFacts SwaClaims.preFacts

theorem claim : Cert.Claim :=
  ⟨Cert.Natten.Gen.facts, Cert.NattenIdeal.Gen.facts, Cert.NattenRefIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Swa.Gen.facts, Cert.SwaIdeal.Gen.facts, Cert.SwaRefIdeal.Gen.facts,
    Cert.Rope.Gen.facts, Cert.RopeIdeal.Gen.facts, Cert.RopeRefIdeal.Gen.facts, NattenClaims.preFacts, MergeClaims.preFacts, SwaClaims.preFacts,
    NattenClaims.frame_p, NattenClaims.frame_pi, NattenClaims.frame_pi_finite, NattenClaims.frame_ri, NattenClaims.frame_ri_finite,
    InprojClaims.frame_p, InprojClaims.frame_pi, InprojClaims.frame_ri,
    MergeClaims.frame_p, MergeClaims.frame_pi, MergeClaims.frame_pi_finite, MergeClaims.frame_ri, MergeClaims.frame_ri_finite,
    SwaClaims.frame_p, SwaClaims.frame_pi, SwaClaims.frame_pi_finite, SwaClaims.frame_ri, SwaClaims.frame_ri_finite,
    RopeClaims.frame_p, RopeClaims.frame_pi, RopeClaims.frame_ri,
    NattenClaims.preserves, NattenClaims.algebraic, InprojClaims.preserves, InprojClaims.algebraic,
    MergeClaims.preserves, MergeClaims.algebraic, SwaClaims.preserves, SwaClaims.algebraic,
    RopeClaims.preserves, RopeClaims.algebraic⟩

end Cert.Proof

end
